-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decays [hPre_decays : Cert.Pre_decays.Facts] (m : (ℓ : Loc Cert.KernelIdeal.nD Cert.KernelIdeal.τ Cert.KernelIdeal.sig) → Buf (Elt Ideal) ℓ) : Prop :=
  ∀ c : Dev Cert.KernelIdeal.nD,
    (Cert.Pre_decays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decays [hPre_decays : Cert.Pre_decays.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_experts_in_range : Cert.Pre_experts_in_range.Facts] (m : (ℓ : Loc Cert.Kernel2.nD Cert.Kernel2.τ Cert.Kernel2.sig) → Buf (Elt Bits) ℓ) : Prop :=
  ∀ c : Dev Cert.Kernel2.nD,
    (Cert.Pre_experts_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_experts_in_range : Cert.Pre_experts_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal [hPre_experts_in_range : Cert.Pre_experts_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_norm_finite [hPre_norm_finite : Cert.Pre_norm_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_norm_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_norm_finite [hPre_norm_finite : Cert.Pre_norm_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_norm_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_decays [hKernelIdeal : Cert.KernelIdeal.Facts] [hPre_decays : Cert.Pre_decays.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decays m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_decays [hReferenceIdeal : Cert.ReferenceIdeal.Facts] [hPre_decays : Cert.Pre_decays.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decays m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_experts_in_range : Cert.Pre_experts_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] [hPre_experts_in_range : Cert.Pre_experts_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Kernel4Ideal_pre_norm_finite [hKernel4Ideal : Cert.Kernel4Ideal.Facts] [hPre_norm_finite : Cert.Pre_norm_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_norm_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def quiescent_Reference4Ideal_pre_norm_finite [hReference4Ideal : Cert.Reference4Ideal.Facts] [hPre_norm_finite : Cert.Pre_norm_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_norm_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def preserves_Kernel_KernelIdeal : Prop :=
  True

def algebraic_KernelIdeal_ReferenceIdeal_pre_decays [hKernelIdeal : Cert.KernelIdeal.Facts] [hReferenceIdeal : Cert.ReferenceIdeal.Facts] [hPre_decays : Cert.Pre_decays.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decays m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v41_0)) (v1 : (c : Dev Cert.Kernel3Ideal.nD) → Buf (Elt Ideal) ((c.tc : Thread Cert.Kernel3Ideal.nD Cert.Kernel3Ideal.τ).loc Cert.Kernel3Ideal.main_v43)) (v2 : (c : Dev Cert.Kernel3Ideal.nD) → Buf (Elt Ideal) ((c.tc : Thread Cert.Kernel3Ideal.nD Cert.Kernel3Ideal.τ).loc Cert.Kernel3Ideal.main_v45)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v41_0) = v0 c
          ∧ r.2.mem ((c.tc : Thread Cert.Kernel3Ideal.nD Cert.Kernel3Ideal.τ).loc Cert.Kernel3Ideal.main_v43) = v1 c
          ∧ r.2.mem ((c.tc : Thread Cert.Kernel3Ideal.nD Cert.Kernel3Ideal.τ).loc Cert.Kernel3Ideal.main_v45) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v106) = v0 c
          ∧ r.2.mem ((c.tc : Thread Cert.Reference3Ideal.nD Cert.Reference3Ideal.τ).loc Cert.Reference3Ideal.main_v107) = v1 c
          ∧ r.2.mem ((c.tc : Thread Cert.Reference3Ideal.nD Cert.Reference3Ideal.τ).loc Cert.Reference3Ideal.main_v108) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_norm_finite [hKernel4Ideal : Cert.Kernel4Ideal.Facts] [hReference4Ideal : Cert.Reference4Ideal.Facts] [hPre_norm_finite : Cert.Pre_norm_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_norm_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v19_0)) (v1 : (c : Dev Cert.Kernel4Ideal.nD) → Buf (Elt Ideal) ((c.tc : Thread Cert.Kernel4Ideal.nD Cert.Kernel4Ideal.τ).loc Cert.Kernel4Ideal.main_v19_1)) (v2 : (c : Dev Cert.Kernel4Ideal.nD) → Buf (Elt Ideal) ((c.tc : Thread Cert.Kernel4Ideal.nD Cert.Kernel4Ideal.τ).loc Cert.Kernel4Ideal.main_v19_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19_0) = v0 c
          ∧ r.2.mem ((c.tc : Thread Cert.Kernel4Ideal.nD Cert.Kernel4Ideal.τ).loc Cert.Kernel4Ideal.main_v19_1) = v1 c
          ∧ r.2.mem ((c.tc : Thread Cert.Kernel4Ideal.nD Cert.Kernel4Ideal.τ).loc Cert.Kernel4Ideal.main_v19_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v68) = v0 c
          ∧ r.2.mem ((c.tc : Thread Cert.Reference4Ideal.nD Cert.Reference4Ideal.τ).loc Cert.Reference4Ideal.main_v69) = v1 c
          ∧ r.2.mem ((c.tc : Thread Cert.Reference4Ideal.nD Cert.Reference4Ideal.τ).loc Cert.Reference4Ideal.main_v70) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_decays : Cert.Pre_decays.Facts) (hPre_experts_in_range : Cert.Pre_experts_in_range.Facts) (hPre_norm_finite : Cert.Pre_norm_finite.Facts),
    quiescent_Kernel (hKernel := hKernel)
    ∧ quiescent_KernelIdeal (hKernelIdeal := hKernelIdeal)
    ∧ quiescent_KernelIdeal_pre_decays (hKernelIdeal := hKernelIdeal) (hPre_decays := hPre_decays)
    ∧ quiescent_ReferenceIdeal (hReferenceIdeal := hReferenceIdeal)
    ∧ quiescent_ReferenceIdeal_pre_decays (hReferenceIdeal := hReferenceIdeal) (hPre_decays := hPre_decays)
    ∧ quiescent_Kernel2 (hKernel2 := hKernel2) (hPre_experts_in_range := hPre_experts_in_range)
    ∧ quiescent_Kernel2Ideal (hKernel2Ideal := hKernel2Ideal) (hPre_experts_in_range := hPre_experts_in_range)
    ∧ quiescent_Reference2Ideal (hReference2Ideal := hReference2Ideal) (hPre_experts_in_range := hPre_experts_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_norm_finite (hKernel4Ideal := hKernel4Ideal) (hPre_norm_finite := hPre_norm_finite)
    ∧ quiescent_Reference4Ideal (hReference4Ideal := hReference4Ideal)
    ∧ quiescent_Reference4Ideal_pre_norm_finite (hReference4Ideal := hReference4Ideal) (hPre_norm_finite := hPre_norm_finite)
    ∧ preserves_Kernel_KernelIdeal
    ∧ algebraic_KernelIdeal_ReferenceIdeal_pre_decays (hKernelIdeal := hKernelIdeal) (hReferenceIdeal := hReferenceIdeal) (hPre_decays := hPre_decays)
    ∧ preserves_Kernel2_Kernel2Ideal
    ∧ algebraic_Kernel2Ideal_Reference2Ideal (hKernel2Ideal := hKernel2Ideal) (hReference2Ideal := hReference2Ideal) (hPre_experts_in_range := hPre_experts_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_norm_finite (hKernel4Ideal := hKernel4Ideal) (hReference4Ideal := hReference4Ideal) (hPre_norm_finite := hPre_norm_finite)
-- ==== Pre_decays.lean ====
abbrev S14x256x512 : Shape := ⟨3, ![14, 256, 512]⟩
abbrev S32x4x128x256 : Shape := ⟨4, ![32, 4, 128, 256]⟩
abbrev S1x256 : Shape := ⟨2, ![1, 256]⟩
abbrev S1x256x512 : Shape := ⟨3, ![1, 256, 512]⟩
abbrev S256x512 : Shape := ⟨2, ![256, 512]⟩
abbrev S_ : Shape := ⟨0, ![]⟩

class Facts : Prop where
  slices_S14x256x512_S1x256x512_6_0_0 : S14x256x512.Slices ![6, 0, 0] S1x256x512
  shapeCasts_S1x256x512_S256x512 : S1x256x512.ShapeCasts S256x512
  bcast_S_S256x512 : S_.BroadcastsInDim S256x512 (![] : Fin 0 → Fin S256x512.rank)

variable [Facts]

def fn {F : FTy → Type} [FloatOps F] (main_arg0 : FVec F S14x256x512 .f32) (main_arg1 : FVec F S32x4x128x256 .f32) (main_arg2 : FVec F S1x256 .f32) : IVec S256x512 1 :=
  let main_v0 : FVec F S1x256x512 .f32 := (extractStridedSlice S1x256x512 ![6, 0, 0] · slices_S14x256x512_S1x256x512_6_0_0) main_arg0
  let main_v1 : FVec F S256x512 .f32 := shapeCast S256x512 main_v0 shapeCasts_S1x256x512_S256x512
  let main_cst : FVec F S_ .f32 := constant S_ .f32 0x00000000#32
  let main_v2 : FVec F S256x512 .f32 := broadcastInDim S256x512 ![] bcast_S_S256x512 main_cst
  let main_v3 : IVec S256x512 1 := cmpf .ole main_v1 main_v2
  main_v3
-- ==== Pre_experts_in_range.lean ====
abbrev S162 : Shape := ⟨1, ![162]⟩
abbrev S1 : Shape := ⟨1, ![1]⟩
abbrev S663552x128 : Shape := ⟨2, ![663552, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S162 : S_.BroadcastsInDim S162 (![] : Fin 0 → Fin S162.rank)

variable [Facts]

def fn {F : FTy → Type} [FloatOps F] (main_arg0 : IVec S162 32) (main_arg1 : IVec S1 32) (main_arg2 : FVec F S663552x128 .f32) (main_arg3 : FVec F S32x1024x2048 .f32) (main_arg4 : FVec F S32x1x2048 .f32) (main_arg5 : FVec F S32x1024x1024 .f32) (main_arg6 : FVec F S32x1x1024 .f32) : IVec S162 1 :=
  let main_c : IVec S_ 32 := constantI S_ 32 0#32
  let main_v0 : IVec S162 32 := broadcastInDim S162 ![] bcast_S_S162 main_c
  let main_v1 : IVec S162 1 := cmpi .sge main_arg0 main_v0
  let main_c_0 : IVec S_ 32 := constantI S_ 32 32#32
  let main_v2 : IVec S162 32 := broadcastInDim S162 ![] bcast_S_S162 main_c_0
  let main_v3 : IVec S162 1 := cmpi .slt main_arg0 main_v2
  let main_v4 : IVec S162 1 := andi main_v1 main_v3
  main_v4
-- ==== Pre_norm_finite.lean ====
abbrev S16384x1024 : Shape := ⟨2, ![16384, 1024]⟩
abbrev S16384x512 : Shape := ⟨2, ![16384, 512]⟩
abbrev S14x16384x512 : Shape := ⟨3, ![14, 16384, 512]⟩
abbrev S8x2048x1024 : Shape := ⟨3, ![8, 2048, 1024]⟩
abbrev S8x1x1024 : Shape := ⟨3, ![8, 1, 1024]⟩
abbrev S1x1024 : Shape := ⟨2, ![1, 1024]⟩
abbrev S1x1024x1024 : Shape := ⟨3, ![1, 1024, 1024]⟩
abbrev S1x512x1024 : Shape := ⟨3, ![1, 512, 1024]⟩
abbrev S1x1024x32 : Shape := ⟨3, ![1, 1024, 32]⟩
abbrev S1x32 : Shape := ⟨2, ![1, 32]⟩
abbrev S_ : Shape := ⟨0, ![]⟩
abbrev S1x1x1024 : Shape := ⟨3, ![1, 1, 1024]⟩
abbrev S8x1x1024x1 : Shape := ⟨4, ![8, 1, 1024, 1]⟩
abbrev S1x1x1024x32 : Shape := ⟨4, ![1, 1, 1024, 32]⟩
abbrev S8x1x1024x32 : Shape := ⟨4, ![8, 1, 1024, 32]⟩

class Facts : Prop where
  bcast_S_S8x1x1024 : S_.BroadcastsInDim S8x1x1024 (![] : Fin 0 → Fin S8x1x1024.rank)
  bcast_S_S1x1024 : S_.BroadcastsInDim S1x1024 (![] : Fin 0 → Fin S1x1024.rank)
  bcast_S1x1024_S1x1x1024_0_2 : S1x1024.BroadcastsInDim S1x1x1024 (![0, 2] : Fin 2 → Fin S1x1x1024.rank)
  bcast_S1x1x1024_S8x1x1024_0_1_2 : S1x1x1024.BroadcastsInDim S8x1x1024 (![0, 1, 2] : Fin 3 → Fin S8x1x1024.rank)
  bcast_S8x1x1024_S8x1x1024x1_0_1_2 : S8x1x1024.BroadcastsInDim S8x1x1024x1 (![0, 1, 2] : Fin 3 → Fin S8x1x1024x1.rank)
  bcast_S_S1x1024x32 : S_.BroadcastsInDim S1x1024x32 (![] : Fin 0 → Fin S1x1024x32.rank)
  bcast_S1x1024x32_S1x1x1024x32_0_2_3 : S1x1024x32.BroadcastsInDim S1x1x1024x32 (![0, 2, 3] : Fin 3 → Fin S1x1x1024x32.rank)
  bcast_S8x1x1024x1_S8x1x1024x32_0_1_2_3 : S8x1x1024x1.BroadcastsInDim S8x1x1024x32 (![0, 1, 2, 3] : Fin 4 → Fin S8x1x1024x32.rank)
  bcast_S1x1x1024x32_S8x1x1024x32_0_1_2_3 : S1x1x1024x32.BroadcastsInDim S8x1x1024x32 (![0, 1, 2, 3] : Fin 4 → Fin S8x1x1024x32.rank)

variable [Facts]

def fn_part1 {F : FTy → Type} [FloatOps F] (main_v18 : IVec S8x1x1024x32 1) (main_v19 : IVec S8x1x1024x32 1) : IVec S8x1x1024x32 1 :=
  let main_v20 : IVec S8x1x1024x32 1 := andi main_v18 main_v19
  main_v20

def fn {F : FTy → Type} [FloatOps F] (main_arg0 : FVec F S16384x1024 .bf16) (main_arg1 : FVec F S16384x512 .bf16) (main_arg2 : FVec F S14x16384x512 .f32) (main_arg3 : FVec F S8x2048x1024 .f32) (main_arg4 : FVec F S8x1x1024 .f32) (main_arg5 : FVec F S8x1x1024 .f32) (main_arg6 : FVec F S8x1x1024 .f32) (main_arg7 : FVec F S1x1024 .f32) (main_arg8 : FVec F S1x1024x1024 .f32) (main_arg9 : FVec F S1x512x1024 .f32) (main_arg10 : FVec F S1x1024x1024 .f32) (main_arg11 : FVec F S1x1024x32 .f32) (main_arg12 : FVec F S1x32 .f32) : IVec S8x1x1024x32 1 :=
  let main_v0 : FVec F S8x1x1024 .f32 := Host.absf main_arg5
  let main_cst : FVec F S_ .f32 := constant S_ .f32 0x7F800000#32
  let main_v1 : FVec F S8x1x1024 .f32 := broadcastInDim S8x1x1024 ![] bcast_S_S8x1x1024 main_cst
  let main_v2 : IVec S8x1x1024 1 := cmpf .olt main_v0 main_v1
  let main_v3 : FVec F S8x1x1024 .f32 := Host.absf main_arg6
  let main_cst_0 : FVec F S_ .f32 := constant S_ .f32 0x7F800000#32
  let main_v4 : FVec F S8x1x1024 .f32 := broadcastInDim S8x1x1024 ![] bcast_S_S8x1x1024 main_cst_0
  let main_v5 : IVec S8x1x1024 1 := cmpf .olt main_v3 main_v4
  let main_v6 : IVec S8x1x1024 1 := andi main_v2 main_v5
  let main_v7 : FVec F S1x1024 .f32 := Host.absf main_arg7
  let main_cst_1 : FVec F S_ .f32 := constant S_ .f32 0x7F800000#32
  let main_v8 : FVec F S1x1024 .f32 := broadcastInDim S1x1024 ![] bcast_S_S1x1024 main_cst_1
  let main_v9 : IVec S1x1024 1 := cmpf .olt main_v7 main_v8
  let main_v10 : IVec S1x1x1024 1 := broadcastInDim S1x1x1024 ![0, 2] bcast_S1x1024_S1x1x1024_0_2 main_v9
  let main_v11 : IVec S8x1x1024 1 := broadcastInDim S8x1x1024 ![0, 1, 2] bcast_S1x1x1024_S8x1x1024_0_1_2 main_v10
  let main_v12 : IVec S8x1x1024 1 := andi main_v6 main_v11
  let main_v13 : IVec S8x1x1024x1 1 := broadcastInDim S8x1x1024x1 ![0, 1, 2] bcast_S8x1x1024_S8x1x1024x1_0_1_2 main_v12
  let main_v14 : FVec F S1x1024x32 .f32 := Host.absf main_arg11
  let main_cst_2 : FVec F S_ .f32 := constant S_ .f32 0x7F800000#32
  let main_v15 : FVec F S1x1024x32 .f32 := broadcastInDim S1x1024x32 ![] bcast_S_S1x1024x32 main_cst_2
  let main_v16 : IVec S1x1024x32 1 := cmpf .olt main_v14 main_v15
  let main_v17 : IVec S1x1x1024x32 1 := broadcastInDim S1x1x1024x32 ![0, 2, 3] bcast_S1x1024x32_S1x1x1024x32_0_2_3 main_v16
  let main_v18 : IVec S8x1x1024x32 1 := broadcastInDim S8x1x1024x32 ![0, 1, 2, 3] bcast_S8x1x1024x1_S8x1x1024x32_0_1_2_3 main_v13
  let main_v19 : IVec S8x1x1024x32 1 := broadcastInDim S8x1x1024x32 ![0, 1, 2, 3] bcast_S1x1x1024x32_S8x1x1024x32_0_1_2_3 main_v17
  fn_part1 (F := F) main_v18 main_v19
-- ==== Kernel.lean ====
abbrev S14x256x512 : Shape := ⟨3, ![14, 256, 512]⟩
abbrev S32x4x128x256 : Shape := ⟨4, ![32, 4, 128, 256]⟩
abbrev S1x256 : Shape := ⟨2, ![1, 256]⟩
abbrev S256x1024 : Shape := ⟨2, ![256, 1024]⟩
abbrev S1x8x512 : Shape := ⟨3, ![1, 8, 512]⟩
abbrev S2x8x512 : Shape := ⟨3, ![2, 8, 512]⟩
abbrev S1x4x128x256 : Shape := ⟨4, ![1, 4, 128, 256]⟩
abbrev S8x1024 : Shape := ⟨2, ![8, 1024]⟩
abbrev S4x256x128 : Shape := ⟨3, ![4, 256, 128]⟩
abbrev S1x1x128x256 : Shape := ⟨4, ![1, 1, 128, 256]⟩
abbrev S128x256 : Shape := ⟨2, ![128, 256]⟩
abbrev S256x128 : Shape := ⟨2, ![256, 128]⟩
abbrev S1x256x128 : Shape := ⟨3, ![1, 256, 128]⟩
abbrev S8x512 : Shape := ⟨2, ![8, 512]⟩
abbrev S8x8 : Shape := ⟨2, ![8, 8]⟩
abbrev S8x1 : Shape := ⟨2, ![8, 1]⟩
abbrev S8x128 : Shape := ⟨2, ![8, 128]⟩
abbrev S8x256 : Shape := ⟨2, ![8, 256]⟩
abbrev S1x128 : Shape := ⟨2, ![1, 128]⟩
abbrev S8 : Shape := ⟨1, ![8]⟩
abbrev S256x8 : Shape := ⟨2, ![256, 8]⟩

abbrev nBuf : Space → Nat
  | .hbm => 5
  | .vmem => 18
  | .smem => 0
  | _ => 0

abbrev bufTy : (tb : Table) → Fin (tcTables nBuf tb) → BufTy
  | .hbm, ⟨0, _⟩ => ⟨S14x256x512, .f32⟩
  | .hbm, ⟨1, _⟩ => ⟨S32x4x128x256, .f32⟩
  | .hbm, ⟨2, _⟩ => ⟨S1x256, .f32⟩
  | .hbm, ⟨3, _⟩ => ⟨S256x1024, .f32⟩
  | .hbm, ⟨4, _⟩ => ⟨S32x4x128x256, .f32⟩
  | .local _ .vmem, ⟨0, _⟩ => ⟨S1x8x512, .f32⟩
  | .local _ .vmem, ⟨1, _⟩ => ⟨S1x8x512, .f32⟩
  | .local _ .vmem, ⟨2, _⟩ => ⟨S1x8x512, .f32⟩
  | .local _ .vmem, ⟨3, _⟩ => ⟨S1x8x512, .f32⟩
  | .local _ .vmem, ⟨4, _⟩ => ⟨S2x8x512, .f32⟩
  | .local _ .vmem, ⟨5, _⟩ => ⟨S2x8x512, .f32⟩
  | .local _ .vmem, ⟨6, _⟩ => ⟨S1x8x512, .f32⟩
  | .local _ .vmem, ⟨7, _⟩ => ⟨S1x8x512, .f32⟩
  | .local _ .vmem, ⟨8, _⟩ => ⟨S2x8x512, .f32⟩
  | .local _ .vmem, ⟨9, _⟩ => ⟨S2x8x512, .f32⟩
  | .local _ .vmem, ⟨10, _⟩ => ⟨S1x4x128x256, .f32⟩
  | .local _ .vmem, ⟨11, _⟩ => ⟨S1x4x128x256, .f32⟩
  | .local _ .vmem, ⟨12, _⟩ => ⟨S1x256, .f32⟩
  | .local _ .vmem, ⟨13, _⟩ => ⟨S8x1024, .f32⟩
  | .local _ .vmem, ⟨14, _⟩ => ⟨S8x1024, .f32⟩
  | .local _ .vmem, ⟨15, _⟩ => ⟨S1x4x128x256, .f32⟩
  | .local _ .vmem, ⟨16, _⟩ => ⟨S1x4x128x256, .f32⟩
  | .local _ .vmem, ⟨17, _⟩ => ⟨S4x256x128, .f32⟩
  | _, _ => ⟨S14x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_323 : BitVec 32 := 0#32
  let v1069 : BitVec 1 := Scalar.cmpi .eq arg1 c0_i32_323
  let v1070 : BitVec 32 := Scalar.extui v1069
  let c0_i32_324 : BitVec 32 := 0#32
  let v1071 : BitVec 1 := Scalar.cmpi .ne v1070 c0_i32_324
  v1071

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c6_i32 : BitVec 32 := 6#32
  let c0_i32 : BitVec 32 := 0#32
  let c0_i32_0 : BitVec 32 := 0#32
  ![c6_i32.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c2_i32 : BitVec 32 := 2#32
  let c0_i32 : BitVec 32 := 0#32
  let c0_i32_0 : BitVec 32 := 0#32
  ![c2_i32.toNat, v1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S14x256x512 : Shape := ⟨3, ![14, 256, 512]⟩
abbrev S32x4x128x256 : Shape := ⟨4, ![32, 4, 128, 256]⟩
abbrev S1x256 : Shape := ⟨2, ![1, 256]⟩
abbrev S1x256x512 : Shape := ⟨3, ![1, 256, 512]⟩
abbrev S256x512 : Shape := ⟨2, ![256, 512]⟩
abbrev S32x8x4x128 : Shape := ⟨4, ![32, 8, 4, 128]⟩
abbrev S32x4x8x128 : Shape := ⟨4, ![32, 4, 8, 128]⟩
abbrev S_ : Shape := ⟨0, ![]⟩
abbrev S256x1024 : Shape := ⟨2, ![256, 1024]⟩
abbrev S32x8x4x256 : Shape := ⟨4, ![32, 8, 4, 256]⟩
abbrev S32x4x8x256 : Shape := ⟨4, ![32, 4, 8, 256]⟩
abbrev S8x8 : Shape := ⟨2, ![8, 8]⟩
abbrev S8x8x1 : Shape := ⟨3, ![8, 8, 1]⟩
abbrev S32x4x8x1x128 : Shape := ⟨5, ![32, 4, 8, 1, 128]⟩
abbrev S32x4x1x8x128 : Shape := ⟨5, ![32, 4, 1, 8, 128]⟩
abbrev S32x4x8x8x128 : Shape := ⟨5, ![32, 4, 8, 8, 128]⟩
abbrev S32x4x8x8 : Shape := ⟨4, ![32, 4, 8, 8]⟩
abbrev S32x4x1x128 : Shape := ⟨4, ![32, 4, 1, 128]⟩
abbrev S32x4x128 : Shape := ⟨3, ![32, 4, 128]⟩
abbrev S32x4x128x1 : Shape := ⟨4, ![32, 4, 128, 1]⟩
abbrev S32x8x4 : Shape := ⟨3, ![32, 8, 4]⟩
abbrev S32x8x4x1 : Shape := ⟨4, ![32, 8, 4, 1]⟩
abbrev S256 : Shape := ⟨1, ![256]⟩
abbrev S1x1x1x256 : Shape := ⟨4, ![1, 1, 1, 256]⟩

abbrev nBuf : Space → Nat
  | .hbm => 110
  | .vmem => 0
  | .smem => 0
  | _ => 0

abbrev bufTy : (tb : Table) → Fin (tcTables nBuf tb) → BufTy
  | .hbm, ⟨0, _⟩ => ⟨S14x256x512, .f32⟩
  | .hbm, ⟨1, _⟩ => ⟨S32x4x128x256, .f32⟩
  | .hbm, ⟨2, _⟩ => ⟨S1x256, .f32⟩
  | .hbm, ⟨3, _⟩ => ⟨S1x256x512, .f32⟩
  | .hbm, ⟨4, _⟩ => ⟨S256x512, .f32⟩
  | .hbm, ⟨5, _⟩ => ⟨S32x8x4x128, .f32⟩
  | .hbm, ⟨6, _⟩ => ⟨S32x4x8x128, .f32⟩
  | .hbm, ⟨7, _⟩ => ⟨S_, .f32⟩
  | .hbm, ⟨8, _⟩ => ⟨S32x4x8x128, .f32⟩
  | .hbm, ⟨9, _⟩ => ⟨S32x4x8x128, .f32⟩
  | .hbm, ⟨10, _⟩ => ⟨S1x256x512, .f32⟩
  | .hbm, ⟨11, _⟩ => ⟨S256x512, .f32⟩
  | .hbm, ⟨12, _⟩ => ⟨S32x8x4x128, .f32⟩
  | .hbm, ⟨13, _⟩ => ⟨S32x4x8x128, .f32⟩
  | .hbm, ⟨14, _⟩ => ⟨S1x256x512, .f32⟩
  | .hbm, ⟨15, _⟩ => ⟨S256x512, .f32⟩
  | .hbm, ⟨16, _⟩ => ⟨S1x256x512, .f32⟩
  | .hbm, ⟨17, _⟩ => ⟨S256x512, .f32⟩
  | .hbm, ⟨18, _⟩ => ⟨S256x1024, .f32⟩
  | .hbm, ⟨19, _⟩ => ⟨S32x8x4x256, .f32⟩
  | .hbm, ⟨20, _⟩ => ⟨S32x4x8x256, .f32⟩
  | .hbm, ⟨21, _⟩ => ⟨S1x256x512, .f32⟩
  | .hbm, ⟨22, _⟩ => ⟨S256x512, .f32⟩
  | .hbm, ⟨23, _⟩ => ⟨S1x256x512, .f32⟩
  | .hbm, ⟨24, _⟩ => ⟨S256x512, .f32⟩
  | .hbm, ⟨25, _⟩ => ⟨S256x1024, .f32⟩
  | .hbm, ⟨26, _⟩ => ⟨S1x256x512, .f32⟩
  | .hbm, ⟨27, _⟩ => ⟨S256x512, .f32⟩
  | .hbm, ⟨28, _⟩ => ⟨S32x8x4x128, .f32⟩
  | .hbm, ⟨29, _⟩ => ⟨S32x4x8x128, .f32⟩
  | .hbm, ⟨30, _⟩ => ⟨S_, .f32⟩
  | .hbm, ⟨31, _⟩ => ⟨S_, .f32⟩
  | .hbm, ⟨32, _⟩ => ⟨S32x4x8x128, .f32⟩
  | .hbm, ⟨33, _⟩ => ⟨S32x4x8x128, .f32⟩
  | .hbm, ⟨34, _⟩ => ⟨S32x4x8x128, .f32⟩
  | .hbm, ⟨35, _⟩ => ⟨S32x4x8x256, .f32⟩
  | .hbm, ⟨36, _⟩ => ⟨S_, .i1⟩
  | .hbm, ⟨37, _⟩ => ⟨S8x8, .i1⟩
  | .hbm, ⟨38, _⟩ => ⟨S8x8, .i32⟩
  | .hbm, ⟨39, _⟩ => ⟨S_, .i32⟩
  | .hbm, ⟨40, _⟩ => ⟨S8x8, .i32⟩
  | .hbm, ⟨41, _⟩ => ⟨S8x8, .i32⟩
  | .hbm, ⟨42, _⟩ => ⟨S8x8, .i32⟩
  | .hbm, ⟨43, _⟩ => ⟨S8x8, .i1⟩
  | .hbm, ⟨44, _⟩ => ⟨S_, .i1⟩
  | .hbm, ⟨45, _⟩ => ⟨S8x8, .i1⟩
  | .hbm, ⟨46, _⟩ => ⟨S8x8, .i1⟩
  | .hbm, ⟨47, _⟩ => ⟨S8x8x1, .i1⟩
  | .hbm, ⟨48, _⟩ => ⟨S32x4x8x1x128, .f32⟩
  | .hbm, ⟨49, _⟩ => ⟨S32x4x1x8x128, .f32⟩
  | .hbm, ⟨50, _⟩ => ⟨S32x4x8x8x128, .f32⟩
  | .hbm, ⟨51, _⟩ => ⟨S32x4x8x8x128, .f32⟩
  | .hbm, ⟨52, _⟩ => ⟨S32x4x8x8x128, .f32⟩
  | .hbm, ⟨53, _⟩ => ⟨S_, .f32⟩
  | .hbm, ⟨54, _⟩ => ⟨S_, .f32⟩
  | .hbm, ⟨55, _⟩ => ⟨S32x4x8x8x128, .i1⟩
  | .hbm, ⟨56, _⟩ => ⟨S32x4x8x8x128, .f32⟩
  | .hbm, ⟨57, _⟩ => ⟨S32x4x8x8x128, .f32⟩
  | .hbm, ⟨58, _⟩ => ⟨S32x4x8x1x128, .f32⟩
  | .hbm, ⟨59, _⟩ => ⟨S32x4x1x8x128, .f32⟩
  | .hbm, ⟨60, _⟩ => ⟨S32x4x8x8x128, .f32⟩
  | .hbm, ⟨61, _⟩ => ⟨S32x4x8x8x128, .f32⟩
  | .hbm, ⟨62, _⟩ => ⟨S32x4x8x8x128, .f32⟩
  | .hbm, ⟨63, _⟩ => ⟨S32x4x8x8x128, .f32⟩
  | .hbm, ⟨64, _⟩ => ⟨S32x4x8x8x128, .f32⟩
  | .hbm, ⟨65, _⟩ => ⟨S_, .f32⟩
  | .hbm, ⟨66, _⟩ => ⟨S32x4x8x8, .f32⟩
  | .hbm, ⟨67, _⟩ => ⟨S32x4x8x256, .f32⟩
  | .hbm, ⟨68, _⟩ => ⟨S32x4x8x256, .f32⟩
  | .hbm, ⟨69, _⟩ => ⟨S32x4x1x128, .f32⟩
  | .hbm, ⟨70, _⟩ => ⟨S32x4x128, .f32⟩
  | .hbm, ⟨71, _⟩ => ⟨S32x4x128, .f32⟩
  | .hbm, ⟨72, _⟩ => ⟨S32x4x128x1, .f32⟩
  | .hbm, ⟨73, _⟩ => ⟨S32x4x128x256, .f32⟩
  | .hbm, ⟨74, _⟩ => ⟨S32x4x128x256, .f32⟩
  | .hbm, ⟨75, _⟩ => ⟨S32x4x8x128, .f32⟩
  | .hbm, ⟨76, _⟩ => ⟨S32x4x8x128, .f32⟩
  | .hbm, ⟨77, _⟩ => ⟨S32x4x8x128, .f32⟩
  | .hbm, ⟨78, _⟩ => ⟨S32x4x8x128, .f32⟩
  | .hbm, ⟨79, _⟩ => ⟨S32x4x128x256, .f32⟩
  | .hbm, ⟨80, _⟩ => ⟨S32x4x128x256, .f32⟩
  | .hbm, ⟨81, _⟩ => ⟨S32x8x4x256, .f32⟩
  | .hbm, ⟨82, _⟩ => ⟨S32x8x4x256, .f32⟩
  | .hbm, ⟨83, _⟩ => ⟨S_, .f32⟩
  | .hbm, ⟨84, _⟩ => ⟨S32x8x4, .f32⟩
  | .hbm, ⟨85, _⟩ => ⟨S32x8x4x1, .f32⟩
  | .hbm, ⟨86, _⟩ => ⟨S_, .f32⟩
  | .hbm, ⟨87, _⟩ => ⟨S32x8x4x1, .f32⟩
  | .hbm, ⟨88, _⟩ => ⟨S32x8x4x1, .f32⟩
  | .hbm, ⟨89, _⟩ => ⟨S_, .f32⟩
  | .hbm, ⟨90, _⟩ => ⟨S32x8x4x1, .f32⟩
  | .hbm, ⟨91, _⟩ => ⟨S32x8x4x1, .f32⟩
  | .hbm, ⟨92, _⟩ => ⟨S32x8x4x1, .f32⟩
  | .hbm, ⟨93, _⟩ => ⟨S32x8x4x256, .f32⟩
  | .hbm, ⟨94, _⟩ => ⟨S32x8x4x256, .f32⟩
  | .hbm, ⟨95, _⟩ => ⟨S256, .f32⟩
  | .hbm, ⟨96, _⟩ => ⟨S1x1x1x256, .f32⟩
  | .hbm, ⟨97, _⟩ => ⟨S32x8x4x256, .f32⟩
  | .hbm, ⟨98, _⟩ => ⟨S32x8x4x256, .f32⟩
  | .hbm, ⟨99, _⟩ => ⟨S256x1024, .f32⟩
  | .hbm, ⟨100, _⟩ => ⟨S256x1024, .f32⟩
  | .hbm, ⟨101, _⟩ => ⟨S256x1024, .f32⟩
  | .hbm, ⟨102, _⟩ => ⟨S_, .f32⟩
  | .hbm, ⟨103, _⟩ => ⟨S256x1024, .f32⟩
  | .hbm, ⟨104, _⟩ => ⟨S256x1024, .f32⟩
  | .hbm, ⟨105, _⟩ => ⟨S_, .f32⟩
  | .hbm, ⟨106, _⟩ => ⟨S256x1024, .f32⟩
  | .hbm, ⟨107, _⟩ => ⟨S256x1024, .f32⟩
  | .hbm, ⟨108, _⟩ => ⟨S256x1024, .f32⟩
  | .hbm, ⟨109, _⟩ => ⟨S256x1024, .f32⟩
  | _, _ => ⟨S14x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_call0_call0_cst : Ref sig .tc := ⟨.hbm, 30, rfl⟩
abbrev main_call0_call0_v0 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_c : Ref sig .tc := ⟨.hbm, 36, rfl⟩
abbrev main_v30 : Ref sig .tc := ⟨.hbm, 37, rfl⟩
abbrev main_call1_v0 : Ref sig .tc := ⟨.hbm, 38, rfl⟩
abbrev main_call1_c : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_0 : Ref sig .tc := ⟨.hbm, 44, rfl⟩
abbrev main_call1_v5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_0 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_1 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_2 : Ref sig .tc := ⟨.hbm, 83, rfl⟩
abbrev main_v63 : Ref sig .tc := ⟨.hbm, 84, rfl⟩
abbrev main_v64 : Ref sig .tc := ⟨.hbm, 85, rfl⟩
abbrev main_cst_3 : Ref sig .tc := ⟨.hbm, 86, rfl⟩
abbrev main_v65 : Ref sig .tc := ⟨.hbm, 87, rfl⟩
abbrev main_v66 : Ref sig .tc := ⟨.hbm, 88, rfl⟩
abbrev main_cst_4 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_call3_v0 : Ref sig .tc := ⟨.hbm, 100, rfl⟩
abbrev main_call3_v1 : Ref sig .tc := ⟨.hbm, 101, rfl⟩
abbrev main_call3_cst : Ref sig .tc := ⟨.hbm, 102, rfl⟩
abbrev main_call3_v2 : Ref sig .tc := ⟨.hbm, 103, rfl⟩
abbrev main_call3_v3 : Ref sig .tc := ⟨.hbm, 104, rfl⟩
abbrev main_call3_cst_0 : Ref sig .tc := ⟨.hbm, 105, rfl⟩
abbrev main_call3_v4 : Ref sig .tc := ⟨.hbm, 106, rfl⟩
abbrev main_call3_v5 : Ref sig .tc := ⟨.hbm, 107, rfl⟩
abbrev main_v77 : Ref sig .tc := ⟨.hbm, 108, rfl⟩
abbrev main_v78 : Ref sig .tc := ⟨.hbm, 109, rfl⟩

abbrev nD : Nat := 1
abbrev τ : Topo := Topo.v7x

variable {F : FTy → Type} [FloatOps F]
-- ==== Kernel2.lean ====
abbrev S162 : Shape := ⟨1, ![162]⟩
abbrev S1 : Shape := ⟨1, ![1]⟩
abbrev S663552x128 : Shape := ⟨2, ![663552, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S4096x128 : Shape := ⟨2, ![4096, 128]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S512x128 : Shape := ⟨2, ![512, 128]⟩
abbrev S512x1024 : Shape := ⟨2, ![512, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 6
  | .vmem => 14
  | .smem => 2
  | _ => 0

abbrev bufTy : (tb : Table) → Fin (tcTables nBuf tb) → BufTy
  | .hbm, ⟨0, _⟩ => ⟨S663552x128, .f32⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S663552x128, .f32⟩
  | .local _ .vmem, ⟨0, _⟩ => ⟨S4096x128, .f32⟩
  | .local _ .vmem, ⟨1, _⟩ => ⟨S4096x128, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S4096x128, .f32⟩
  | .local _ .vmem, ⟨11, _⟩ => ⟨S4096x128, .f32⟩
  | .local _ .vmem, ⟨12, _⟩ => ⟨S1024x2048, .bf16⟩
  | .local _ .vmem, ⟨13, _⟩ => ⟨S1024x1024, .bf16⟩
  | .local _ .smem, ⟨0, _⟩ => ⟨S162, .i32⟩
  | .local _ .smem, ⟨1, _⟩ => ⟨S1, .i32⟩
  | _, _ => ⟨S663552x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![162], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v14 : BitVec 32) : BitVec 1 :=
  let arg0 : BitVec 32 := BitVec.ofNat 32 (i 0).val
  let v15 : BitVec 1 := Scalar.cmpi .slt arg0 v14
  let v16 : BitVec 32 := Scalar.extui v15
  let c0_i32_3 : BitVec 32 := 0#32
  let v17 : BitVec 1 := Scalar.cmpi .ne v16 c0_i32_3
  v17

def k0_cond3 (i : grid0.Coords) (v18 : BitVec 32) : BitVec 1 :=
  let arg0 : BitVec 32 := BitVec.ofNat 32 (i 0).val
  let v19 : BitVec 1 := Scalar.cmpi .sge arg0 v18
  let v20 : BitVec 32 := Scalar.extui v19
  let c0_i32_5 : BitVec 32 := 0#32
  let v21 : BitVec 1 := Scalar.cmpi .ne v20 c0_i32_5
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S162.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S162.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S162.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S162.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S162 : Shape := ⟨1, ![162]⟩
abbrev S1 : Shape := ⟨1, ![1]⟩
abbrev S663552x128 : Shape := ⟨2, ![663552, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S162x512x1024 : Shape := ⟨3, ![162, 512, 1024]⟩
abbrev S_ : Shape := ⟨0, ![]⟩
abbrev S162x1 : Shape := ⟨2, ![162, 1]⟩
abbrev S162x1024x2048 : Shape := ⟨3, ![162, 1024, 2048]⟩
abbrev S162x512x2048 : Shape := ⟨3, ![162, 512, 2048]⟩
abbrev S162x1x2048 : Shape := ⟨3, ![162, 1, 2048]⟩
abbrev S162x1024x1024 : Shape := ⟨3, ![162, 1024, 1024]⟩
abbrev S162x1x1024 : Shape := ⟨3, ![162, 1, 1024]⟩
abbrev S162x1x1 : Shape := ⟨3, ![162, 1, 1]⟩

abbrev nBuf : Space → Nat
  | .hbm => 90
  | .vmem => 0
  | .smem => 0
  | _ => 0

abbrev bufTy : (tb : Table) → Fin (tcTables nBuf tb) → BufTy
  | .hbm, ⟨0, _⟩ => ⟨S162, .i32⟩
  | .hbm, ⟨1, _⟩ => ⟨S1, .i32⟩
  | .hbm, ⟨2, _⟩ => ⟨S663552x128, .f32⟩
  | .hbm, ⟨3, _⟩ => ⟨S32x1024x2048, .f32⟩
  | .hbm, ⟨4, _⟩ => ⟨S32x1x2048, .f32⟩
  | .hbm, ⟨5, _⟩ => ⟨S32x1024x1024, .f32⟩
  | .hbm, ⟨6, _⟩ => ⟨S32x1x1024, .f32⟩
  | .hbm, ⟨7, _⟩ => ⟨S162x512x1024, .f32⟩
  | .hbm, ⟨8, _⟩ => ⟨S_, .i32⟩
  | .hbm, ⟨9, _⟩ => ⟨S162, .i32⟩
  | .hbm, ⟨10, _⟩ => ⟨S162, .i1⟩
  | .hbm, ⟨11, _⟩ => ⟨S_, .i32⟩
  | .hbm, ⟨12, _⟩ => ⟨S162, .i32⟩
  | .hbm, ⟨13, _⟩ => ⟨S162, .i32⟩
  | .hbm, ⟨14, _⟩ => ⟨S162, .i32⟩
  | .hbm, ⟨15, _⟩ => ⟨S162x1, .i32⟩
  | .hbm, ⟨16, _⟩ => ⟨S162x1024x2048, .f32⟩
  | .hbm, ⟨17, _⟩ => ⟨S162x512x2048, .f32⟩
  | .hbm, ⟨18, _⟩ => ⟨S_, .i32⟩
  | .hbm, ⟨19, _⟩ => ⟨S162, .i32⟩
  | .hbm, ⟨20, _⟩ => ⟨S162, .i1⟩
  | .hbm, ⟨21, _⟩ => ⟨S_, .i32⟩
  | .hbm, ⟨22, _⟩ => ⟨S162, .i32⟩
  | .hbm, ⟨23, _⟩ => ⟨S162, .i32⟩
  | .hbm, ⟨24, _⟩ => ⟨S162, .i32⟩
  | .hbm, ⟨25, _⟩ => ⟨S162x1, .i32⟩
  | .hbm, ⟨26, _⟩ => ⟨S162x1x2048, .f32⟩
  | .hbm, ⟨27, _⟩ => ⟨S162x512x2048, .f32⟩
  | .hbm, ⟨28, _⟩ => ⟨S162x512x2048, .f32⟩
  | .hbm, ⟨29, _⟩ => ⟨S162x512x1024, .f32⟩
  | .hbm, ⟨30, _⟩ => ⟨S_, .f32⟩
  | .hbm, ⟨31, _⟩ => ⟨S162x512x1024, .f32⟩
  | .hbm, ⟨32, _⟩ => ⟨S162x512x1024, .f32⟩
  | .hbm, ⟨33, _⟩ => ⟨S162x512x1024, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S162x512x1024, .f32⟩
  | .hbm, ⟨38, _⟩ => ⟨S162x512x1024, .f32⟩
  | .hbm, ⟨39, _⟩ => ⟨S_, .f32⟩
  | .hbm, ⟨40, _⟩ => ⟨S162x512x1024, .f32⟩
  | .hbm, ⟨41, _⟩ => ⟨S162x512x1024, .f32⟩
  | .hbm, ⟨42, _⟩ => ⟨S_, .f32⟩
  | .hbm, ⟨43, _⟩ => ⟨S162x512x1024, .f32⟩
  | .hbm, ⟨44, _⟩ => ⟨S162x512x1024, .f32⟩
  | .hbm, ⟨45, _⟩ => ⟨S162x512x1024, .f32⟩
  | .hbm, ⟨46, _⟩ => ⟨S162x512x1024, .f32⟩
  | .hbm, ⟨47, _⟩ => ⟨S_, .f32⟩
  | .hbm, ⟨48, _⟩ => ⟨S162x512x1024, .f32⟩
  | .hbm, ⟨49, _⟩ => ⟨S162x512x1024, .f32⟩
  | .hbm, ⟨50, _⟩ => ⟨S_, .f32⟩
  | .hbm, ⟨51, _⟩ => ⟨S162x512x1024, .f32⟩
  | .hbm, ⟨52, _⟩ => ⟨S162x512x1024, .f32⟩
  | .hbm, ⟨53, _⟩ => ⟨S162x512x1024, .f32⟩
  | .hbm, ⟨54, _⟩ => ⟨S_, .f32⟩
  | .hbm, ⟨55, _⟩ => ⟨S162x512x1024, .f32⟩
  | .hbm, ⟨56, _⟩ => ⟨S162x512x1024, .f32⟩
  | .hbm, ⟨57, _⟩ => ⟨S162x512x1024, .f32⟩
  | .hbm, ⟨58, _⟩ => ⟨S_, .i32⟩
  | .hbm, ⟨59, _⟩ => ⟨S162, .i32⟩
  | .hbm, ⟨60, _⟩ => ⟨S162, .i1⟩
  | .hbm, ⟨61, _⟩ => ⟨S_, .i32⟩
  | .hbm, ⟨62, _⟩ => ⟨S162, .i32⟩
  | .hbm, ⟨63, _⟩ => ⟨S162, .i32⟩
  | .hbm, ⟨64, _⟩ => ⟨S162, .i32⟩
  | .hbm, ⟨65, _⟩ => ⟨S162x1, .i32⟩
  | .hbm, ⟨66, _⟩ => ⟨S162x1024x1024, .f32⟩
  | .hbm, ⟨67, _⟩ => ⟨S162x512x1024, .f32⟩
  | .hbm, ⟨68, _⟩ => ⟨S_, .i32⟩
  | .hbm, ⟨69, _⟩ => ⟨S162, .i32⟩
  | .hbm, ⟨70, _⟩ => ⟨S162, .i1⟩
  | .hbm, ⟨71, _⟩ => ⟨S_, .i32⟩
  | .hbm, ⟨72, _⟩ => ⟨S162, .i32⟩
  | .hbm, ⟨73, _⟩ => ⟨S162, .i32⟩
  | .hbm, ⟨74, _⟩ => ⟨S162, .i32⟩
  | .hbm, ⟨75, _⟩ => ⟨S162x1, .i32⟩
  | .hbm, ⟨76, _⟩ => ⟨S162x1x1024, .f32⟩
  | .hbm, ⟨77, _⟩ => ⟨S162x512x1024, .f32⟩
  | .hbm, ⟨78, _⟩ => ⟨S162x512x1024, .f32⟩
  | .hbm, ⟨79, _⟩ => ⟨S162, .i32⟩
  | .hbm, ⟨80, _⟩ => ⟨S_, .i32⟩
  | .hbm, ⟨81, _⟩ => ⟨S162, .i32⟩
  | .hbm, ⟨82, _⟩ => ⟨S162, .i1⟩
  | .hbm, ⟨83, _⟩ => ⟨S162x1x1, .i1⟩
  | .hbm, ⟨84, _⟩ => ⟨S_, .f32⟩
  | .hbm, ⟨85, _⟩ => ⟨S_, .f32⟩
  | .hbm, ⟨86, _⟩ => ⟨S162x512x1024, .i1⟩
  | .hbm, ⟨87, _⟩ => ⟨S162x512x1024, .f32⟩
  | .hbm, ⟨88, _⟩ => ⟨S162x512x1024, .f32⟩
  | .hbm, ⟨89, _⟩ => ⟨S663552x128, .f32⟩
  | _, _ => ⟨S162, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_8 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_9 : Ref sig .tc := ⟨.hbm, 58, rfl⟩
abbrev main_v35 : Ref sig .tc := ⟨.hbm, 59, rfl⟩
abbrev main_v36 : Ref sig .tc := ⟨.hbm, 60, rfl⟩
abbrev main_c_10 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_11 : Ref sig .tc := ⟨.hbm, 68, rfl⟩
abbrev main_v43 : Ref sig .tc := ⟨.hbm, 69, rfl⟩
abbrev main_v44 : Ref sig .tc := ⟨.hbm, 70, rfl⟩
abbrev main_c_12 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_13 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v57 : Ref sig .tc := ⟨.hbm, 88, rfl⟩
abbrev main_v58 : Ref sig .tc := ⟨.hbm, 89, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x1x1024 : Shape := ⟨3, ![8, 1, 1024]⟩
abbrev S1x1024 : Shape := ⟨2, ![1, 1024]⟩
abbrev S1x1024x6672 : Shape := ⟨3, ![1, 1024, 6672]⟩
abbrev S1x16x512 : Shape := ⟨3, ![1, 16, 512]⟩
abbrev S1x512 : Shape := ⟨2, ![1, 512]⟩
abbrev S1024x6672 : Shape := ⟨2, ![1024, 6672]⟩
abbrev S_ : Shape := ⟨0, ![]⟩
abbrev S1024x496 : Shape := ⟨2, ![1024, 496]⟩
abbrev S1024x3088 : Shape := ⟨2, ![1024, 3088]⟩
abbrev S1024x3584 : Shape := ⟨2, ![1024, 3584]⟩
abbrev S1024x7168 : Shape := ⟨2, ![1024, 7168]⟩
abbrev S512x512 : Shape := ⟨2, ![512, 512]⟩
abbrev S16x512 : Shape := ⟨2, ![16, 512]⟩
abbrev S1 : Shape := ⟨1, ![1]⟩
abbrev S512 : Shape := ⟨1, ![512]⟩
abbrev S1024 : Shape := ⟨1, ![1024]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x8x64 : Shape := ⟨4, ![1, 2048, 8, 64]⟩
abbrev S2048x512 : Shape := ⟨2, ![2048, 512]⟩
abbrev S16384x1024 : Shape := ⟨2, ![16384, 1024]⟩
abbrev S14x16384x512 : Shape := ⟨3, ![14, 16384, 512]⟩
abbrev S8x512x2048 : Shape := ⟨3, ![8, 512, 2048]⟩
abbrev S1024x1024 : Shape := ⟨2, ![1024, 1024]⟩
abbrev S1x1x1024 : Shape := ⟨3, ![1, 1, 1024]⟩
abbrev S1024x512 : Shape := ⟨2, ![1024, 512]⟩
abbrev S1x1024x512 : Shape := ⟨3, ![1, 1024, 512]⟩
abbrev S1x512x1024 : Shape := ⟨3, ![1, 512, 1024]⟩
abbrev S1024x1 : Shape := ⟨2, ![1024, 1]⟩
abbrev S512x1024 : Shape := ⟨2, ![512, 1024]⟩
abbrev S1x8x8x64x2048 : Shape := ⟨5, ![1, 8, 8, 64, 2048]⟩
abbrev S1x8x2048x8x64 : Shape := ⟨5, ![1, 8, 2048, 8, 64]⟩

abbrev nBuf : Space → Nat
  | .hbm => 61
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S1x1024, .f32⟩
  | .hbm, ⟨4, _⟩ => ⟨S1x1024x6672, .f32⟩
  | .hbm, ⟨5, _⟩ => ⟨S1x16x512, .f32⟩
  | .hbm, ⟨6, _⟩ => ⟨S1x512, .f32⟩
  | .hbm, ⟨7, _⟩ => ⟨S1024x6672, .f32⟩
  | .hbm, ⟨8, _⟩ => ⟨S_, .f32⟩
  | .hbm, ⟨9, _⟩ => ⟨S1024x496, .f32⟩
  | .hbm, ⟨10, _⟩ => ⟨S1024x3088, .f32⟩
  | .hbm, ⟨11, _⟩ => ⟨S1024x3584, .f32⟩
  | .hbm, ⟨12, _⟩ => ⟨S1024x7168, .f32⟩
  | .hbm, ⟨13, _⟩ => ⟨S1024x7168, .bf16⟩
  | .hbm, ⟨14, _⟩ => ⟨S_, .bf16⟩
  | .hbm, ⟨15, _⟩ => ⟨S512x512, .bf16⟩
  | .hbm, ⟨16, _⟩ => ⟨S16x512, .f32⟩
  | .hbm, ⟨17, _⟩ => ⟨S16x512, .bf16⟩
  | .hbm, ⟨18, _⟩ => ⟨S_, .i32⟩
  | .hbm, ⟨19, _⟩ => ⟨S1, .i32⟩
  | .hbm, ⟨20, _⟩ => ⟨S512x512, .bf16⟩
  | .hbm, ⟨21, _⟩ => ⟨S512, .f32⟩
  | .hbm, ⟨22, _⟩ => ⟨S1x512, .f32⟩
  | .hbm, ⟨23, _⟩ => ⟨S1024, .f32⟩
  | .hbm, ⟨24, _⟩ => ⟨S1x1024, .f32⟩
  | .hbm, ⟨25, _⟩ => ⟨S2048, .i32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S2048, .f32⟩
  | .hbm, ⟨37, _⟩ => ⟨S2048x1, .f32⟩
  | .hbm, ⟨38, _⟩ => ⟨S1x32, .f32⟩
  | .hbm, ⟨39, _⟩ => ⟨S2048x32, .f32⟩
  | .hbm, ⟨40, _⟩ => ⟨S2048x32, .f32⟩
  | .hbm, ⟨41, _⟩ => ⟨S2048x32, .f32⟩
  | .hbm, ⟨42, _⟩ => ⟨S2048x32, .f32⟩
  | .hbm, ⟨43, _⟩ => ⟨S2048x32, .f32⟩
  | .hbm, ⟨44, _⟩ => ⟨S2048x64, .f32⟩
  | .hbm, ⟨45, _⟩ => ⟨S2048x32, .f32⟩
  | .hbm, ⟨46, _⟩ => ⟨S2048x64, .f32⟩
  | .hbm, ⟨47, _⟩ => ⟨S1x2048x1x64, .f32⟩
  | .hbm, ⟨48, _⟩ => ⟨S1x2048x8x64, .f32⟩
  | .hbm, ⟨49, _⟩ => ⟨S2048x512, .f32⟩
  | .hbm, ⟨50, _⟩ => ⟨S1x2048x1x64, .f32⟩
  | .hbm, ⟨51, _⟩ => ⟨S1x2048x8x64, .f32⟩
  | .hbm, ⟨52, _⟩ => ⟨S2048x512, .f32⟩
  | .hbm, ⟨53, _⟩ => ⟨S16384x1024, .f32⟩
  | .hbm, ⟨54, _⟩ => ⟨S14x16384x512, .f32⟩
  | .hbm, ⟨55, _⟩ => ⟨S8x512x2048, .f32⟩
  | .hbm, ⟨56, _⟩ => ⟨S8x512x2048, .f32⟩
  | .hbm, ⟨57, _⟩ => ⟨S1x8x8x64x2048, .f32⟩
  | .hbm, ⟨58, _⟩ => ⟨S1x8x2048x8x64, .f32⟩
  | .hbm, ⟨59, _⟩ => ⟨S1x8x8x64x2048, .f32⟩
  | .hbm, ⟨60, _⟩ => ⟨S1x8x2048x8x64, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x512, .bf16⟩
  | .local _ .vmem, ⟨8, _⟩ => ⟨S1024x512, .bf16⟩
  | .local _ .vmem, ⟨9, _⟩ => ⟨S512x512, .bf16⟩
  | .local _ .vmem, ⟨10, _⟩ => ⟨S1x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1x1024x512, .f32⟩
  | .local _ .vmem, ⟨16, _⟩ => ⟨S1x1024x512, .f32⟩
  | .local _ .vmem, ⟨17, _⟩ => ⟨S1x512x1024, .f32⟩
  | .local _ .vmem, ⟨18, _⟩ => ⟨S1x512x1024, .f32⟩
  | .local _ .vmem, ⟨19, _⟩ => ⟨S1x512x1024, .f32⟩
  | .local _ .vmem, ⟨20, _⟩ => ⟨S1x512x1024, .f32⟩
  | .local _ .vmem, ⟨21, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41_0 : Ref sig .tc := ⟨.hbm, 54, rfl⟩
abbrev main_v41_1 : Ref sig .tc := ⟨.hbm, 55, rfl⟩
abbrev main_v41_2 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![16, 14], ![false, false]⟩

def k0_cond2 (i : grid0.Coords) : BitVec 1 :=
  let arg1 : BitVec 32 := BitVec.ofNat 32 (i 1).val
  let c7_i32_4 : BitVec 32 := 7#32
  let v14 : BitVec 1 := Scalar.cmpi .eq arg1 c7_i32_4
  let v15 : BitVec 32 := Scalar.extui v14
  let c0_i32_5 : BitVec 32 := 0#32
  let v16 : BitVec 1 := Scalar.cmpi .ne v15 c0_i32_5
  v16

def k0_cond3 (i : grid0.Coords) : BitVec 1 :=
  let arg1 : BitVec 32 := BitVec.ofNat 32 (i 1).val
  let c8_i32_6 : BitVec 32 := 8#32
  let v17 : BitVec 1 := Scalar.cmpi .eq arg1 c8_i32_6
  let v18 : BitVec 32 := Scalar.extui v17
  let c0_i32_7 : BitVec 32 := 0#32
  let v19 : BitVec 1 := Scalar.cmpi .ne v18 c0_i32_7
  v19

def k0_cond4 (i : grid0.Coords) : BitVec 1 :=
  let arg1 : BitVec 32 := BitVec.ofNat 32 (i 1).val
  let c9_i32_8 : BitVec 32 := 9#32
  let v20 : BitVec 1 := Scalar.cmpi .eq arg1 c9_i32_8
  let v21 : BitVec 32 := Scalar.extui v20
  let c0_i32_9 : BitVec 32 := 0#32
  let v22 : BitVec 1 := Scalar.cmpi .ne v21 c0_i32_9
  v22

def k0_cond5 (i : grid0.Coords) : BitVec 1 :=
  let arg1 : BitVec 32 := BitVec.ofNat 32 (i 1).val
  let c6_i32 : BitVec 32 := 6#32
  let v7 : BitVec 1 := Scalar.cmpi .eq arg1 c6_i32
  let v23 : BitVec 32 := Scalar.extui v7
  let c0_i32_10 : BitVec 32 := 0#32
  let v24 : BitVec 1 := Scalar.cmpi .ne v23 c0_i32_10
  v24

def k0_cond6 (i : grid0.Coords) : BitVec 1 :=
  let arg1 : BitVec 32 := BitVec.ofNat 32 (i 1).val
  let c7_i32 : BitVec 32 := 7#32
  let v8 : BitVec 1 := Scalar.cmpi .eq arg1 c7_i32
  let c8_i32 : BitVec 32 := 8#32
  let v9 : BitVec 1 := Scalar.cmpi .eq arg1 c8_i32
  let v11 : BitVec 1 := Scalar.ori v8 v9
  let c9_i32 : BitVec 32 := 9#32
  let v10 : BitVec 1 := Scalar.cmpi .eq arg1 c9_i32
  let v12 : BitVec 1 := Scalar.ori v11 v10
  let c6_i32 : BitVec 32 := 6#32
  let v7 : BitVec 1 := Scalar.cmpi .eq arg1 c6_i32
  let v13 : BitVec 1 := Scalar.ori v12 v7
  let v_true : BitVec 1 := 1#1
  let v25 : BitVec 1 := Scalar.xori v13 v_true
  let v26 : BitVec 32 := Scalar.extui v25
  let c0_i32_11 : BitVec 32 := 0#32
  let v27 : BitVec 1 := Scalar.cmpi .ne v26 c0_i32_11
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference3Ideal.lean ====
abbrev S8x2048x1024 : Shape := ⟨3, ![8, 2048, 1024]⟩
abbrev S8x1x1024 : Shape := ⟨3, ![8, 1, 1024]⟩
abbrev S1x1024 : Shape := ⟨2, ![1, 1024]⟩
abbrev S1x1024x6672 : Shape := ⟨3, ![1, 1024, 6672]⟩
abbrev S1x16x512 : Shape := ⟨3, ![1, 16, 512]⟩
abbrev S1x512 : Shape := ⟨2, ![1, 512]⟩
abbrev S_ : Shape := ⟨0, ![]⟩
abbrev S8x2048 : Shape := ⟨2, ![8, 2048]⟩
abbrev S8x2048x1 : Shape := ⟨3, ![8, 2048, 1]⟩
abbrev S1024 : Shape := ⟨1, ![1024]⟩
abbrev S1x1x1024 : Shape := ⟨3, ![1, 1, 1024]⟩
abbrev S1024x6672 : Shape := ⟨2, ![1024, 6672]⟩
abbrev S8x2048x6672 : Shape := ⟨3, ![8, 2048, 6672]⟩
abbrev S8x2048x16 : Shape := ⟨3, ![8, 2048, 16]⟩
abbrev S16x512 : Shape := ⟨2, ![16, 512]⟩
abbrev S8x2048x512 : Shape := ⟨3, ![8, 2048, 512]⟩
abbrev S512 : Shape := ⟨1, ![512]⟩
abbrev S1x1x512 : Shape := ⟨3, ![1, 1, 512]⟩
abbrev S8x2048x8x64 : Shape := ⟨4, ![8, 2048, 8, 64]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S8x2048x8x32 : Shape := ⟨4, ![8, 2048, 8, 32]⟩
abbrev S8x2048x3072 : Shape := ⟨3, ![8, 2048, 3072]⟩
abbrev S8x2048x2560 : Shape := ⟨3, ![8, 2048, 2560]⟩
abbrev S8x2048x7168 : Shape := ⟨3, ![8, 2048, 7168]⟩
abbrev S16384x14x512 : Shape := ⟨3, ![16384, 14, 512]⟩
abbrev S14x16384x512 : Shape := ⟨3, ![14, 16384, 512]⟩
abbrev S1x8x2048x8x64 : Shape := ⟨5, ![1, 8, 2048, 8, 64]⟩

abbrev nBuf : Space → Nat
  | .hbm => 142
  | .vmem => 0
  | .smem => 0
  | _ => 0

abbrev hbmTy0_0 (i : Nat) : BufTy := match i % 128 with
  | 0 => ⟨S8x2048x1024, .f32⟩
  | 1 => ⟨S8x1x1024, .f32⟩
  | 2 => ⟨S8x1x1024, .f32⟩
  | 3 => ⟨S1x1024, .f32⟩
  | 4 => ⟨S1x1024x6672, .f32⟩
  | 5 => ⟨S1x16x512, .f32⟩
  | 6 => ⟨S1x512, .f32⟩
  | 7 => ⟨S8x2048x1024, .f32⟩
  | 8 => ⟨S_, .f32⟩
  | 9 => ⟨S8x2048, .f32⟩
  | 10 => ⟨S8x2048x1, .f32⟩
  | 11 => ⟨S_, .f32⟩
  | 12 => ⟨S8x2048x1, .f32⟩
  | 13 => ⟨S8x2048x1, .f32⟩
  | 14 => ⟨S_, .f32⟩
  | 15 => ⟨S8x2048x1, .f32⟩
  | 16 => ⟨S8x2048x1, .f32⟩
  | 17 => ⟨S8x2048x1, .f32⟩
  | 18 => ⟨S8x2048x1024, .f32⟩
  | 19 => ⟨S8x2048x1024, .f32⟩
  | 20 => ⟨S1024, .f32⟩
  | 21 => ⟨S1x1x1024, .f32⟩
  | 22 => ⟨S8x2048x1024, .f32⟩
  | 23 => ⟨S8x2048x1024, .f32⟩
  | 24 => ⟨S_, .f32⟩
  | 25 => ⟨S8x1x1024, .f32⟩
  | 26 => ⟨S8x1x1024, .f32⟩
  | 27 => ⟨S8x2048x1024, .f32⟩
  | 28 => ⟨S8x2048x1024, .f32⟩
  | 29 => ⟨S8x2048x1024, .f32⟩
  | 30 => ⟨S8x2048x1024, .f32⟩
  | 31 => ⟨S1024x6672, .f32⟩
  | 32 => ⟨S8x2048x6672, .f32⟩
  | 33 => ⟨S8x2048x16, .f32⟩
  | 34 => ⟨S16x512, .f32⟩
  | 35 => ⟨S8x2048x512, .f32⟩
  | 36 => ⟨S512, .f32⟩
  | 37 => ⟨S1x1x512, .f32⟩
  | 38 => ⟨S8x2048x512, .f32⟩
  | 39 => ⟨S8x2048x512, .f32⟩
  | 40 => ⟨S8x2048x512, .f32⟩
  | 41 => ⟨S_, .f32⟩
  | 42 => ⟨S8x2048x512, .f32⟩
  | 43 => ⟨S8x2048x512, .f32⟩
  | 44 => ⟨S8x2048x512, .f32⟩
  | 45 => ⟨S8x2048x512, .f32⟩
  | 46 => ⟨S8x2048x512, .i1⟩
  | 47 => ⟨S8x2048x512, .f32⟩
  | 48 => ⟨S8x2048x512, .f32⟩
  | 49 => ⟨S8x2048x512, .f32⟩
  | 50 => ⟨S8x2048x512, .f32⟩
  | 51 => ⟨S8x2048x512, .f32⟩
  | 52 => ⟨S8x2048x512, .f32⟩
  | 53 => ⟨S8x2048x512, .f32⟩
  | 54 => ⟨S8x2048x512, .f32⟩
  | 55 => ⟨S8x2048x512, .f32⟩
  | 56 => ⟨S_, .f32⟩
  | 57 => ⟨S8x2048x512, .f32⟩
  | 58 => ⟨S8x2048x512, .f32⟩
  | 59 => ⟨S8x2048x512, .f32⟩
  | 60 => ⟨S8x2048x8x64, .f32⟩
  | 61 => ⟨S32, .f32⟩
  | 62 => ⟨S_, .f32⟩
  | 63 => ⟨S32, .f32⟩
  | 64 => ⟨S32, .f32⟩
  | 65 => ⟨S_, .f32⟩
  | 66 => ⟨S32, .f32⟩
  | 67 => ⟨S32, .f32⟩
  | 68 => ⟨S_, .f32⟩
  | 69 => ⟨S32, .f32⟩
  | 70 => ⟨S32, .f32⟩
  | 71 => ⟨S2048, .i32⟩
  | 72 => ⟨S2048, .f32⟩
  | 73 => ⟨S2048x1, .f32⟩
  | 74 => ⟨S1x32, .f32⟩
  | 75 => ⟨S2048x32, .f32⟩
  | 76 => ⟨S2048x32, .f32⟩
  | 77 => ⟨S2048x32, .f32⟩
  | 78 => ⟨S2048x32, .f32⟩
  | 79 => ⟨S1x2048x1x32, .f32⟩
  | 80 => ⟨S2048x32, .f32⟩
  | 81 => ⟨S1x2048x1x32, .f32⟩
  | 82 => ⟨S8x2048x8x32, .f32⟩
  | 83 => ⟨S8x2048x8x32, .f32⟩
  | 84 => ⟨S8x2048x8x32, .f32⟩
  | 85 => ⟨S8x2048x8x32, .f32⟩
  | 86 => ⟨S8x2048x8x32, .f32⟩
  | 87 => ⟨S8x2048x8x32, .f32⟩
  | 88 => ⟨S8x2048x8x32, .f32⟩
  | 89 => ⟨S8x2048x8x32, .f32⟩
  | 90 => ⟨S8x2048x8x32, .f32⟩
  | 91 => ⟨S8x2048x8x32, .f32⟩
  | 92 => ⟨S8x2048x8x32, .f32⟩
  | 93 => ⟨S8x2048x8x32, .f32⟩
  | 94 => ⟨S8x2048x8x64, .f32⟩
  | 95 => ⟨S8x2048x512, .f32⟩
  | 96 => ⟨S8x2048x8x64, .f32⟩
  | 97 => ⟨S32, .f32⟩
  | 98 => ⟨S_, .f32⟩
  | 99 => ⟨S32, .f32⟩
  | 100 => ⟨S32, .f32⟩
  | 101 => ⟨S_, .f32⟩
  | 102 => ⟨S32, .f32⟩
  | 103 => ⟨S32, .f32⟩
  | 104 => ⟨S_, .f32⟩
  | 105 => ⟨S32, .f32⟩
  | 106 => ⟨S32, .f32⟩
  | 107 => ⟨S2048, .i32⟩
  | 108 => ⟨S2048, .f32⟩
  | 109 => ⟨S2048x1, .f32⟩
  | 110 => ⟨S1x32, .f32⟩
  | 111 => ⟨S2048x32, .f32⟩
  | 112 => ⟨S2048x32, .f32⟩
  | 113 => ⟨S2048x32, .f32⟩
  | 114 => ⟨S2048x32, .f32⟩
  | 115 => ⟨S1x2048x1x32, .f32⟩
  | 116 => ⟨S2048x32, .f32⟩
  | 117 => ⟨S1x2048x1x32, .f32⟩
  | 118 => ⟨S8x2048x8x32, .f32⟩
  | 119 => ⟨S8x2048x8x32, .f32⟩
  | 120 => ⟨S8x2048x8x32, .f32⟩
  | 121 => ⟨S8x2048x8x32, .f32⟩
  | 122 => ⟨S8x2048x8x32, .f32⟩
  | 123 => ⟨S8x2048x8x32, .f32⟩
  | 124 => ⟨S8x2048x8x32, .f32⟩
  | 125 => ⟨S8x2048x8x32, .f32⟩
  | 126 => ⟨S8x2048x8x32, .f32⟩
  | 127 => ⟨S8x2048x8x32, .f32⟩
  | _ => ⟨S8x2048x1024, .f32⟩

abbrev hbmTy0_1 (i : Nat) : BufTy := match i % 128 with
  | 0 => ⟨S8x2048x8x32, .f32⟩
  | 1 => ⟨S8x2048x8x32, .f32⟩
  | 2 => ⟨S8x2048x8x64, .f32⟩
  | 3 => ⟨S8x2048x512, .f32⟩
  | 4 => ⟨S8x2048x8x64, .f32⟩
  | 5 => ⟨S8x2048x3072, .f32⟩
  | 6 => ⟨S8x2048x512, .f32⟩
  | 7 => ⟨S8x2048x512, .f32⟩
  | 8 => ⟨S8x2048x2560, .f32⟩
  | 9 => ⟨S8x2048x7168, .f32⟩
  | 10 => ⟨S16384x14x512, .f32⟩
  | 11 => ⟨S14x16384x512, .f32⟩
  | 12 => ⟨S1x8x2048x8x64, .f32⟩
  | 13 => ⟨S1x8x2048x8x64, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_v0 : Ref sig .tc := ⟨.hbm, 40, rfl⟩
abbrev main_call0_call0_cst : Ref sig .tc := ⟨.hbm, 41, rfl⟩
abbrev main_call0_call0_v0 : Ref sig .tc := ⟨.hbm, 42, rfl⟩
abbrev main_call0_call0_v1 : Ref sig .tc := ⟨.hbm, 43, rfl⟩
abbrev main_call0_call0_v2 : Ref sig .tc := ⟨.hbm, 44, rfl⟩
abbrev main_call0_call0_v3 : Ref sig .tc := ⟨.hbm, 45, rfl⟩
abbrev main_call0_call0_v4 : Ref sig .tc := ⟨.hbm, 46, rfl⟩
abbrev main_call0_call0_v5 : Ref sig .tc := ⟨.hbm, 47, rfl⟩
abbrev main_call0_call0_v6 : Ref sig .tc := ⟨.hbm, 48, rfl⟩
abbrev main_call0_call0_v7 : Ref sig .tc := ⟨.hbm, 49, rfl⟩
abbrev main_call0_call0_v8 : Ref sig .tc := ⟨.hbm, 50, rfl⟩
abbrev main_call0_call0_v9 : Ref sig .tc := ⟨.hbm, 51, rfl⟩
abbrev main_call0_call0_v10 : Ref sig .tc := ⟨.hbm, 52, rfl⟩
abbrev main_call0_call0_v11 : Ref sig .tc := ⟨.hbm, 53, rfl⟩
abbrev main_call0_v1 : Ref sig .tc := ⟨.hbm, 54, rfl⟩
abbrev main_v29 : Ref sig .tc := ⟨.hbm, 55, rfl⟩
abbrev main_cst_3 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_4 : Ref sig .tc := ⟨.hbm, 62, rfl⟩
abbrev main_v35 : Ref sig .tc := ⟨.hbm, 63, rfl⟩
abbrev main_v36 : Ref sig .tc := ⟨.hbm, 64, rfl⟩
abbrev main_cst_5 : Ref sig .tc := ⟨.hbm, 65, rfl⟩
abbrev main_v37 : Ref sig .tc := ⟨.hbm, 66, rfl⟩
abbrev main_v38 : Ref sig .tc := ⟨.hbm, 67, rfl⟩
abbrev main_cst_6 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_7 : Ref sig .tc := ⟨.hbm, 98, rfl⟩
abbrev main_v68 : Ref sig .tc := ⟨.hbm, 99, rfl⟩
abbrev main_v69 : Ref sig .tc := ⟨.hbm, 100, rfl⟩
abbrev main_cst_8 : Ref sig .tc := ⟨.hbm, 101, rfl⟩
abbrev main_v70 : Ref sig .tc := ⟨.hbm, 102, rfl⟩
abbrev main_v71 : Ref sig .tc := ⟨.hbm, 103, rfl⟩
abbrev main_cst_9 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩

abbrev nD : Nat := 1
abbrev τ : Topo := Topo.v7x

variable {F : FTy → Type} [FloatOps F]
-- ==== Kernel4.lean ====
abbrev S16384x1024 : Shape := ⟨2, ![16384, 1024]⟩
abbrev S16384x512 : Shape := ⟨2, ![16384, 512]⟩
abbrev S14x16384x512 : Shape := ⟨3, ![14, 16384, 512]⟩
abbrev S8x2048x1024 : Shape := ⟨3, ![8, 2048, 1024]⟩
abbrev S8x1x1024 : Shape := ⟨3, ![8, 1, 1024]⟩
abbrev S1x1024 : Shape := ⟨2, ![1, 1024]⟩
abbrev S1x1024x1024 : Shape := ⟨3, ![1, 1024, 1024]⟩
abbrev S1x512x1024 : Shape := ⟨3, ![1, 512, 1024]⟩
abbrev S1x1024x32 : Shape := ⟨3, ![1, 1024, 32]⟩
abbrev S1x32 : Shape := ⟨2, ![1, 32]⟩
abbrev S1024 : Shape := ⟨1, ![1024]⟩
abbrev S1024x1024 : Shape := ⟨2, ![1024, 1024]⟩
abbrev S512x1024 : Shape := ⟨2, ![512, 1024]⟩
abbrev S_ : Shape := ⟨0, ![]⟩
abbrev S1024x128 : Shape := ⟨2, ![1024, 128]⟩
abbrev S1024x32 : Shape := ⟨2, ![1024, 32]⟩
abbrev S1 : Shape := ⟨1, ![1]⟩
abbrev S1x128 : Shape := ⟨2, ![1, 128]⟩
abbrev S32 : Shape := ⟨1, ![32]⟩
abbrev S2 : Shape := ⟨1, ![2]⟩
abbrev S131072x128 : Shape := ⟨2, ![131072, 128]⟩
abbrev S16384x128 : Shape := ⟨2, ![16384, 128]⟩
abbrev S512x512 : Shape := ⟨2, ![512, 512]⟩
abbrev S2x512x512 : Shape := ⟨3, ![2, 512, 512]⟩
abbrev S1x1x1024 : Shape := ⟨3, ![1, 1, 1024]⟩
abbrev S4096x128 : Shape := ⟨2, ![4096, 128]⟩
abbrev S512x128 : Shape := ⟨2, ![512, 128]⟩
abbrev S1x512x512 : Shape := ⟨3, ![1, 512, 512]⟩
abbrev S512 : Shape := ⟨1, ![512]⟩
abbrev S512x1 : Shape := ⟨2, ![512, 1]⟩

abbrev nBuf : Space → Nat
  | .hbm => 40
  | .vmem => 28
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S14x16384x512, .f32⟩
  | .hbm, ⟨3, _⟩ => ⟨S8x2048x1024, .f32⟩
  | .hbm, ⟨4, _⟩ => ⟨S8x1x1024, .f32⟩
  | .hbm, ⟨5, _⟩ => ⟨S8x1x1024, .f32⟩
  | .hbm, ⟨6, _⟩ => ⟨S8x1x1024, .f32⟩
  | .hbm, ⟨7, _⟩ => ⟨S1x1024, .f32⟩
  | .hbm, ⟨8, _⟩ => ⟨S1x1024x1024, .f32⟩
  | .hbm, ⟨9, _⟩ => ⟨S1x512x1024, .f32⟩
  | .hbm, ⟨10, _⟩ => ⟨S1x1024x1024, .f32⟩
  | .hbm, ⟨11, _⟩ => ⟨S1x1024x32, .f32⟩
  | .hbm, ⟨12, _⟩ => ⟨S1x32, .f32⟩
  | .hbm, ⟨13, _⟩ => ⟨S1024, .f32⟩
  | .hbm, ⟨14, _⟩ => ⟨S1x1024, .f32⟩
  | .hbm, ⟨15, _⟩ => ⟨S1024x1024, .f32⟩
  | .hbm, ⟨16, _⟩ => ⟨S1024x1024, .bf16⟩
  | .hbm, ⟨17, _⟩ => ⟨S512x1024, .f32⟩
  | .hbm, ⟨18, _⟩ => ⟨S512x1024, .bf16⟩
  | .hbm, ⟨19, _⟩ => ⟨S1024x1024, .f32⟩
  | .hbm, ⟨20, _⟩ => ⟨S1024x1024, .bf16⟩
  | .hbm, ⟨21, _⟩ => ⟨S_, .f32⟩
  | .hbm, ⟨22, _⟩ => ⟨S1024x128, .f32⟩
  | .hbm, ⟨23, _⟩ => ⟨S1024x32, .f32⟩
  | .hbm, ⟨24, _⟩ => ⟨S_, .i32⟩
  | .hbm, ⟨25, _⟩ => ⟨S1, .i32⟩
  | .hbm, ⟨26, _⟩ => ⟨S1024x128, .f32⟩
  | .hbm, ⟨27, _⟩ => ⟨S_, .f32⟩
  | .hbm, ⟨28, _⟩ => ⟨S1x128, .f32⟩
  | .hbm, ⟨29, _⟩ => ⟨S32, .f32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S1x128, .f32⟩
  | .hbm, ⟨36, _⟩ => ⟨S16384x1024, .f32⟩
  | .hbm, ⟨37, _⟩ => ⟨S16384x1024, .f32⟩
  | .hbm, ⟨38, _⟩ => ⟨S131072x128, .f32⟩
  | .hbm, ⟨39, _⟩ => ⟨S16384x128, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S2x512x512, .f32⟩
  | .local _ .vmem, ⟨5, _⟩ => ⟨S2x512x512, .f32⟩
  | .local _ .vmem, ⟨6, _⟩ => ⟨S2x512x512, .f32⟩
  | .local _ .vmem, ⟨7, _⟩ => ⟨S2x512x512, .f32⟩
  | .local _ .vmem, ⟨8, _⟩ => ⟨S512x1024, .f32⟩
  | .local _ .vmem, ⟨9, _⟩ => ⟨S512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S1024x1024, .bf16⟩
  | .local _ .vmem, ⟨18, _⟩ => ⟨S512x1024, .bf16⟩
  | .local _ .vmem, ⟨19, _⟩ => ⟨S1024x1024, .bf16⟩
  | .local _ .vmem, ⟨20, _⟩ => ⟨S1024x128, .f32⟩
  | .local _ .vmem, ⟨21, _⟩ => ⟨S1x128, .f32⟩
  | .local _ .vmem, ⟨22, _⟩ => ⟨S512x1024, .f32⟩
  | .local _ .vmem, ⟨23, _⟩ => ⟨S512x1024, .f32⟩
  | .local _ .vmem, ⟨24, _⟩ => ⟨S4096x128, .f32⟩
  | .local _ .vmem, ⟨25, _⟩ => ⟨S4096x128, .f32⟩
  | .local _ .vmem, ⟨26, _⟩ => ⟨S512x128, .f32⟩
  | .local _ .vmem, ⟨27, _⟩ => ⟨S512x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_c_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19_0 : Ref sig .tc := ⟨.hbm, 37, rfl⟩
abbrev main_v19_1 : Ref sig .tc := ⟨.hbm, 38, rfl⟩
abbrev main_v19_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_3 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4096x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference4Ideal.lean ====
abbrev S16384x1024 : Shape := ⟨2, ![16384, 1024]⟩
abbrev S16384x512 : Shape := ⟨2, ![16384, 512]⟩
abbrev S14x16384x512 : Shape := ⟨3, ![14, 16384, 512]⟩
abbrev S8x2048x1024 : Shape := ⟨3, ![8, 2048, 1024]⟩
abbrev S8x1x1024 : Shape := ⟨3, ![8, 1, 1024]⟩
abbrev S1x1024 : Shape := ⟨2, ![1, 1024]⟩
abbrev S1x1024x1024 : Shape := ⟨3, ![1, 1024, 1024]⟩
abbrev S1x512x1024 : Shape := ⟨3, ![1, 512, 1024]⟩
abbrev S1x1024x32 : Shape := ⟨3, ![1, 1024, 32]⟩
abbrev S1x32 : Shape := ⟨2, ![1, 32]⟩
abbrev S1024x1024 : Shape := ⟨2, ![1024, 1024]⟩
abbrev S8x2048x512 : Shape := ⟨3, ![8, 2048, 512]⟩
abbrev S512x1024 : Shape := ⟨2, ![512, 1024]⟩
abbrev S1x16384x512 : Shape := ⟨3, ![1, 16384, 512]⟩
abbrev S_ : Shape := ⟨0, ![]⟩
abbrev S8x2048 : Shape := ⟨2, ![8, 2048]⟩
abbrev S8x2048x1 : Shape := ⟨3, ![8, 2048, 1]⟩
abbrev S1024 : Shape := ⟨1, ![1024]⟩
abbrev S1x1x1024 : Shape := ⟨3, ![1, 1, 1024]⟩
abbrev S1024x32 : Shape := ⟨2, ![1024, 32]⟩
abbrev S16384x32 : Shape := ⟨2, ![16384, 32]⟩
abbrev S32 : Shape := ⟨1, ![32]⟩
abbrev S16384x96 : Shape := ⟨2, ![16384, 96]⟩
abbrev S131072x128 : Shape := ⟨2, ![131072, 128]⟩
abbrev S16384x128 : Shape := ⟨2, ![16384, 128]⟩

abbrev nBuf : Space → Nat
  | .hbm => 93
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S14x16384x512, .f32⟩
  | .hbm, ⟨3, _⟩ => ⟨S8x2048x1024, .f32⟩
  | .hbm, ⟨4, _⟩ => ⟨S8x1x1024, .f32⟩
  | .hbm, ⟨5, _⟩ => ⟨S8x1x1024, .f32⟩
  | .hbm, ⟨6, _⟩ => ⟨S8x1x1024, .f32⟩
  | .hbm, ⟨7, _⟩ => ⟨S1x1024, .f32⟩
  | .hbm, ⟨8, _⟩ => ⟨S1x1024x1024, .f32⟩
  | .hbm, ⟨9, _⟩ => ⟨S1x512x1024, .f32⟩
  | .hbm, ⟨10, _⟩ => ⟨S1x1024x1024, .f32⟩
  | .hbm, ⟨11, _⟩ => ⟨S1x1024x32, .f32⟩
  | .hbm, ⟨12, _⟩ => ⟨S1x32, .f32⟩
  | .hbm, ⟨13, _⟩ => ⟨S16384x1024, .f32⟩
  | .hbm, ⟨14, _⟩ => ⟨S8x2048x1024, .f32⟩
  | .hbm, ⟨15, _⟩ => ⟨S1024x1024, .f32⟩
  | .hbm, ⟨16, _⟩ => ⟨S8x2048x1024, .f32⟩
  | .hbm, ⟨17, _⟩ => ⟨S16384x512, .f32⟩
  | .hbm, ⟨18, _⟩ => ⟨S8x2048x512, .f32⟩
  | .hbm, ⟨19, _⟩ => ⟨S512x1024, .f32⟩
  | .hbm, ⟨20, _⟩ => ⟨S8x2048x1024, .f32⟩
  | .hbm, ⟨21, _⟩ => ⟨S1x16384x512, .f32⟩
  | .hbm, ⟨22, _⟩ => ⟨S16384x512, .f32⟩
  | .hbm, ⟨23, _⟩ => ⟨S1x16384x512, .f32⟩
  | .hbm, ⟨24, _⟩ => ⟨S16384x512, .f32⟩
  | .hbm, ⟨25, _⟩ => ⟨S16384x1024, .f32⟩
  | .hbm, ⟨26, _⟩ => ⟨S8x2048x1024, .f32⟩
  | .hbm, ⟨27, _⟩ => ⟨S1x16384x512, .f32⟩
  | .hbm, ⟨28, _⟩ => ⟨S16384x512, .f32⟩
  | .hbm, ⟨29, _⟩ => ⟨S1x16384x512, .f32⟩
  | .hbm, ⟨30, _⟩ => ⟨S16384x512, .f32⟩
  | .hbm, ⟨31, _⟩ => ⟨S16384x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S_, .f32⟩
  | .hbm, ⟨36, _⟩ => ⟨S8x2048x1024, .f32⟩
  | .hbm, ⟨37, _⟩ => ⟨S8x2048x1024, .f32⟩
  | .hbm, ⟨38, _⟩ => ⟨S_, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S_, .f32⟩
  | .hbm, ⟨45, _⟩ => ⟨S8x2048x1024, .f32⟩
  | .hbm, ⟨46, _⟩ => ⟨S8x2048x1024, .f32⟩
  | .hbm, ⟨47, _⟩ => ⟨S_, .f32⟩
  | .hbm, ⟨48, _⟩ => ⟨S8x2048x1024, .f32⟩
  | .hbm, ⟨49, _⟩ => ⟨S8x2048x1024, .f32⟩
  | .hbm, ⟨50, _⟩ => ⟨S8x2048x1024, .f32⟩
  | .hbm, ⟨51, _⟩ => ⟨S8x2048x1024, .f32⟩
  | .hbm, ⟨52, _⟩ => ⟨S1024x1024, .f32⟩
  | .hbm, ⟨53, _⟩ => ⟨S8x2048x1024, .f32⟩
  | .hbm, ⟨54, _⟩ => ⟨S8x2048x1024, .f32⟩
  | .hbm, ⟨55, _⟩ => ⟨S8x2048x1024, .f32⟩
  | .hbm, ⟨56, _⟩ => ⟨S8x2048x1024, .f32⟩
  | .hbm, ⟨57, _⟩ => ⟨S8x2048x1024, .f32⟩
  | .hbm, ⟨58, _⟩ => ⟨S_, .f32⟩
  | .hbm, ⟨59, _⟩ => ⟨S8x2048, .f32⟩
  | .hbm, ⟨60, _⟩ => ⟨S8x2048x1, .f32⟩
  | .hbm, ⟨61, _⟩ => ⟨S_, .f32⟩
  | .hbm, ⟨62, _⟩ => ⟨S8x2048x1, .f32⟩
  | .hbm, ⟨63, _⟩ => ⟨S8x2048x1, .f32⟩
  | .hbm, ⟨64, _⟩ => ⟨S_, .f32⟩
  | .hbm, ⟨65, _⟩ => ⟨S8x2048x1, .f32⟩
  | .hbm, ⟨66, _⟩ => ⟨S8x2048x1, .f32⟩
  | .hbm, ⟨67, _⟩ => ⟨S8x2048x1, .f32⟩
  | .hbm, ⟨68, _⟩ => ⟨S8x2048x1024, .f32⟩
  | .hbm, ⟨69, _⟩ => ⟨S8x2048x1024, .f32⟩
  | .hbm, ⟨70, _⟩ => ⟨S1024, .f32⟩
  | .hbm, ⟨71, _⟩ => ⟨S1x1x1024, .f32⟩
  | .hbm, ⟨72, _⟩ => ⟨S8x2048x1024, .f32⟩
  | .hbm, ⟨73, _⟩ => ⟨S8x2048x1024, .f32⟩
  | .hbm, ⟨74, _⟩ => ⟨S_, .f32⟩
  | .hbm, ⟨75, _⟩ => ⟨S8x1x1024, .f32⟩
  | .hbm, ⟨76, _⟩ => ⟨S8x1x1024, .f32⟩
  | .hbm, ⟨77, _⟩ => ⟨S8x2048x1024, .f32⟩
  | .hbm, ⟨78, _⟩ => ⟨S8x2048x1024, .f32⟩
  | .hbm, ⟨79, _⟩ => ⟨S8x2048x1024, .f32⟩
  | .hbm, ⟨80, _⟩ => ⟨S8x2048x1024, .f32⟩
  | .hbm, ⟨81, _⟩ => ⟨S16384x1024, .f32⟩
  | .hbm, ⟨82, _⟩ => ⟨S1024x32, .f32⟩
  | .hbm, ⟨83, _⟩ => ⟨S16384x32, .f32⟩
  | .hbm, ⟨84, _⟩ => ⟨S32, .f32⟩
  | .hbm, ⟨85, _⟩ => ⟨S1x32, .f32⟩
  | .hbm, ⟨86, _⟩ => ⟨S16384x32, .f32⟩
  | .hbm, ⟨87, _⟩ => ⟨S16384x32, .f32⟩
  | .hbm, ⟨88, _⟩ => ⟨S_, .f32⟩
  | .hbm, ⟨89, _⟩ => ⟨S16384x96, .f32⟩
  | .hbm, ⟨90, _⟩ => ⟨S16384x1024, .f32⟩
  | .hbm, ⟨91, _⟩ => ⟨S131072x128, .f32⟩
  | .hbm, ⟨92, _⟩ => ⟨S16384x128, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst : Ref sig .tc := ⟨.hbm, 35, rfl⟩
abbrev main_v22 : Ref sig .tc := ⟨.hbm, 36, rfl⟩
abbrev main_v23 : Ref sig .tc := ⟨.hbm, 37, rfl⟩
abbrev main_cst_0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_1 : Ref sig .tc := ⟨.hbm, 44, rfl⟩
abbrev main_v29 : Ref sig .tc := ⟨.hbm, 45, rfl⟩
abbrev main_v30 : Ref sig .tc := ⟨.hbm, 46, rfl⟩
abbrev main_cst_2 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_3 : Ref sig .tc := ⟨.hbm, 58, rfl⟩
abbrev main_v41 : Ref sig .tc := ⟨.hbm, 59, rfl⟩
abbrev main_v42 : Ref sig .tc := ⟨.hbm, 60, rfl⟩
abbrev main_cst_4 : Ref sig .tc := ⟨.hbm, 61, rfl⟩
abbrev main_v43 : Ref sig .tc := ⟨.hbm, 62, rfl⟩
abbrev main_v44 : Ref sig .tc := ⟨.hbm, 63, rfl⟩
abbrev main_cst_5 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_6 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_7 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩

abbrev nD : Nat := 1
abbrev τ : Topo := Topo.v7x

variable {F : FTy → Type} [FloatOps F]
-- ==== Proof.Gla.Head.lean ====
module

public import proofs.«01_k».proof.Proof.Gen.KernelIdeal.Value
public import Idealize.ShloMosaic.Lib.Pointwise

@[expose] public section

set_option maxRecDepth 16384

/-! # One head of the gated linear attention, as the kernel computes it

The kernel's body does the same for each of its four heads, each on its own 128 columns of the queries, keys and running
decays and its own 256 columns of the values. `headOut` is the head's output before normalization, `headState` its new state
(kept transposed, values by keys), `headGated` the normalized and gated output. -/

noncomputable section

namespace Cert.Gla

open Cert.KernelIdeal Cert.KernelIdeal.Gen Idealize.ShloMosaic

variable {F : FTy → Type} [FloatOps F]

/-- One column of the scores: every query row against key row `off 0`, the decay between the two rows bounded above by 1,
    kept on the rows at or below the key's row and put in the key's column. -/
def scoreCol (b q k : FVec F S8x128 .f32) (off : Fin 2 → Nat) (h : S8x128.Slices off S1x128) (w : BitVec 32) : FVec F S8x8 .f32 :=
  select (cmpi .eq (iota .tc S8x8 32 [1] iota_S8x8_d1_w32) (broadcast S8x8 w))
    (broadcastTo S8x8 (shapeCast S8x1
      (select (cmpi .sge (addi (iota .tc S8x1 32 [0] iota_S8x1_d0_w32) (broadcast S8x1 0#32)) (broadcast S8x1 w))
        (shapeCast S8x1 (multiReduction .add [1] S8
          (mulf (mulf q (broadcastTo S8x128 (extractStridedSlice S1x128 off k h) broadcasts_S1x128_S8x128))
            (exp (minimumf (subf b (broadcastTo S8x128 (extractStridedSlice S1x128 off b h) broadcasts_S1x128_S8x128))
              (broadcast S8x128 (Scalar.ofBits .f32 0x00000000#32)))))
          0x00000000#32 reduces_S8x128_S8 (.inl rfl) rfl) shapeCasts_S8_S8x1)
        (broadcast S8x1 (Scalar.ofBits .f32 0x00000000#32))) shapeCasts_S8x1_S8x1) broadcasts_S8x1_S8x8)
    (broadcast S8x8 (Scalar.ofBits .f32 0x00000000#32))

/-- The head's scores, one column after the other. -/
def scores (b q k : FVec F S8x128 .f32) : FVec F S8x8 .f32 :=
  addf (addf (addf (addf (addf (addf (addf (addf (broadcast S8x8 (Scalar.ofBits .f32 0x00000000#32))
    (scoreCol b q k ![0, 0] slices_S8x128_o0_0_S1x128 0#32)) (scoreCol b q k ![1, 0] slices_S8x128_o1_0_S1x128 1#32))
    (scoreCol b q k ![2, 0] slices_S8x128_o2_0_S1x128 2#32)) (scoreCol b q k ![3, 0] slices_S8x128_o3_0_S1x128 3#32))
    (scoreCol b q k ![4, 0] slices_S8x128_o4_0_S1x128 4#32)) (scoreCol b q k ![5, 0] slices_S8x128_o5_0_S1x128 5#32))
    (scoreCol b q k ![6, 0] slices_S8x128_o6_0_S1x128 6#32)) (scoreCol b q k ![7, 0] slices_S8x128_o7_0_S1x128 7#32)

/-- The head's output: the decayed queries against the old state, and the scores against the values. -/
def headOut (b q k : FVec F S8x128 .f32) (v : FVec F S8x256 .f32) (st : FVec F S256x128 .f32) : FVec F S8x256 .f32 :=
  addf (matmul dot_S8x128_S256x128_S8x256_1_1_0_0_n_n none (truncf .bf16 (mulf q (exp b)) bitsLt_bf16_f32)
      (truncf .bf16 st bitsLt_bf16_f32) (constant S8x256 .f32 0x00000000#32))
    (matmul dot_S8x8_S8x256_S8x256_1_0_0_1_n_n none (truncf .bf16 (scores b q k) bitsLt_bf16_f32)
      (truncf .bf16 v bitsLt_bf16_f32) (constant S8x256 .f32 0x00000000#32))

/-- The head's new state: the old one decayed over the whole chunk, and each value against its key decayed to the chunk's end. -/
def headState (b k : FVec F S8x128 .f32) (v : FVec F S8x256 .f32) (st : FVec F S256x128 .f32) : FVec F S256x128 .f32 :=
  addf (mulf st (broadcastTo S256x128 (exp (extractStridedSlice S1x128 ![7, 0] b slices_S8x128_o7_0_S1x128)) broadcasts_S1x128_S256x128))
    (matmul dot_S256x8_S8x128_S256x128_1_0_0_1_n_n none
      (truncf .bf16 (transpose S256x8 [1, 0] v transposes_S8x256_p1_0_S256x8) bitsLt_bf16_f32)
      (truncf .bf16 (mulf k (exp (subf (broadcastTo S8x128 (extractStridedSlice S1x128 ![7, 0] b slices_S8x128_o7_0_S1x128) broadcasts_S1x128_S8x128) b))) bitsLt_bf16_f32)
      (constant S256x128 .f32 0x00000000#32))

/-- The head's output divided by its root mean square, scaled, and multiplied by the gate times its sigmoid. -/
def headGated (o : FVec F S8x256 .f32) (gh : FVec F S1x256 .f32) (gr : FVec F S8x256 .f32) : FVec F S8x256 .f32 :=
  mulf (mulf (mulf o (broadcastTo S8x256
      (rsqrt (addf (divf (shapeCast S8x1 (multiReduction .add [1] S8 (mulf o o) 0x00000000#32 reduces_S8x256_S8 (.inl rfl) rfl) shapeCasts_S8_S8x1)
        (broadcast S8x1 (Scalar.ofBits .f32 0x43800000#32))) (broadcast S8x1 (Scalar.ofBits .f32 0x358637BD#32)))) broadcasts_S8x1_S8x256))
      (broadcastTo S8x256 gh broadcasts_S1x256_S8x256))
    (mulf gr (divf (broadcast S8x256 (Scalar.ofBits .f32 0x3F800000#32))
      (addf (broadcast S8x256 (Scalar.ofBits .f32 0x3F800000#32)) (exp (subf (broadcast S8x256 (Scalar.ofBits .f32 0x00000000#32)) gr)))))

/-- Head `h`'s columns of the running decays, of the scaled queries, of the keys, of the values, of the gates, and its old state. -/
def hB (x3 : Vec F S1x8x512 .f32) (off : Fin 2 → Nat) (h : S8x512.Slices off S8x128) : FVec F S8x128 .f32 := extractStridedSlice S8x128 off (k0_pay9 x3) h
def hQ (x0 : Vec F S1x8x512 .f32) (off : Fin 2 → Nat) (h : S8x512.Slices off S8x128) : FVec F S8x128 .f32 := extractStridedSlice S8x128 off (k0_pay10 x0) h
def hK (x1 : Vec F S1x8x512 .f32) (off : Fin 2 → Nat) (h : S8x512.Slices off S8x128) : FVec F S8x128 .f32 := extractStridedSlice S8x128 off (k0_pay11 x1) h
def hV (x2 : Vec F S1x8x512 .f32) (off : Fin 2 → Nat) (h : S8x512.Slices off S8x256) : FVec F S8x256 .f32 :=
  extractStridedSlice S8x256 off (shapeCast S8x512 x2 shapeCasts_S1x8x512_S8x512) h
def hS (x5 : Vec F S1x1x128x256 .f32) : FVec F S256x128 .f32 :=
  shapeCast S256x128 (shapeCast S1x256x128 (transpose S256x128 [1, 0] (shapeCast S128x256 x5 shapeCasts_S1x1x128x256_S128x256) transposes_S128x256_p1_0_S256x128) shapeCasts_S256x128_S1x256x128) shapeCasts_S1x256x128_S256x128

end Cert.Gla
-- ==== Proof.Gla.Pieces.lean ====
module

public import proofs.«01_k».proof.Proof.Gla.Head
public import Idealize.ShloMosaic.Lib.Pipeline.ReadBack

@[expose] public section

set_option maxRecDepth 16384

/-! # The blocks the kernel's body stores, head by head -/

noncomputable section

namespace Cert.Gla

open Cert.KernelIdeal Cert.KernelIdeal.Gen Idealize.ShloMosaic Idealize.ShloMosaic.TcCoe Idealize.SL.Sem Idealize.ShloMosaic.Tactic

variable {F : FTy → Type} [FloatOps F]

/-- A head's state as it is stored: keys by values again, with the block's two unit axes in front. -/
def stateBlock (s : FVec F S256x128 .f32) : FVec F S1x1x128x256 .f32 :=
  shapeCast S1x1x128x256 (transpose S128x256 [1, 0] (shapeCast S256x128 (shapeCast S1x256x128 s shapeCasts_S256x128_S1x256x128) shapeCasts_S1x256x128_S256x128) transposes_S256x128_p1_0_S128x256) shapeCasts_S128x256_S1x1x128x256

/-- The gated output: one piece of 256 columns per head. -/
theorem piecesG (c : Dev nD) (i : grid0.Coords) (arg2 : Memref sig .tc .vmem S1x8x512 .f32) (harg2 : arg2.IsWhole) (arg3 : Memref sig .tc .vmem S1x8x512 .f32) (harg3 : arg3.IsWhole) (arg4 : Memref sig .tc .vmem S2x8x512 .f32) (harg4 : arg4.IsWhole) (arg5 : Memref sig .tc .vmem S1x8x512 .f32) (harg5 : arg5.IsWhole) (arg6 : Memref sig .tc .vmem S2x8x512 .f32) (harg6 : arg6.IsWhole) (arg7 : Memref sig .tc .vmem S1x4x128x256 .f32) (harg7 : arg7.IsWhole) (arg8 : Memref sig .tc .vmem S1x256 .f32) (harg8 : arg8.IsWhole) (arg9 : Memref sig .tc .vmem S8x1024 .f32) (harg9 : arg9.IsWhole) (arg10 : Memref sig .tc .vmem S1x4x128x256 .f32) (harg10 : arg10.IsWhole) (arg11 : Memref sig .tc .vmem S4x256x128 .f32) (harg11 : arg11.IsWhole) (hc0 : cond0_0 i) (hc1 : cond0_1 i)
    (x0 : Vec F S1x8x512 .f32) (x1 : Vec F S1x8x512 .f32) (x2 : Vec F S2x8x512 .f32) (x3 : Vec F S1x8x512 .f32) (x4 : Vec F S2x8x512 .f32) (x5 : Vec F S1x4x128x256 .f32) (x6 : Vec F S1x256 .f32) :
    (kernelRun0_A c i arg2 harg2 arg3 harg3 arg4 harg4 arg5 harg5 arg6 harg6 arg7 harg7 arg8 harg8 arg9 harg9 arg10 harg10 arg11 harg11 hc0 hc1 x0 x1 x2 x3 x4 x5 x6).1 = [⟨Rect.unit (s := S8x1024) ![0, 768] S8x256.size inb_S8x1024_S8x256_0_768,
        headGated (headOut (hB (View.ld x3 (Rect.unit (s := S1x8x512) ![0, 0, 0] S1x8x512.size inb_S1x8x512_S1x8x512_0_0_0)) ![0, 384] slices_S8x512_o0_384_S8x128)
          (hQ (View.ld x0 (Rect.unit (s := S1x8x512) ![0, 0, 0] S1x8x512.size inb_S1x8x512_S1x8x512_0_0_0)) ![0, 384] slices_S8x512_o0_384_S8x128)
          (hK (View.ld x1 (Rect.unit (s := S1x8x512) ![0, 0, 0] S1x8x512.size inb_S1x8x512_S1x8x512_0_0_0)) ![0, 384] slices_S8x512_o0_384_S8x128)
          (hV (View.ld x2 (Rect.unit (s := S2x8x512) ![1, 0, 0] S1x8x512.size inb_S2x8x512_S1x8x512_1_0_0)) ![0, 256] slices_S8x512_o0_256_S8x256)
          (hS (View.ld x5 (Rect.unit (s := S1x4x128x256) ![0, 3, 0, 0] S1x1x128x256.size inb_S1x4x128x256_S1x1x128x256_0_3_0_0))))
          (View.ld x6 (Rect.unit (s := S1x256) ![0, 0] S1x256.size inb_S1x256_S1x256_0_0))
          (hV (View.ld x4 (Rect.unit (s := S2x8x512) ![1, 0, 0] S1x8x512.size inb_S2x8x512_S1x8x512_1_0_0)) ![0, 256] slices_S8x512_o0_256_S8x256)⟩,
      ⟨Rect.unit (s := S8x1024) ![0, 512] S8x256.size inb_S8x1024_S8x256_0_512,
        headGated (headOut (hB (View.ld x3 (Rect.unit (s := S1x8x512) ![0, 0, 0] S1x8x512.size inb_S1x8x512_S1x8x512_0_0_0)) ![0, 256] slices_S8x512_o0_256_S8x128)
          (hQ (View.ld x0 (Rect.unit (s := S1x8x512) ![0, 0, 0] S1x8x512.size inb_S1x8x512_S1x8x512_0_0_0)) ![0, 256] slices_S8x512_o0_256_S8x128)
          (hK (View.ld x1 (Rect.unit (s := S1x8x512) ![0, 0, 0] S1x8x512.size inb_S1x8x512_S1x8x512_0_0_0)) ![0, 256] slices_S8x512_o0_256_S8x128)
          (hV (View.ld x2 (Rect.unit (s := S2x8x512) ![1, 0, 0] S1x8x512.size inb_S2x8x512_S1x8x512_1_0_0)) ![0, 0] slices_S8x512_o0_0_S8x256)
          (hS (View.ld x5 (Rect.unit (s := S1x4x128x256) ![0, 2, 0, 0] S1x1x128x256.size inb_S1x4x128x256_S1x1x128x256_0_2_0_0))))
          (View.ld x6 (Rect.unit (s := S1x256) ![0, 0] S1x256.size inb_S1x256_S1x256_0_0))
          (hV (View.ld x4 (Rect.unit (s := S2x8x512) ![1, 0, 0] S1x8x512.size inb_S2x8x512_S1x8x512_1_0_0)) ![0, 0] slices_S8x512_o0_0_S8x256)⟩,
      ⟨Rect.unit (s := S8x1024) ![0, 256] S8x256.size inb_S8x1024_S8x256_0_256,
        headGated (headOut (hB (View.ld x3 (Rect.unit (s := S1x8x512) ![0, 0, 0] S1x8x512.size inb_S1x8x512_S1x8x512_0_0_0)) ![0, 128] slices_S8x512_o0_128_S8x128)
          (hQ (View.ld x0 (Rect.unit (s := S1x8x512) ![0, 0, 0] S1x8x512.size inb_S1x8x512_S1x8x512_0_0_0)) ![0, 128] slices_S8x512_o0_128_S8x128)
          (hK (View.ld x1 (Rect.unit (s := S1x8x512) ![0, 0, 0] S1x8x512.size inb_S1x8x512_S1x8x512_0_0_0)) ![0, 128] slices_S8x512_o0_128_S8x128)
          (hV (View.ld x2 (Rect.unit (s := S2x8x512) ![0, 0, 0] S1x8x512.size inb_S2x8x512_S1x8x512_0_0_0)) ![0, 256] slices_S8x512_o0_256_S8x256)
          (hS (View.ld x5 (Rect.unit (s := S1x4x128x256) ![0, 1, 0, 0] S1x1x128x256.size inb_S1x4x128x256_S1x1x128x256_0_1_0_0))))
          (View.ld x6 (Rect.unit (s := S1x256) ![0, 0] S1x256.size inb_S1x256_S1x256_0_0))
          (hV (View.ld x4 (Rect.unit (s := S2x8x512) ![0, 0, 0] S1x8x512.size inb_S2x8x512_S1x8x512_0_0_0)) ![0, 256] slices_S8x512_o0_256_S8x256)⟩,
      ⟨Rect.unit (s := S8x1024) ![0, 0] S8x256.size inb_S8x1024_S8x256_0_0,
        headGated (headOut (hB (View.ld x3 (Rect.unit (s := S1x8x512) ![0, 0, 0] S1x8x512.size inb_S1x8x512_S1x8x512_0_0_0)) ![0, 0] slices_S8x512_o0_0_S8x128)
          (hQ (View.ld x0 (Rect.unit (s := S1x8x512) ![0, 0, 0] S1x8x512.size inb_S1x8x512_S1x8x512_0_0_0)) ![0, 0] slices_S8x512_o0_0_S8x128)
          (hK (View.ld x1 (Rect.unit (s := S1x8x512) ![0, 0, 0] S1x8x512.size inb_S1x8x512_S1x8x512_0_0_0)) ![0, 0] slices_S8x512_o0_0_S8x128)
          (hV (View.ld x2 (Rect.unit (s := S2x8x512) ![0, 0, 0] S1x8x512.size inb_S2x8x512_S1x8x512_0_0_0)) ![0, 0] slices_S8x512_o0_0_S8x256)
          (hS (View.ld x5 (Rect.unit (s := S1x4x128x256) ![0, 0, 0, 0] S1x1x128x256.size inb_S1x4x128x256_S1x1x128x256_0_0_0_0))))
          (View.ld x6 (Rect.unit (s := S1x256) ![0, 0] S1x256.size inb_S1x256_S1x256_0_0))
          (hV (View.ld x4 (Rect.unit (s := S2x8x512) ![0, 0, 0] S1x8x512.size inb_S2x8x512_S1x8x512_0_0_0)) ![0, 0] slices_S8x512_o0_0_S8x256)⟩] := by
  unfold kernelRun0_A
  dsimp only
  sl_unfold_words
  simp (disch := decide) only [View.readAt_eq_ld, harg2.read_unread, harg3.read_unread, harg4.read_unread, harg5.read_unread, harg6.read_unread, harg7.read_unread, harg8.read_unread, View.readCov_cons_toLoadRect, ↓View.readCov_skip]
  rfl

/-- The new state: one piece per head. -/
theorem piecesS (c : Dev nD) (i : grid0.Coords) (arg2 : Memref sig .tc .vmem S1x8x512 .f32) (harg2 : arg2.IsWhole) (arg3 : Memref sig .tc .vmem S1x8x512 .f32) (harg3 : arg3.IsWhole) (arg4 : Memref sig .tc .vmem S2x8x512 .f32) (harg4 : arg4.IsWhole) (arg5 : Memref sig .tc .vmem S1x8x512 .f32) (harg5 : arg5.IsWhole) (arg6 : Memref sig .tc .vmem S2x8x512 .f32) (harg6 : arg6.IsWhole) (arg7 : Memref sig .tc .vmem S1x4x128x256 .f32) (harg7 : arg7.IsWhole) (arg8 : Memref sig .tc .vmem S1x256 .f32) (harg8 : arg8.IsWhole) (arg9 : Memref sig .tc .vmem S8x1024 .f32) (harg9 : arg9.IsWhole) (arg10 : Memref sig .tc .vmem S1x4x128x256 .f32) (harg10 : arg10.IsWhole) (arg11 : Memref sig .tc .vmem S4x256x128 .f32) (harg11 : arg11.IsWhole) (hc0 : cond0_0 i) (hc1 : cond0_1 i)
    (x0 : Vec F S1x8x512 .f32) (x1 : Vec F S1x8x512 .f32) (x2 : Vec F S2x8x512 .f32) (x3 : Vec F S1x8x512 .f32) (x4 : Vec F S2x8x512 .f32) (x5 : Vec F S1x4x128x256 .f32) (x6 : Vec F S1x256 .f32) :
    (kernelRun0_A c i arg2 harg2 arg3 harg3 arg4 harg4 arg5 harg5 arg6 harg6 arg7 harg7 arg8 harg8 arg9 harg9 arg10 harg10 arg11 harg11 hc0 hc1 x0 x1 x2 x3 x4 x5 x6).2.1 = [⟨Rect.unit (s := S1x4x128x256) ![0, 3, 0, 0] S1x1x128x256.size inb_S1x4x128x256_S1x1x128x256_0_3_0_0,
        stateBlock (headState (hB (View.ld x3 (Rect.unit (s := S1x8x512) ![0, 0, 0] S1x8x512.size inb_S1x8x512_S1x8x512_0_0_0)) ![0, 384] slices_S8x512_o0_384_S8x128)
          (hK (View.ld x1 (Rect.unit (s := S1x8x512) ![0, 0, 0] S1x8x512.size inb_S1x8x512_S1x8x512_0_0_0)) ![0, 384] slices_S8x512_o0_384_S8x128)
          (hV (View.ld x2 (Rect.unit (s := S2x8x512) ![1, 0, 0] S1x8x512.size inb_S2x8x512_S1x8x512_1_0_0)) ![0, 256] slices_S8x512_o0_256_S8x256)
          (hS (View.ld x5 (Rect.unit (s := S1x4x128x256) ![0, 3, 0, 0] S1x1x128x256.size inb_S1x4x128x256_S1x1x128x256_0_3_0_0))))⟩,
      ⟨Rect.unit (s := S1x4x128x256) ![0, 2, 0, 0] S1x1x128x256.size inb_S1x4x128x256_S1x1x128x256_0_2_0_0,
        stateBlock (headState (hB (View.ld x3 (Rect.unit (s := S1x8x512) ![0, 0, 0] S1x8x512.size inb_S1x8x512_S1x8x512_0_0_0)) ![0, 256] slices_S8x512_o0_256_S8x128)
          (hK (View.ld x1 (Rect.unit (s := S1x8x512) ![0, 0, 0] S1x8x512.size inb_S1x8x512_S1x8x512_0_0_0)) ![0, 256] slices_S8x512_o0_256_S8x128)
          (hV (View.ld x2 (Rect.unit (s := S2x8x512) ![1, 0, 0] S1x8x512.size inb_S2x8x512_S1x8x512_1_0_0)) ![0, 0] slices_S8x512_o0_0_S8x256)
          (hS (View.ld x5 (Rect.unit (s := S1x4x128x256) ![0, 2, 0, 0] S1x1x128x256.size inb_S1x4x128x256_S1x1x128x256_0_2_0_0))))⟩,
      ⟨Rect.unit (s := S1x4x128x256) ![0, 1, 0, 0] S1x1x128x256.size inb_S1x4x128x256_S1x1x128x256_0_1_0_0,
        stateBlock (headState (hB (View.ld x3 (Rect.unit (s := S1x8x512) ![0, 0, 0] S1x8x512.size inb_S1x8x512_S1x8x512_0_0_0)) ![0, 128] slices_S8x512_o0_128_S8x128)
          (hK (View.ld x1 (Rect.unit (s := S1x8x512) ![0, 0, 0] S1x8x512.size inb_S1x8x512_S1x8x512_0_0_0)) ![0, 128] slices_S8x512_o0_128_S8x128)
          (hV (View.ld x2 (Rect.unit (s := S2x8x512) ![0, 0, 0] S1x8x512.size inb_S2x8x512_S1x8x512_0_0_0)) ![0, 256] slices_S8x512_o0_256_S8x256)
          (hS (View.ld x5 (Rect.unit (s := S1x4x128x256) ![0, 1, 0, 0] S1x1x128x256.size inb_S1x4x128x256_S1x1x128x256_0_1_0_0))))⟩,
      ⟨Rect.unit (s := S1x4x128x256) ![0, 0, 0, 0] S1x1x128x256.size inb_S1x4x128x256_S1x1x128x256_0_0_0_0,
        stateBlock (headState (hB (View.ld x3 (Rect.unit (s := S1x8x512) ![0, 0, 0] S1x8x512.size inb_S1x8x512_S1x8x512_0_0_0)) ![0, 0] slices_S8x512_o0_0_S8x128)
          (hK (View.ld x1 (Rect.unit (s := S1x8x512) ![0, 0, 0] S1x8x512.size inb_S1x8x512_S1x8x512_0_0_0)) ![0, 0] slices_S8x512_o0_0_S8x128)
          (hV (View.ld x2 (Rect.unit (s := S2x8x512) ![0, 0, 0] S1x8x512.size inb_S2x8x512_S1x8x512_0_0_0)) ![0, 0] slices_S8x512_o0_0_S8x256)
          (hS (View.ld x5 (Rect.unit (s := S1x4x128x256) ![0, 0, 0, 0] S1x1x128x256.size inb_S1x4x128x256_S1x1x128x256_0_0_0_0))))⟩] := by
  unfold kernelRun0_A
  dsimp only
  sl_unfold_words
  simp (disch := decide) only [View.readAt_eq_ld, harg2.read_unread, harg3.read_unread, harg4.read_unread, harg5.read_unread, harg6.read_unread, harg7.read_unread, harg8.read_unread, View.readCov_cons_toLoadRect, ↓View.readCov_skip]
  rfl

end Cert.Gla
-- ==== Proof.Gla.Spec.lean ====
module

public import Idealize.ShloMosaic.Lib.Pointwise

@[expose] public section

/-! # One chunk of gated linear attention, in scalars

For one batch row and one head: 8 steps, 128 key features, 256 value features. -/

noncomputable section

namespace Cert.Gla

open Idealize.ShloMosaic

/-- The running sum of the log decays up to and including step `t`. -/
def run (la : Fin 8 → Fin 128 → EReal) (t : Fin 8) (d : Fin 128) : EReal := ∑ s : Fin 8, if s ≤ t then la s d else 0

/-- The decayed score of step `t` against step `s`; zero for later steps. -/
def att (B q k : Fin 8 → Fin 128 → EReal) (t s : Fin 8) : EReal :=
  if s ≤ t then ∑ d, q t d * k s d * Ideal.exp (B t d - B s d) else 0

/-- The output of step `t`: what it reads from the old state, and from the chunk's steps up to `t`. -/
def out (B q k : Fin 8 → Fin 128 → EReal) (v : Fin 8 → Fin 256 → EReal) (st : Fin 128 → Fin 256 → EReal) (t : Fin 8) (j : Fin 256) : EReal :=
  ∑ d, q t d * Ideal.exp (B t d) * st d j + ∑ s, att B q k t s * v s j

/-- The state after the chunk. -/
def new (B k : Fin 8 → Fin 128 → EReal) (v : Fin 8 → Fin 256 → EReal) (st : Fin 128 → Fin 256 → EReal) (d : Fin 128) (j : Fin 256) : EReal :=
  Ideal.exp (B 7 d) * st d j + ∑ s, k s d * Ideal.exp (B 7 d - B s d) * v s j

/-- The output over its root mean square, scaled, times the gate times its sigmoid. -/
def gated (o : Fin 8 → Fin 256 → EReal) (gh : Fin 256 → EReal) (gr : Fin 8 → Fin 256 → EReal) (t : Fin 8) (j : Fin 256) : EReal :=
  o t j * Ideal.rsqrt (Ideal.div (∑ x, o t x * o t x) (Ideal.ofBits .f32 0x43800000#32) + Ideal.ofBits .f32 0x358637BD#32) * gh j
    * (gr t j * Ideal.div 1 (1 + Ideal.exp (-gr t j)))

/-- A number that is not positive is the sum of itself, of its rounding remainder and of that remainder's, the roundings being none. -/
theorem three_parts {a : EReal} (h : a ≤ 0) : a + (a - a) + (a - a - (a - a)) = a := by
  induction a using EReal.rec with
  | bot => rfl
  | coe r => norm_cast; simp
  | top => exact absurd h (by simp)

/-- The running sums of numbers that are not positive decrease. -/
theorem run_sub_nonpos {la : Fin 8 → Fin 128 → EReal} (h : ∀ s d, la s d ≤ 0) {s t : Fin 8} (hst : s ≤ t) (d : Fin 128) :
    run la t d - run la s d ≤ 0 := by
  have hle : run la t d ≤ run la s d := Finset.sum_le_sum fun i _ => by
    by_cases h1 : i ≤ s
    · rw [if_pos h1, if_pos (h1.trans hst)]
    · rw [if_neg h1]; split
      · exact h i d
      · exact le_rfl
  have h0 : run la s d ≤ 0 := Finset.sum_nonpos fun i _ => by split; exacts [h i d, le_rfl]
  generalize run la t d = a at *; generalize run la s d = b at *
  induction b using EReal.rec with
  | bot => rw [le_bot_iff.1 hle]; exact bot_le
  | top => exact absurd h0 (by simp)
  | coe r =>
    induction a using EReal.rec with
    | bot => exact bot_le
    | top => exact absurd hle (by simp)
    | coe u => norm_cast at *; linarith

end Cert.Gla
-- ==== Proof.Gla.HeadRead.lean ====
module

public import proofs.«01_k».proof.Proof.Gla.Pieces
public import proofs.«01_k».proof.Proof.Gla.Spec

@[expose] public section

set_option maxRecDepth 16384

/-! # A head's payloads read at an index, and as the scalar chunk of `Spec` -/

noncomputable section

namespace Cert.Gla

open Cert.KernelIdeal Cert.KernelIdeal.Gen Idealize.ShloMosaic

theorem scoreCol_apply (b q k : FVec Ideal S8x128 .f32) (n : Fin 8) (h : S8x128.Slices ![n.val, 0] S1x128) (t s : Fin 8) :
    scoreCol b q k ![n.val, 0] h (BitVec.ofNat 32 n.val) (ix2 t s)
      = if s = n then (if n ≤ t then ∑ d : Fin 128, q (ix2 t d) * k (ix2 n d) * Ideal.exp (min (b (ix2 t d) - b (ix2 n d)) 0) else 0) else 0 := by
  pointwise [scoreCol]
  generalize (∑ x, q (ix2 t x) * k (ix2 n x) * Ideal.exp (min (b (ix2 t x) - b (ix2 n x)) 0)) = S
  fin_cases n <;> fin_cases t <;> fin_cases s <;> rfl

/-- Where the running decays decrease, the scores are the chunk's. -/
theorem scores_apply (b q k : FVec Ideal S8x128 .f32) (hb : ∀ s t : Fin 8, s ≤ t → ∀ d, b (ix2 t d) - b (ix2 s d) ≤ 0) (t s : Fin 8) :
    scores b q k (ix2 t s) = att (fun t d => b (ix2 t d)) (fun t d => q (ix2 t d)) (fun t d => k (ix2 t d)) t s := by
  have hc (n : Fin 8) (h : S8x128.Slices ![n.val, 0] S1x128) : scoreCol b q k ![n.val, 0] h (BitVec.ofNat 32 n.val) (ix2 t s)
      = if s = n then att (fun t d => b (ix2 t d)) (fun t d => q (ix2 t d)) (fun t d => k (ix2 t d)) t n else 0 := by
    rw [scoreCol_apply]
    refine if_congr Iff.rfl ?_ rfl
    unfold att
    by_cases hn : n ≤ t
    · rw [if_pos hn, if_pos hn]
      exact Finset.sum_congr rfl fun d _ => by rw [min_eq_left (hb n t hn d)]
    · rw [if_neg hn, if_neg hn]
  have e0 := hc 0 slices_S8x128_o0_0_S1x128
  have e1 := hc 1 slices_S8x128_o1_0_S1x128
  have e2 := hc 2 slices_S8x128_o2_0_S1x128
  have e3 := hc 3 slices_S8x128_o3_0_S1x128
  have e4 := hc 4 slices_S8x128_o4_0_S1x128
  have e5 := hc 5 slices_S8x128_o5_0_S1x128
  have e6 := hc 6 slices_S8x128_o6_0_S1x128
  have e7 := hc 7 slices_S8x128_o7_0_S1x128
  pointwise [scores]
  refine (congrArg₂ (· + ·) (congrArg₂ (· + ·) (congrArg₂ (· + ·) (congrArg₂ (· + ·) (congrArg₂ (· + ·) (congrArg₂ (· + ·) (congrArg₂ (· + ·)
    e0 e1) e2) e3) e4) e5) e6) e7).trans ?_
  generalize att (fun t d => b (ix2 t d)) (fun t d => q (ix2 t d)) (fun t d => k (ix2 t d)) t = A
  fin_cases s <;> simp

theorem headOut_apply (b q k : FVec Ideal S8x128 .f32) (v : FVec Ideal S8x256 .f32) (st : FVec Ideal S256x128 .f32)
    (hb : ∀ s t : Fin 8, s ≤ t → ∀ d, b (ix2 t d) - b (ix2 s d) ≤ 0) (t : Fin 8) (j : Fin 256) :
    headOut b q k v st (ix2 t j)
      = out (fun t d => b (ix2 t d)) (fun t d => q (ix2 t d)) (fun t d => k (ix2 t d)) (fun t j => v (ix2 t j)) (fun d j => st (ix2 j d)) t j := by
  pointwise [headOut]
  unfold out
  exact congrArg (_ + ·) (Finset.sum_congr rfl fun s _ => by rw [scores_apply b q k hb])

theorem headState_apply (b k : FVec Ideal S8x128 .f32) (v : FVec Ideal S8x256 .f32) (st : FVec Ideal S256x128 .f32) (d : Fin 128) (j : Fin 256) (z z' : Fin 1) :
    stateBlock (headState b k v st) (ix4 z z' d j)
      = new (fun t d => b (ix2 t d)) (fun t d => k (ix2 t d)) (fun t j => v (ix2 t j)) (fun d j => st (ix2 j d)) d j := by
  pointwise [headState, stateBlock]
  unfold new
  exact congrArg₂ (· + ·) (mul_comm _ _) (Finset.sum_congr rfl fun s _ => mul_comm _ _)

theorem headGated_apply (o : FVec Ideal S8x256 .f32) (gh : FVec Ideal S1x256 .f32) (gr : FVec Ideal S8x256 .f32) (t : Fin 8) (j : Fin 256) :
    headGated o gh gr (ix2 t j) = gated (fun t j => o (ix2 t j)) (fun j => gh (ix2 0 j)) (fun t j => gr (ix2 t j)) t j := by
  pointwise [headGated]
  simp only [zero_sub]
  rfl

theorem hB_apply (x3 : Vec Ideal S1x8x512 .f32) (hx : ∀ i, x3 i ≤ 0) (n : ℕ) (h : S8x512.Slices ![0, n] S8x128) (t : Fin 8) (d : Fin 128) :
   hB x3 ![0, n] h (ix2 t d) = run (fun s d => x3 (ix3 0 s ⟨n + d.val, by have := h.2 1; have := d.isLt; simp at *; omega⟩)) t d := by
  pointwise [hB, k0_pay9]
  rw [← Finset.sum_add_distrib, ← Finset.sum_add_distrib]
  unfold run
  refine Finset.sum_congr rfl fun s _ => ?_
  have e := three_parts (hx (ix3 0 s ⟨n + d.val, by have := h.2 1; have := d.isLt; simp at *; omega⟩))
  have hm : ∀ (t s : Fin 8) (u : EReal), Scalar.select (IntOp.cmpi .sge (BitVec.ofNat 32 t.val) (BitVec.ofNat 32 s.val)) u 0 = if s ≤ t then u else 0 :=
    fun t s u => by
      have := (by decide : ∀ t s : Fin 8, IntOp.cmpi .sge (BitVec.ofNat 32 t.val) (BitVec.ofNat 32 s.val) = if s ≤ t then 1#1 else 0#1) t s
      rw [this]; split <;> rfl
  simp only [hm]
  split
  · exact e
  · simp

theorem hQ_apply (x3 : Vec Ideal S1x8x512 .f32) (n : ℕ) (h : S8x512.Slices ![0, n] S8x128) (t : Fin 8) (d : Fin 128) :
   hQ x3 ![0, n] h (ix2 t d) = x3 (ix3 0 t ⟨n + d.val, by have := h.2 1; have := d.isLt; simp at *; omega⟩) * Ideal.ofBits .f32 1035273459#32 := by
  pointwise [hQ, k0_pay10]

theorem hK_apply (x3 : Vec Ideal S1x8x512 .f32) (n : ℕ) (h : S8x512.Slices ![0, n] S8x128) (t : Fin 8) (d : Fin 128) :
   hK x3 ![0, n] h (ix2 t d) = x3 (ix3 0 t ⟨n + d.val, by have := h.2 1; have := d.isLt; simp at *; omega⟩) := by
  pointwise [hK, k0_pay11]

theorem hV_apply (x3 : Vec Ideal S1x8x512 .f32) (n : ℕ) (h : S8x512.Slices ![0, n] S8x256) (t : Fin 8) (d : Fin 256) :
   hV x3 ![0, n] h (ix2 t d) = x3 (ix3 0 t ⟨n + d.val, by have := h.2 1; have := d.isLt; simp at *; omega⟩) := by
  pointwise [hV]

theorem hS_apply (x5 : Vec Ideal S1x1x128x256 .f32) (d : Fin 128) (j : Fin 256) :
   hS x5 (ix2 j d) = x5 (ix4 0 0 d j) := by
  pointwise [hS]

end Cert.Gla
-- ==== Proof.Gla.RefRead.lean ====
module

public import proofs.«01_k».proof.Proof.Gen.ReferenceIdeal.Read
public import proofs.«01_k».proof.Proof.Gla.Spec

@[expose] public section

set_option maxRecDepth 16384

/-! # The reference's buffers read at an index, and as the scalar chunk of `Spec` -/

noncomputable section

namespace Cert.Gla.Ref

open Cert.ReferenceIdeal Cert.ReferenceIdeal.Read Idealize.ShloMosaic

/-- Eight entries of which the first seven lie before the start: the window that ends at `t` sums the entries up to `t`. -/
theorem foldl_window (y : Fin 8 → EReal) (t : Fin 8) :
    (List.finRange 8).foldl (fun r p => r + if hp : 7 ≤ t.val + p.val then y ⟨t.val + p.val - 7, by omega⟩ else 0) 0
      = ∑ s : Fin 8, if s ≤ t then y s else 0 := by
  fin_cases t <;> simp [List.finRange_succ, Fin.sum_univ_succ, add_assoc]

/-- jnp's `cumsum` down the steps of a [32, 4, 8, 128] array: each entry is the sum of the entries at its step and before. -/
theorem cumsum_apply (x : FVec Ideal S32x4x8x128 .f32) (init : FVec Ideal S_ .f32) (hi : ∀ i, init i = 0)
    (hw : S32x4x8x128.ReduceWindows (![1, 1, 8, 1] : Fin 4 → ℕ) ![1, 1, 1, 1] ![0, 0, 7, 0] ![0, 0, 0, 0] S32x4x8x128) (hu : 0 < S_.numel)
    (n : Fin 32) (h : Fin 4) (t : Fin 8) (d : Fin 128) :
    Host.reduceWindowAdd ![1, 1, 8, 1] ![1, 1, 1, 1] ![0, 0, 7, 0] ![0, 0, 0, 0] x init hw hu (ix4 n h t d)
      = ∑ s : Fin 8, if s ≤ t then x (ix4 n h s d) else 0 := by
  have hp : ∀ p : Fin (⟨4, ![1, 1, 8, 1]⟩ : Shape).numel, ((⟨4, ![1, 1, 8, 1]⟩ : Shape).rowMajor.symm p 0).val = 0
      ∧ ((⟨4, ![1, 1, 8, 1]⟩ : Shape).rowMajor.symm p 1).val = 0
      ∧ ((⟨4, ![1, 1, 8, 1]⟩ : Shape).rowMajor.symm p 2).val = p.val ∧ ((⟨4, ![1, 1, 8, 1]⟩ : Shape).rowMajor.symm p 3).val = 0 := by
    decide
  have hn := n.isLt
  have hh := h.isLt
  have ht := t.isLt
  have hd := d.isLt
  have hv : init (Shape.Idx.first hu) = 0 := hi _
  show Host.reduceWindow (u := ⟨0, ![]⟩) (fun a b : EReal => a + b) _ _ _ _ x (fun _ => init (Shape.Idx.first hu)) hw (by decide) (ix4 n h t d) = _
  rw [hv]
  unfold Host.reduceWindow
  refine (congrArg (fun f => List.foldl f (0 : EReal) (List.finRange (⟨4, ![1, 1, 8, 1]⟩ : Shape).numel))
    (funext fun r => funext fun p => congrArg (r + ·) (a₂ := if hp : 7 ≤ t.val + p.val then x (ix4 n h ⟨t.val + p.val - 7, by have : p.val < 8 := p.isLt; omega⟩ d) else 0) ?_)).trans ?_
  · obtain ⟨p0, p1, p2, p3⟩ := hp p
    have hp8 : p.val < 8 := p.isLt
    split
    · next hin =>
      have h2 := hin 2
      change 7 ≤ t.val * 1 + ((⟨4, ![1, 1, 8, 1]⟩ : Shape).rowMajor.symm p 2).val ∧ _ at h2
      rw [p2] at h2
      rw [dif_pos (by omega)]
      refine congrArg x (funext fun a => Fin.ext ?_)
      match a with
      | 0 => show n.val * 1 + ((⟨4, ![1, 1, 8, 1]⟩ : Shape).rowMajor.symm p 0).val - 0 = n.val; rw [p0]; omega
      | 1 => show h.val * 1 + ((⟨4, ![1, 1, 8, 1]⟩ : Shape).rowMajor.symm p 1).val - 0 = h.val; rw [p1]; omega
      | 2 => show t.val * 1 + ((⟨4, ![1, 1, 8, 1]⟩ : Shape).rowMajor.symm p 2).val - 7 = t.val + p.val - 7; rw [p2]; omega
      | 3 => show d.val * 1 + ((⟨4, ![1, 1, 8, 1]⟩ : Shape).rowMajor.symm p 3).val - 0 = d.val; rw [p3]; omega
    · next hin =>
      rw [dif_neg fun h7 => hin fun a => ?_]
      match a with
      | 0 => show 0 ≤ n.val * 1 + ((⟨4, ![1, 1, 8, 1]⟩ : Shape).rowMajor.symm p 0).val ∧ n.val * 1 + ((⟨4, ![1, 1, 8, 1]⟩ : Shape).rowMajor.symm p 0).val - 0 < 32; rw [p0]; omega
      | 1 => show 0 ≤ h.val * 1 + ((⟨4, ![1, 1, 8, 1]⟩ : Shape).rowMajor.symm p 1).val ∧ h.val * 1 + ((⟨4, ![1, 1, 8, 1]⟩ : Shape).rowMajor.symm p 1).val - 0 < 4; rw [p1]; omega
      | 2 => show 7 ≤ t.val * 1 + ((⟨4, ![1, 1, 8, 1]⟩ : Shape).rowMajor.symm p 2).val ∧ t.val * 1 + ((⟨4, ![1, 1, 8, 1]⟩ : Shape).rowMajor.symm p 2).val - 7 < 8; rw [p2]; omega
      | 3 => show 0 ≤ d.val * 1 + ((⟨4, ![1, 1, 8, 1]⟩ : Shape).rowMajor.symm p 3).val ∧ d.val * 1 + ((⟨4, ![1, 1, 8, 1]⟩ : Shape).rowMajor.symm p 3).val - 0 < 128; rw [p3]; omega
  · clear hp
    change List.foldl _ _ (List.finRange 8) = _
    exact foldl_window (fun s => x (ix4 n h s d)) t

variable (x0 : (⟨S14x256x512, .f32⟩ : BufTy).Contents (Elt Ideal)) (x1 : (⟨S32x4x128x256, .f32⟩ : BufTy).Contents (Elt Ideal)) (x2 : (⟨S1x256, .f32⟩ : BufTy).Contents (Elt Ideal))

/-- Batch row `n`, head `h`'s part of the arguments. -/
def rQ (n : Fin 32) (h : Fin 4) (t : Fin 8) (d : Fin 128) : EReal := val_main_v5 x0 (ix4 n h t d)
def rK (n : Fin 32) (h : Fin 4) (t : Fin 8) (d : Fin 128) : EReal := val_main_v9 x0 (ix4 n h t d)
def rB (n : Fin 32) (h : Fin 4) (t : Fin 8) (d : Fin 128) : EReal := val_main_v26 x0 (ix4 n h t d)
def rV (n : Fin 32) (h : Fin 4) (t : Fin 8) (j : Fin 256) : EReal := val_main_v16 x0 (ix4 n h t j)

theorem rQ_eq (n : Fin 32) (h : Fin 4) (t : Fin 8) (d : Fin 128) :
    rQ x0 n h t d = x0 (ix3 0 ⟨n.val * 8 + t.val, by omega⟩ ⟨h.val * 128 + d.val, by omega⟩) * Ideal.ofBits .f32 1035273459#32 := by
  unfold rQ
  pointwise [val_main_v5, val_main_v3, val_main_v2, val_main_v1, val_main_v0, val_main_v4, val_main_cst]

theorem rK_eq (n : Fin 32) (h : Fin 4) (t : Fin 8) (d : Fin 128) :
    rK x0 n h t d = x0 (ix3 1 ⟨n.val * 8 + t.val, by omega⟩ ⟨h.val * 128 + d.val, by omega⟩) := by
  unfold rK
  pointwise [val_main_v9, val_main_v8, val_main_v7, val_main_v6]

theorem rV_eq (n : Fin 32) (h : Fin 4) (t : Fin 8) (j : Fin 256) :
    rV x0 n h t j = if hj : h.val * 256 + j.val < 512 then x0 (ix3 2 ⟨n.val * 8 + t.val, by omega⟩ ⟨h.val * 256 + j.val, hj⟩)
      else x0 (ix3 3 ⟨n.val * 8 + t.val, by omega⟩ ⟨h.val * 256 + j.val - 512, by omega⟩) := by
  unfold rV
  pointwise [val_main_v16, val_main_v15, val_main_v14, val_main_v13, val_main_v12, val_main_v11, val_main_v10]

theorem gr_eq (r : Fin 256) (j : Fin 1024) :
    val_main_v21 x0 (ix2 r j) = if hj : j.val < 512 then x0 (ix3 4 r ⟨j.val, hj⟩) else x0 (ix3 5 r ⟨j.val - 512, by omega⟩) := by
  pointwise [val_main_v21, val_main_v18, val_main_v17, val_main_v19, val_main_v20]

theorem rB_eq (n : Fin 32) (h : Fin 4) (t : Fin 8) (d : Fin 128) :
    rB x0 n h t d = run (fun s d => x0 (ix3 6 ⟨n.val * 8 + s.val, by omega⟩ ⟨h.val * 128 + d.val, by omega⟩)) t d := by
  unfold rB val_main_v26
  rw [cumsum_apply _ _ (fun i => by obtain rfl := ValueIdx.eq_ix0 i; pointwise [val_main_call0_call0_v0, val_main_call0_call0_cst])]
  unfold run
  refine Finset.sum_congr rfl fun s _ => if_congr Iff.rfl ?_ rfl
  pointwise [val_main_v25, val_main_v24, val_main_v23, val_main_v22]

theorem att_eq (n : Fin 32) (h : Fin 4) (t s : Fin 8) : val_main_v46 x0 (ix4 n h t s) = att (rB x0 n h) (rQ x0 n h) (rK x0 n h) t s := by
  pointwise [val_main_v46, val_main_cst_1, val_main_v45,val_main_v44,val_main_v43,val_main_v42,val_main_v41,val_main_v40,val_main_v39,val_main_v38,val_main_call2_v2, val_main_call2_v1, val_main_call2_v0, val_main_cst_0, val_main_v37, val_main_v36, val_main_v35, val_main_v34, val_main_v33, val_main_v32, val_main_v31, val_main_call1_v5, val_main_call1_c_0, val_main_call1_v4, val_main_call1_v3, val_main_call1_v2, val_main_call1_v1, val_main_call1_c, val_main_call1_v0, val_main_v30, val_main_c]
  have hsel : ∀ t s : Fin 8, (Scalar.select (IntOp.cmpi .sge (IntOp.addi (BitVec.ofNat 32 t.val) 0#32) (BitVec.ofNat 32 s.val)) 1#1 0#1 : BitVec 1)
      = if s ≤ t then 1#1 else 0#1 := by decide
  rw [hsel]
  unfold att
  split
  · rfl
  · refine Finset.sum_eq_zero fun d _ => ?_
    have hb : (Scalar.select (0#1) (val_main_v26 x0 (ix4 n h t d) - val_main_v26 x0 (ix4 n h s d)) (id (constant (F := Ideal) S_ .f32 4286578688#32) ix0) : EReal) = ⊥ := by
      show (Ideal.ofBits .f32 4286578688#32 : EReal) = ⊥
      simp [Ideal.ofBits, Ideal.ieee]
    rw [hb]
    show _ * (0 : EReal) = 0
    exact mul_zero _

theorem out_eq (n : Fin 32) (h : Fin 4) (t : Fin 8) (j : Fin 256) :
    val_main_v48 x0 x1 (ix4 n h t j) = out (rB x0 n h) (rQ x0 n h) (rK x0 n h) (rV x0 n h) (fun d j => x1 (ix4 n h d j)) t j := by
  pointwise [val_main_v48, val_main_v47, val_main_v29, val_main_v28, val_main_v27]
  simp only [att_eq]
  rfl

theorem new_eq (n : Fin 32) (h : Fin 4) (d : Fin 128) (j : Fin 256) :
    val_main_v60 x0 x1 (ix4 n h d j) = new (rB x0 n h) (rK x0 n h) (rV x0 n h) (fun d j => x1 (ix4 n h d j)) d j := by
  pointwise [val_main_v60, val_main_v59, val_main_v58, val_main_v57, val_main_v56, val_main_v55, val_main_v54, val_main_v53, val_main_v52, val_main_v51, val_main_v50, val_main_v49]
  rfl

theorem gated_eq (n : Fin 32) (h : Fin 4) (t : Fin 8) (j : Fin 256) :
    val_main_v78 x0 x1 x2 (ix2 ⟨n.val * 8 + t.val, by omega⟩ ⟨h.val * 256 + j.val, by omega⟩)
      = gated (fun t j => val_main_v48 x0 x1 (ix4 n h t j)) (fun j => x2 (ix2 0 j))
          (fun t j => val_main_v21 x0 (ix2 ⟨n.val * 8 + t.val, by omega⟩ ⟨h.val * 256 + j.val, by omega⟩)) t j := by
  have e : val_main_v76 x0 x1 x2 (ix2 ⟨n.val * 8 + t.val, by omega⟩ ⟨h.val * 256 + j.val, by omega⟩) = val_main_v75 x0 x1 x2 (ix4 n t h j) := by
    pointwise [val_main_v76]
  pointwise [val_main_v78, val_main_v77, val_main_call3_v5, val_main_call3_v4, val_main_call3_v3, val_main_call3_v2, val_main_call3_v1, val_main_call3_v0, val_main_call3_cst, val_main_call3_cst_0]
  rw [e]
  pointwise [val_main_v75, val_main_v74, val_main_v73, val_main_v72, val_main_v71, val_main_v70, val_main_v69, val_main_v68, val_main_v67, val_main_v66, val_main_v65, val_main_v64, val_main_v63, val_main_v62, val_main_v61, val_main_cst_2, val_main_cst_3, val_main_cst_4]
  rfl

end Cert.Gla.Ref
-- ==== Proof.Gla.Final.lean ====
module

public import proofs.«01_k».proof.Proof.Gla.HeadRead
public import proofs.«01_k».proof.Proof.Gla.RefRead
public import Idealize.ShloMosaic.Lib.Pipeline.ValueKit

@[expose] public section

set_option maxRecDepth 16384

/-! # The kernel's two result arrays are the reference's -/

noncomputable section

namespace Cert.Gla

open Idealize.ShloMosaic Idealize.ShloMosaic.TcCoe Idealize.SL.Sem
open Idealize.ShloMosaic.Pipeline (Dat)
open Cert.KernelIdeal Cert.KernelIdeal.Gen
open Cert.ReferenceIdeal.Read (val_main_v78 val_main_v60 val_main_v21)

/-- A head whose running decays, queries, keys, values and old state are batch row `n`, head `h`'s gives that row's and
    head's part of the reference's two results. -/
theorem head_gated (X : FVec Ideal S14x256x512 .f32) (S : FVec Ideal S32x4x128x256 .f32) (G : FVec Ideal S1x256 .f32)
    (hX : ∀ r l, X (ix3 6 r l) ≤ 0) (n : Fin 32) (h : Fin 4)
    (b q k : FVec Ideal S8x128 .f32) (v : FVec Ideal S8x256 .f32) (st : FVec Ideal S256x128 .f32) (gh : FVec Ideal S1x256 .f32) (gr : FVec Ideal S8x256 .f32)
    (hb : ∀ t d, b (ix2 t d) = Ref.rB X n h t d) (hq : ∀ t d, q (ix2 t d) = Ref.rQ X n h t d) (hk : ∀ t d, k (ix2 t d) = Ref.rK X n h t d)
    (hv : ∀ t j, v (ix2 t j) = Ref.rV X n h t j) (hst : ∀ d j, st (ix2 j d) = S (ix4 n h d j)) (hgh : ∀ j, gh (ix2 0 j) = G (ix2 0 j))
    (hgr : ∀ t j, gr (ix2 t j) = val_main_v21 (F := Ideal) X (ix2 ⟨n.val * 8 + t.val, by omega⟩ ⟨h.val * 256 + j.val, by omega⟩)) (t : Fin 8) (j : Fin 256) :
    headGated (headOut b q k v st) gh gr (ix2 t j)
      = val_main_v78 (F := Ideal) X S G (ix2 ⟨n.val * 8 + t.val, by omega⟩ ⟨h.val * 256 + j.val, by omega⟩) := by
  have hdec : ∀ s t : Fin 8, s ≤ t → ∀ d, b (ix2 t d) - b (ix2 s d) ≤ 0 := fun s t hst d => by
    rw [hb, hb, Ref.rB_eq, Ref.rB_eq]
    exact run_sub_nonpos (fun _ _ => hX _ _) hst d
  rw [headGated_apply, Ref.gated_eq]
  simp only [headOut_apply b q k v st hdec, Ref.out_eq, hb, hq, hk, hv, hst, hgh, hgr]

theorem head_state (X : FVec Ideal S14x256x512 .f32) (S : FVec Ideal S32x4x128x256 .f32) (n : Fin 32) (h : Fin 4)
    (b k : FVec Ideal S8x128 .f32) (v : FVec Ideal S8x256 .f32) (st : FVec Ideal S256x128 .f32)
    (hb : ∀ t d, b (ix2 t d) = Ref.rB X n h t d) (hk : ∀ t d, k (ix2 t d) = Ref.rK X n h t d)
    (hv : ∀ t j, v (ix2 t j) = Ref.rV X n h t j) (hst : ∀ d j, st (ix2 j d) = S (ix4 n h d j)) (z z' : Fin 1) (d : Fin 128) (j : Fin 256) :
    stateBlock (headState b k v st) (ix4 z z' d j) = val_main_v60 (F := Ideal) X S (ix4 n h d j) := by
  rw [headState_apply, Ref.new_eq]
  simp only [hb, hk, hv, hst]

variable (m : (ℓ : Loc nD τ sig) → Buf (Elt Ideal) ℓ) (c : Dev nD)

/-- Each window's block index at each grid point. -/
theorem idx : ∀ t : Fin cfg0.N, win0_0.index t = ![0, t.val, 0] ∧ win0_1.index t = ![1, t.val, 0] ∧ win0_2.index t = ![1, t.val, 0]
    ∧ win0_3.index t = ![6, t.val, 0] ∧ win0_4.index t = ![2, t.val, 0] ∧ win0_5.index t = ![t.val, 0, 0, 0] ∧ win0_6.index t = ![0, 0]
    ∧ win0_7.index t = ![t.val, 0] ∧ win0_8.index t = ![t.val, 0, 0, 0] :=
  (by decide +kernel : ∀ t : Fin grid0.N, _)

abbrev argX : FVec Ideal S14x256x512 .f32 := m ((c : Thread nD τ).loc main_arg0)
abbrev argS : FVec Ideal S32x4x128x256 .f32 := m ((c : Thread nD τ).loc main_arg1)
abbrev argG : FVec Ideal S1x256 .f32 := m ((c : Thread nD τ).loc main_arg2)

/-- The batch row of grid point `t`. -/
abbrev row (t : Fin cfg0.N) : Fin 32 := ⟨t.val, lt_of_lt_of_eq t.isLt N_0⟩

theorem blk0 (t : Fin cfg0.N) (r : Fin 8) (l : Fin 512) :
    (iblk m c 0 t : Vec Ideal S1x8x512 .f32) (ix3 0 r l) = argX m c (ix3 0 ⟨t.val * 8 + r.val, by have := (row t).isLt; simp only at this; omega⟩ l) := by
  blk_ext! [iblk, V, idx t]
theorem blk1 (t : Fin cfg0.N) (r : Fin 8) (l : Fin 512) :
    (iblk m c 1 t : Vec Ideal S1x8x512 .f32) (ix3 0 r l) = argX m c (ix3 1 ⟨t.val * 8 + r.val, by have := (row t).isLt; simp only at this; omega⟩ l) := by
  blk_ext! [iblk, V, idx t]
theorem blk2 (t : Fin cfg0.N) (e : Fin 2) (r : Fin 8) (l : Fin 512) :
    (iblk m c 2 t : Vec Ideal S2x8x512 .f32) (ix3 e r l) = argX m c (ix3 ⟨2 + e.val, by omega⟩ ⟨t.val * 8 + r.val, by have := (row t).isLt; simp only at this; omega⟩ l) := by
  blk_ext! [iblk, V, idx t]
theorem blk3 (t : Fin cfg0.N) (r : Fin 8) (l : Fin 512) :
    (iblk m c 3 t : Vec Ideal S1x8x512 .f32) (ix3 0 r l) = argX m c (ix3 6 ⟨t.val * 8 + r.val, by have := (row t).isLt; simp only at this; omega⟩ l) := by
  blk_ext! [iblk, V, idx t]
theorem blk4 (t : Fin cfg0.N) (e : Fin 2) (r : Fin 8) (l : Fin 512) :
    (iblk m c 4 t : Vec Ideal S2x8x512 .f32) (ix3 e r l) = argX m c (ix3 ⟨4 + e.val, by omega⟩ ⟨t.val * 8 + r.val, by have := (row t).isLt; simp only at this; omega⟩ l) := by
  blk_ext! [iblk, V, idx t]
theorem blk5 (t : Fin cfg0.N) (h : Fin 4) (d : Fin 128) (j : Fin 256) :
    (iblk m c 5 t : Vec Ideal S1x4x128x256 .f32) (ix4 0 h d j) = argS m c (ix4 (row t) h d j) := by
  blk_ext! [iblk, V, idx t]
theorem blk6 (t : Fin cfg0.N) (j : Fin 256) :
    (iblk m c 6 t : Vec Ideal S1x256 .f32) (ix2 0 j) = argG m c (ix2 0 j) := by
  blk_ext! [iblk, V, idx t]

theorem hz3 : (![0, 0, 0] : Fin 3 → ℕ) = fun _ => 0 := funext fun a => by fin_cases a <;> rfl

/-- A tile of a window read at an index. -/
theorem ldV (x : Vec Ideal S2x8x512 .f32) (e : Fin 2) (inb) (r : Fin 8) (l : Fin 512) :
    View.ld x (Rect.unit (s := S2x8x512) ![e.val, 0, 0] S1x8x512.size inb) (ix3 0 r l) = x (ix3 e r l) := by
  pointwise

theorem ldS (x : Vec Ideal S1x4x128x256 .f32) (h : Fin 4) (inb) (d : Fin 128) (j : Fin 256) :
    View.ld x (Rect.unit (s := S1x4x128x256) ![0, h.val, 0, 0] S1x1x128x256.size inb) (ix4 0 0 d j) = x (ix4 0 h d j) := by
  pointwise

theorem ldG (x : Vec Ideal S1x256 .f32) (inb) (j : Fin 256) :
    View.ld x (Rect.unit (s := S1x256) ![0, 0] S1x256.size inb) (ix2 0 j) = x (ix2 0 j) := by
  pointwise

/-- Head `h`'s columns as the kernel cuts them out of its blocks are the reference's batch row and head. -/
theorem hB_at (hX : ∀ r l, argX m c (ix3 6 r l) ≤ 0) (t : Fin cfg0.N) (h : Fin 4) (inb) (sl) (s : Fin 8) (d : Fin 128) :
    hB (View.ld (iblk m c 3 t : Vec Ideal S1x8x512 .f32) (Rect.unit (s := S1x8x512) ![0, 0, 0] S1x8x512.size inb)) ![0, h.val * 128] sl (ix2 s d)
      = Ref.rB (argX m c) (row t) h s d := by
  rw [Ref.rB_eq, View.ld_unit_zero (S := S1x8x512) hz3]
  refine (hB_apply (iblk m c 3 t : Vec Ideal S1x8x512 .f32) (fun i => ?_) (h.val * 128) sl s d).trans ?_
  · have e : i = ix3 0 (i 1) (i 2) := by blk_ext
    have h3 : (iblk m c 3 t : Vec Ideal S1x8x512 .f32) i = argX m c _ := (congrArg _ e).trans (blk3 m c t (i 1) (i 2))
    exact le_of_eq_of_le h3 (hX _ _)
  · simp only [blk3]

theorem hQ_at (t : Fin cfg0.N) (h : Fin 4) (inb) (sl) (s : Fin 8) (d : Fin 128) :
    hQ (View.ld (iblk m c 0 t : Vec Ideal S1x8x512 .f32) (Rect.unit (s := S1x8x512) ![0, 0, 0] S1x8x512.size inb)) ![0, h.val * 128] sl (ix2 s d)
      = Ref.rQ (argX m c) (row t) h s d := by
  rw [Ref.rQ_eq, View.ld_unit_zero (S := S1x8x512) hz3, hQ_apply, blk0]

theorem hK_at (t : Fin cfg0.N) (h : Fin 4) (inb) (sl) (s : Fin 8) (d : Fin 128) :
    hK (View.ld (iblk m c 1 t : Vec Ideal S1x8x512 .f32) (Rect.unit (s := S1x8x512) ![0, 0, 0] S1x8x512.size inb)) ![0, h.val * 128] sl (ix2 s d)
      = Ref.rK (argX m c) (row t) h s d := by
  rw [Ref.rK_eq, View.ld_unit_zero (S := S1x8x512) hz3, hK_apply, blk1]

theorem hV_at (t : Fin cfg0.N) (e e' : Fin 2) (inb) (sl) (s : Fin 8) (j : Fin 256) :
    hV (View.ld (iblk m c 2 t : Vec Ideal S2x8x512 .f32) (Rect.unit (s := S2x8x512) ![e.val, 0, 0] S1x8x512.size inb)) ![0, e'.val * 256] sl (ix2 s j)
      = Ref.rV (argX m c) (row t) ⟨2 * e.val + e'.val, by omega⟩ s j := by
  rw [Ref.rV_eq, hV_apply]
  refine (ldV (iblk m c 2 t : Vec Ideal S2x8x512 .f32) e inb s _).trans ?_
  rw [blk2]
  fin_cases e
  · rw [dif_pos (by simp; omega)]; blk_ext
  · rw [dif_neg (by simp; omega)]; blk_ext

theorem hR_at (t : Fin cfg0.N) (e e' : Fin 2) (inb) (sl) (s : Fin 8) (j : Fin 256) :
    hV (View.ld (iblk m c 4 t : Vec Ideal S2x8x512 .f32) (Rect.unit (s := S2x8x512) ![e.val, 0, 0] S1x8x512.size inb)) ![0, e'.val * 256] sl (ix2 s j)
      = val_main_v21 (F := Ideal) (argX m c) (ix2 ⟨(row t).val * 8 + s.val, by omega⟩ ⟨(2 * e.val + e'.val) * 256 + j.val, by omega⟩) := by
  rw [Ref.gr_eq, hV_apply]
  refine (ldV (iblk m c 4 t : Vec Ideal S2x8x512 .f32) e inb s _).trans ?_
  rw [blk4]
  fin_cases e
  · rw [dif_pos (by simp; omega)]; blk_ext
  · rw [dif_neg (by simp; omega)]; blk_ext

theorem hS_at (t : Fin cfg0.N) (h : Fin 4) (inb) (d : Fin 128) (j : Fin 256) :
    hS (View.ld (iblk m c 5 t : Vec Ideal S1x4x128x256 .f32) (Rect.unit (s := S1x4x128x256) ![0, h.val, 0, 0] S1x1x128x256.size inb)) (ix2 j d)
      = argS m c (ix4 (row t) h d j) := by
  rw [hS_apply, ← blk5]
  exact ldS _ h inb d j

theorem hG_at (t : Fin cfg0.N) (inb) (j : Fin 256) :
    View.ld (iblk m c 6 t : Vec Ideal S1x256 .f32) (Rect.unit (s := S1x256) ![0, 0] S1x256.size inb) (ix2 0 j) = argG m c (ix2 0 j) := by
  rw [← blk6]
  exact ldG _ inb j

/-- Head `2 e + e'`'s piece of the gated output. -/
theorem pieceG (hX : ∀ r l, argX m c (ix3 6 r l) ≤ 0) (t : Fin cfg0.N) (e e' : Fin 2) (i0 i1 i2 i3 i4 i5 i6 s0 s1 s2 s3 s4 io) (x : (Rect.unit (s := S8x1024) ![0, (2 * e.val + e'.val) * 256] S8x256.size io).shape.Idx) :
    headGated (headOut (hB (View.ld (iblk m c 3 t : Vec Ideal S1x8x512 .f32) (Rect.unit (s := S1x8x512) ![0, 0, 0] S1x8x512.size i3)) ![0, (2 * e.val + e'.val) * 128] s3)
          (hQ (View.ld (iblk m c 0 t : Vec Ideal S1x8x512 .f32) (Rect.unit (s := S1x8x512) ![0, 0, 0] S1x8x512.size i0)) ![0, (2 * e.val + e'.val) * 128] s0)
          (hK (View.ld (iblk m c 1 t : Vec Ideal S1x8x512 .f32) (Rect.unit (s := S1x8x512) ![0, 0, 0] S1x8x512.size i1)) ![0, (2 * e.val + e'.val) * 128] s1)
          (hV (View.ld (iblk m c 2 t : Vec Ideal S2x8x512 .f32) (Rect.unit (s := S2x8x512) ![e.val, 0, 0] S1x8x512.size i2)) ![0, e'.val * 256] s2)
          (hS (View.ld (iblk m c 5 t : Vec Ideal S1x4x128x256 .f32) (Rect.unit (s := S1x4x128x256) ![0, 2 * e.val + e'.val, 0, 0] S1x1x128x256.size i5))))
        (View.ld (iblk m c 6 t : Vec Ideal S1x256 .f32) (Rect.unit (s := S1x256) ![0, 0] S1x256.size i6))
        (hV (View.ld (iblk m c 4 t : Vec Ideal S2x8x512 .f32) (Rect.unit (s := S2x8x512) ![e.val, 0, 0] S1x8x512.size i4)) ![0, e'.val * 256] s4) x
      = val_main_v78 (F := Ideal) (argX m c) (argS m c) (argG m c)
          (win0_7.blk t |>.view.emb ((Rect.unit (s := S8x1024) ![0, (2 * e.val + e'.val) * 256] S8x256.size io).emb x)) := by
  obtain ⟨r, j, rfl⟩ : ∃ (r : Fin 8) (j : Fin 256), x = ix2 r j := ⟨x 0, x 1, by blk_ext⟩
  refine (head_gated (argX m c) (argS m c) (argG m c) hX (row t) ⟨2 * e.val + e'.val, by omega⟩ _ _ _ _ _ _ _ (hB_at m c hX t ⟨2 * e.val + e'.val, by omega⟩ i3 s3)
    (hQ_at m c t ⟨2 * e.val + e'.val, by omega⟩ i0 s0) (hK_at m c t ⟨2 * e.val + e'.val, by omega⟩ i1 s1) (hV_at m c t e e' i2 s2)
    (hS_at m c t ⟨2 * e.val + e'.val, by omega⟩ i5) (hG_at m c t i6) (hR_at m c t e e' i4 s4) r j).trans ?_
  blk_ext! [idx t]

/-- Head `h`'s piece of the new state. -/
theorem pieceS (hX : ∀ r l, argX m c (ix3 6 r l) ≤ 0) (t : Fin cfg0.N) (e e' : Fin 2) (i1 i2 i3 i5 s1 s2 s3 io) (x : (Rect.unit (s := S1x4x128x256) ![0, 2 * e.val + e'.val, 0, 0] S1x1x128x256.size io).shape.Idx) :
    stateBlock (headState (hB (View.ld (iblk m c 3 t : Vec Ideal S1x8x512 .f32) (Rect.unit (s := S1x8x512) ![0, 0, 0] S1x8x512.size i3)) ![0, (2 * e.val + e'.val) * 128] s3)
          (hK (View.ld (iblk m c 1 t : Vec Ideal S1x8x512 .f32) (Rect.unit (s := S1x8x512) ![0, 0, 0] S1x8x512.size i1)) ![0, (2 * e.val + e'.val) * 128] s1)
          (hV (View.ld (iblk m c 2 t : Vec Ideal S2x8x512 .f32) (Rect.unit (s := S2x8x512) ![e.val, 0, 0] S1x8x512.size i2)) ![0, e'.val * 256] s2)
          (hS (View.ld (iblk m c 5 t : Vec Ideal S1x4x128x256 .f32) (Rect.unit (s := S1x4x128x256) ![0, 2 * e.val + e'.val, 0, 0] S1x1x128x256.size i5)))) x
      = val_main_v60 (F := Ideal) (argX m c) (argS m c)
          (win0_8.blk t |>.view.emb ((Rect.unit (s := S1x4x128x256) ![0, 2 * e.val + e'.val, 0, 0] S1x1x128x256.size io).emb x)) := by
  obtain ⟨z, z', d, j, rfl⟩ : ∃ (z z' : Fin 1) (d : Fin 128) (j : Fin 256), x = ix4 z z' d j := ⟨x 0, x 1, x 2, x 3, by blk_ext⟩
  refine (head_state (argX m c) (argS m c) (row t) ⟨2 * e.val + e'.val, by omega⟩ _ _ _ _ (hB_at m c hX t ⟨2 * e.val + e'.val, by omega⟩ i3 s3)
    (hK_at m c t ⟨2 * e.val + e'.val, by omega⟩ i1 s1) (hV_at m c t e e' i2 s2)
    (hS_at m c t ⟨2 * e.val + e'.val, by omega⟩ i5) z z' d j).trans ?_
  blk_ext! [idx t]

theorem finalG (hX : ∀ r l, argX m c (ix3 6 r l) ≤ 0) :
    (dats m 0 c).arrAt 7 cfg0.N = val_main_v78 (F := Ideal) (argX m c) (argS m c) (argG m c) := by
  refine (dats m 0 c).arrAt_eq_of_covers 7 _ (by decide +kernel) fun t hf y => ?_
  blk_simp
  rw [after0_7]
  unfold outsAt0
  dsimp only
  unfold out0_A_7
  rw [View.read_writes_eq_canon _ _ _ (fun y => cover0_A_7 c _ _ _ _ _ _ _ _ _ _ _ _ _ _ _ _ _ _ _ _ _ _ _ _ _ _ _ _ _ _ y)]
  refine View.canon_apply_of_pieces (fun y => val_main_v78 (F := Ideal) (argX m c) (argS m c) (argG m c) (win0_7.blk t |>.view.emb y)) _ ?_ y
    (cover0_A_7 c _ _ _ _ _ _ _ _ _ _ _ _ _ _ _ _ _ _ _ _ _ _ _ _ _ _ _ _ _ _ y)
  rw [piecesG]
  intro p hp
  simp only [List.mem_cons, List.not_mem_nil, or_false] at hp
  obtain rfl | rfl | rfl | rfl := hp
  · exact pieceG m c hX t 1 1 _ _ _ _ _ _ _ _ _ _ _ _ inb_S8x1024_S8x256_0_768
  · exact pieceG m c hX t 1 0 _ _ _ _ _ _ _ _ _ _ _ _ inb_S8x1024_S8x256_0_512
  · exact pieceG m c hX t 0 1 _ _ _ _ _ _ _ _ _ _ _ _ inb_S8x1024_S8x256_0_256
  · exact pieceG m c hX t 0 0 _ _ _ _ _ _ _ _ _ _ _ _ inb_S8x1024_S8x256_0_0

theorem finalS (hX : ∀ r l, argX m c (ix3 6 r l) ≤ 0) :
    (dats m 0 c).arrAt 8 cfg0.N = val_main_v60 (F := Ideal) (argX m c) (argS m c) := by
  refine (dats m 0 c).arrAt_eq_of_covers 8 _ (by decide +kernel) fun t hf y => ?_
  blk_simp
  rw [after0_8]
  unfold outsAt0
  dsimp only
  unfold out0_A_8
  rw [View.read_writes_eq_canon _ _ _ (fun y => cover0_A_8 c _ _ _ _ _ _ _ _ _ _ _ _ _ _ _ _ _ _ _ _ _ _ _ _ _ _ _ _ _ _ y)]
  refine View.canon_apply_of_pieces (fun y => val_main_v60 (F := Ideal) (argX m c) (argS m c) (win0_8.blk t |>.view.emb y)) _ ?_ y
    (cover0_A_8 c _ _ _ _ _ _ _ _ _ _ _ _ _ _ _ _ _ _ _ _ _ _ _ _ _ _ _ _ _ _ y)
  rw [piecesS]
  intro p hp
  simp only [List.mem_cons, List.not_mem_nil, or_false] at hp
  obtain rfl | rfl | rfl | rfl := hp
  · exact pieceS m c hX t 1 1 _ _ _ _ _ _ _ inb_S1x4x128x256_S1x1x128x256_0_3_0_0
  · exact pieceS m c hX t 1 0 _ _ _ _ _ _ _ inb_S1x4x128x256_S1x1x128x256_0_2_0_0
  · exact pieceS m c hX t 0 1 _ _ _ _ _ _ _ inb_S1x4x128x256_S1x1x128x256_0_1_0_0
  · exact pieceS m c hX t 0 0 _ _ _ _ _ _ _ inb_S1x4x128x256_S1x1x128x256_0_0_0_0

end Cert.Gla
-- ==== Proof.Moe.Run.lean ====
/-
  The experts' kernel, one grid point at a time: what its body leaves in the output block and in the two
  scratch buffers, on each of its three paths. Stated over any float type.
-/
module

public import proofs.«01_k».proof.Proof.Gen.Kernel2Ideal.Skeleton
public import proofs.«01_k».proof.Proof.Gen.Kernel2Ideal.Launch
public import Idealize.ShloMosaic.Lib.Pipeline.TableIdle
public import Idealize.ShloMosaic.Lib.Pipeline.FrameBody
public import Idealize.ShloMosaic.Lib.Pipeline.Value
public import Idealize.ShloMosaic.Lib.VecWindow
public import Idealize.ShloMosaic.Lib.Exec
public import Mathlib.Tactic.IntervalCases
public import Idealize.ShloMosaic.Lib.Affine
public import Idealize.ShloMosaic.Lib.Tactic
public import Idealize.ShloMosaic.Adequacy
public import Idealize.ShloMosaic.Init

@[expose] public section

set_option maxRecDepth 16384

noncomputable section

namespace Cert.Kernel2Ideal.Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources the proof works with. -/
local notation "𝕄" => MT nD τ sig Unit (Elt F) ℕ (UR sig nD τ) ℕ

/-- The two tables and the two scratch buffers, whole. -/
abbrev tbl0 : Memref sig .tc .smem S162 .i32 := Memref.whole main_arg0
abbrev tbl1 : Memref sig .tc .smem S1 .i32 := Memref.whole main_arg1
abbrev scr0 : Memref sig .tc .vmem S1024x2048 .bf16 := Memref.whole cc0_scratch0
abbrev scr1 : Memref sig .tc .vmem S1024x1024 .bf16 := Memref.whole cc0_scratch1

/-- The word of the first table at this grid point, the word at the point before, and the second table's word. -/
abbrev wHere (i : grid0.Coords) (T0 : S162.Idx → Elt F .i32) : Elt F .i32 :=
  View.readAt (Elt F) tbl0.view (Rect.unit (s := S162) (k0_off1 i) S1.size (k0_off1_inb i)).toLoadRect T0 (Shape.Idx.first (numel1_S1.symm ▸ Nat.one_pos))
abbrev wPrev (i : grid0.Coords) (T0 : S162.Idx → Elt F .i32) : Elt F .i32 :=
  View.readAt (Elt F) tbl0.view (Rect.unit (s := S162) (k0_off2 i) S1.size (k0_off2_inb i)).toLoadRect T0 (Shape.Idx.first (numel1_S1.symm ▸ Nat.one_pos))
abbrev wUsed (T1 : S1.Idx → Elt F .i32) : Elt F .i32 :=
  View.readAt (Elt F) tbl1.view (Rect.unit (s := S1) ![0] S1.size inb_S1_S1_0).toLoadRect T1 (Shape.Idx.first (numel1_S1.symm ▸ Nat.one_pos))

/-- The body loads the expert's weights into the scratch buffers. -/
abbrev fresh (i : grid0.Coords) (T0 : S162.Idx → Elt F .i32) (T1 : S1.Idx → Elt F .i32) : Prop :=
  Scalar.cmpi .ne (Scalar.extui (Scalar.andi (Scalar.ori (Scalar.cmpi .eq (BitVec.ofNat 32 (i 0).val) 0#32) (Scalar.cmpi .ne (wHere i T0) (wPrev i T0))) (Scalar.cmpi .slt (BitVec.ofNat 32 (i 0).val) (wUsed T1)))) 0#32 = 1#1

/-! ## What a point's body leaves in the output block -/

/-- Every eighth row of the token block, from row `s` on: column block `s` of the tokens the experts multiply. -/
abbrev rows (x : S4096x128.Idx → Elt F .f32) (B : LoadRect S4096x128) : B.shape.Idx → Elt F .f32 := fun j => x (B.idx j)

abbrev ld0 : LoadRect S4096x128 := ⟨![0, 0], S512x128.size, ![8, 1], inb_S4096x128_S512x128_0_0_s_8_1⟩
abbrev ld1 : LoadRect S4096x128 := ⟨![1, 0], S512x128.size, ![8, 1], inb_S4096x128_S512x128_1_0_s_8_1⟩
abbrev ld2 : LoadRect S4096x128 := ⟨![2, 0], S512x128.size, ![8, 1], inb_S4096x128_S512x128_2_0_s_8_1⟩
abbrev ld3 : LoadRect S4096x128 := ⟨![3, 0], S512x128.size, ![8, 1], inb_S4096x128_S512x128_3_0_s_8_1⟩
abbrev ld4 : LoadRect S4096x128 := ⟨![4, 0], S512x128.size, ![8, 1], inb_S4096x128_S512x128_4_0_s_8_1⟩
abbrev ld5 : LoadRect S4096x128 := ⟨![5, 0], S512x128.size, ![8, 1], inb_S4096x128_S512x128_5_0_s_8_1⟩
abbrev ld6 : LoadRect S4096x128 := ⟨![6, 0], S512x128.size, ![8, 1], inb_S4096x128_S512x128_6_0_s_8_1⟩
abbrev ld7 : LoadRect S4096x128 := ⟨![7, 0], S512x128.size, ![8, 1], inb_S4096x128_S512x128_7_0_s_8_1⟩

/-- The three values the first half of the body hands to the second: the gate, the line and the denominator. -/
abbrev gate (x0 : S4096x128.Idx → Elt F .f32) (w0 : S1024x2048.Idx → Elt F .bf16) (x2 : S1x1x2048.Idx → Elt F .f32) : FVec F S512x1024 .f32 :=
  k0_pay5 (rows x0 ld0) (rows x0 ld1) (rows x0 ld2) (rows x0 ld3) (rows x0 ld4) (rows x0 ld5) (rows x0 ld6) (rows x0 ld7) w0 x2
abbrev line (x0 : S4096x128.Idx → Elt F .f32) (w0 : S1024x2048.Idx → Elt F .bf16) (x2 : S1x1x2048.Idx → Elt F .f32) : FVec F S512x1024 .f32 :=
  k0_pay6 (rows x0 ld0) (rows x0 ld1) (rows x0 ld2) (rows x0 ld3) (rows x0 ld4) (rows x0 ld5) (rows x0 ld6) (rows x0 ld7) w0 x2
abbrev denom (x0 : S4096x128.Idx → Elt F .f32) (w0 : S1024x2048.Idx → Elt F .bf16) (x2 : S1x1x2048.Idx → Elt F .f32) : FVec F S512x1024 .f32 :=
  k0_pay7 (rows x0 ld0) (rows x0 ld1) (rows x0 ld2) (rows x0 ld3) (rows x0 ld4) (rows x0 ld5) (rows x0 ld6) (rows x0 ld7) w0 x2

/-- The eight pieces of the output block, last stored first: eighth rows, each a column block of the experts' result. -/
def outPieces (x0 : S4096x128.Idx → Elt F .f32) (w0 : S1024x2048.Idx → Elt F .bf16) (x2 : S1x1x2048.Idx → Elt F .f32)
    (w1 : S1024x1024.Idx → Elt F .bf16) (x4 : S1x1x1024.Idx → Elt F .f32) : List (View.Piece (Elt F) S4096x128 .f32) :=
  [⟨⟨ld7, spos_8_1⟩, k0_pay16 (gate x0 w0 x2) (line x0 w0 x2) (denom x0 w0 x2) (Scalar.ofBits .f32 0x3F800000#32) w1 x4⟩,
   ⟨⟨ld6, spos_8_1⟩, k0_pay15 (gate x0 w0 x2) (line x0 w0 x2) (denom x0 w0 x2) (Scalar.ofBits .f32 0x3F800000#32) w1 x4⟩,
   ⟨⟨ld5, spos_8_1⟩, k0_pay14 (gate x0 w0 x2) (line x0 w0 x2) (denom x0 w0 x2) (Scalar.ofBits .f32 0x3F800000#32) w1 x4⟩,
   ⟨⟨ld4, spos_8_1⟩, k0_pay13 (gate x0 w0 x2) (line x0 w0 x2) (denom x0 w0 x2) (Scalar.ofBits .f32 0x3F800000#32) w1 x4⟩,
   ⟨⟨ld3, spos_8_1⟩, k0_pay12 (gate x0 w0 x2) (line x0 w0 x2) (denom x0 w0 x2) (Scalar.ofBits .f32 0x3F800000#32) w1 x4⟩,
   ⟨⟨ld2, spos_8_1⟩, k0_pay11 (gate x0 w0 x2) (line x0 w0 x2) (denom x0 w0 x2) (Scalar.ofBits .f32 0x3F800000#32) w1 x4⟩,
   ⟨⟨ld1, spos_8_1⟩, k0_pay10 (gate x0 w0 x2) (line x0 w0 x2) (denom x0 w0 x2) (Scalar.ofBits .f32 0x3F800000#32) w1 x4⟩,
   ⟨⟨ld0, spos_8_1⟩, k0_pay9 (gate x0 w0 x2) (line x0 w0 x2) (denom x0 w0 x2) (Scalar.ofBits .f32 0x3F800000#32) w1 x4⟩]

/-- The output block of a point whose expert is used. -/
def outBlk (x0 : S4096x128.Idx → Elt F .f32) (w0 : S1024x2048.Idx → Elt F .bf16) (x2 : S1x1x2048.Idx → Elt F .f32)
    (w1 : S1024x1024.Idx → Elt F .bf16) (x4 : S1x1x1024.Idx → Elt F .f32) : S4096x128.Idx → Elt F .f32 :=
  View.canon (outPieces x0 w0 x2 w1 x4)

/-- Eight stores of every eighth row, one from each of the first eight rows, fill the block. -/
theorem cover8 (p0 p1 p2 p3 p4 p5 p6 p7 : S512x128.Idx → Elt F .f32) (y : S4096x128.Idx) :
    ∃ p ∈ ([⟨⟨ld7, spos_8_1⟩, p7⟩, ⟨⟨ld6, spos_8_1⟩, p6⟩, ⟨⟨ld5, spos_8_1⟩, p5⟩, ⟨⟨ld4, spos_8_1⟩, p4⟩, ⟨⟨ld3, spos_8_1⟩, p3⟩,
      ⟨⟨ld2, spos_8_1⟩, p2⟩, ⟨⟨ld1, spos_8_1⟩, p1⟩, ⟨⟨ld0, spos_8_1⟩, p0⟩] : List (View.Piece (Elt F) S4096x128 .f32)), y ∈ p.1.set := by
  have hy0 : (y 0).val < 4096 := (y 0).isLt
  have hy1 : (y 1).val < 128 := (y 1).isLt
  have key : ∀ (s : Nat) (inb : ∀ a : Fin S4096x128.rank, S512x128.size a = 0 ∨ (![s, 0] : Fin 2 → Nat) a + (![8, 1] : Fin 2 → Nat) a * (S512x128.size a - 1) < S4096x128.size a),
      (y 0).val % 8 = s → y ∈ (⟨⟨![s, 0], S512x128.size, ![8, 1], inb⟩, spos_8_1⟩ : Rect S4096x128).set := by
    intro s inb hs
    refine (LoadRect.mem_set _).mpr fun a => ?_
    fin_cases a
    · exact ⟨(y 0).val / 8, by show (y 0).val / 8 < 512; omega, by show (y 0).val = s + 8 * ((y 0).val / 8); omega⟩
    · exact ⟨(y 1).val, hy1, by show (y 1).val = 0 + 1 * (y 1).val; omega⟩
  have h8 : (y 0).val % 8 < 8 := Nat.mod_lt _ (by decide)
  generalize h : (y 0).val % 8 = s at h8
  interval_cases s
  · exact ⟨⟨⟨ld0, spos_8_1⟩, p0⟩, .tail _ (.tail _ (.tail _ (.tail _ (.tail _ (.tail _ (.tail _ (.head _))))))), key 0 _ h⟩
  · exact ⟨⟨⟨ld1, spos_8_1⟩, p1⟩, .tail _ (.tail _ (.tail _ (.tail _ (.tail _ (.tail _ (.head _)))))), key 1 _ h⟩
  · exact ⟨⟨⟨ld2, spos_8_1⟩, p2⟩, .tail _ (.tail _ (.tail _ (.tail _ (.tail _ (.head _))))), key 2 _ h⟩
  · exact ⟨⟨⟨ld3, spos_8_1⟩, p3⟩, .tail _ (.tail _ (.tail _ (.tail _ (.head _)))), key 3 _ h⟩
  · exact ⟨⟨⟨ld4, spos_8_1⟩, p4⟩, .tail _ (.tail _ (.tail _ (.head _))), key 4 _ h⟩
  · exact ⟨⟨⟨ld5, spos_8_1⟩, p5⟩, .tail _ (.tail _ (.head _)), key 5 _ h⟩
  · exact ⟨⟨⟨ld6, spos_8_1⟩, p6⟩, .tail _ (.head _), key 6 _ h⟩
  · exact ⟨⟨⟨ld7, spos_8_1⟩, p7⟩, .head _, key 7 _ h⟩

/-! ## The body's three paths -/

set_option maxHeartbeats 8000000 in
/-- The point uses its expert and loads the expert's weights first. -/
theorem runA (c : Dev nD) (i : grid0.Coords)
    (a3 : Memref sig .tc .vmem S4096x128 .f32) (h3 : a3.IsWhole) (a4 : Memref sig .tc .vmem S1x1024x2048 .f32) (h4 : a4.IsWhole)
    (a5 : Memref sig .tc .vmem S1x1x2048 .f32) (h5 : a5.IsWhole) (a6 : Memref sig .tc .vmem S1x1024x1024 .f32) (h6 : a6.IsWhole)
    (a7 : Memref sig .tc .vmem S1x1x1024 .f32) (h7 : a7.IsWhole) (a8 : Memref sig .tc .vmem S4096x128 .f32) (h8 : a8.IsWhole)
    (T0 : S162.Idx → Elt F .i32) (T1 : S1.Idx → Elt F .i32)
    (x0 : S4096x128.Idx → Elt F .f32) (x1 : S1x1024x2048.Idx → Elt F .f32) (x2 : S1x1x2048.Idx → Elt F .f32)
    (x3 : S1x1024x1024.Idx → Elt F .f32) (x4 : S1x1x1024.Idx → Elt F .f32)
    (w0 : S1024x2048.Idx → Elt F .bf16) (w1 : S1024x1024.Idx → Elt F .bf16)
    (hc :  fresh i T0 T1) (hc2 :  k0_cond2 i (wUsed T1) = 1#1) (hc3 : ¬ k0_cond3 i (wUsed T1) = 1#1) (K : PUnit → sProp 𝕄) :
    iprop((a3.view.loc (c : Thread nD τ) ↦[a3.view.set]{fullShare} a3.view.rep x0)
        ∗ (a4.view.loc (c : Thread nD τ) ↦[a4.view.set]{fullShare} a4.view.rep x1)
        ∗ (a5.view.loc (c : Thread nD τ) ↦[a5.view.set]{fullShare} a5.view.rep x2)
        ∗ (a6.view.loc (c : Thread nD τ) ↦[a6.view.set]{fullShare} a6.view.rep x3)
        ∗ (a7.view.loc (c : Thread nD τ) ↦[a7.view.set]{fullShare} a7.view.rep x4)
        ∗ (tbl0.view.loc (c : Thread nD τ) ↦{fullShare.right} T0)
        ∗ (tbl1.view.loc (c : Thread nD τ) ↦{fullShare.right} T1)
        ∗ (∃ d, owns (c : Thread nD τ) a8 fullShare d)
        ∗ owns (c : Thread nD τ) scr0 fullShare w0
        ∗ owns (c : Thread nD τ) scr1 fullShare w1
        ∗ (iprop((a3.view.loc (c : Thread nD τ) ↦[a3.view.set]{fullShare} a3.view.rep x0)
            ∗ (a4.view.loc (c : Thread nD τ) ↦[a4.view.set]{fullShare} a4.view.rep x1)
            ∗ (a5.view.loc (c : Thread nD τ) ↦[a5.view.set]{fullShare} a5.view.rep x2)
            ∗ (a6.view.loc (c : Thread nD τ) ↦[a6.view.set]{fullShare} a6.view.rep x3)
            ∗ (a7.view.loc (c : Thread nD τ) ↦[a7.view.set]{fullShare} a7.view.rep x4)
            ∗ (tbl0.view.loc (c : Thread nD τ) ↦{fullShare.right} T0)
            ∗ (tbl1.view.loc (c : Thread nD τ) ↦{fullShare.right} T1)
            ∗ owns (c : Thread nD τ) a8 fullShare (outBlk x0 (k0_pay1 x1) x2 (k0_pay2 x3) x4)
            ∗ owns (c : Thread nD τ) scr0 fullShare (k0_pay1 x1)
            ∗ owns (c : Thread nD τ) scr1 fullShare (k0_pay2 x3)) -∗ K ⟨⟩))
      ⊢ wp frame (wpE (defs₀ (F := F)) Variants.none c none) Set.univ
          (cc0_experts i tbl0 (Memref.isWhole_whole _) tbl1 (Memref.isWhole_whole _) a3 h3 a4 h4 a5 h5 a6 h6 a7 h7 a8 h8 scr0 (Memref.isWhole_whole _) scr1 (Memref.isWhole_whole _)) K := by
  rw [owns_eq_rep (c : Thread nD τ) scr0 fullShare w0, owns_eq_rep (c : Thread nD τ) scr1 fullShare w1]
  unfold owns
  rw [cc0_experts_eq_skeleton]; unfold cc0_experts_skel
  rw [k0_part1_eq_skeleton, k0_part2_eq_skeleton]; unfold k0_part1_skel k0_part2_skel
  iintro ⟨H0, H1, H2, H3, H4, HT0, HT1, ⟨%d5, %f5, -, HO5⟩, HS0, HS1, Hk⟩
  have hS0 : scr0.IsWhole := Memref.isWhole_whole _
  have hS1 : scr1.IsWhole := Memref.isWhole_whole _
  have hT0 : tbl0.IsWhole := Memref.isWhole_whole _
  have hT1 : tbl1.IsWhole := Memref.isWhole_whole _
  sl_exec! (disch := first | (guard_target = Scalar.cmpi _ _ _ = _; exact hc) | (guard_target = k0_cond2 _ _ = _; exact hc2) | (guard_target = ¬(k0_cond3 _ _ = _); exact hc3))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HO5]
  · iexists _; isplitr; swap
    · iexact HO5
    · ipureintro
      refine (View.read_writes_eq_canon _ _ _ (cover8 _ _ _ _ _ _ _ _)).trans ?_
      have hx : ∀ B : LoadRect S4096x128, View.readAt (Elt F) a3.view B (a3.view.rep x0) = rows x0 B :=
        fun B => View.readAt_rep _ _ _
      have hx2 : View.readAt (Elt F) a5.view (Rect.unit ![0, 0, 0] S1x1x2048.size inb_S1x1x2048_S1x1x2048_0_0_0).toLoadRect (a5.view.rep x2) = x2 :=
        View.readAt_rep_full _ _ _
      have hx4 : View.readAt (Elt F) a7.view (Rect.unit ![0, 0, 0] S1x1x1024.size inb_S1x1x1024_S1x1x1024_0_0_0).toLoadRect (a7.view.rep x4) = x4 :=
        View.readAt_rep_full _ _ _
      have hv0 : runA.sl.v32 c a4 x1 = k0_pay1 x1 := by
        unfold runA.sl.v32 runA.sl.HS0_1
        exact (View.readCov_full _ _ _ _ _).trans (congrArg k0_pay1 (View.readAt_rep_full _ _ _))
      have hv1 : runA.sl.v60 c a6 x3 = k0_pay2 x3 := by
        unfold runA.sl.v60 runA.sl.HS1_1
        exact (View.readCov_full _ _ _ _ _).trans (congrArg k0_pay2 (View.readAt_rep_full _ _ _))
      rw [hx2, hx4, hv0, hv1, hx ld0, hx ld1, hx ld2, hx ld3, hx ld4, hx ld5, hx ld6, hx ld7]
      rfl
  isplitl [HS0]
  · iexists _; isplitr; swap
    · iexact HS0
    · ipureintro
      unfold runA.sl.HS0_1
      exact (View.read_writes_full _ _ _ _ _).trans (congrArg k0_pay1 (View.readAt_rep_full _ _ _))
  · iexists _; isplitr; swap
    · iexact HS1
    · ipureintro
      unfold runA.sl.HS1_1
      exact (View.read_writes_full _ _ _ _ _).trans (congrArg k0_pay2 (View.readAt_rep_full _ _ _))

set_option maxHeartbeats 8000000 in
/-- The point uses its expert, whose weights the scratch buffers hold already. -/
theorem runB (c : Dev nD) (i : grid0.Coords)
    (a3 : Memref sig .tc .vmem S4096x128 .f32) (h3 : a3.IsWhole) (a4 : Memref sig .tc .vmem S1x1024x2048 .f32) (h4 : a4.IsWhole)
    (a5 : Memref sig .tc .vmem S1x1x2048 .f32) (h5 : a5.IsWhole) (a6 : Memref sig .tc .vmem S1x1024x1024 .f32) (h6 : a6.IsWhole)
    (a7 : Memref sig .tc .vmem S1x1x1024 .f32) (h7 : a7.IsWhole) (a8 : Memref sig .tc .vmem S4096x128 .f32) (h8 : a8.IsWhole)
    (T0 : S162.Idx → Elt F .i32) (T1 : S1.Idx → Elt F .i32)
    (x0 : S4096x128.Idx → Elt F .f32) (x1 : S1x1024x2048.Idx → Elt F .f32) (x2 : S1x1x2048.Idx → Elt F .f32)
    (x3 : S1x1024x1024.Idx → Elt F .f32) (x4 : S1x1x1024.Idx → Elt F .f32)
    (w0 : S1024x2048.Idx → Elt F .bf16) (w1 : S1024x1024.Idx → Elt F .bf16)
    (hc : ¬ fresh i T0 T1) (hc2 :  k0_cond2 i (wUsed T1) = 1#1) (hc3 : ¬ k0_cond3 i (wUsed T1) = 1#1) (K : PUnit → sProp 𝕄) :
    iprop((a3.view.loc (c : Thread nD τ) ↦[a3.view.set]{fullShare} a3.view.rep x0)
        ∗ (a4.view.loc (c : Thread nD τ) ↦[a4.view.set]{fullShare} a4.view.rep x1)
        ∗ (a5.view.loc (c : Thread nD τ) ↦[a5.view.set]{fullShare} a5.view.rep x2)
        ∗ (a6.view.loc (c : Thread nD τ) ↦[a6.view.set]{fullShare} a6.view.rep x3)
        ∗ (a7.view.loc (c : Thread nD τ) ↦[a7.view.set]{fullShare} a7.view.rep x4)
        ∗ (tbl0.view.loc (c : Thread nD τ) ↦{fullShare.right} T0)
        ∗ (tbl1.view.loc (c : Thread nD τ) ↦{fullShare.right} T1)
        ∗ (∃ d, owns (c : Thread nD τ) a8 fullShare d)
        ∗ owns (c : Thread nD τ) scr0 fullShare w0
        ∗ owns (c : Thread nD τ) scr1 fullShare w1
        ∗ (iprop((a3.view.loc (c : Thread nD τ) ↦[a3.view.set]{fullShare} a3.view.rep x0)
            ∗ (a4.view.loc (c : Thread nD τ) ↦[a4.view.set]{fullShare} a4.view.rep x1)
            ∗ (a5.view.loc (c : Thread nD τ) ↦[a5.view.set]{fullShare} a5.view.rep x2)
            ∗ (a6.view.loc (c : Thread nD τ) ↦[a6.view.set]{fullShare} a6.view.rep x3)
            ∗ (a7.view.loc (c : Thread nD τ) ↦[a7.view.set]{fullShare} a7.view.rep x4)
            ∗ (tbl0.view.loc (c : Thread nD τ) ↦{fullShare.right} T0)
            ∗ (tbl1.view.loc (c : Thread nD τ) ↦{fullShare.right} T1)
            ∗ owns (c : Thread nD τ) a8 fullShare (outBlk x0 w0 x2 w1 x4)
            ∗ owns (c : Thread nD τ) scr0 fullShare w0
            ∗ owns (c : Thread nD τ) scr1 fullShare w1) -∗ K ⟨⟩))
      ⊢ wp frame (wpE (defs₀ (F := F)) Variants.none c none) Set.univ
          (cc0_experts i tbl0 (Memref.isWhole_whole _) tbl1 (Memref.isWhole_whole _) a3 h3 a4 h4 a5 h5 a6 h6 a7 h7 a8 h8 scr0 (Memref.isWhole_whole _) scr1 (Memref.isWhole_whole _)) K := by
  rw [owns_eq_rep (c : Thread nD τ) scr0 fullShare w0, owns_eq_rep (c : Thread nD τ) scr1 fullShare w1]
  unfold owns
  rw [cc0_experts_eq_skeleton]; unfold cc0_experts_skel
  rw [k0_part1_eq_skeleton, k0_part2_eq_skeleton]; unfold k0_part1_skel k0_part2_skel
  iintro ⟨H0, H1, H2, H3, H4, HT0, HT1, ⟨%d5, %f5, -, HO5⟩, HS0, HS1, Hk⟩
  have hS0 : scr0.IsWhole := Memref.isWhole_whole _
  have hS1 : scr1.IsWhole := Memref.isWhole_whole _
  have hT0 : tbl0.IsWhole := Memref.isWhole_whole _
  have hT1 : tbl1.IsWhole := Memref.isWhole_whole _
  sl_exec! (disch := first | (guard_target = ¬(Scalar.cmpi _ _ _ = _); exact hc) | (guard_target = k0_cond2 _ _ = _; exact hc2) | (guard_target = ¬(k0_cond3 _ _ = _); exact hc3))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HO5]
  · iexists _; isplitr; swap
    · iexact HO5
    · ipureintro
      refine (View.read_writes_eq_canon _ _ _ (cover8 _ _ _ _ _ _ _ _)).trans ?_
      have hx : ∀ B : LoadRect S4096x128, View.readAt (Elt F) a3.view B (a3.view.rep x0) = rows x0 B :=
        fun B => View.readAt_rep _ _ _
      have hx2 : View.readAt (Elt F) a5.view (Rect.unit ![0, 0, 0] S1x1x2048.size inb_S1x1x2048_S1x1x2048_0_0_0).toLoadRect (a5.view.rep x2) = x2 :=
        View.readAt_rep_full _ _ _
      have hx4 : View.readAt (Elt F) a7.view (Rect.unit ![0, 0, 0] S1x1x1024.size inb_S1x1x1024_S1x1x1024_0_0_0).toLoadRect (a7.view.rep x4) = x4 :=
        View.readAt_rep_full _ _ _
      have hv0 : View.readAt (Elt F) scr0.view (Rect.unit ![0, 0] S1024x2048.size inb_S1024x2048_S1024x2048_0_0).toLoadRect (scr0.view.rep w0) = w0 :=
        View.readAt_rep_full _ _ _
      have hv1 : View.readAt (Elt F) scr1.view (Rect.unit ![0, 0] S1024x1024.size inb_S1024x1024_S1024x1024_0_0).toLoadRect (scr1.view.rep w1) = w1 :=
        View.readAt_rep_full _ _ _
      rw [hx2, hx4, hv0, hv1, hx ld0, hx ld1, hx ld2, hx ld3, hx ld4, hx ld5, hx ld6, hx ld7]
      rfl
  isplitl [HS0]; · iexact HS0
  iexact HS1

set_option maxHeartbeats 8000000 in
/-- The point uses no expert: its output block is zero. -/
theorem runC (c : Dev nD) (i : grid0.Coords)
    (a3 : Memref sig .tc .vmem S4096x128 .f32) (h3 : a3.IsWhole) (a4 : Memref sig .tc .vmem S1x1024x2048 .f32) (h4 : a4.IsWhole)
    (a5 : Memref sig .tc .vmem S1x1x2048 .f32) (h5 : a5.IsWhole) (a6 : Memref sig .tc .vmem S1x1024x1024 .f32) (h6 : a6.IsWhole)
    (a7 : Memref sig .tc .vmem S1x1x1024 .f32) (h7 : a7.IsWhole) (a8 : Memref sig .tc .vmem S4096x128 .f32) (h8 : a8.IsWhole)
    (T0 : S162.Idx → Elt F .i32) (T1 : S1.Idx → Elt F .i32)
    (x0 : S4096x128.Idx → Elt F .f32) (x1 : S1x1024x2048.Idx → Elt F .f32) (x2 : S1x1x2048.Idx → Elt F .f32)
    (x3 : S1x1024x1024.Idx → Elt F .f32) (x4 : S1x1x1024.Idx → Elt F .f32)
    (w0 : S1024x2048.Idx → Elt F .bf16) (w1 : S1024x1024.Idx → Elt F .bf16)
    (hc : ¬ fresh i T0 T1) (hc2 : ¬ k0_cond2 i (wUsed T1) = 1#1) (hc3 :  k0_cond3 i (wUsed T1) = 1#1) (K : PUnit → sProp 𝕄) :
    iprop((a3.view.loc (c : Thread nD τ) ↦[a3.view.set]{fullShare} a3.view.rep x0)
        ∗ (a4.view.loc (c : Thread nD τ) ↦[a4.view.set]{fullShare} a4.view.rep x1)
        ∗ (a5.view.loc (c : Thread nD τ) ↦[a5.view.set]{fullShare} a5.view.rep x2)
        ∗ (a6.view.loc (c : Thread nD τ) ↦[a6.view.set]{fullShare} a6.view.rep x3)
        ∗ (a7.view.loc (c : Thread nD τ) ↦[a7.view.set]{fullShare} a7.view.rep x4)
        ∗ (tbl0.view.loc (c : Thread nD τ) ↦{fullShare.right} T0)
        ∗ (tbl1.view.loc (c : Thread nD τ) ↦{fullShare.right} T1)
        ∗ (∃ d, owns (c : Thread nD τ) a8 fullShare d)
        ∗ owns (c : Thread nD τ) scr0 fullShare w0
        ∗ owns (c : Thread nD τ) scr1 fullShare w1
        ∗ (iprop((a3.view.loc (c : Thread nD τ) ↦[a3.view.set]{fullShare} a3.view.rep x0)
            ∗ (a4.view.loc (c : Thread nD τ) ↦[a4.view.set]{fullShare} a4.view.rep x1)
            ∗ (a5.view.loc (c : Thread nD τ) ↦[a5.view.set]{fullShare} a5.view.rep x2)
            ∗ (a6.view.loc (c : Thread nD τ) ↦[a6.view.set]{fullShare} a6.view.rep x3)
            ∗ (a7.view.loc (c : Thread nD τ) ↦[a7.view.set]{fullShare} a7.view.rep x4)
            ∗ (tbl0.view.loc (c : Thread nD τ) ↦{fullShare.right} T0)
            ∗ (tbl1.view.loc (c : Thread nD τ) ↦{fullShare.right} T1)
            ∗ owns (c : Thread nD τ) a8 fullShare (k0_pay3 (F := F))
            ∗ owns (c : Thread nD τ) scr0 fullShare w0
            ∗ owns (c : Thread nD τ) scr1 fullShare w1) -∗ K ⟨⟩))
      ⊢ wp frame (wpE (defs₀ (F := F)) Variants.none c none) Set.univ
          (cc0_experts i tbl0 (Memref.isWhole_whole _) tbl1 (Memref.isWhole_whole _) a3 h3 a4 h4 a5 h5 a6 h6 a7 h7 a8 h8 scr0 (Memref.isWhole_whole _) scr1 (Memref.isWhole_whole _)) K := by
  rw [owns_eq_rep (c : Thread nD τ) scr0 fullShare w0, owns_eq_rep (c : Thread nD τ) scr1 fullShare w1]
  unfold owns
  rw [cc0_experts_eq_skeleton]; unfold cc0_experts_skel
  rw [k0_part1_eq_skeleton, k0_part2_eq_skeleton]; unfold k0_part1_skel k0_part2_skel
  iintro ⟨H0, H1, H2, H3, H4, HT0, HT1, ⟨%d5, %f5, -, HO5⟩, HS0, HS1, Hk⟩
  have hS0 : scr0.IsWhole := Memref.isWhole_whole _
  have hS1 : scr1.IsWhole := Memref.isWhole_whole _
  have hT0 : tbl0.IsWhole := Memref.isWhole_whole _
  have hT1 : tbl1.IsWhole := Memref.isWhole_whole _
  sl_exec! (disch := first | (guard_target = ¬(Scalar.cmpi _ _ _ = _); exact hc) | (guard_target = ¬(k0_cond2 _ _ = _); exact hc2) | (guard_target = k0_cond3 _ _ = _; exact hc3))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HO5]
  · iexists _; isplitr; swap
    · iexact HO5
    · ipureintro; exact View.read_writes_full _ _ _ _ _
  isplitl [HS0]; · iexact HS0
  iexact HS1

end Cert.Kernel2Ideal.Moe

end
-- ==== Proof.Moe.Launch.lean ====
/-
  The experts' kernel over its whole grid, at whatever two tables the memory holds, as long as each block they
  select lies inside its array: the schedule's data, the body's obligation at each point, and the run of @main.
  Stated over any float type.
-/
module

public import proofs.«01_k».proof.Proof.Moe.Run
public import Idealize.ShloMosaic.Lib.Pipeline.Kit
public import Idealize.ShloMosaic.Lib.Pipeline.ValueKit
public import Idealize.ShloMosaic.Lib.Ring
public import Idealize.ShloMosaic.Lib.Writes

@[expose] public section

set_option maxRecDepth 16384

noncomputable section

namespace Cert.Kernel2Ideal.Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-- The resources the proof works with. -/
local notation "𝕄" => MT nD τ sig Unit (Elt F) ℕ (UR sig nD τ) ℕ

/-- The rounds library's share of the resources. -/
abbrev EM : Emb (UR sig nD τ) 𝕄 := emb₁

variable (m : (ℓ : Loc nD τ sig) → Buf (Elt F) ℓ) (ρ : Dev nD → PrngReg)

/-- The two tables the memory holds. -/
abbrev tabs : pre0.Contents (Elt F) := fun k => m (((0 : Dev nD) : Thread nD τ).loc (pre0.ref k))
/-- The experts' table and the used-blocks table, each as its array. -/
abbrev tE : S162.Idx → Elt F .i32 := m (((0 : Dev nD) : Thread nD τ).loc main_arg0)
abbrev tU : S1.Idx → Elt F .i32 := m (((0 : Dev nD) : Thread nD τ).loc main_arg1)

variable (hok : ok0 (tabs m))

/-- The schedule at those tables. -/
abbrev adm : (pcfg0 (F := F)).Adm := ⟨tabs m, hok⟩
abbrev cfgA : Cfg sig Λ₀ := cfg0 (F := F) (adm m hok)
abbrev pcs : Fin 1 → Cfg sig Λ₀ := Pipeline.pin (pcfgs (F := F)) fun _ => adm m hok

/-- A point's coordinates. -/
abbrev crd (t : Fin (cfgA m hok).N) : grid0.Coords := (cfgA m hok).grid.coords t

/-- The windows' staging buffers at a point. -/
abbrev st0 (t : Fin (cfgA m hok).N) : Memref sig .tc .vmem S4096x128 .f32 := spec0_0.stage ((cfgA m hok).slots t (0 : Fin 6))
abbrev st1 (t : Fin (cfgA m hok).N) : Memref sig .tc .vmem S1x1024x2048 .f32 := spec0_1.stage ((cfgA m hok).slots t (1 : Fin 6))
abbrev st2 (t : Fin (cfgA m hok).N) : Memref sig .tc .vmem S1x1x2048 .f32 := spec0_2.stage ((cfgA m hok).slots t (2 : Fin 6))
abbrev st3 (t : Fin (cfgA m hok).N) : Memref sig .tc .vmem S1x1024x1024 .f32 := spec0_3.stage ((cfgA m hok).slots t (3 : Fin 6))
abbrev st4 (t : Fin (cfgA m hok).N) : Memref sig .tc .vmem S1x1x1024 .f32 := spec0_4.stage ((cfgA m hok).slots t (4 : Fin 6))
abbrev st5 (t : Fin (cfgA m hok).N) : Memref sig .tc .vmem S4096x128 .f32 := spec0_5.stage ((cfgA m hok).slots t (5 : Fin 6))
abbrev hst0 (t : Fin (cfgA m hok).N) : (st0 m hok t).IsWhole := hstage0_0 (((cfgA m hok).slots t (0 : Fin 6)).cast nbuf0_0)
abbrev hst1 (t : Fin (cfgA m hok).N) : (st1 m hok t).IsWhole := hstage0_1 (((cfgA m hok).slots t (1 : Fin 6)).cast nbuf0_1)
abbrev hst2 (t : Fin (cfgA m hok).N) : (st2 m hok t).IsWhole := hstage0_2 (((cfgA m hok).slots t (2 : Fin 6)).cast nbuf0_2)
abbrev hst3 (t : Fin (cfgA m hok).N) : (st3 m hok t).IsWhole := hstage0_3 (((cfgA m hok).slots t (3 : Fin 6)).cast nbuf0_3)
abbrev hst4 (t : Fin (cfgA m hok).N) : (st4 m hok t).IsWhole := hstage0_4 (((cfgA m hok).slots t (4 : Fin 6)).cast nbuf0_4)
abbrev hst5 (t : Fin (cfgA m hok).N) : (st5 m hok t).IsWhole := hstage0_5 (((cfgA m hok).slots t (5 : Fin 6)).cast nbuf0_5)

/-- Window `w`'s block at point `t`, out of its array. -/
def iblk (c : Dev nD) (w : Fin (cfgA m hok).W) (t : Fin (cfgA m hok).N) : (((cfgA m hok).win w).xblock (crd m hok t)).Idx → Elt F ((cfgA m hok).win w).elt :=
  (((cfgA m hok).win w).blk t).view.read (Elt F) (m (((cfgA m hok).win w).arr.view.loc (c : Thread nD τ)))

/-- The point's expert is used. -/
abbrev used (t : Fin (cfgA m hok).N) : Prop := k0_cond2 (crd m hok t) (wUsed (tU m)) = 1#1

/-! ## The three cases -/

theorem bit_of_word (b : BitVec 1) : Scalar.cmpi .ne (Scalar.extui b : BitVec 32) 0#32 = b := by revert b; decide

theorem bit_iff (p : Bool) : BitVec.ofBool p = 1#1 ↔ p = true := by cases p <;> decide

/-- A point's number as a signed word is itself. -/
theorem point_toInt (n : Fin 162) : (BitVec.ofNat 32 n.val).toInt = (n.val : ℤ) := by revert n; decide +kernel

theorem slt_iff (n : Fin 162) (v : BitVec 32) : Scalar.cmpi .slt (BitVec.ofNat 32 n.val) v = 1#1 ↔ (n.val : ℤ) < v.toInt := by
  show BitVec.ofBool ((BitVec.ofNat 32 n.val).slt v) = 1#1 ↔ _
  rw [bit_iff, BitVec.slt_iff_toInt_lt, point_toInt]

/-- The body uses its expert at the points below the second table's word, and zeroes its block at the others. -/
theorem cond2_iff (i : grid0.Coords) (v : BitVec 32) : k0_cond2 i v = 1#1 ↔ (((i 0).val : ℕ) : ℤ) < v.toInt := by
  unfold k0_cond2
  simp only [bit_of_word]
  exact slt_iff (i 0) v

theorem cond3_iff (i : grid0.Coords) (v : BitVec 32) : k0_cond3 i v = 1#1 ↔ v.toInt ≤ (((i 0).val : ℕ) : ℤ) := by
  unfold k0_cond3
  simp only [bit_of_word]
  show BitVec.ofBool (v.sle (BitVec.ofNat 32 (i 0).val)) = 1#1 ↔ _
  rw [bit_iff, BitVec.sle_iff_toInt_le, point_toInt (i 0)]

theorem two_cases (i : grid0.Coords) (v : Elt F .i32) :
    (k0_cond2 i v = 1#1 ∧ ¬ k0_cond3 i v = 1#1) ∨ (¬ k0_cond2 i v = 1#1 ∧ k0_cond3 i v = 1#1) := by
  rw [cond2_iff i v, cond3_iff i v]; omega

/-- The weights are loaded at the used points that are the first or whose expert is not that of the point before. -/
theorem fresh_iff (i : grid0.Coords) (T0 : S162.Idx → Elt F .i32) (T1 : S1.Idx → Elt F .i32) :
    fresh i T0 T1 ↔ ((i 0).val = 0 ∨ wHere i T0 ≠ wPrev i T0) ∧ k0_cond2 i (wUsed T1) = 1#1 := by
  have hand : ∀ p q : BitVec 1, Scalar.andi p q = 1#1 ↔ p = 1#1 ∧ q = 1#1 := by decide
  have hor : ∀ p q : BitVec 1, Scalar.ori p q = 1#1 ↔ p = 1#1 ∨ q = 1#1 := by decide
  have hzero : ∀ n : Fin 162, Scalar.cmpi .eq (BitVec.ofNat 32 n.val) 0#32 = 1#1 ↔ n.val = 0 := by decide +kernel
  have hne : ∀ a b : BitVec 32, Scalar.cmpi .ne a b = 1#1 ↔ a ≠ b := fun a b => by
    show BitVec.ofBool (a != b) = 1#1 ↔ _
    rw [bit_iff, bne_iff_ne]
  unfold fresh k0_cond2
  simp only [bit_of_word]
  rw [hand, hor]
  exact and_congr (or_congr (hzero (i 0)) (hne _ _)) Iff.rfl

theorem not_fresh {i : grid0.Coords} {T0 : S162.Idx → Elt F .i32} {T1 : S1.Idx → Elt F .i32}
    (h2 : k0_cond2 i (wUsed T1) = 1#1) (hf : ¬ fresh i T0 T1) : (i 0).val ≠ 0 ∧ wHere i T0 = wPrev i T0 := by
  rw [fresh_iff] at hf
  by_contra hc
  exact hf ⟨by by_cases h0 : (i 0).val = 0; · exact .inl h0
               · exact .inr fun he => hc ⟨h0, he⟩, h2⟩

theorem used_pred (i j : grid0.Coords) (v : Elt F .i32) (hij : (j 0).val + 1 = (i 0).val) (h : k0_cond2 i v = 1#1) : k0_cond2 j v = 1#1 := by
  rw [cond2_iff _ v] at h ⊢; omega

/-- The word the body compares with is the one the table holds for the point before. -/
theorem wPrev_eq (i j : grid0.Coords) (T0 : S162.Idx → Elt F .i32) (hij : (j 0).val + 1 = (i 0).val) : wPrev i T0 = wHere j T0 := by
  have h1 : ∀ n : Fin 162, ![(Scalar.indexCast (BitVec.ofNat 32 n.val)).toNat] = ![n.val] := by decide +kernel
  have h2 : ∀ n : Fin 161, ![(Scalar.indexCast (Scalar.maxsi (Scalar.subi (BitVec.ofNat 32 (n.val + 1)) 1#32) 0#32)).toNat] = ![n.val] := by decide +kernel
  have e : k0_off2 i = k0_off1 j := by
    have hj : (j 0).val < 161 := by have := (i 0).isLt; simp only [Shape.rank] at this; exact Nat.lt_of_succ_lt_succ (lt_of_eq_of_lt hij this)
    unfold k0_off2 k0_off1
    simp only [← hij]
    exact (h2 ⟨(j 0).val, hj⟩).trans (h1 (j 0)).symm
  have g : ∀ (o o' : Fin 1 → ℕ) (w : ∀ a, o a + S1.size a ≤ S162.size a) (w' : ∀ a, o' a + S1.size a ≤ S162.size a), o = o' →
      View.readAt (Elt F) tbl0.view (Rect.unit (s := S162) o S1.size w).toLoadRect T0 (Shape.Idx.first (numel1_S1.symm ▸ Nat.one_pos))
        = View.readAt (Elt F) tbl0.view (Rect.unit (s := S162) o' S1.size w').toLoadRect T0 (Shape.Idx.first (numel1_S1.symm ▸ Nat.one_pos)) := by
    intro o o' w w' h; subst h; rfl
  exact g _ _ _ _ e

theorem crd_val (t : Fin (cfgA m hok).N) : (crd m hok t 0).val = t.val :=
  (by decide +kernel : ∀ t : Fin grid0.N, (grid0.coords t 0).val = t.val) t

theorem not_idle (t : Fin (cfgA m hok).N) : (cfgA m hok).idle (5 : Fin 6) ((cfgA m hok).grid.coords t) = false := by
  have h : (cfgA m hok).idle (5 : Fin 6) ((cfgA m hok).grid.coords t)
      = (!(k0_cond2 (crd m hok t) (wUsed (tU m)) == 1#1) && !(k0_cond3 (crd m hok t) (wUsed (tU m)) == 1#1)) := rfl
  rw [h]
  rcases two_cases (crd m hok t) (wUsed (tU m)) with ⟨h2, -⟩ | ⟨-, h3⟩
  · rw [h2]; rfl
  · rw [h3]; simp

/-- Two points at which the table names the same expert have the same weight blocks. -/
theorem iblk1_congr (c : Dev nD) (t s : Fin (cfgA m hok).N) (h : wHere (crd m hok t) (tE m) = wHere (crd m hok s) (tE m)) :
    (iblk m hok c 1 t : S1x1024x2048.Idx → Elt F .f32) = iblk m hok c 1 s := by
  have e : cc0_transform_1 k0_off1_inb numel1_S1 (tabs m) (crd m hok t) = cc0_transform_1 k0_off1_inb numel1_S1 (tabs m) (crd m hok s) :=
    congrArg (fun v : BitVec 32 => ![v.toNat, 0, 0]) h
  funext y
  unfold iblk
  refine congrArg (m (((cfgA m hok).win 1).arr.view.loc (c : Thread nD τ))) (funext fun a => Fin.ext ?_)
  show cc0_transform_1 k0_off1_inb numel1_S1 (tabs m) (crd m hok t) a * _ + _ = cc0_transform_1 k0_off1_inb numel1_S1 (tabs m) (crd m hok s) a * _ + _
  rw [e]; rfl

theorem iblk3_congr (c : Dev nD) (t s : Fin (cfgA m hok).N) (h : wHere (crd m hok t) (tE m) = wHere (crd m hok s) (tE m)) :
    (iblk m hok c 3 t : S1x1024x1024.Idx → Elt F .f32) = iblk m hok c 3 s := by
  have e : cc0_transform_3 k0_off1_inb numel1_S1 (tabs m) (crd m hok t) = cc0_transform_3 k0_off1_inb numel1_S1 (tabs m) (crd m hok s) :=
    congrArg (fun v : BitVec 32 => ![v.toNat, 0, 0]) h
  funext y
  unfold iblk
  refine congrArg (m (((cfgA m hok).win 3).arr.view.loc (c : Thread nD τ))) (funext fun a => Fin.ext ?_)
  show cc0_transform_3 k0_off1_inb numel1_S1 (tabs m) (crd m hok t) a * _ + _ = cc0_transform_3 k0_off1_inb numel1_S1 (tabs m) (crd m hok s) a * _ + _
  rw [e]; rfl

/-! ## The schedule's data -/

/-- The two scratch buffers between points: after a used point they hold its expert's weights. -/
def Phi (c : Dev nD) (t : Fin ((cfgA m hok).N + 1)) : sProp 𝕄 :=
  iprop(∃ (y0 : S1024x2048.Idx → Elt F .bf16) (y1 : S1024x1024.Idx → Elt F .bf16),
    ⌜∀ s : Fin (cfgA m hok).N, s.val + 1 = t.val → used m hok s → y0 = k0_pay1 (iblk m hok c 1 s) ∧ y1 = k0_pay2 (iblk m hok c 3 s)⌝
      ∗ owns (c : Thread nD τ) scr0 fullShare y0 ∗ owns (c : Thread nD τ) scr1 fullShare y1
      ∗ (tbl0.view.loc (c : Thread nD τ) ↦{fullShare.right} tE m) ∗ (tbl1.view.loc (c : Thread nD τ) ↦{fullShare.right} tU m))

/-- The block a point leaves in the result. -/
def result (c : Dev nD) (t : Fin (cfgA m hok).N) : S4096x128.Idx → Elt F .f32 :=
  if used m hok t then
    outBlk (iblk m hok c 0 t) (k0_pay1 (iblk m hok c 1 t)) (iblk m hok c 2 t) (k0_pay2 (iblk m hok c 3 t)) (iblk m hok c 4 t)
  else k0_pay3 (F := F)

def dats (_ : Fin 1) (c : Dev nD) : Dat τ (Elt F) Unit ℕ (UR sig nD τ) ℕ (cfgA m hok) c where
  A w := m (((cfgA m hok).win w).arr.view.loc (c : Thread nD τ))
  after w t := match w with
    | ⟨0, _⟩ => iblk m hok c (0 : Fin 6) t
    | ⟨1, _⟩ => iblk m hok c (1 : Fin 6) t
    | ⟨2, _⟩ => iblk m hok c (2 : Fin 6) t
    | ⟨3, _⟩ => iblk m hok c (3 : Fin 6) t
    | ⟨4, _⟩ => iblk m hok c (4 : Fin 6) t
    | ⟨5, _⟩ => result m hok c t
  Φ t := Phi m hok c t
  q _ := fullShare
  owed _ := 0

theorem after_0 (c : Dev nD) (t : Fin (cfgA m hok).N) : (dats m hok 0 c).after (0 : Fin 6) t = iblk m hok c (0 : Fin 6) t := rfl
theorem after_1 (c : Dev nD) (t : Fin (cfgA m hok).N) : (dats m hok 0 c).after (1 : Fin 6) t = iblk m hok c (1 : Fin 6) t := rfl
theorem after_2 (c : Dev nD) (t : Fin (cfgA m hok).N) : (dats m hok 0 c).after (2 : Fin 6) t = iblk m hok c (2 : Fin 6) t := rfl
theorem after_3 (c : Dev nD) (t : Fin (cfgA m hok).N) : (dats m hok 0 c).after (3 : Fin 6) t = iblk m hok c (3 : Fin 6) t := rfl
theorem after_4 (c : Dev nD) (t : Fin (cfgA m hok).N) : (dats m hok 0 c).after (4 : Fin 6) t = iblk m hok c (4 : Fin 6) t := rfl
theorem after_5 (c : Dev nD) (t : Fin (cfgA m hok).N) : (dats m hok 0 c).after (5 : Fin 6) t = result m hok c t := rfl

theorem before_0 (c : Dev nD) (t : Fin (cfgA m hok).N) (d) : (dats m hok 0 c).before (0 : Fin 6) t d = iblk m hok c (0 : Fin 6) t :=
  ((dats m hok 0 c).before_in_eq_fetched (0 : Fin 6) rfl (fun _ => rfl) (fun _ _ _ => rfl) (fun t => by rw [after_0]; unfold Dat.blockOf iblk; rfl) t d).trans
    (by unfold Dat.fetched Dat.blockOf iblk; rfl)
theorem before_1 (c : Dev nD) (t : Fin (cfgA m hok).N) (d) : (dats m hok 0 c).before (1 : Fin 6) t d = iblk m hok c (1 : Fin 6) t :=
  ((dats m hok 0 c).before_in_eq_fetched (1 : Fin 6) rfl (fun _ => rfl) (fun _ _ _ => rfl) (fun t => by rw [after_1]; unfold Dat.blockOf iblk; rfl) t d).trans
    (by unfold Dat.fetched Dat.blockOf iblk; rfl)
theorem before_2 (c : Dev nD) (t : Fin (cfgA m hok).N) (d) : (dats m hok 0 c).before (2 : Fin 6) t d = iblk m hok c (2 : Fin 6) t :=
  ((dats m hok 0 c).before_in_eq_fetched (2 : Fin 6) rfl (fun _ => rfl) (fun _ _ _ => rfl) (fun t => by rw [after_2]; unfold Dat.blockOf iblk; rfl) t d).trans
    (by unfold Dat.fetched Dat.blockOf iblk; rfl)
theorem before_3 (c : Dev nD) (t : Fin (cfgA m hok).N) (d) : (dats m hok 0 c).before (3 : Fin 6) t d = iblk m hok c (3 : Fin 6) t :=
  ((dats m hok 0 c).before_in_eq_fetched (3 : Fin 6) rfl (fun _ => rfl) (fun _ _ _ => rfl) (fun t => by rw [after_3]; unfold Dat.blockOf iblk; rfl) t d).trans
    (by unfold Dat.fetched Dat.blockOf iblk; rfl)
theorem before_4 (c : Dev nD) (t : Fin (cfgA m hok).N) (d) : (dats m hok 0 c).before (4 : Fin 6) t d = iblk m hok c (4 : Fin 6) t :=
  ((dats m hok 0 c).before_in_eq_fetched (4 : Fin 6) rfl (fun _ => rfl) (fun _ _ _ => rfl) (fun t => by rw [after_4]; unfold Dat.blockOf iblk; rfl) t d).trans
    (by unfold Dat.fetched Dat.blockOf iblk; rfl)

/-- The body on its staging buffers, as the schedule calls it. -/
abbrev bodyAt (t : Fin (cfgA m hok).N) : Prog (TpuEff nD τ sig (Elt F) Λ₀ .tc) PUnit :=
  cc0_experts (crd m hok t) tbl0 (Memref.isWhole_whole _) tbl1 (Memref.isWhole_whole _) (st0 m hok t) (hst0 m hok t) (st1 m hok t) (hst1 m hok t) (st2 m hok t) (hst2 m hok t) (st3 m hok t) (hst3 m hok t) (st4 m hok t) (hst4 m hok t) (st5 m hok t) (hst5 m hok t) scr0 (Memref.isWhole_whole _) scr1 (Memref.isWhole_whole _)

/-- One point, whatever the path: from the inputs' blocks and what the scratch buffers hold to the point's block of the
    result and the scratch buffers the next point finds. -/
theorem point (c : Dev nD) (t : Fin (cfgA m hok).N) (K : PUnit → sProp 𝕄) :
    iprop(Phi m hok c t.castSucc
        ∗ ((st0 m hok t).view.loc (c : Thread nD τ) ↦[(st0 m hok t).view.set]{fullShare} (st0 m hok t).view.rep (iblk m hok c 0 t))
        ∗ ((st1 m hok t).view.loc (c : Thread nD τ) ↦[(st1 m hok t).view.set]{fullShare} (st1 m hok t).view.rep (iblk m hok c 1 t))
        ∗ ((st2 m hok t).view.loc (c : Thread nD τ) ↦[(st2 m hok t).view.set]{fullShare} (st2 m hok t).view.rep (iblk m hok c 2 t))
        ∗ ((st3 m hok t).view.loc (c : Thread nD τ) ↦[(st3 m hok t).view.set]{fullShare} (st3 m hok t).view.rep (iblk m hok c 3 t))
        ∗ ((st4 m hok t).view.loc (c : Thread nD τ) ↦[(st4 m hok t).view.set]{fullShare} (st4 m hok t).view.rep (iblk m hok c 4 t))
        ∗ (∃ d, owns (c : Thread nD τ) (st5 m hok t) fullShare d)
        ∗ (iprop(Phi m hok c t.succ
            ∗ ((st0 m hok t).view.loc (c : Thread nD τ) ↦[(st0 m hok t).view.set]{fullShare} (st0 m hok t).view.rep (iblk m hok c 0 t))
            ∗ ((st1 m hok t).view.loc (c : Thread nD τ) ↦[(st1 m hok t).view.set]{fullShare} (st1 m hok t).view.rep (iblk m hok c 1 t))
            ∗ ((st2 m hok t).view.loc (c : Thread nD τ) ↦[(st2 m hok t).view.set]{fullShare} (st2 m hok t).view.rep (iblk m hok c 2 t))
            ∗ ((st3 m hok t).view.loc (c : Thread nD τ) ↦[(st3 m hok t).view.set]{fullShare} (st3 m hok t).view.rep (iblk m hok c 3 t))
            ∗ ((st4 m hok t).view.loc (c : Thread nD τ) ↦[(st4 m hok t).view.set]{fullShare} (st4 m hok t).view.rep (iblk m hok c 4 t))
            ∗ owns (c : Thread nD τ) (st5 m hok t) fullShare (result m hok c t)) -∗ K ⟨⟩))
      ⊢ wp frame (wpE (defs₀ (F := F)) Variants.none c none) Set.univ (bodyAt m hok t) K := by
  unfold Phi
  rcases two_cases (crd m hok t) (wUsed (tU m)) with ⟨h2, h3⟩ | ⟨h2, h3⟩
  · have hr : result m hok c t = outBlk (iblk m hok c 0 t) (k0_pay1 (iblk m hok c 1 t)) (iblk m hok c 2 t) (k0_pay2 (iblk m hok c 3 t)) (iblk m hok c 4 t) := if_pos h2
    rw [hr]
    by_cases hf : fresh (crd m hok t) (tE m) (tU m)
    · iintro ⟨⟨%y0, %y1, -, HS0, HS1, HT0, HT1⟩, H0, H1, H2, H3, H4, H5, Hk⟩
      iapply (runA c (crd m hok t) (st0 m hok t) (hst0 m hok t) (st1 m hok t) (hst1 m hok t) (st2 m hok t) (hst2 m hok t) (st3 m hok t) (hst3 m hok t) (st4 m hok t) (hst4 m hok t) (st5 m hok t) (hst5 m hok t)
        (tE m) (tU m) (iblk m hok c 0 t) (iblk m hok c 1 t) (iblk m hok c 2 t) (iblk m hok c 3 t) (iblk m hok c 4 t) y0 y1 hf h2 h3 K)
      isplitl [H0]; · iexact H0
      isplitl [H1]; · iexact H1
      isplitl [H2]; · iexact H2
      isplitl [H3]; · iexact H3
      isplitl [H4]; · iexact H4
      isplitl [HT0]; · iexact HT0
      isplitl [HT1]; · iexact HT1
      isplitl [H5]; · iexact H5
      isplitl [HS0]; · iexact HS0
      isplitl [HS1]; · iexact HS1
      iintro ⟨H0, H1, H2, H3, H4, HT0, HT1, H5, HS0, HS1⟩
      iapply Hk
      isplitl [HS0 HS1 HT0 HT1]
      · iexists (k0_pay1 (iblk m hok c 1 t)), (k0_pay2 (iblk m hok c 3 t))
        isplitr
        · ipureintro
          intro s hs _
          obtain rfl : s = t := Fin.ext (by have := hs; simp only [Fin.val_succ] at this; omega)
          exact ⟨rfl, rfl⟩
        isplitl [HS0]; · iexact HS0
        isplitl [HS1]; · iexact HS1
        isplitl [HT0]; · iexact HT0
        iexact HT1
      isplitl [H0]; · iexact H0
      isplitl [H1]; · iexact H1
      isplitl [H2]; · iexact H2
      isplitl [H3]; · iexact H3
      isplitl [H4]; · iexact H4
      iexact H5
    · obtain ⟨h0, hw⟩ := not_fresh h2 hf
      have ht0 : t.val ≠ 0 := fun h => h0 ((crd_val m hok t).trans h)
      let s : Fin (cfgA m hok).N := ⟨t.val - 1, by omega⟩
      have hst : (crd m hok s 0).val + 1 = (crd m hok t 0).val := by rw [crd_val, crd_val]; show t.val - 1 + 1 = t.val; omega
      have hus : used m hok s := used_pred _ _ _ hst h2
      have hws : wHere (crd m hok s) (tE m) = wHere (crd m hok t) (tE m) := (wPrev_eq _ _ _ hst).symm.trans hw.symm
      have e1 : (iblk m hok c 1 s : S1x1024x2048.Idx → Elt F .f32) = iblk m hok c 1 t := iblk1_congr m hok c s t hws
      have e3 : (iblk m hok c 3 s : S1x1024x1024.Idx → Elt F .f32) = iblk m hok c 3 t := iblk3_congr m hok c s t hws
      iintro ⟨⟨%y0, %y1, %hy, HS0, HS1, HT0, HT1⟩, H0, H1, H2, H3, H4, H5, Hk⟩
      obtain ⟨hy0, hy1⟩ := hy s (by show t.val - 1 + 1 = t.val; omega) hus
      replace hy0 : y0 = k0_pay1 (iblk m hok c 1 t) := hy0.trans (congrArg k0_pay1 e1)
      replace hy1 : y1 = k0_pay2 (iblk m hok c 3 t) := hy1.trans (congrArg k0_pay2 e3)
      subst hy0 hy1
      iapply (runB c (crd m hok t) (st0 m hok t) (hst0 m hok t) (st1 m hok t) (hst1 m hok t) (st2 m hok t) (hst2 m hok t) (st3 m hok t) (hst3 m hok t) (st4 m hok t) (hst4 m hok t) (st5 m hok t) (hst5 m hok t)
        (tE m) (tU m) (iblk m hok c 0 t) (iblk m hok c 1 t) (iblk m hok c 2 t) (iblk m hok c 3 t) (iblk m hok c 4 t) (k0_pay1 (iblk m hok c 1 t)) (k0_pay2 (iblk m hok c 3 t)) hf h2 h3 K)
      isplitl [H0]; · iexact H0
      isplitl [H1]; · iexact H1
      isplitl [H2]; · iexact H2
      isplitl [H3]; · iexact H3
      isplitl [H4]; · iexact H4
      isplitl [HT0]; · iexact HT0
      isplitl [HT1]; · iexact HT1
      isplitl [H5]; · iexact H5
      isplitl [HS0]; · iexact HS0
      isplitl [HS1]; · iexact HS1
      iintro ⟨H0, H1, H2, H3, H4, HT0, HT1, H5, HS0, HS1⟩
      iapply Hk
      isplitl [HS0 HS1 HT0 HT1]
      · iexists (k0_pay1 (iblk m hok c 1 t)), (k0_pay2 (iblk m hok c 3 t))
        isplitr
        · ipureintro
          intro s hs _
          obtain rfl : s = t := Fin.ext (by have := hs; simp only [Fin.val_succ] at this; omega)
          exact ⟨rfl, rfl⟩
        isplitl [HS0]; · iexact HS0
        isplitl [HS1]; · iexact HS1
        isplitl [HT0]; · iexact HT0
        iexact HT1
      isplitl [H0]; · iexact H0
      isplitl [H1]; · iexact H1
      isplitl [H2]; · iexact H2
      isplitl [H3]; · iexact H3
      isplitl [H4]; · iexact H4
      iexact H5
  · have hf : ¬ fresh (crd m hok t) (tE m) (tU m) := fun hf => h2 ((fresh_iff _ _ _).mp hf).2
    have hr : result m hok c t = k0_pay3 (F := F) := if_neg h2
    rw [hr]
    iintro ⟨⟨%y0, %y1, -, HS0, HS1, HT0, HT1⟩, H0, H1, H2, H3, H4, H5, Hk⟩
    iapply (runC c (crd m hok t) (st0 m hok t) (hst0 m hok t) (st1 m hok t) (hst1 m hok t) (st2 m hok t) (hst2 m hok t) (st3 m hok t) (hst3 m hok t) (st4 m hok t) (hst4 m hok t) (st5 m hok t) (hst5 m hok t)
      (tE m) (tU m) (iblk m hok c 0 t) (iblk m hok c 1 t) (iblk m hok c 2 t) (iblk m hok c 3 t) (iblk m hok c 4 t) y0 y1 hf h2 h3 K)
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [H5]; · iexact H5
    isplitl [HS0]; · iexact HS0
    isplitl [HS1]; · iexact HS1
    iintro ⟨H0, H1, H2, H3, H4, HT0, HT1, H5, HS0, HS1⟩
    iapply Hk
    isplitl [HS0 HS1 HT0 HT1]
    · iexists y0, y1
      isplitr
      · ipureintro
        intro s hs hu
        obtain rfl : s = t := Fin.ext (by have := hs; simp only [Fin.val_succ] at this; omega)
        exact absurd hu h2
      isplitl [HS0]; · iexact HS0
      isplitl [HS1]; · iexact HS1
      isplitl [HT0]; · iexact HT0
      iexact HT1
    isplitl [H0]; · iexact H0
    isplitl [H1]; · iexact H1
    isplitl [H2]; · iexact H2
    isplitl [H3]; · iexact H3
    isplitl [H4]; · iexact H4
    iexact H5

end Cert.Kernel2Ideal.Moe

end
-- ==== Proof.Moe.Frame.lean ====
/-
  The experts' kernel's @main from its grid: it runs whatever the two tables hold, as long as each block they
  select lies inside its array; the argument arrays end unchanged and the result array holds the points' blocks.
-/
module

public import proofs.«01_k».proof.Proof.Moe.Launch

@[expose] public section

set_option maxRecDepth 16384

noncomputable section

namespace Cert.Kernel2Ideal.Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-- The resources the proof works with. -/
local notation "𝕄" => MT nD τ sig Unit (Elt F) ℕ (UR sig nD τ) ℕ

variable (m : (ℓ : Loc nD τ sig) → Buf (Elt F) ℓ) (ρ : Dev nD → PrngReg) (hok : ok0 (tabs m))

set_option maxHeartbeats 4000000 in
/-- The body at a point, as the schedule states what it must do. -/
theorem body_at (c : Dev nD) (t : Fin (cfgA m hok).N) :
    iprop((dats m hok 0 c).Φ t.castSucc ∗ (dats m hok 0 c).owesAt () t.castSucc
        ∗ (∃ d, owns (c : Thread nD τ) (st0 m hok t) fullShare ((dats m hok 0 c).before (0 : Fin 6) t d))
        ∗ (∃ d, owns (c : Thread nD τ) (st1 m hok t) fullShare ((dats m hok 0 c).before (1 : Fin 6) t d))
        ∗ (∃ d, owns (c : Thread nD τ) (st2 m hok t) fullShare ((dats m hok 0 c).before (2 : Fin 6) t d))
        ∗ (∃ d, owns (c : Thread nD τ) (st3 m hok t) fullShare ((dats m hok 0 c).before (3 : Fin 6) t d))
        ∗ (∃ d, owns (c : Thread nD τ) (st4 m hok t) fullShare ((dats m hok 0 c).before (4 : Fin 6) t d))
        ∗ (∃ d, owns (c : Thread nD τ) (st5 m hok t) fullShare ((dats m hok 0 c).before (5 : Fin 6) t d)))
      ⊢ wp frame (wpE (defs₀ (F := F)) Variants.none c none) Set.univ (bodyAt m hok t) fun _ =>
          iprop((dats m hok 0 c).Φ t.succ ∗ (dats m hok 0 c).owesAt () t.succ
            ∗ bigSep Finset.univ fun w : Fin (cfgA m hok).W =>
                match (cfgA m hok).idle w ((cfgA m hok).grid.coords t) with
                | true =>
                  match ((cfgA m hok).win w).flush t with
                  | false => iprop(∃ d, owns (c : Thread nD τ) (((cfgA m hok).win w).stage ((cfgA m hok).slots t w)) fullShare ((dats m hok 0 c).before w t d))
                  | true => owns (c : Thread nD τ) (((cfgA m hok).win w).stage ((cfgA m hok).slots t w)) fullShare ((dats m hok 0 c).after w t)
                | false => owns (c : Thread nD τ) (((cfgA m hok).win w).stage ((cfgA m hok).slots t w)) fullShare ((dats m hok 0 c).after w t)) := by
  rw [bigSep_W0]
  rewrite [not_idle m hok t]
  simp only [before_0, before_1, before_2, before_3, before_4, after_0, after_1, after_2, after_3, after_4, after_5]
  rewrite [show (dats m hok 0 c).Φ t.succ = Phi m hok c t.succ from rfl, show (dats m hok 0 c).Φ t.castSucc = Phi m hok c t.castSucc from rfl,
    show (dats m hok 0 c).owesAt () t.succ = (dats m hok 0 c).owesAt () t.castSucc from rfl]
  iintro ⟨HP, Ho, ⟨%d0, H0⟩, ⟨%d1, H1⟩, ⟨%d2, H2⟩, ⟨%d3, H3⟩, ⟨%d4, H4⟩, ⟨%d5, H5⟩⟩
  iapply (point m hok c t _)
  isplitl [HP]; · iexact HP
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iexists _; iexact H5
  iintro ⟨HP, H0, H1, H2, H3, H4, H5⟩
  isplitl [HP]; · iexact HP
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  iexact H5

theorem body_obligation (c : Dev nD) : BodyObligation (dats m hok 0 c) (defs₀ (F := F)) Variants.none () Set.univ := fun t => by
  rw [bigSep_W0]
  exact body_at m hok c t

/-! ## The launch -/

/-- What the launch starts from. -/
def start : UR sig nD τ :=
  initOf (Pipeline.cells (pcs m hok) ((launch0 (F := F)).cellOf_inj fun _ => adm m hok))
    (Pipeline.launchToks (pcs m hok) ((launch0 (F := F)).cellOf_inj fun _ => adm m hok))

theorem share_full (c : Dev nD) (w : Fin (cfgA m hok).W) : (dats m hok 0 c).share w = fullShare := by unfold Dat.share; split <;> rfl

theorem tables_held (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem enter (c : Dev nD) :
    iprop(BI.emp ∗ Pipeline.prefHeld pre0 c (fun _ => fullShare.right) (adm m hok).1 ∗ Pipeline.scopedRest spec0 c) ⊢ (dats m hok 0 c).Φ 0 := by
  rw [tables_held, scopedRest0_eq, show (dats m hok 0 c).Φ 0 = Phi m hok c 0 from rfl]
  unfold Phi
  iintro ⟨-, ⟨HT0, HT1⟩, ⟨%a0, HS0⟩, ⟨%a1, HS1⟩⟩
  iexists a0, a1
  isplitr
  · ipureintro; intro s hs; exact absurd hs (Nat.succ_ne_zero _)
  isplitl [HS0]; · rw [owns_whole]; iexact HS0
  isplitl [HS1]; · rw [owns_whole]; iexact HS1
  isplitl [HT0]; · iexact HT0
  iexact HT1

theorem leave (c : Dev nD) : (dats m hok 0 c).Φ (Fin.last (cfgA m hok).N) ⊢ iprop(BI.emp ∗ Pipeline.scopedRest spec0 c) := by
  rw [scopedRest0_eq, show (dats m hok 0 c).Φ (Fin.last (cfgA m hok).N) = Phi m hok c (Fin.last _) from rfl]
  unfold Phi
  iintro ⟨%a0, %a1, -, HS0, HS1, -, -⟩
  isplitr; · iempintro
  isplitl [HS0]
  · iexists a0; rw [owns_whole]; exact .rfl
  iexists a1; rw [owns_whole]; exact .rfl

/-- Every array as the schedule leaves it, every table as it was. -/
def Done : PUnit × MemSt nD τ sig (Elt F) → Prop := fun r =>
  ∀ c : Dev nD, (∀ w : Fin (cfgA m hok).W, r.2.mem (((cfgA m hok).win w).arr.view.loc (c : Thread nD τ)) = (dats m hok 0 c).arrAt w (cfgA m hok).N)
    ∧ ∀ j, r.2.mem ((c : Thread nD τ).loc (pre0.ref j)) = tabs m j

theorem tables_read (c : Dev nD) (j : Fin 2) : m ((c : Thread nD τ).loc (pre0.ref j)) = (adm m hok).1 j := by
  obtain rfl : c = 0 := Subsingleton.elim _ _
  rfl

set_option backward.isDefEq.respectTransparency.types false in
set_option maxHeartbeats 4000000 in
/-- @main from any memory with zero counters: every array ends as the schedule leaves it, every counter at zero. -/
theorem run : θ_run (defs (F := F)) (onTc (τ := τ) (main (F := F))) ⟨m, fun _ => 0, ρ⟩ (fun r => Done m hok r ∧ r.2.sem = fun _ => 0) :=
  Pipeline.θ_run_region_noSem_pf_quiescent pcfgs (fun _ => adm m hok) (dats m hok) () ((launch0 (F := F)).cellOf_inj fun _ => adm m hok) (0 : Fin 1)
    (launch0 (F := F)).win.to₀ (launch0 (F := F)).pre EM defs₀ Variants.none m ρ main
    (hbody := fun c => (body_obligation m hok c).loose) (hne := (launch0 (F := F)).block_pos)
    (harr := (launch0 (F := F)).arr_whole) (hstage := (launch0 (F := F)).stage_whole) (howed := fun _ _ => rfl)
    (u₀ := start m hok) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m hok) (dats m hok) 0 (launch0 (F := F)).win.arr_inj c (launch0 (F := F)).arr_whole
      (share_full m hok c) _ _ fun _ => rfl)
    (hpf := tables_read m hok)
    (X := fun _ => iprop(emp)) (Y := fun _ => iprop(emp)) (Z := fun _ => iprop(emp))
    (hX := fun c => by rw [unscopedRestP0_eq]; iintro -; isplitr <;> iempintro)
    (hin := enter m hok)
    (hout := leave m hok)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The final memory: the result array as the schedule leaves it, the arguments unchanged, the counters at zero. -/
theorem run_all :
    θ_run (defs (F := F)) (onTc (τ := τ) (main (F := F))) ⟨m, fun _ => 0, ρ⟩ (fun r => (∀ c : Dev nD,
      r.2.mem ((c.tc : Thread nD τ).loc main_v0) = (dats m hok 0 c).arrAt (5 : Fin 6) (cfgA m hok).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h.1 c).1 (5 : Fin 6), ((h.1 c).2 0).trans (tables_read m hok c 0).symm, ((h.1 c).2 1).trans (tables_read m hok c 1).symm,
    ((h.1 c).1 (0 : Fin 6)).trans ((dats m hok 0 c).arrAt_in (0 : Fin 6) rfl _), ((h.1 c).1 (1 : Fin 6)).trans ((dats m hok 0 c).arrAt_in (1 : Fin 6) rfl _),
    ((h.1 c).1 (2 : Fin 6)).trans ((dats m hok 0 c).arrAt_in (2 : Fin 6) rfl _), ((h.1 c).1 (3 : Fin 6)).trans ((dats m hok 0 c).arrAt_in (3 : Fin 6) rfl _),
    ((h.1 c).1 (4 : Fin 6)).trans ((dats m hok 0 c).arrAt_in (4 : Fin 6) rfl _)⟩, h.2⟩) (run m ρ hok)

/-- The frame: the arguments end unchanged and the counters at zero. -/
theorem frame_at (hok : ok0 (tabs m)) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => (h.1 c).2, h.2⟩) (run_all m ρ hok)

/-! ## From the range of the experts' table -/

theorem and_bit (p q : Bool) : IntOp.andi (BitVec.ofBool p) (BitVec.ofBool q) = BitVec.ofBool (p && q) := by cases p <;> cases q <;> rfl

/-- A word in the experts' range is below 32. -/
theorem word_lt {v : BitVec 32} (h : IntOp.andi (IntOp.cmpi .sge v 0#32) (IntOp.cmpi .slt v 32#32) = 1#1) : v.toNat < 32 := by
  simp only [IntOp.cmpi, and_bit, bit_iff, Bool.and_eq_true, BitVec.sle_eq_decide, BitVec.slt_eq_decide, decide_eq_true_eq, BitVec.toInt_eq_toNat_cond, BitVec.toNat_ofNat, Nat.reducePow, Nat.reduceMod] at h
  omega

/-- Blocks of the first `n` of 32 experts lie inside their arrays. -/
theorem in_array {n : ℕ} (h : n < 32) (d e : ℕ) (a : Fin 3) : ((![n, 0, 0] : Fin 3 → ℕ) a + 1) * (![1, d, e] : Fin 3 → ℕ) a ≤ (![32, d, e] : Fin 3 → ℕ) a := by
  fin_cases a <;> simp <;> omega

theorem ok_of_lt (h : ∀ x : S162.Idx, BitVec.toNat (tE m x) < 32) : ok0 (tabs m) :=
  ⟨fun i => ⟨fun a => in_array (h _) 1024 2048 a, .inl rfl⟩, fun i => ⟨fun a => in_array (h _) 1 2048 a, .inl rfl⟩,
    fun i => ⟨fun a => in_array (h _) 1024 1024 a, .inl rfl⟩, fun i => ⟨fun a => in_array (h _) 1 1024 a, .inl rfl⟩⟩

end Cert.Kernel2Ideal.Moe

end
-- ==== Proof.Moe.Spec.lean ====
module

public import proofs.«01_k».proof.Proof.Gen.Kernel2Ideal
public import Idealize.ShloMosaic.Lib.Pointwise

@[expose] public section

/-! # One row of tokens through one expert, over the extended reals -/

noncomputable section

namespace Cert.Moe

open Idealize.ShloMosaic

/-- The gate and up columns: the token against the expert's first weights, plus the bias. -/
def proj (x : Fin 1024 → EReal) (w : Fin 1024 → Fin 2048 → EReal) (b : Fin 2048 → EReal) (j : Fin 2048) : EReal :=
  (∑ k : Fin 1024, x k * w k j) + b j

/-- The clamped gate times its scaled sigmoid, times the clamped up column plus one. -/
def act (g u : EReal) : EReal :=
  min g (Ideal.ofBits .f32 0x40E00000#32)
    * Ideal.div 1 (1 + Ideal.exp (-(Ideal.ofBits .f32 0x3FD9DB23#32 * min g (Ideal.ofBits .f32 0x40E00000#32))))
    * (min (Ideal.ofBits .f32 0x40E00000#32) (max (Ideal.ofBits .f32 0xC0E00000#32) u) + 1)

/-- The expert's output for the token in column `f`. -/
def expert (x : Fin 1024 → EReal) (w : Fin 1024 → Fin 2048 → EReal) (b : Fin 2048 → EReal)
    (wd : Fin 1024 → Fin 1024 → EReal) (bd : Fin 1024 → EReal) (f : Fin 1024) : EReal :=
  (∑ k : Fin 1024, act (proj x w b ⟨k.val, by omega⟩) (proj x w b ⟨1024 + k.val, by omega⟩) * wd k f) + bd f

end Cert.Moe
-- ==== Proof.Moe.Block.lean ====
module

public import proofs.«01_k».proof.Proof.Moe.Run
public import proofs.«01_k».proof.Proof.Moe.Spec
public import Idealize.ShloMosaic.Lib.Pipeline.ValueKit

@[expose] public section

set_option maxRecDepth 16384

/-! # The block the experts' kernel leaves, read at an index -/

noncomputable section

namespace Cert.Kernel2Ideal.Moe

open Cert.Kernel2Ideal Cert.Kernel2Ideal.Gen Cert.Moe Idealize.ShloMosaic

variable (x0 : S4096x128.Idx → Elt Ideal .f32) (w0 : S1024x2048.Idx → Elt Ideal .bf16) (x2 : S1x1x2048.Idx → Elt Ideal .f32)
  (w1 : S1024x1024.Idx → Elt Ideal .bf16) (x4 : S1x1x1024.Idx → Elt Ideal .f32)

/-- The token block's rows `s`, `s + 8`, … at row `r`. -/
theorem rows_apply (s : ℕ) (hs : s < 8)
    (inb : ∀ a : Fin S4096x128.rank, S512x128.size a = 0 ∨ (![s, 0] : Fin 2 → Nat) a + (![8, 1] : Fin 2 → Nat) a * (S512x128.size a - 1) < S4096x128.size a)
    (r : Fin 512) (l : Fin 128) :
    rows x0 ⟨![s, 0], S512x128.size, ![8, 1], inb⟩ (ix2 r l) = x0 (ix2 ⟨8 * r.val + s, by omega⟩ l) := by
  refine congrArg x0 (funext fun a => Fin.ext ?_)
  match a with
  | 0 => show s + 8 * r.val = 8 * r.val + s; omega
  | 1 => show 0 + 1 * l.val = l.val; omega

/-- The token in row `r`: eight rows of the block side by side. -/
abbrev token (r : Fin 512) (k : Fin 1024) : EReal := x0 (ix2 ⟨8 * r.val + k.val / 128, by omega⟩ ⟨k.val % 128, by omega⟩)

/-- Two positions of the block with equal coordinates are the same. -/
theorem pair (a b : Fin 4096) (c d : Fin 128) (h : a.val = b.val) (h' : c.val = d.val) :
    (ix2 a c : S4096x128.Idx) = ix2 b d := by
  rw [Fin.ext h, Fin.ext h']

/-- The eight sets of rows side by side are the tokens. -/
theorem cat_apply (r : Fin 512) (k : Fin 1024) :
    concatenate S512x1024 1 [⟨S512x128, rows x0 ld0⟩, ⟨S512x128, rows x0 ld1⟩, ⟨S512x128, rows x0 ld2⟩, ⟨S512x128, rows x0 ld3⟩, ⟨S512x128, rows x0 ld4⟩, ⟨S512x128, rows x0 ld5⟩, ⟨S512x128, rows x0 ld6⟩, ⟨S512x128, rows x0 ld7⟩] concatenates_S512x128_S512x128_S512x128_S512x128_S512x128_S512x128_S512x128_S512x128_S512x1024_d1 (ix2 r k)
      = token x0 r k := by
  have hk := k.isLt
  pointwise []
  by_cases h0 : k.val < 128
  · rw [dif_pos h0]
    exact (rows_apply x0 0 (by decide) _ _ _).trans (congrArg x0 (pair _ _ _ _ (by show 8 * r.val + 0 = 8 * r.val + k.val / 128; omega) (by show k.val = k.val % 128; omega)))
  rw [dif_neg h0]
  by_cases h1 : k.val - 128 < 128
  · rw [dif_pos h1]
    exact (rows_apply x0 1 (by decide) _ _ _).trans (congrArg x0 (pair _ _ _ _ (by show 8 * r.val + 1 = 8 * r.val + k.val / 128; omega) (by show k.val - 128 = k.val % 128; omega)))
  rw [dif_neg h1]
  by_cases h2 : k.val - 128 - 128 < 128
  · rw [dif_pos h2]
    exact (rows_apply x0 2 (by decide) _ _ _).trans (congrArg x0 (pair _ _ _ _ (by show 8 * r.val + 2 = 8 * r.val + k.val / 128; omega) (by show k.val - 128 - 128 = k.val % 128; omega)))
  rw [dif_neg h2]
  by_cases h3 : k.val - 128 - 128 - 128 < 128
  · rw [dif_pos h3]
    exact (rows_apply x0 3 (by decide) _ _ _).trans (congrArg x0 (pair _ _ _ _ (by show 8 * r.val + 3 = 8 * r.val + k.val / 128; omega) (by show k.val - 128 - 128 - 128 = k.val % 128; omega)))
  rw [dif_neg h3]
  by_cases h4 : k.val - 128 - 128 - 128 - 128 < 128
  · rw [dif_pos h4]
    exact (rows_apply x0 4 (by decide) _ _ _).trans (congrArg x0 (pair _ _ _ _ (by show 8 * r.val + 4 = 8 * r.val + k.val / 128; omega) (by show k.val - 128 - 128 - 128 - 128 = k.val % 128; omega)))
  rw [dif_neg h4]
  by_cases h5 : k.val - 128 - 128 - 128 - 128 - 128 < 128
  · rw [dif_pos h5]
    exact (rows_apply x0 5 (by decide) _ _ _).trans (congrArg x0 (pair _ _ _ _ (by show 8 * r.val + 5 = 8 * r.val + k.val / 128; omega) (by show k.val - 128 - 128 - 128 - 128 - 128 = k.val % 128; omega)))
  rw [dif_neg h5]
  by_cases h6 : k.val - 128 - 128 - 128 - 128 - 128 - 128 < 128
  · rw [dif_pos h6]
    exact (rows_apply x0 6 (by decide) _ _ _).trans (congrArg x0 (pair _ _ _ _ (by show 8 * r.val + 6 = 8 * r.val + k.val / 128; omega) (by show k.val - 128 - 128 - 128 - 128 - 128 - 128 = k.val % 128; omega)))
  rw [dif_neg h6]
  exact (rows_apply x0 7 (by decide) _ _ _).trans (congrArg x0 (pair _ _ _ _ (by show 8 * r.val + 7 = 8 * r.val + k.val / 128; omega) (by show k.val - 128 - 128 - 128 - 128 - 128 - 128 - 128 = k.val % 128; omega)))

/-- The gate and up columns of the tokens. -/
abbrev up : FVec Ideal S512x2048 .f32 :=
  k0_pay4 (rows x0 ld0) (rows x0 ld1) (rows x0 ld2) (rows x0 ld3) (rows x0 ld4) (rows x0 ld5) (rows x0 ld6) (rows x0 ld7) w0 x2

theorem up_apply (r : Fin 512) (j : Fin 2048) :
    up x0 w0 x2 (ix2 r j) = proj (token x0 r) (fun k j => w0 (ix2 k j)) (fun j => x2 (ix3 0 0 j)) j := by
  unfold up k0_pay4
  generalize hc : concatenate _ _ _ _ = X
  have hX : ∀ r k, X (ix2 r k) = token x0 r k := fun r k => by rw [← hc]; exact cat_apply x0 r k
  clear hc
  pointwise []
  simp only [hX]
  rfl

theorem gate_apply (r : Fin 512) (k : Fin 1024) :
    gate x0 w0 x2 (ix2 r k) = min (up x0 w0 x2 (ix2 r ⟨k.val, by omega⟩)) (Ideal.ofBits .f32 0x40E00000#32) := by
  unfold gate k0_pay5
  pointwise []

theorem line_apply (r : Fin 512) (k : Fin 1024) :
    line x0 w0 x2 (ix2 r k) = min (Ideal.ofBits .f32 0x40E00000#32) (max (Ideal.ofBits .f32 0xC0E00000#32) (up x0 w0 x2 (ix2 r ⟨1024 + k.val, by omega⟩))) := by
  unfold line k0_pay6
  pointwise []

theorem denom_apply (r : Fin 512) (k : Fin 1024) :
    denom x0 w0 x2 (ix2 r k) = 1 + Ideal.exp (0 - Ideal.ofBits .f32 0x3FD9DB23#32 * gate x0 w0 x2 (ix2 r k)) := by
  unfold denom k0_pay7
  pointwise []

/-- The experts' result in row `r`, column `f`. -/
theorem down_apply (r : Fin 512) (f : Fin 1024) :
    k0_pay8 (gate x0 w0 x2) (line x0 w0 x2) (denom x0 w0 x2) (Scalar.ofBits .f32 0x3F800000#32) w1 x4 (ix2 r f)
      = expert (token x0 r) (fun k j => w0 (ix2 k j)) (fun j => x2 (ix3 0 0 j)) (fun k f => w1 (ix2 k f)) (fun f => x4 (ix3 0 0 f)) f := by
  have hg := gate_apply x0 w0 x2
  have hl := line_apply x0 w0 x2
  have hd := denom_apply x0 w0 x2
  generalize gate x0 w0 x2 = g at *
  generalize line x0 w0 x2 = u at *
  generalize denom x0 w0 x2 = d at *
  unfold k0_pay8
  pointwise []
  unfold expert act
  simp only [hd, hl, hg, up_apply, zero_sub]

/-- The experts' result, the eight column blocks of a row put in eight rows one below the other. -/
def spread (D : S512x1024.Idx → Elt Ideal .f32) (y : S4096x128.Idx) : Elt Ideal .f32 :=
  D (ix2 ⟨(y 0).val / 8, by have h : (y 0).val < 4096 := (y 0).isLt; omega⟩
    ⟨(y 0).val % 8 * 128 + (y 1).val, by have h : (y 1).val < 128 := (y 1).isLt; omega⟩)

theorem piece_spread (D : S512x1024.Idx → Elt Ideal .f32) (s : ℕ) (hs : s < 8) (p : S512x128.Idx → Elt Ideal .f32)
    (hp : ∀ r l, p (ix2 r l) = D (ix2 r ⟨s * 128 + l.val, by omega⟩))
    (inb : ∀ a : Fin S4096x128.rank, S512x128.size a = 0 ∨ (![s, 0] : Fin 2 → Nat) a + (![8, 1] : Fin 2 → Nat) a * (S512x128.size a - 1) < S4096x128.size a)
    (x : S512x128.Idx) : p x = spread D ((⟨⟨![s, 0], S512x128.size, ![8, 1], inb⟩, spos_8_1⟩ : Rect S4096x128).emb x) := by
  obtain ⟨r, l, rfl⟩ : ∃ (r : Fin 512) (l : Fin 128), x = ix2 r l := ⟨x 0, x 1, ValueIdx.eq_ix2 x⟩
  rw [hp]
  unfold spread
  refine congrArg D ?_
  have h0 : (((⟨⟨![s, 0], S512x128.size, ![8, 1], inb⟩, spos_8_1⟩ : Rect S4096x128).emb (ix2 r l) 0 : Fin 4096) : ℕ) = s + 8 * r.val := rfl
  have h1 : (((⟨⟨![s, 0], S512x128.size, ![8, 1], inb⟩, spos_8_1⟩ : Rect S4096x128).emb (ix2 r l) 1 : Fin 128) : ℕ) = 0 + 1 * l.val := rfl
  funext a
  apply Fin.ext
  match a with
  | 0 => show r.val = _ / 8; rw [h0]; omega
  | 1 => show s * 128 + l.val = _ % 8 * 128 + _; rw [h0, h1]; omega

/-- The block a used point leaves, at row `8 r + s`, column `l`: the experts' result in row `r`, column `128 s + l`. -/
theorem outBlk_apply (y : S4096x128.Idx) :
    outBlk x0 w0 x2 w1 x4 y
      = spread (k0_pay8 (gate x0 w0 x2) (line x0 w0 x2) (denom x0 w0 x2) (Scalar.ofBits .f32 0x3F800000#32) w1 x4) y := by
  unfold outBlk outPieces
  generalize gate x0 w0 x2 = g
  generalize line x0 w0 x2 = u
  generalize denom x0 w0 x2 = d
  refine View.canon_apply_of_pieces _ _ ?_ y (cover8 _ _ _ _ _ _ _ _ y)
  unfold k0_pay9 k0_pay10 k0_pay11 k0_pay12 k0_pay13 k0_pay14 k0_pay15 k0_pay16
  generalize k0_pay8 g u d _ w1 x4 = D
  intro p hp x
  simp only [List.mem_cons, List.not_mem_nil, or_false] at hp
  rcases hp with rfl | rfl | rfl | rfl | rfl | rfl | rfl | rfl
  · exact piece_spread D 7 (by decide) _ (fun r l => by pointwise []) _ x
  · exact piece_spread D 6 (by decide) _ (fun r l => by pointwise []) _ x
  · exact piece_spread D 5 (by decide) _ (fun r l => by pointwise []) _ x
  · exact piece_spread D 4 (by decide) _ (fun r l => by pointwise []) _ x
  · exact piece_spread D 3 (by decide) _ (fun r l => by pointwise []) _ x
  · exact piece_spread D 2 (by decide) _ (fun r l => by pointwise []) _ x
  · exact piece_spread D 1 (by decide) _ (fun r l => by pointwise []) _ x
  · exact piece_spread D 0 (by decide) _ (fun r l => by pointwise []) _ x

end Cert.Kernel2Ideal.Moe
-- ==== Proof.Moe.RefRead.lean ====
module

public import proofs.«01_k».proof.Proof.Gen.Reference2Ideal.Read
public import proofs.«01_k».proof.Proof.Moe.Spec

@[expose] public section

set_option maxRecDepth 16384

/-! # The experts' reference read at an index -/

noncomputable section

namespace Cert.Moe.Ref

open Cert.Reference2Ideal Cert.Reference2Ideal.Read Idealize.ShloMosaic

/-- Slabs of a three-axis table picked by a column of numbers: where the column holds at `c` a number below the table's length,
    entry `(c, y, z)` of the result is that slab's entry `(y, z)`. -/
theorem gather_slab {α : Type} {nb A B n : Nat} (d : GatherDims ⟨3, ![nb, A, B]⟩ ⟨2, ![n, 1]⟩ ⟨3, ![n, A, B]⟩)
    (hoff : d.offsetDims = [1, 2]) (hcoll : d.collapsedSliceDims = [0]) (hob : d.operandBatchingDims = [])
    (hsim : d.startIndexMap = [0]) (hivd : d.indexVectorDim = 1) (x : (⟨3, ![nb, A, B]⟩ : Shape).Idx → α) (idx : IVec ⟨2, ![n, 1]⟩ 32)
    (c : Fin n) (y : Fin A) (z : Fin B) (hb : (idx (ix2 c (0 : Fin 1))).toNat < nb) (hnb : nb < 2 ^ 31) :
    Host.gather d x idx (ix3 c y z) = x (ix3 ⟨(idx (ix2 c (0 : Fin 1))).toNat, hb⟩ y z) := by
  obtain ⟨od, cd, obd, sbd, sim, ivd, ss, wf⟩ := d
  dsimp only at hoff hcoll hob hsim hivd
  subst hoff hcoll hob hsim hivd
  have hsl : ss 0 = 1 := GatherDims.slice_collapsed ⟨[1, 2], [0], [], sbd, [0], 1, ss, wf⟩ 0 (by simp)
  refine congrArg x (funext fun a => Fin.ext ?_)
  match a with
  | ⟨0, _⟩ =>
    show GatherDims.start _ _ _ 0 + GatherDims.batchCoord _ _ 0 + GatherDims.offCoord _ _ 0 = (idx (ix2 c (0 : Fin 1))).toNat
    rw [GatherDims.batchCoord_eq_zero _ _ _ (by simp), GatherDims.offCoord_eq_zero _ _ _ (by rw [GatherDims.mem_sKept]; simp)]
    unfold GatherDims.start
    rw [dif_pos (by simp)]
    generalize hs : GatherDims.siIdx _ _ _ = s
    have hsi : s = ix2 c (0 : Fin 1) := by
      subst hs
      funext b'
      apply Fin.ext
      match b' with
      | ⟨0, _⟩ => unfold GatherDims.siIdx; rw [dif_neg (by simp)]; rfl
      | ⟨1, _⟩ => unfold GatherDims.siIdx; rw [dif_pos rfl]; rfl
    rw [hsi]
    show min (idx (ix2 c (0 : Fin 1))).toInt.toNat (nb - ss 0) + 0 + 0 = _
    rw [hsl, BitVec.toInt_eq_toNat_of_lt (by omega)]
    omega
  | ⟨1, _⟩ =>
    show GatherDims.start _ _ _ 1 + GatherDims.batchCoord _ _ 1 + GatherDims.offCoord _ _ 1 = y.val
    rw [GatherDims.batchCoord_eq_zero _ _ _ (by simp)]
    unfold GatherDims.start GatherDims.offCoord
    rw [dif_neg (by simp), dif_pos (by rw [GatherDims.mem_sKept]; simp)]
    show 0 + 0 + _ = _
    rw [Nat.add_zero, Nat.zero_add]
    rfl
  | ⟨2, _⟩ =>
    show GatherDims.start _ _ _ 2 + GatherDims.batchCoord _ _ 2 + GatherDims.offCoord _ _ 2 = z.val
    rw [GatherDims.batchCoord_eq_zero _ _ _ (by simp)]
    unfold GatherDims.start GatherDims.offCoord
    rw [dif_neg (by simp), dif_pos (by rw [GatherDims.mem_sKept]; simp)]
    show 0 + 0 + _ = _
    rw [Nat.add_zero, Nat.zero_add]
    rfl

/-- A number below 32 is not negative, so the wrapped number is the number itself. -/
theorem wrap (v : BitVec 32) (h : v.toNat < 32) : Scalar.select (IntOp.cmpi .slt v 0#32) (IntOp.addi v 32#32) v = v := by
  have hs : BitVec.slt v 0#32 = false := by
    simp only [BitVec.slt, BitVec.toInt_eq_toNat_of_lt (show 2 * v.toNat < 2 ^ 32 by omega)]
    simp
  show (if BitVec.ofBool (BitVec.slt v 0#32) = 1#1 then _ else _) = _
  rw [hs]; rfl

variable (x0 : (⟨S162, .i32⟩ : BufTy).Contents (Elt Ideal)) (x1 : (⟨S1, .i32⟩ : BufTy).Contents (Elt Ideal))
  (x2 : (⟨S663552x128, .f32⟩ : BufTy).Contents (Elt Ideal)) (x3 : (⟨S32x1024x2048, .f32⟩ : BufTy).Contents (Elt Ideal))
  (x4 : (⟨S32x1x2048, .f32⟩ : BufTy).Contents (Elt Ideal)) (x5 : (⟨S32x1024x1024, .f32⟩ : BufTy).Contents (Elt Ideal))
  (x6 : (⟨S32x1x1024, .f32⟩ : BufTy).Contents (Elt Ideal)) (hlt : ∀ x : S162.Idx, (x0 x).toNat < 32)

include hlt

theorem v6_eq (c : Fin 162) : val_main_v6 (F := Ideal) x0 (ix2 c (0 : Fin 1)) = x0 (ix1 c) := by
  pointwise [val_main_v6, val_main_v5, val_main_v4, val_main_v3, val_main_v2, val_main_v1, val_main_c, val_main_c_0]
  exact wrap _ (hlt _)
theorem v14_eq (c : Fin 162) : val_main_v14 (F := Ideal) x0 (ix2 c (0 : Fin 1)) = x0 (ix1 c) := by
  pointwise [val_main_v14, val_main_v13, val_main_v12, val_main_v11, val_main_v10, val_main_v9, val_main_c_1, val_main_c_2]
  exact wrap _ (hlt _)
theorem v40_eq (c : Fin 162) : val_main_v40 (F := Ideal) x0 (ix2 c (0 : Fin 1)) = x0 (ix1 c) := by
  pointwise [val_main_v40, val_main_v39, val_main_v38, val_main_v37, val_main_v36, val_main_v35, val_main_c_9, val_main_c_10]
  exact wrap _ (hlt _)
theorem v48_eq (c : Fin 162) : val_main_v48 (F := Ideal) x0 (ix2 c (0 : Fin 1)) = x0 (ix1 c) := by
  pointwise [val_main_v48, val_main_v47, val_main_v46, val_main_v45, val_main_v44, val_main_v43, val_main_c_11, val_main_c_12]
  exact wrap _ (hlt _)

theorem v7_eq (c : Fin 162) (k : Fin 1024) (j : Fin 2048) :
    val_main_v7 (F := Ideal) x0 x3 (ix3 c k j) = x3 (ix3 ⟨(x0 (ix1 c)).toNat, hlt _⟩ k j) := by
  unfold val_main_v7
  have e := v6_eq x0 hlt c
  rw [gather_slab _ rfl rfl rfl rfl rfl _ _ _ _ _ (by rw [e]; exact hlt _) (by norm_num)]
  simp only [e]
theorem v15_eq (c : Fin 162) (k : Fin 1) (j : Fin 2048) :
    val_main_v15 (F := Ideal) x0 x4 (ix3 c k j) = x4 (ix3 ⟨(x0 (ix1 c)).toNat, hlt _⟩ k j) := by
  unfold val_main_v15
  have e := v14_eq x0 hlt c
  rw [gather_slab _ rfl rfl rfl rfl rfl _ _ _ _ _ (by rw [e]; exact hlt _) (by norm_num)]
  simp only [e]
theorem v41_eq (c : Fin 162) (k : Fin 1024) (j : Fin 1024) :
    val_main_v41 (F := Ideal) x0 x5 (ix3 c k j) = x5 (ix3 ⟨(x0 (ix1 c)).toNat, hlt _⟩ k j) := by
  unfold val_main_v41
  have e := v40_eq x0 hlt c
  rw [gather_slab _ rfl rfl rfl rfl rfl _ _ _ _ _ (by rw [e]; exact hlt _) (by norm_num)]
  simp only [e]
theorem v49_eq (c : Fin 162) (k : Fin 1) (j : Fin 1024) :
    val_main_v49 (F := Ideal) x0 x6 (ix3 c k j) = x6 (ix3 ⟨(x0 (ix1 c)).toNat, hlt _⟩ k j) := by
  unfold val_main_v49
  have e := v48_eq x0 hlt c
  rw [gather_slab _ rfl rfl rfl rfl rfl _ _ _ _ _ (by rw [e]; exact hlt _) (by norm_num)]
  simp only [e]

omit hlt in
/-- Row `r` of block `c` of the tokens. -/
theorem v0_eq (c : Fin 162) (r : Fin 512) (k : Fin 1024) :
    val_main_v0 (F := Ideal) x2 (ix3 c r k) = x2 (ix2 ⟨c.val * 4096 + r.val * 8 + k.val / 128, by omega⟩ ⟨k.val % 128, by omega⟩) := by
  rw [val_main_v0_apply]
  refine congrArg x2 (funext fun a => Fin.ext ?_)
  have hk := k.isLt
  match a with
  | 0 => show ((c.val * 512 + r.val) * 1024 + k.val) / 128 = c.val * 4096 + r.val * 8 + k.val / 128; omega
  | 1 => show ((c.val * 512 + r.val) * 1024 + k.val) % 128 = k.val % 128; omega

theorem v17_eq (c : Fin 162) (r : Fin 512) (j : Fin 2048) :
    val_main_v17 (F := Ideal) x0 x2 x3 x4 (ix3 c r j)
      = proj (fun k => val_main_v0 (F := Ideal) x2 (ix3 c r k)) (fun k j => x3 (ix3 ⟨(x0 (ix1 c)).toNat, hlt _⟩ k j))
          (fun j => x4 (ix3 ⟨(x0 (ix1 c)).toNat, hlt _⟩ 0 j)) j := by
  pointwise [val_main_v17, val_main_v16, val_main_v8]
  simp only [v7_eq x0 x3 hlt, v15_eq x0 x4 hlt]
  rfl

theorem v34_eq (c : Fin 162) (r : Fin 512) (k : Fin 1024) :
    val_main_v34 (F := Ideal) x0 x2 x3 x4 (ix3 c r k)
      = act (val_main_v17 (F := Ideal) x0 x2 x3 x4 (ix3 c r ⟨k.val, by omega⟩)) (val_main_v17 (F := Ideal) x0 x2 x3 x4 (ix3 c r ⟨1024 + k.val, by omega⟩)) := by
  pointwise [val_main_v34, val_main_v33, val_main_v32, val_main_cst_8, val_main_v31, val_main_v30, val_main_v29, val_main_cst_7, val_main_v28, val_main_v27, val_main_cst_6, val_main_v26, val_main_v25, val_main_v24, val_main_v23, val_main_cst_5, val_main_v22, val_main_call0_v4, val_main_call0_v3, val_main_call0_v2, val_main_call0_v1, val_main_call0_v0, val_main_cst_3, val_main_cst_4, val_main_v21, val_main_v20, val_main_v19, val_main_cst, val_main_v18]
  unfold act
  rfl

theorem v51_eq (c : Fin 162) (r : Fin 512) (f : Fin 1024) :
    val_main_v51 (F := Ideal) x0 x2 x3 x4 x5 x6 (ix3 c r f)
      = expert (fun k => val_main_v0 (F := Ideal) x2 (ix3 c r k)) (fun k j => x3 (ix3 ⟨(x0 (ix1 c)).toNat, hlt _⟩ k j))
          (fun j => x4 (ix3 ⟨(x0 (ix1 c)).toNat, hlt _⟩ 0 j)) (fun k f => x5 (ix3 ⟨(x0 (ix1 c)).toNat, hlt _⟩ k f))
          (fun f => x6 (ix3 ⟨(x0 (ix1 c)).toNat, hlt _⟩ 0 f)) f := by
  pointwise [val_main_v51, val_main_v50, val_main_v42]
  simp only [v41_eq x0 x5 hlt, v49_eq x0 x6 hlt, v34_eq x0 x2 x3 x4 hlt, v17_eq x0 x2 x3 x4 hlt]
  rfl

omit hlt in
theorem v57_eq (c : Fin 162) (r : Fin 512) (f : Fin 1024) :
    val_main_v57 (F := Ideal) x0 x1 x2 x3 x4 x5 x6 (ix3 c r f)
      = if (c.val : ℤ) < (x1 (ix1 (0 : Fin 1))).toInt then val_main_v51 (F := Ideal) x0 x2 x3 x4 x5 x6 (ix3 c r f) else 0 := by
  pointwise [val_main_v57, val_main_call1_v2, val_main_call1_v1, val_main_v56, val_main_v55, val_main_v54, val_main_v53, val_main_v52]
  have hz : val_main_call1_v0 (F := Ideal) ix0 = (0 : EReal) := by
    rw [val_main_call1_v0_apply, val_main_cst_13_apply]
    exact Ideal.ofBits_zero .f32
  rw [hz]
  have hc : (BitVec.ofNat 32 c.val).toInt = (c.val : ℤ) := by
    have := c.isLt
    rw [BitVec.toInt_eq_toNat_of_lt (by rw [BitVec.toNat_ofNat]; omega), BitVec.toNat_ofNat, Nat.mod_eq_of_lt (by omega)]
  show (if BitVec.ofBool (BitVec.slt (BitVec.ofNat 32 c.val) (x1 (ix1 0))) = 1#1 then _ else _) = _
  unfold BitVec.slt
  rw [hc]
  by_cases h : (c.val : ℤ) < (x1 (ix1 (0 : Fin 1))).toInt
  · rw [if_pos h, decide_eq_true h]; rfl
  · rw [if_neg h, decide_eq_false h]; rfl

/-- The reference's result on row `8 r + s` of block `c`, column `l`: the expert's output where the block is in use, zero elsewhere. -/
theorem result_eq (c : Fin 162) (r : Fin 512) (s : Fin 8) (l : Fin 128) :
    val_main_v58 (F := Ideal) x0 x1 x2 x3 x4 x5 x6 (ix2 ⟨c.val * 4096 + r.val * 8 + s.val, by omega⟩ l)
      = if (c.val : ℤ) < (x1 (ix1 (0 : Fin 1))).toInt then
          expert (fun k => x2 (ix2 ⟨c.val * 4096 + r.val * 8 + k.val / 128, by omega⟩ ⟨k.val % 128, by omega⟩))
            (fun k j => x3 (ix3 ⟨(x0 (ix1 c)).toNat, hlt _⟩ k j)) (fun j => x4 (ix3 ⟨(x0 (ix1 c)).toNat, hlt _⟩ 0 j))
            (fun k f => x5 (ix3 ⟨(x0 (ix1 c)).toNat, hlt _⟩ k f)) (fun f => x6 (ix3 ⟨(x0 (ix1 c)).toNat, hlt _⟩ 0 f))
            ⟨s.val * 128 + l.val, by omega⟩
        else 0 := by
  have hi : idx_main_v58 (ix2 ⟨c.val * 4096 + r.val * 8 + s.val, by omega⟩ l) = ix3 c r (⟨s.val * 128 + l.val, by omega⟩ : Fin 1024) := by
    have hr := r.isLt
    have hs := s.isLt
    have hl := l.isLt
    funext a
    apply Fin.ext
    match a with
    | 0 => show ((c.val * 4096 + r.val * 8 + s.val) * 128 + l.val) / 524288 = c.val; omega
    | 1 => show ((c.val * 4096 + r.val * 8 + s.val) * 128 + l.val) / 1024 % 512 = r.val; omega
    | 2 => show ((c.val * 4096 + r.val * 8 + s.val) * 128 + l.val) % 1024 = s.val * 128 + l.val; omega
  rw [val_main_v58_apply, hi, v57_eq, v51_eq x0 x2 x3 x4 x5 x6 hlt]
  rw [funext (v0_eq x2 c r)]

end Cert.Moe.Ref
-- ==== Proof.Moe.Final.lean ====
module

public import proofs.«01_k».proof.Proof.Moe.Frame
public import proofs.«01_k».proof.Proof.Moe.Block
public import proofs.«01_k».proof.Proof.Moe.RefRead

@[expose] public section

set_option maxRecDepth 16384

/-! # The array the experts' kernel leaves is the reference's -/

noncomputable section

namespace Cert.Kernel2Ideal.Moe

open Cert.Kernel2Ideal Cert.Kernel2Ideal.Gen Cert.Moe Idealize.ShloMosaic Idealize.ShloMosaic.TcCoe Idealize.SL.Sem
open Idealize.ShloMosaic.Pipeline (Dat Window)

variable (m : (ℓ : Loc nD τ sig) → Buf (Elt Ideal) ℓ) (hok : ok0 (tabs m)) (c : Dev nD)

/-- The arguments the windows read: the tokens, the experts' weights and biases. -/
abbrev aX : S663552x128.Idx → Elt Ideal .f32 := m ((c : Thread nD τ).loc main_arg2)
abbrev aW : S32x1024x2048.Idx → Elt Ideal .f32 := m ((c : Thread nD τ).loc main_arg3)
abbrev aB : S32x1x2048.Idx → Elt Ideal .f32 := m ((c : Thread nD τ).loc main_arg4)
abbrev aD : S32x1024x1024.Idx → Elt Ideal .f32 := m ((c : Thread nD τ).loc main_arg5)
abbrev aE : S32x1x1024.Idx → Elt Ideal .f32 := m ((c : Thread nD τ).loc main_arg6)

theorem index0 : ∀ t : Fin grid0.N, cc0_transform_0 (grid0.coords t) = ![t.val, 0] := by decide +kernel
theorem index5 : ∀ t : Fin grid0.N, cc0_transform_5 (grid0.coords t) = ![t.val, 0] := by decide +kernel
theorem off1 : ∀ t : Fin grid0.N, k0_off1 (grid0.coords t) = ![t.val] := by decide +kernel

/-- The word the body reads at point `t` is the table's word `t`. -/
theorem wHere_eq (t : Fin grid0.N) : wHere (grid0.coords t) (tE m) = tE m (ix1 (⟨t.val, t.isLt⟩ : Fin 162)) := by
  refine congrArg (tE m) (funext fun a => Fin.ext ?_)
  match a with
  | 0 =>
    show k0_off1 (grid0.coords t) 0 + 1 * 0 = t.val
    rw [off1]; rfl

theorem wUsed_eq : wUsed (tU m) = tU m (ix1 (0 : Fin 1)) := by
  refine congrArg (tU m) (funext fun a => Fin.ext ?_)
  match a with
  | 0 => rfl

/-- Two positions of an array with equal coordinates are the same. -/
theorem at2 {a b : ℕ} (x y : (⟨2, ![a, b]⟩ : Shape).Idx) (h0 : (x 0).val = (y 0).val) (h1 : (x 1).val = (y 1).val) : x = y := by
  funext k
  apply Fin.ext
  match k with
  | 0 => exact h0
  | 1 => exact h1

theorem at3 {a b d : ℕ} (x y : (⟨3, ![a, b, d]⟩ : Shape).Idx) (h0 : (x 0).val = (y 0).val) (h1 : (x 1).val = (y 1).val)
    (h2 : (x 2).val = (y 2).val) : x = y := by
  funext k
  apply Fin.ext
  match k with
  | 0 => exact h0
  | 1 => exact h1
  | 2 => exact h2

theorem iblk0_apply (t : Fin grid0.N) (r : Fin 4096) (l : Fin 128) :
    (iblk m hok c 0 t : S4096x128.Idx → Elt Ideal .f32) (ix2 r l) = aX m c (ix2 ⟨t.val * 4096 + r.val, by have h : t.val < 162 := t.isLt; omega⟩ l) := by
  unfold iblk
  exact congrArg (aX m c) (at2 _ _
    (by show cc0_transform_0 (grid0.coords t) 0 * 4096 + 1 * r.val = t.val * 4096 + r.val; rw [index0]; show t.val * 4096 + 1 * r.val = _; omega)
    (by show cc0_transform_0 (grid0.coords t) 1 * 128 + 1 * l.val = l.val; rw [index0]; show 0 * 128 + 1 * l.val = _; omega))

variable (hlt : ∀ x : S162.Idx, BitVec.toNat (tE m x) < 32)

theorem expert_at (t : Fin grid0.N) : (wHere (grid0.coords t) (tE m)).toNat * 1 + 1 * 0 = (tE m (ix1 (⟨t.val, t.isLt⟩ : Fin 162))).toNat := by
  rw [wHere_eq]; omega

theorem iblk1_apply (t : Fin grid0.N) (k : Fin 1024) (j : Fin 2048) :
    (iblk m hok c 1 t : S1x1024x2048.Idx → Elt Ideal .f32) (ix3 0 k j)
      = aW m c (ix3 ⟨(tE m (ix1 (⟨t.val, t.isLt⟩ : Fin 162))).toNat, hlt _⟩ k j) := by
  unfold iblk
  exact congrArg (aW m c) (at3 _ _ (expert_at m t) (by show 0 * 1024 + 1 * k.val = k.val; omega) (by show 0 * 2048 + 1 * j.val = j.val; omega))

theorem iblk2_apply (t : Fin grid0.N) (j : Fin 2048) :
    (iblk m hok c 2 t : S1x1x2048.Idx → Elt Ideal .f32) (ix3 0 0 j)
      = aB m c (ix3 ⟨(tE m (ix1 (⟨t.val, t.isLt⟩ : Fin 162))).toNat, hlt _⟩ 0 j) := by
  unfold iblk
  exact congrArg (aB m c) (at3 _ _ (expert_at m t) rfl (by show 0 * 2048 + 1 * j.val = j.val; omega))

theorem iblk3_apply (t : Fin grid0.N) (k : Fin 1024) (f : Fin 1024) :
    (iblk m hok c 3 t : S1x1024x1024.Idx → Elt Ideal .f32) (ix3 0 k f)
      = aD m c (ix3 ⟨(tE m (ix1 (⟨t.val, t.isLt⟩ : Fin 162))).toNat, hlt _⟩ k f) := by
  unfold iblk
  exact congrArg (aD m c) (at3 _ _ (expert_at m t) (by show 0 * 1024 + 1 * k.val = k.val; omega) (by show 0 * 1024 + 1 * f.val = f.val; omega))

theorem iblk4_apply (t : Fin grid0.N) (f : Fin 1024) :
    (iblk m hok c 4 t : S1x1x1024.Idx → Elt Ideal .f32) (ix3 0 0 f)
      = aE m c (ix3 ⟨(tE m (ix1 (⟨t.val, t.isLt⟩ : Fin 162))).toNat, hlt _⟩ 0 f) := by
  unfold iblk
  exact congrArg (aE m c) (at3 _ _ (expert_at m t) rfl (by show 0 * 1024 + 1 * f.val = f.val; omega))

theorem pay1_apply (x : S1x1024x2048.Idx → Elt Ideal .f32) (k : Fin 1024) (j : Fin 2048) :
    k0_pay1 (F := Ideal) x (ix2 k j) = x (ix3 0 k j) := by
  unfold k0_pay1
  pointwise []

theorem pay2_apply (x : S1x1024x1024.Idx → Elt Ideal .f32) (k : Fin 1024) (f : Fin 1024) :
    k0_pay2 (F := Ideal) x (ix2 k f) = x (ix3 0 k f) := by
  unfold k0_pay2
  pointwise []

theorem expert_congr {x x' : Fin 1024 → EReal} {w w' : Fin 1024 → Fin 2048 → EReal} {b b' : Fin 2048 → EReal}
    {d d' : Fin 1024 → Fin 1024 → EReal} {e e' : Fin 1024 → EReal} (hx : ∀ k, x k = x' k) (hw : ∀ k j, w k j = w' k j)
    (hb : ∀ j, b j = b' j) (hd : ∀ k f, d k f = d' k f) (he : ∀ f, e f = e' f) (f : Fin 1024) :
    expert x w b d e f = expert x' w' b' d' e' f := by
  obtain rfl : x = x' := funext hx
  obtain rfl : w = w' := funext fun k => funext (hw k)
  obtain rfl : b = b' := funext hb
  obtain rfl : d = d' := funext fun k => funext (hd k)
  obtain rfl : e = e' := funext he
  rfl

theorem token_eq (t : Fin grid0.N) (r : Fin 512) (k : Fin 1024) :
    token (iblk m hok c 0 t) r k
      = aX m c (ix2 ⟨t.val * 4096 + r.val * 8 + k.val / 128, by have h : t.val < 162 := t.isLt; omega⟩ ⟨k.val % 128, by omega⟩) := by
  have ht : t.val < 162 := t.isLt
  refine (iblk0_apply m hok c t ⟨8 * r.val + k.val / 128, by omega⟩ ⟨k.val % 128, by omega⟩).trans (congrArg (aX m c)
    (at2 (ix2 ⟨t.val * 4096 + (8 * r.val + k.val / 128), by omega⟩ ⟨k.val % 128, by omega⟩) (ix2 ⟨t.val * 4096 + r.val * 8 + k.val / 128, by omega⟩ ⟨k.val % 128, by omega⟩) ?_ rfl))
  show t.val * 4096 + (8 * r.val + k.val / 128) = t.val * 4096 + r.val * 8 + k.val / 128
  omega

/-- Row `8 r + s`, column `l` of the block a point leaves. -/
theorem result_apply (t : Fin grid0.N) (r : Fin 512) (s : Fin 8) (l : Fin 128) :
    result m hok c t (ix2 ⟨8 * r.val + s.val, by omega⟩ l)
      = if (t.val : ℤ) < (tU m (ix1 (0 : Fin 1))).toInt then
          expert (fun k => aX m c (ix2 ⟨t.val * 4096 + r.val * 8 + k.val / 128, by have h : t.val < 162 := t.isLt; omega⟩ ⟨k.val % 128, by omega⟩))
            (fun k j => aW m c (ix3 ⟨(tE m (ix1 (⟨t.val, t.isLt⟩ : Fin 162))).toNat, hlt _⟩ k j))
            (fun j => aB m c (ix3 ⟨(tE m (ix1 (⟨t.val, t.isLt⟩ : Fin 162))).toNat, hlt _⟩ 0 j))
            (fun k f => aD m c (ix3 ⟨(tE m (ix1 (⟨t.val, t.isLt⟩ : Fin 162))).toNat, hlt _⟩ k f))
            (fun f => aE m c (ix3 ⟨(tE m (ix1 (⟨t.val, t.isLt⟩ : Fin 162))).toNat, hlt _⟩ 0 f))
            ⟨s.val * 128 + l.val, by omega⟩
        else 0 := by
  have hu : used m hok t ↔ (t.val : ℤ) < (tU m (ix1 (0 : Fin 1))).toInt := by
    show k0_cond2 _ _ = 1#1 ↔ _
    rw [cond2_iff, wUsed_eq, crd_val]
  unfold result
  by_cases h : used m hok t
  · rw [if_pos h, if_pos (hu.1 h)]
    have hs : ∀ D : S512x1024.Idx → Elt Ideal .f32, spread D (ix2 ⟨8 * r.val + s.val, by omega⟩ l) = D (ix2 r ⟨s.val * 128 + l.val, by omega⟩) := fun D => by
      have hr := r.isLt
      have hs := s.isLt
      have hl := l.isLt
      unfold spread
      exact congrArg D (at2 _ _ (by show (8 * r.val + s.val) / 8 = r.val; omega)
        (by show (8 * r.val + s.val) % 8 * 128 + l.val = s.val * 128 + l.val; omega))
    refine (outBlk_apply (iblk m hok c 0 t) (k0_pay1 (iblk m hok c 1 t)) (iblk m hok c 2 t) (k0_pay2 (iblk m hok c 3 t)) (iblk m hok c 4 t) _).trans
      ((hs _).trans ((down_apply (iblk m hok c 0 t) (k0_pay1 (iblk m hok c 1 t)) (iblk m hok c 2 t) (k0_pay2 (iblk m hok c 3 t)) (iblk m hok c 4 t) r _).trans ?_))
    exact expert_congr
      (token_eq m hok c t r)
      (fun k j => (pay1_apply _ k j).trans (iblk1_apply m hok c hlt t k j)) (iblk2_apply m hok c hlt t)
      (fun k f => (pay2_apply _ k f).trans (iblk3_apply m hok c hlt t k f)) (iblk4_apply m hok c hlt t) _
  · rw [if_neg h, if_neg (fun h' => h (hu.2 h'))]
    unfold k0_pay3
    exact Ideal.ofBits_zero .f32

theorem flush5 : ∀ t : Fin grid0.N, Window.flushOf grid0 true cc0_transform_5 t = true := by decide +kernel

/-- Where the output window's block of point `t` puts its row `y 0`, column `y 1`. -/
theorem out_emb (t : Fin grid0.N) (r : Fin 4096) (l : Fin 128) :
    ((((cfgA m hok).win (5 : Fin 6)).blk t).view.emb (ix2 r l : S4096x128.Idx) : S663552x128.Idx)
      = ix2 ⟨t.val * 4096 + r.val, by have h : t.val < 162 := t.isLt; omega⟩ l :=
  at2 _ _
    (by show cc0_transform_5 (grid0.coords t) 0 * 4096 + 1 * r.val = t.val * 4096 + r.val; rw [index5]; show t.val * 4096 + 1 * r.val = _; omega)
    (by show cc0_transform_5 (grid0.coords t) 1 * 128 + 1 * l.val = l.val; rw [index5]; show 0 * 128 + 1 * l.val = _; omega)

/-- A row of the block is `8 r + s`. -/
theorem split_row (y : S4096x128.Idx) :
    ∃ (r : Fin 512) (s : Fin 8) (l : Fin 128), y = (ix2 ⟨8 * r.val + s.val, by omega⟩ l : S4096x128.Idx) := by
  have h0 : (y 0).val < 4096 := (y 0).isLt
  refine ⟨⟨(y 0).val / 8, by omega⟩, ⟨(y 0).val % 8, by omega⟩, y 1, at2 y _ ?_ rfl⟩
  show (y 0).val = 8 * ((y 0).val / 8) + (y 0).val % 8
  omega

include hlt in
/-- What a point leaves is the reference's result where its block lies. -/
theorem point_eq (t : Fin grid0.N) (y : S4096x128.Idx) :
    result m hok c t y = Cert.Reference2Ideal.Read.val_main_v58 (F := Ideal) (tE m) (tU m) (aX m c) (aW m c) (aB m c) (aD m c) (aE m c)
      ((((cfgA m hok).win (5 : Fin 6)).blk t).view.emb y : S663552x128.Idx) := by
  have ht : t.val < 162 := t.isLt
  obtain ⟨r, s, l, rfl⟩ := split_row y
  refine (result_apply m hok c hlt t r s l).trans ((Ref.result_eq (tE m) (tU m) (aX m c) (aW m c) (aB m c) (aD m c) (aE m c) hlt ⟨t.val, ht⟩ r s l).symm.trans
    (congrArg _ ((at2 (ix2 ⟨t.val * 4096 + r.val * 8 + s.val, by omega⟩ l) (ix2 ⟨t.val * 4096 + (8 * r.val + s.val), by omega⟩ l) ?_ rfl).trans
      (out_emb m hok t ⟨8 * r.val + s.val, by omega⟩ l).symm)))
  show t.val * 4096 + r.val * 8 + s.val = t.val * 4096 + (8 * r.val + s.val)
  omega

include hlt in
/-- The array after the last point is the reference's result of the same arguments. -/
theorem final :
    (dats m hok 0 c).arrAt (5 : Fin 6) (cfgA m hok).N
      = Cert.Reference2Ideal.Read.val_main_v58 (F := Ideal) (tE m) (tU m) (aX m c) (aW m c) (aB m c) (aD m c) (aE m c) := by
  refine (dats m hok 0 c).arrAt_eq_of_emb (5 : Fin 6) _ (fun t hf y => point_eq m hok c hlt t y) fun i => ?_
  have h0 : (i 0).val < 663552 := (i 0).isLt
  have hq : (i 0).val / 4096 < 162 := by omega
  refine ⟨⟨(i 0).val / 4096, hq⟩, (Window.flush_eq_flushOf _ _).trans (flush5 ⟨(i 0).val / 4096, hq⟩), ?_⟩
  have he : i = (((cfgA m hok).win (5 : Fin 6)).blk ⟨(i 0).val / 4096, hq⟩).view.emb (ix2 ⟨(i 0).val % 4096, by omega⟩ (i 1) : S4096x128.Idx) :=
    (at2 i (ix2 ⟨(i 0).val / 4096 * 4096 + (i 0).val % 4096, by omega⟩ (i 1)) (by show (i 0).val = (i 0).val / 4096 * 4096 + (i 0).val % 4096; omega) rfl).trans
      (out_emb m hok ⟨(i 0).val / 4096, hq⟩ ⟨(i 0).val % 4096, by omega⟩ (i 1)).symm
  exact (congrArg (· ∈ (((cfgA m hok).win (5 : Fin 6)).blk ⟨(i 0).val / 4096, hq⟩).view.set) he).mpr
    (View.emb_mem_set (((cfgA m hok).win (5 : Fin 6)).blk ⟨(i 0).val / 4096, hq⟩).view (ix2 ⟨(i 0).val % 4096, by omega⟩ (i 1) : S4096x128.Idx))

end Cert.Kernel2Ideal.Moe
-- ==== Proof.Inproj.Run.lean ====
/-
  The input projection's kernel, one grid point at a time: what its body leaves in the output blocks and in the scratch
  buffer, on each of its six paths. Stated over any float type.
-/
module

public import proofs.«01_k».proof.Proof.Gen.Kernel3Ideal.Skeleton
public import proofs.«01_k».proof.Proof.Gen.Kernel3Ideal.Launch
public import Idealize.ShloMosaic.Lib.Pipeline.TableIdle
public import Idealize.ShloMosaic.Lib.Pipeline.FrameBody
public import Idealize.ShloMosaic.Lib.Pipeline.Value
public import Idealize.ShloMosaic.Lib.VecWindow
public import Idealize.ShloMosaic.Lib.Exec
public import Mathlib.Tactic.IntervalCases
public import Idealize.ShloMosaic.Lib.Affine
public import Idealize.ShloMosaic.Lib.Tactic
public import Idealize.ShloMosaic.Adequacy
public import Idealize.ShloMosaic.Init

@[expose] public section

set_option maxRecDepth 16384

noncomputable section

namespace Cert.Kernel3Ideal.Inproj

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources the proof works with. -/
local notation "𝕄" => MT nD τ sig Unit (Elt F) ℕ (UR sig nD τ) ℕ

/-- The scratch buffer, whole. -/
abbrev scr : Memref sig .tc .vmem S1024x1024 .bf16 := Memref.whole cc0_scratch0

/-- The point begins a row: the body normalises the row's tokens into the scratch buffer. -/
abbrev first (i : grid0.Coords) : Prop :=
  Scalar.cmpi .ne (Scalar.extui (Scalar.cmpi .eq (BitVec.ofNat 32 (i 1).val) 0#32) : BitVec 32) 0#32 = 1#1

variable (c : Dev nD) (i : grid0.Coords)
    (a2 : Memref sig .tc .vmem S1024x1024 .f32) (h2 : a2.IsWhole) (a3 : Memref sig .tc .vmem S1x1x1024 .f32) (h3 : a3.IsWhole)
    (a4 : Memref sig .tc .vmem S1x1x1024 .f32) (h4 : a4.IsWhole) (a5 : Memref sig .tc .vmem S1x1024 .f32) (h5 : a5.IsWhole)
    (a6 : Memref sig .tc .vmem S1024x512 .bf16) (h6 : a6.IsWhole) (a7 : Memref sig .tc .vmem S512x512 .bf16) (h7 : a7.IsWhole)
    (a8 : Memref sig .tc .vmem S1x512 .f32) (h8 : a8.IsWhole) (a9 : Memref sig .tc .vmem S1024x512 .f32) (h9 : a9.IsWhole)
    (a10 : Memref sig .tc .vmem S1024x512 .f32) (h10 : a10.IsWhole) (a11 : Memref sig .tc .vmem S1x1024x512 .f32) (h11 : a11.IsWhole)
    (a12 : Memref sig .tc .vmem S1x512x1024 .f32) (h12 : a12.IsWhole) (a13 : Memref sig .tc .vmem S1x512x1024 .f32) (h13 : a13.IsWhole)
    (x0 : S1024x1024.Idx → Elt F .f32) (x1 x2 : S1x1x1024.Idx → Elt F .f32) (x3 : S1x1024.Idx → Elt F .f32)
    (x4 : S1024x512.Idx → Elt F .bf16) (x5 : S512x512.Idx → Elt F .bf16) (x6 : S1x512.Idx → Elt F .f32)
    (x7 x8 : S1024x512.Idx → Elt F .f32) (y : S1024x1024.Idx → Elt F .bf16)

/-- The body on these memrefs. -/
abbrev bodyOn : Prog (TpuEff nD τ sig (Elt F) Λ₀ .tc) PUnit :=
  cc0_inproj i a2 h2 a3 h3 a4 h4 a5 h5 a6 h6 a7 h7 a8 h8 a9 h9 a10 h10 a11 h11 a12 h12 a13 h13 scr (Memref.isWhole_whole _)

/-- The nine inputs' blocks, each in its buffer. -/
def Ins : sProp 𝕄 :=
  iprop((a2.view.loc (c : Thread nD τ) ↦[a2.view.set]{fullShare} a2.view.rep x0)
    ∗ (a3.view.loc (c : Thread nD τ) ↦[a3.view.set]{fullShare} a3.view.rep x1)
    ∗ (a4.view.loc (c : Thread nD τ) ↦[a4.view.set]{fullShare} a4.view.rep x2)
    ∗ (a5.view.loc (c : Thread nD τ) ↦[a5.view.set]{fullShare} a5.view.rep x3)
    ∗ (a6.view.loc (c : Thread nD τ) ↦[a6.view.set]{fullShare} a6.view.rep x4)
    ∗ (a7.view.loc (c : Thread nD τ) ↦[a7.view.set]{fullShare} a7.view.rep x5)
    ∗ (a8.view.loc (c : Thread nD τ) ↦[a8.view.set]{fullShare} a8.view.rep x6)
    ∗ (a9.view.loc (c : Thread nD τ) ↦[a9.view.set]{fullShare} a9.view.rep x7)
    ∗ (a10.view.loc (c : Thread nD τ) ↦[a10.view.set]{fullShare} a10.view.rep x8))

set_option maxHeartbeats 8000000 in
/-- A row's first point: the row's tokens are normalised into the scratch buffer, then multiplied. -/
theorem run0 (hc1 : first i) (hc2 : ¬ k0_cond2 i = 1#1) (hc3 : ¬ k0_cond3 i = 1#1) (hc4 : ¬ k0_cond4 i = 1#1) (hc5 : ¬ k0_cond5 i = 1#1) (hc6 : k0_cond6 i = 1#1) (K : PUnit → sProp 𝕄) :
    iprop(Ins c a2 a3 a4 a5 a6 a7 a8 a9 a10 x0 x1 x2 x3 x4 x5 x6 x7 x8
        ∗ (∃ d, owns (c : Thread nD τ) a11 fullShare d)
        ∗ owns (c : Thread nD τ) scr fullShare y
        ∗ (iprop(Ins c a2 a3 a4 a5 a6 a7 a8 a9 a10 x0 x1 x2 x3 x4 x5 x6 x7 x8
            ∗ owns (c : Thread nD τ) a11 fullShare (k0_pay10 (k0_pay1 x0 x3 x1 x2) x4)
            ∗ owns (c : Thread nD τ) scr fullShare (k0_pay1 x0 x3 x1 x2)) -∗ K ⟨⟩))
      ⊢ wp frame (wpE (defs₀ (F := F)) Variants.none c none) Set.univ (bodyOn i a2 h2 a3 h3 a4 h4 a5 h5 a6 h6 a7 h7 a8 h8 a9 h9 a10 h10 a11 h11 a12 h12 a13 h13) K := by
  rw [owns_eq_rep (c : Thread nD τ) scr fullShare y]
  unfold owns Ins bodyOn
  rw [cc0_inproj_eq_skeleton]; unfold cc0_inproj_skel
  iintro ⟨⟨H0, H1, H2, H3, H4, H5, H6, H7, H8⟩, ⟨%da11, %fa11, -, HOa11⟩, HS, Hk⟩
  have hS : scr.IsWhole := Memref.isWhole_whole _
  sl_exec! (disch := first | (guard_target = Scalar.cmpi _ _ _ = _; exact hc1) | (guard_target = ¬(k0_cond2 _ = _); exact hc2) | (guard_target = ¬(k0_cond3 _ = _); exact hc3) | (guard_target = ¬(k0_cond4 _ = _); exact hc4) | (guard_target = ¬(k0_cond5 _ = _); exact hc5) | (guard_target = k0_cond6 _ = _; exact hc6))
  sl_step
  iapply Hk
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [HOa11]
  · iexists _; isplitr; swap
    · iexact HOa11
    · ipureintro
      refine (View.read_writes_full _ _ _ _ _).trans ?_
      have hv : run0.sl.v3 c a2 a3 a4 a5 x0 x1 x2 x3 = k0_pay1 x0 x3 x1 x2 := by
        unfold run0.sl.v3 run0.sl.HS_1
        refine (View.readCov_full _ _ _ _ _).trans ?_
        rw [View.readAt_rep_full, View.readAt_rep_full, View.readAt_rep_full, View.readAt_rep_full]
      rw [hv, View.readAt_rep_full]
  iexists _; isplitr; swap
  · iexact HS
  · ipureintro
    unfold run0.sl.HS_1
    refine (View.read_writes_full _ _ _ _ _).trans ?_
    rw [View.readAt_rep_full, View.readAt_rep_full, View.readAt_rep_full, View.readAt_rep_full]

set_option maxHeartbeats 8000000 in
/-- A point that only multiplies. -/
theorem runP (hc1 : ¬ first i) (hc2 : ¬ k0_cond2 i = 1#1) (hc3 : ¬ k0_cond3 i = 1#1) (hc4 : ¬ k0_cond4 i = 1#1) (hc5 : ¬ k0_cond5 i = 1#1) (hc6 : k0_cond6 i = 1#1) (K : PUnit → sProp 𝕄) :
    iprop(Ins c a2 a3 a4 a5 a6 a7 a8 a9 a10 x0 x1 x2 x3 x4 x5 x6 x7 x8
        ∗ (∃ d, owns (c : Thread nD τ) a11 fullShare d)
        ∗ owns (c : Thread nD τ) scr fullShare y
        ∗ (iprop(Ins c a2 a3 a4 a5 a6 a7 a8 a9 a10 x0 x1 x2 x3 x4 x5 x6 x7 x8
            ∗ owns (c : Thread nD τ) a11 fullShare (k0_pay10 y x4)
            ∗ owns (c : Thread nD τ) scr fullShare y) -∗ K ⟨⟩))
      ⊢ wp frame (wpE (defs₀ (F := F)) Variants.none c none) Set.univ (bodyOn i a2 h2 a3 h3 a4 h4 a5 h5 a6 h6 a7 h7 a8 h8 a9 h9 a10 h10 a11 h11 a12 h12 a13 h13) K := by
  rw [owns_eq_rep (c : Thread nD τ) scr fullShare y]
  unfold owns Ins bodyOn
  rw [cc0_inproj_eq_skeleton]; unfold cc0_inproj_skel
  iintro ⟨⟨H0, H1, H2, H3, H4, H5, H6, H7, H8⟩, ⟨%da11, %fa11, -, HOa11⟩, HS, Hk⟩
  have hS : scr.IsWhole := Memref.isWhole_whole _
  sl_exec! (disch := first | (guard_target = ¬(Scalar.cmpi _ _ _ = _); exact hc1) | (guard_target = ¬(k0_cond2 _ = _); exact hc2) | (guard_target = ¬(k0_cond3 _ = _); exact hc3) | (guard_target = ¬(k0_cond4 _ = _); exact hc4) | (guard_target = ¬(k0_cond5 _ = _); exact hc5) | (guard_target = k0_cond6 _ = _; exact hc6))
  sl_step
  iapply Hk
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [HOa11]
  · iexists _; isplitr; swap
    · iexact HOa11
    · ipureintro
      refine (View.read_writes_full _ _ _ _ _).trans ?_
      rw [View.readAt_rep_full, View.readAt_rep_full]
  iexact HS

set_option maxHeartbeats 8000000 in
/-- The point of the gates' column block. -/
theorem runG (hc1 : ¬ first i) (hc2 : ¬ k0_cond2 i = 1#1) (hc3 : ¬ k0_cond3 i = 1#1) (hc4 : ¬ k0_cond4 i = 1#1) (hc5 : k0_cond5 i = 1#1) (hc6 : ¬ k0_cond6 i = 1#1) (K : PUnit → sProp 𝕄) :
    iprop(Ins c a2 a3 a4 a5 a6 a7 a8 a9 a10 x0 x1 x2 x3 x4 x5 x6 x7 x8
        ∗ (∃ d, owns (c : Thread nD τ) a11 fullShare d)
        ∗ owns (c : Thread nD τ) scr fullShare y
        ∗ (iprop(Ins c a2 a3 a4 a5 a6 a7 a8 a9 a10 x0 x1 x2 x3 x4 x5 x6 x7 x8
            ∗ owns (c : Thread nD τ) a11 fullShare (k0_pay9 y x4 x5 x6)
            ∗ owns (c : Thread nD τ) scr fullShare y) -∗ K ⟨⟩))
      ⊢ wp frame (wpE (defs₀ (F := F)) Variants.none c none) Set.univ (bodyOn i a2 h2 a3 h3 a4 h4 a5 h5 a6 h6 a7 h7 a8 h8 a9 h9 a10 h10 a11 h11 a12 h12 a13 h13) K := by
  rw [owns_eq_rep (c : Thread nD τ) scr fullShare y]
  unfold owns Ins bodyOn
  rw [cc0_inproj_eq_skeleton]; unfold cc0_inproj_skel
  iintro ⟨⟨H0, H1, H2, H3, H4, H5, H6, H7, H8⟩, ⟨%da11, %fa11, -, HOa11⟩, HS, Hk⟩
  have hS : scr.IsWhole := Memref.isWhole_whole _
  sl_exec! (disch := first | (guard_target = ¬(Scalar.cmpi _ _ _ = _); exact hc1) | (guard_target = ¬(k0_cond2 _ = _); exact hc2) | (guard_target = ¬(k0_cond3 _ = _); exact hc3) | (guard_target = ¬(k0_cond4 _ = _); exact hc4) | (guard_target = k0_cond5 _ = _; exact hc5) | (guard_target = ¬(k0_cond6 _ = _); exact hc6))
  sl_step
  iapply Hk
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [HOa11]
  · iexists _; isplitr; swap
    · iexact HOa11
    · ipureintro
      refine (View.read_writes_full _ _ _ _ _).trans ?_
      rw [View.readAt_rep_full, View.readAt_rep_full, View.readAt_rep_full, View.readAt_rep_full]
  iexact HS

set_option maxHeartbeats 8000000 in
/-- The point of the queries' column block. -/
theorem runQ (hc1 : ¬ first i) (hc2 : k0_cond2 i = 1#1) (hc3 : ¬ k0_cond3 i = 1#1) (hc4 : ¬ k0_cond4 i = 1#1) (hc5 : ¬ k0_cond5 i = 1#1) (hc6 : ¬ k0_cond6 i = 1#1) (K : PUnit → sProp 𝕄) :
    iprop(Ins c a2 a3 a4 a5 a6 a7 a8 a9 a10 x0 x1 x2 x3 x4 x5 x6 x7 x8
        ∗ (∃ d, owns (c : Thread nD τ) a11 fullShare d)
        ∗ owns (c : Thread nD τ) scr fullShare y
        ∗ (iprop(Ins c a2 a3 a4 a5 a6 a7 a8 a9 a10 x0 x1 x2 x3 x4 x5 x6 x7 x8
            ∗ owns (c : Thread nD τ) a11 fullShare (k0_pay3 y x4 x7 x8)
            ∗ owns (c : Thread nD τ) scr fullShare y) -∗ K ⟨⟩))
      ⊢ wp frame (wpE (defs₀ (F := F)) Variants.none c none) Set.univ (bodyOn i a2 h2 a3 h3 a4 h4 a5 h5 a6 h6 a7 h7 a8 h8 a9 h9 a10 h10 a11 h11 a12 h12 a13 h13) K := by
  rw [owns_eq_rep (c : Thread nD τ) scr fullShare y]
  unfold owns Ins bodyOn
  rw [cc0_inproj_eq_skeleton]; unfold cc0_inproj_skel
  iintro ⟨⟨H0, H1, H2, H3, H4, H5, H6, H7, H8⟩, ⟨%da11, %fa11, -, HOa11⟩, HS, Hk⟩
  have hS : scr.IsWhole := Memref.isWhole_whole _
  sl_exec! (disch := first | (guard_target = ¬(Scalar.cmpi _ _ _ = _); exact hc1) | (guard_target = k0_cond2 _ = _; exact hc2) | (guard_target = ¬(k0_cond3 _ = _); exact hc3) | (guard_target = ¬(k0_cond4 _ = _); exact hc4) | (guard_target = ¬(k0_cond5 _ = _); exact hc5) | (guard_target = ¬(k0_cond6 _ = _); exact hc6))
  sl_step
  iapply Hk
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [HOa11]
  · iexists _; isplitr; swap
    · iexact HOa11
    · ipureintro
      refine (View.read_writes_full _ _ _ _ _).trans ?_
      rw [View.readAt_rep_full, View.readAt_rep_full, View.readAt_rep_full, View.readAt_rep_full]
  iexact HS

set_option maxHeartbeats 8000000 in
/-- The point of the keys' column block. -/
theorem runK (hc1 : ¬ first i) (hc2 : ¬ k0_cond2 i = 1#1) (hc3 : k0_cond3 i = 1#1) (hc4 : ¬ k0_cond4 i = 1#1) (hc5 : ¬ k0_cond5 i = 1#1) (hc6 : ¬ k0_cond6 i = 1#1) (K : PUnit → sProp 𝕄) :
    iprop(Ins c a2 a3 a4 a5 a6 a7 a8 a9 a10 x0 x1 x2 x3 x4 x5 x6 x7 x8
        ∗ (∃ d, owns (c : Thread nD τ) a11 fullShare d)
        ∗ (∃ d, owns (c : Thread nD τ) a12 fullShare d)
        ∗ owns (c : Thread nD τ) scr fullShare y
        ∗ (iprop(Ins c a2 a3 a4 a5 a6 a7 a8 a9 a10 x0 x1 x2 x3 x4 x5 x6 x7 x8
            ∗ owns (c : Thread nD τ) a11 fullShare (k0_pay5 y x4 x7 x8)
            ∗ owns (c : Thread nD τ) a12 fullShare (k0_pay6 y x4 x7 x8)
            ∗ owns (c : Thread nD τ) scr fullShare y) -∗ K ⟨⟩))
      ⊢ wp frame (wpE (defs₀ (F := F)) Variants.none c none) Set.univ (bodyOn i a2 h2 a3 h3 a4 h4 a5 h5 a6 h6 a7 h7 a8 h8 a9 h9 a10 h10 a11 h11 a12 h12 a13 h13) K := by
  rw [owns_eq_rep (c : Thread nD τ) scr fullShare y]
  unfold owns Ins bodyOn
  rw [cc0_inproj_eq_skeleton]; unfold cc0_inproj_skel
  iintro ⟨⟨H0, H1, H2, H3, H4, H5, H6, H7, H8⟩, ⟨%da11, %fa11, -, HOa11⟩, ⟨%da12, %fa12, -, HOa12⟩, HS, Hk⟩
  have hS : scr.IsWhole := Memref.isWhole_whole _
  sl_exec! (disch := first | (guard_target = ¬(Scalar.cmpi _ _ _ = _); exact hc1) | (guard_target = ¬(k0_cond2 _ = _); exact hc2) | (guard_target = k0_cond3 _ = _; exact hc3) | (guard_target = ¬(k0_cond4 _ = _); exact hc4) | (guard_target = ¬(k0_cond5 _ = _); exact hc5) | (guard_target = ¬(k0_cond6 _ = _); exact hc6))
  sl_step
  iapply Hk
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [HOa11]
  · iexists _; isplitr; swap
    · iexact HOa11
    · ipureintro
      refine (View.read_writes_full _ _ _ _ _).trans ?_
      rw [View.readAt_rep_full, View.readAt_rep_full, View.readAt_rep_full, View.readAt_rep_full]
  isplitl [HOa12]
  · iexists _; isplitr; swap
    · iexact HOa12
    · ipureintro
      refine (View.read_writes_full _ _ _ _ _).trans ?_
      rw [View.readAt_rep_full, View.readAt_rep_full, View.readAt_rep_full, View.readAt_rep_full]
  iexact HS

set_option maxHeartbeats 8000000 in
/-- The point of the values' column block. -/
theorem runV (hc1 : ¬ first i) (hc2 : ¬ k0_cond2 i = 1#1) (hc3 : ¬ k0_cond3 i = 1#1) (hc4 : k0_cond4 i = 1#1) (hc5 : ¬ k0_cond5 i = 1#1) (hc6 : ¬ k0_cond6 i = 1#1) (K : PUnit → sProp 𝕄) :
    iprop(Ins c a2 a3 a4 a5 a6 a7 a8 a9 a10 x0 x1 x2 x3 x4 x5 x6 x7 x8
        ∗ (∃ d, owns (c : Thread nD τ) a11 fullShare d)
        ∗ (∃ d, owns (c : Thread nD τ) a13 fullShare d)
        ∗ owns (c : Thread nD τ) scr fullShare y
        ∗ (iprop(Ins c a2 a3 a4 a5 a6 a7 a8 a9 a10 x0 x1 x2 x3 x4 x5 x6 x7 x8
            ∗ owns (c : Thread nD τ) a11 fullShare (k0_pay7 y x4)
            ∗ owns (c : Thread nD τ) a13 fullShare (k0_pay8 y x4)
            ∗ owns (c : Thread nD τ) scr fullShare y) -∗ K ⟨⟩))
      ⊢ wp frame (wpE (defs₀ (F := F)) Variants.none c none) Set.univ (bodyOn i a2 h2 a3 h3 a4 h4 a5 h5 a6 h6 a7 h7 a8 h8 a9 h9 a10 h10 a11 h11 a12 h12 a13 h13) K := by
  rw [owns_eq_rep (c : Thread nD τ) scr fullShare y]
  unfold owns Ins bodyOn
  rw [cc0_inproj_eq_skeleton]; unfold cc0_inproj_skel
  iintro ⟨⟨H0, H1, H2, H3, H4, H5, H6, H7, H8⟩, ⟨%da11, %fa11, -, HOa11⟩, ⟨%da13, %fa13, -, HOa13⟩, HS, Hk⟩
  have hS : scr.IsWhole := Memref.isWhole_whole _
  sl_exec! (disch := first | (guard_target = ¬(Scalar.cmpi _ _ _ = _); exact hc1) | (guard_target = ¬(k0_cond2 _ = _); exact hc2) | (guard_target = ¬(k0_cond3 _ = _); exact hc3) | (guard_target = k0_cond4 _ = _; exact hc4) | (guard_target = ¬(k0_cond5 _ = _); exact hc5) | (guard_target = ¬(k0_cond6 _ = _); exact hc6))
  sl_step
  iapply Hk
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [HOa11]
  · iexists _; isplitr; swap
    · iexact HOa11
    · ipureintro
      refine (View.read_writes_full _ _ _ _ _).trans ?_
      rw [View.readAt_rep_full, View.readAt_rep_full]
  isplitl [HOa13]
  · iexists _; isplitr; swap
    · iexact HOa13
    · ipureintro
      refine (View.read_writes_full _ _ _ _ _).trans ?_
      rw [View.readAt_rep_full, View.readAt_rep_full]
  iexact HS

end Cert.Kernel3Ideal.Inproj

end
-- ==== Proof.Inproj.Launch.lean ====
/-
  The input projection's kernel over its whole grid: the schedule's data, the body's obligation at each point, and the run of
  @main with the host lines before and after it. Stated over any float type.
-/
module

public import proofs.«01_k».proof.Proof.Inproj.Run
public import Idealize.ShloMosaic.Lib.Pipeline.Kit
public import Idealize.ShloMosaic.Lib.Pipeline.Frame
public import Idealize.ShloMosaic.Lib.Pipeline.FrameSuffix
public import Idealize.ShloMosaic.Lib.Pipeline.ValueKit
public import Idealize.ShloMosaic.Lib.Ring
public import Idealize.ShloMosaic.Lib.Writes

@[expose] public section

set_option maxRecDepth 16384

noncomputable section

namespace Cert.Kernel3Ideal.Inproj

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-- The resources the proof works with. -/
local notation "𝕄" => MT nD τ sig Unit (Elt F) ℕ (UR sig nD τ) ℕ

variable (m : (ℓ : Loc nD τ sig) → Buf (Elt F) ℓ) (ρ : Dev nD → PrngReg)

/-- A core's buffers when the region is entered: after the host's lines before it. -/
def V0 (c : Dev nD) : Valuation τ sig (Elt F) := StableHlo.after (List.flatten [hostOps0 (F := F)]) (fun b => m (c, b))

/-! ## The schedule, point by point -/

theorem row_val : ∀ t : Fin cfg0.N, (grid0.coords t 0).val = t.val / 14 :=
  (by decide +kernel : ∀ t : Fin grid0.N, (grid0.coords t 0).val = t.val / 14)
theorem col_val : ∀ t : Fin cfg0.N, (grid0.coords t 1).val = t.val % 14 :=
  (by decide +kernel : ∀ t : Fin grid0.N, (grid0.coords t 1).val = t.val % 14)

theorem first_iff : ∀ t : Fin cfg0.N, first (grid0.coords t) ↔ t.val % 14 = 0 :=
  (by decide +kernel : ∀ t : Fin grid0.N, first (grid0.coords t) ↔ t.val % 14 = 0)
theorem cond2_iff : ∀ t : Fin cfg0.N, k0_cond2 (grid0.coords t) = 1#1 ↔ t.val % 14 = 7 :=
  (by decide +kernel : ∀ t : Fin grid0.N, k0_cond2 (grid0.coords t) = 1#1 ↔ t.val % 14 = 7)
theorem cond3_iff : ∀ t : Fin cfg0.N, k0_cond3 (grid0.coords t) = 1#1 ↔ t.val % 14 = 8 :=
  (by decide +kernel : ∀ t : Fin grid0.N, k0_cond3 (grid0.coords t) = 1#1 ↔ t.val % 14 = 8)
theorem cond4_iff : ∀ t : Fin cfg0.N, k0_cond4 (grid0.coords t) = 1#1 ↔ t.val % 14 = 9 :=
  (by decide +kernel : ∀ t : Fin grid0.N, k0_cond4 (grid0.coords t) = 1#1 ↔ t.val % 14 = 9)
theorem cond5_iff : ∀ t : Fin cfg0.N, k0_cond5 (grid0.coords t) = 1#1 ↔ t.val % 14 = 6 :=
  (by decide +kernel : ∀ t : Fin grid0.N, k0_cond5 (grid0.coords t) = 1#1 ↔ t.val % 14 = 6)
theorem cond6_iff : ∀ t : Fin cfg0.N, k0_cond6 (grid0.coords t) = 1#1 ↔ (t.val % 14 < 6 ∨ 9 < t.val % 14) :=
  (by decide +kernel : ∀ t : Fin grid0.N, k0_cond6 (grid0.coords t) = 1#1 ↔ (t.val % 14 < 6 ∨ 9 < t.val % 14))

theorem idle9 : ∀ t : Fin cfg0.N, cfg0.idle 9 (grid0.coords t) = false :=
  (by decide +kernel : ∀ t : Fin grid0.N, idle0 9 (grid0.coords t) = false)
theorem idle10 : ∀ t : Fin cfg0.N, cfg0.idle 10 (grid0.coords t) = !decide (t.val % 14 = 8) :=
  (by decide +kernel : ∀ t : Fin grid0.N, idle0 10 (grid0.coords t) = !decide (t.val % 14 = 8))
theorem idle11 : ∀ t : Fin cfg0.N, cfg0.idle 11 (grid0.coords t) = !decide (t.val % 14 = 9) :=
  (by decide +kernel : ∀ t : Fin grid0.N, idle0 11 (grid0.coords t) = !decide (t.val % 14 = 9))
theorem flush10 : ∀ t : Fin cfg0.N, (cfg0.win 10).flush t = decide (t.val % 14 = 13) := fun t => by
  rw [Window.flush_eq_flushF]
  exact (by decide +kernel : ∀ t : Fin grid0.N, win0_10.flushF t = decide (t.val % 14 = 13)) t
theorem flush11 : ∀ t : Fin cfg0.N, (cfg0.win 11).flush t = decide (t.val % 14 = 13) := fun t => by
  rw [Window.flush_eq_flushF]
  exact (by decide +kernel : ∀ t : Fin grid0.N, win0_11.flushF t = decide (t.val % 14 = 13)) t

theorem lt224 (t : Fin cfg0.N) : t.val < 224 := lt_of_lt_of_eq t.isLt N_0

/-- The point of the same row whose column block is `k`. -/
def at_ (k : ℕ) (hk : k < 14) (t : Fin cfg0.N) : Fin cfg0.N :=
  ⟨t.val / 14 * 14 + k, lt_of_lt_of_eq (by have h := lt224 t; omega) N_0.symm⟩

theorem at_row (k : ℕ) (hk : k < 14) (t : Fin cfg0.N) : (at_ k hk t).val / 14 = t.val / 14 := by
  show (t.val / 14 * 14 + k) / 14 = _; omega
theorem at_self (k : ℕ) (hk : k < 14) (t : Fin cfg0.N) (h : t.val % 14 = k) : at_ k hk t = t :=
  Fin.ext (by show t.val / 14 * 14 + k = t.val; omega)
theorem at_congr (k : ℕ) (hk : k < 14) (t s : Fin cfg0.N) (h : t.val / 14 = s.val / 14) : at_ k hk t = at_ k hk s :=
  Fin.ext (by show t.val / 14 * 14 + k = s.val / 14 * 14 + k; rw [h])

/-- The windows' staging buffers at a point. -/
abbrev st0 (t : Fin cfg0.N) : Memref sig .tc .vmem S1024x1024 .f32 := win0_0.stage (cfg0.slots t 0)
abbrev hst0 (t : Fin cfg0.N) : (st0 t).IsWhole := hstage0_0 ((cfg0.slots t 0).cast nbuf0_0)
abbrev st1 (t : Fin cfg0.N) : Memref sig .tc .vmem S1x1x1024 .f32 := win0_1.stage (cfg0.slots t 1)
abbrev hst1 (t : Fin cfg0.N) : (st1 t).IsWhole := hstage0_1 ((cfg0.slots t 1).cast nbuf0_1)
abbrev st2 (t : Fin cfg0.N) : Memref sig .tc .vmem S1x1x1024 .f32 := win0_2.stage (cfg0.slots t 2)
abbrev hst2 (t : Fin cfg0.N) : (st2 t).IsWhole := hstage0_2 ((cfg0.slots t 2).cast nbuf0_2)
abbrev st3 (t : Fin cfg0.N) : Memref sig .tc .vmem S1x1024 .f32 := win0_3.stage (cfg0.slots t 3)
abbrev hst3 (t : Fin cfg0.N) : (st3 t).IsWhole := hstage0_3 ((cfg0.slots t 3).cast nbuf0_3)
abbrev st4 (t : Fin cfg0.N) : Memref sig .tc .vmem S1024x512 .bf16 := win0_4.stage (cfg0.slots t 4)
abbrev hst4 (t : Fin cfg0.N) : (st4 t).IsWhole := hstage0_4 ((cfg0.slots t 4).cast nbuf0_4)
abbrev st5 (t : Fin cfg0.N) : Memref sig .tc .vmem S512x512 .bf16 := win0_5.stage (cfg0.slots t 5)
abbrev hst5 (t : Fin cfg0.N) : (st5 t).IsWhole := hstage0_5 ((cfg0.slots t 5).cast nbuf0_5)
abbrev st6 (t : Fin cfg0.N) : Memref sig .tc .vmem S1x512 .f32 := win0_6.stage (cfg0.slots t 6)
abbrev hst6 (t : Fin cfg0.N) : (st6 t).IsWhole := hstage0_6 ((cfg0.slots t 6).cast nbuf0_6)
abbrev st7 (t : Fin cfg0.N) : Memref sig .tc .vmem S1024x512 .f32 := win0_7.stage (cfg0.slots t 7)
abbrev hst7 (t : Fin cfg0.N) : (st7 t).IsWhole := hstage0_7 ((cfg0.slots t 7).cast nbuf0_7)
abbrev st8 (t : Fin cfg0.N) : Memref sig .tc .vmem S1024x512 .f32 := win0_8.stage (cfg0.slots t 8)
abbrev hst8 (t : Fin cfg0.N) : (st8 t).IsWhole := hstage0_8 ((cfg0.slots t 8).cast nbuf0_8)
abbrev st9 (t : Fin cfg0.N) : Memref sig .tc .vmem S1x1024x512 .f32 := win0_9.stage (cfg0.slots t 9)
abbrev hst9 (t : Fin cfg0.N) : (st9 t).IsWhole := hstage0_9 ((cfg0.slots t 9).cast nbuf0_9)
abbrev st10 (t : Fin cfg0.N) : Memref sig .tc .vmem S1x512x1024 .f32 := win0_10.stage (cfg0.slots t 10)
abbrev hst10 (t : Fin cfg0.N) : (st10 t).IsWhole := hstage0_10 ((cfg0.slots t 10).cast nbuf0_10)
abbrev st11 (t : Fin cfg0.N) : Memref sig .tc .vmem S1x512x1024 .f32 := win0_11.stage (cfg0.slots t 11)
abbrev hst11 (t : Fin cfg0.N) : (st11 t).IsWhole := hstage0_11 ((cfg0.slots t 11).cast nbuf0_11)

/-- Window `w`'s block at point `t`, out of its array. -/
def iblk (c : Dev nD) (w : Fin cfg0.W) (t : Fin cfg0.N) : ((cfg0.win w).xblock (cfg0.grid.coords t)).Idx → Elt F (cfg0.win w).elt :=
  ((cfg0.win w).blk t).view.read (Elt F) (V0 m c (Proc.devRef .tc (Pipeline.arrRef spec0 w)))

/-- The row's tokens, normalised and modulated: what the scratch buffer holds from the row's first point on. -/
def norm (c : Dev nD) (t : Fin cfg0.N) : S1024x1024.Idx → Elt F .bf16 := k0_pay1 (iblk m c 0 t) (iblk m c 3 t) (iblk m c 1 t) (iblk m c 2 t)

theorem iblk0_congr (c : Dev nD) (t s : Fin cfg0.N) (h : t.val / 14 = s.val / 14) : (iblk m c 0 t : S1024x1024.Idx → Elt F .f32) = iblk m c 0 s := by
  have e : cc0_transform_0 (grid0.coords t) = cc0_transform_0 (grid0.coords s) := hreads0_0 _ _ (fun a ha => by
    have h0 : grid0.coords t 0 = grid0.coords s 0 := Fin.ext (by rw [row_val, row_val, h])
    fin_cases a
    · exact h0
    · exact absurd ha (by decide))
  funext y
  unfold iblk
  refine congrArg (V0 m c (Proc.devRef .tc (Pipeline.arrRef spec0 0))) (funext fun a => Fin.ext ?_)
  show cc0_transform_0 (grid0.coords t) a * _ + _ = cc0_transform_0 (grid0.coords s) a * _ + _
  rw [e]; rfl
theorem iblk1_congr (c : Dev nD) (t s : Fin cfg0.N) (h : t.val / 14 = s.val / 14) : (iblk m c 1 t : S1x1x1024.Idx → Elt F .f32) = iblk m c 1 s := by
  have e : cc0_transform_1 (grid0.coords t) = cc0_transform_1 (grid0.coords s) := hreads0_1 _ _ (fun a ha => by
    have h0 : grid0.coords t 0 = grid0.coords s 0 := Fin.ext (by rw [row_val, row_val, h])
    fin_cases a
    · exact h0
    · exact absurd ha (by decide))
  funext y
  unfold iblk
  refine congrArg (V0 m c (Proc.devRef .tc (Pipeline.arrRef spec0 1))) (funext fun a => Fin.ext ?_)
  show cc0_transform_1 (grid0.coords t) a * _ + _ = cc0_transform_1 (grid0.coords s) a * _ + _
  rw [e]; rfl
theorem iblk2_congr (c : Dev nD) (t s : Fin cfg0.N) (h : t.val / 14 = s.val / 14) : (iblk m c 2 t : S1x1x1024.Idx → Elt F .f32) = iblk m c 2 s := by
  have e : cc0_transform_2 (grid0.coords t) = cc0_transform_2 (grid0.coords s) := hreads0_2 _ _ (fun a ha => by
    have h0 : grid0.coords t 0 = grid0.coords s 0 := Fin.ext (by rw [row_val, row_val, h])
    fin_cases a
    · exact h0
    · exact absurd ha (by decide))
  funext y
  unfold iblk
  refine congrArg (V0 m c (Proc.devRef .tc (Pipeline.arrRef spec0 2))) (funext fun a => Fin.ext ?_)
  show cc0_transform_2 (grid0.coords t) a * _ + _ = cc0_transform_2 (grid0.coords s) a * _ + _
  rw [e]; rfl
theorem iblk3_congr (c : Dev nD) (t s : Fin cfg0.N) (h : t.val / 14 = s.val / 14) : (iblk m c 3 t : S1x1024.Idx → Elt F .f32) = iblk m c 3 s := by
  have e : cc0_transform_3 (grid0.coords t) = cc0_transform_3 (grid0.coords s) := hreads0_3 _ _ (fun a ha => by
    have h0 : grid0.coords t 0 = grid0.coords s 0 := Fin.ext (by rw [row_val, row_val, h])
    fin_cases a
    · exact h0
    · exact absurd ha (by decide))
  funext y
  unfold iblk
  refine congrArg (V0 m c (Proc.devRef .tc (Pipeline.arrRef spec0 3))) (funext fun a => Fin.ext ?_)
  show cc0_transform_3 (grid0.coords t) a * _ + _ = cc0_transform_3 (grid0.coords s) a * _ + _
  rw [e]; rfl

theorem norm_congr (c : Dev nD) (t s : Fin cfg0.N) (h : t.val / 14 = s.val / 14) : norm m c t = norm m c s := by
  unfold norm
  rw [iblk0_congr m c t s h, iblk1_congr m c t s h, iblk2_congr m c t s h, iblk3_congr m c t s h]

/-! ## The schedule's data -/

/-- The scratch buffer between points: after a point it holds that point's row. -/
def Phi (c : Dev nD) (t : Fin (cfg0.N + 1)) : sProp 𝕄 :=
  iprop(∃ y : S1024x1024.Idx → Elt F .bf16, ⌜∀ s : Fin cfg0.N, s.val + 1 = t.val → y = norm m c s⌝
    ∗ owns (c : Thread nD τ) scr fullShare y ∗ ∃ r, prngReg c r)

/-- The block a point leaves in the first result. -/
def res9 (c : Dev nD) (t : Fin cfg0.N) : S1x1024x512.Idx → Elt F .f32 :=
  if t.val % 14 = 6 then k0_pay9 (norm m c t) (iblk m c 4 t) (iblk m c 5 t) (iblk m c 6 t)
  else if t.val % 14 = 7 then k0_pay3 (norm m c t) (iblk m c 4 t) (iblk m c 7 t) (iblk m c 8 t)
  else if t.val % 14 = 8 then k0_pay5 (norm m c t) (iblk m c 4 t) (iblk m c 7 t) (iblk m c 8 t)
  else k0_pay10 (norm m c t) (iblk m c 4 t)

/-- The blocks of the transposed keys and values the row's points leave: stored at the row's ninth and tenth point. -/
def res10 (c : Dev nD) (t : Fin cfg0.N) : S1x512x1024.Idx → Elt F .f32 :=
  k0_pay6 (norm m c (at_ 8 (by decide) t)) (iblk m c 4 (at_ 8 (by decide) t)) (iblk m c 7 (at_ 8 (by decide) t)) (iblk m c 8 (at_ 8 (by decide) t))
def res11 (c : Dev nD) (t : Fin cfg0.N) : S1x512x1024.Idx → Elt F .f32 :=
  k0_pay8 (norm m c (at_ 9 (by decide) t)) (iblk m c 4 (at_ 9 (by decide) t))

def dats (_ : Fin 1) (c : Dev nD) : Dat τ (Elt F) Unit ℕ (UR sig nD τ) ℕ cfg0 c where
  A w := V0 m c (Proc.devRef .tc (Pipeline.arrRef spec0 w))
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => res9 m c t
    | ⟨10, _⟩ => res10 m c t
    | ⟨11, _⟩ => res11 m c t
  Φ t := Phi m c t
  q _ := fullShare
  owed _ := 0

theorem A_eq (c : Dev nD) (w : Fin cfg0.W) : (dats m 0 c).A w = V0 m c (Proc.devRef .tc (Pipeline.arrRef spec0 w)) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = res9 m c t := by dsimp only [dats]
theorem after_10 (c : Dev nD) (t : Fin cfg0.N) : (dats m 0 c).after 10 t = res10 m c t := by dsimp only [dats]
theorem after_11 (c : Dev nD) (t : Fin cfg0.N) : (dats m 0 c).after 11 t = res11 m c t := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)

/-- The buffer of result 10 holds the row's block from the point after it was stored to the row's end. -/
theorem fresh10 (n : ℕ) (hn : n ≤ cfg0.N) : cfg0.fresh 10 n = decide (n % 14 ≤ 8) :=
  Pipeline.Cfg.fresh_tab cfg0 10 (fun n => decide (n % 14 ≤ 8)) rfl (fun t => by
    rw [flush10, idle10, Bool.eq_iff_iff]
    simp only [Bool.or_eq_true, Bool.and_eq_true, decide_eq_true_eq, Bool.not_eq_true', decide_eq_false_iff_not]
    omega) n hn

theorem before_10 (c : Dev nD) (t : Fin cfg0.N) (h : 8 < t.val % 14) (d) : (dats m 0 c).before 10 t d = res10 m c t := by
  have e := (dats m 0 c).before_out_traj 10 rfl (fun _ _ => rfl) (fun s hs hi hf => by
    rw [fresh10 _ (Nat.le_of_lt s.isLt), decide_eq_false_iff_not] at hf
    rw [after_10, after_10]
    unfold res10
    rw [at_congr 8 (by decide) ⟨s.val - 1, by omega⟩ s (by show (s.val - 1) / 14 = s.val / 14; omega)]) t.val t rfl d
  refine e.trans ?_
  rw [fresh10 _ (Nat.le_of_lt t.isLt), if_neg (by rw [decide_eq_true_eq]; omega), after_10]
  unfold res10
  rw [at_congr 8 (by decide) ⟨t.val - 1, by omega⟩ t (by show (t.val - 1) / 14 = t.val / 14; omega)]

/-- The buffer of result 11 holds the row's block from the point after it was stored to the row's end. -/
theorem fresh11 (n : ℕ) (hn : n ≤ cfg0.N) : cfg0.fresh 11 n = decide (n % 14 ≤ 9) :=
  Pipeline.Cfg.fresh_tab cfg0 11 (fun n => decide (n % 14 ≤ 9)) rfl (fun t => by
    rw [flush11, idle11, Bool.eq_iff_iff]
    simp only [Bool.or_eq_true, Bool.and_eq_true, decide_eq_true_eq, Bool.not_eq_true', decide_eq_false_iff_not]
    omega) n hn

theorem before_11 (c : Dev nD) (t : Fin cfg0.N) (h : 9 < t.val % 14) (d) : (dats m 0 c).before 11 t d = res11 m c t := by
  have e := (dats m 0 c).before_out_traj 11 rfl (fun _ _ => rfl) (fun s hs hi hf => by
    rw [fresh11 _ (Nat.le_of_lt s.isLt), decide_eq_false_iff_not] at hf
    rw [after_11, after_11]
    unfold res11
    rw [at_congr 9 (by decide) ⟨s.val - 1, by omega⟩ s (by show (s.val - 1) / 14 = s.val / 14; omega)]) t.val t rfl d
  refine e.trans ?_
  rw [fresh11 _ (Nat.le_of_lt t.isLt), if_neg (by rw [decide_eq_true_eq]; omega), after_11]
  unfold res11
  rw [at_congr 9 (by decide) ⟨t.val - 1, by omega⟩ t (by show (t.val - 1) / 14 = t.val / 14; omega)]
theorem leave_0 (c : Dev nD) (t : Fin cfg0.N) : (dats m 0 c).leavesExact 0 t = owns (c : Thread nD τ) (st0 t) fullShare (iblk m c 0 t) := by
  unfold Dat.leavesExact; rw [show cfg0.idle 0 (cfg0.grid.coords t) = false from rfl, after_0]
theorem leave_1 (c : Dev nD) (t : Fin cfg0.N) : (dats m 0 c).leavesExact 1 t = owns (c : Thread nD τ) (st1 t) fullShare (iblk m c 1 t) := by
  unfold Dat.leavesExact; rw [show cfg0.idle 1 (cfg0.grid.coords t) = false from rfl, after_1]
theorem leave_2 (c : Dev nD) (t : Fin cfg0.N) : (dats m 0 c).leavesExact 2 t = owns (c : Thread nD τ) (st2 t) fullShare (iblk m c 2 t) := by
  unfold Dat.leavesExact; rw [show cfg0.idle 2 (cfg0.grid.coords t) = false from rfl, after_2]
theorem leave_3 (c : Dev nD) (t : Fin cfg0.N) : (dats m 0 c).leavesExact 3 t = owns (c : Thread nD τ) (st3 t) fullShare (iblk m c 3 t) := by
  unfold Dat.leavesExact; rw [show cfg0.idle 3 (cfg0.grid.coords t) = false from rfl, after_3]
theorem leave_4 (c : Dev nD) (t : Fin cfg0.N) : (dats m 0 c).leavesExact 4 t = owns (c : Thread nD τ) (st4 t) fullShare (iblk m c 4 t) := by
  unfold Dat.leavesExact; rw [show cfg0.idle 4 (cfg0.grid.coords t) = false from rfl, after_4]
theorem leave_5 (c : Dev nD) (t : Fin cfg0.N) : (dats m 0 c).leavesExact 5 t = owns (c : Thread nD τ) (st5 t) fullShare (iblk m c 5 t) := by
  unfold Dat.leavesExact; rw [show cfg0.idle 5 (cfg0.grid.coords t) = false from rfl, after_5]
theorem leave_6 (c : Dev nD) (t : Fin cfg0.N) : (dats m 0 c).leavesExact 6 t = owns (c : Thread nD τ) (st6 t) fullShare (iblk m c 6 t) := by
  unfold Dat.leavesExact; rw [show cfg0.idle 6 (cfg0.grid.coords t) = false from rfl, after_6]
theorem leave_7 (c : Dev nD) (t : Fin cfg0.N) : (dats m 0 c).leavesExact 7 t = owns (c : Thread nD τ) (st7 t) fullShare (iblk m c 7 t) := by
  unfold Dat.leavesExact; rw [show cfg0.idle 7 (cfg0.grid.coords t) = false from rfl, after_7]
theorem leave_8 (c : Dev nD) (t : Fin cfg0.N) : (dats m 0 c).leavesExact 8 t = owns (c : Thread nD τ) (st8 t) fullShare (iblk m c 8 t) := by
  unfold Dat.leavesExact; rw [show cfg0.idle 8 (cfg0.grid.coords t) = false from rfl, after_8]
theorem leave_9 (c : Dev nD) (t : Fin cfg0.N) : (dats m 0 c).leavesExact 9 t = owns (c : Thread nD τ) (st9 t) fullShare (res9 m c t) := by
  unfold Dat.leavesExact; rw [show cfg0.idle 9 (cfg0.grid.coords t) = false from idle9 t, after_9]
theorem leave_10 (c : Dev nD) (t : Fin cfg0.N) (h : t.val % 14 = 8) : (dats m 0 c).leavesExact 10 t = owns (c : Thread nD τ) (st10 t) fullShare (res10 m c t) := by
  unfold Dat.leavesExact; rw [show cfg0.idle 10 (cfg0.grid.coords t) = false from (idle10 t).trans (by rw [h]; rfl), after_10]
/-- A point that stores no block of result 10 leaves its buffer as it found it. -/
theorem pass_10 (c : Dev nD) (t : Fin cfg0.N) (h : t.val % 14 ≠ 8) :
    iprop(∃ d, owns (c : Thread nD τ) (st10 t) fullShare ((dats m 0 c).before 10 t d)) ⊢ (dats m 0 c).leavesExact 10 t := by
  unfold Dat.leavesExact
  rw [show cfg0.idle 10 (cfg0.grid.coords t) = true from (idle10 t).trans (by rw [decide_eq_false h]; rfl)]
  by_cases hf : t.val % 14 = 13
  · rw [show (cfg0.win 10).flush t = true from (flush10 t).trans (decide_eq_true hf), after_10]
    simp only [before_10 m c t (by omega)]
    iintro ⟨%d, H⟩; iexact H
  · rw [show (cfg0.win 10).flush t = false from (flush10 t).trans (decide_eq_false hf)]
theorem leave_11 (c : Dev nD) (t : Fin cfg0.N) (h : t.val % 14 = 9) : (dats m 0 c).leavesExact 11 t = owns (c : Thread nD τ) (st11 t) fullShare (res11 m c t) := by
  unfold Dat.leavesExact; rw [show cfg0.idle 11 (cfg0.grid.coords t) = false from (idle11 t).trans (by rw [h]; rfl), after_11]
/-- A point that stores no block of result 11 leaves its buffer as it found it. -/
theorem pass_11 (c : Dev nD) (t : Fin cfg0.N) (h : t.val % 14 ≠ 9) :
    iprop(∃ d, owns (c : Thread nD τ) (st11 t) fullShare ((dats m 0 c).before 11 t d)) ⊢ (dats m 0 c).leavesExact 11 t := by
  unfold Dat.leavesExact
  rw [show cfg0.idle 11 (cfg0.grid.coords t) = true from (idle11 t).trans (by rw [decide_eq_false h]; rfl)]
  by_cases hf : t.val % 14 = 13
  · rw [show (cfg0.win 11).flush t = true from (flush11 t).trans (decide_eq_true hf), after_11]
    simp only [before_11 m c t (by omega)]
    iintro ⟨%d, H⟩; iexact H
  · rw [show (cfg0.win 11).flush t = false from (flush11 t).trans (decide_eq_false hf)]

/-- The body on its staging buffers, as the schedule calls it. -/
abbrev bodyAt (t : Fin cfg0.N) : Prog (TpuEff nD τ sig (Elt F) Λ₀ .tc) PUnit :=
  bodyOn (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t)

theorem step (c : Dev nD) (t : Fin cfg0.N) (y : S1024x1024.Idx → Elt F .bf16) (h0 : t.val % 14 ≠ 0)
    (hy : ∀ s : Fin cfg0.N, s.val + 1 = t.castSucc.val → y = norm m c s) : y = norm m c t := by
  have hl := lt224 t
  have := hy ⟨t.val - 1, by omega⟩ (by show t.val - 1 + 1 = t.val; omega)
  rw [this]
  exact norm_congr m c _ _ (by show (t.val - 1) / 14 = t.val / 14; omega)

theorem done (c : Dev nD) (t : Fin cfg0.N) : (iprop(owns (c : Thread nD τ) scr fullShare (norm m c t) ∗ ∃ r, prngReg c r) : sProp 𝕄)
    ⊢ iprop(∃ y : S1024x1024.Idx → Elt F .bf16, ⌜∀ s : Fin cfg0.N, s.val + 1 = t.succ.val → y = norm m c s⌝
      ∗ owns (c : Thread nD τ) scr fullShare y ∗ ∃ r, prngReg c r) := by
  iintro ⟨H, Hg⟩
  iexists norm m c t
  isplitr
  · ipureintro; intro s hs
    obtain rfl : s = t := Fin.ext (by have := hs; simp only [Fin.val_succ] at this; omega)
    rfl
  isplitl [H]; · iexact H
  iexact Hg

/-! ## The six kinds of points -/

theorem point0 (c : Dev nD) (t : Fin cfg0.N) (h : t.val % 14 = 0) (K : PUnit → sProp 𝕄) :
    iprop(Phi m c t.castSucc
        ∗ Ins c (st0 t) (st1 t) (st2 t) (st3 t) (st4 t) (st5 t) (st6 t) (st7 t) (st8 t) (iblk m c 0 t) (iblk m c 1 t) (iblk m c 2 t) (iblk m c 3 t) (iblk m c 4 t) (iblk m c 5 t) (iblk m c 6 t) (iblk m c 7 t) (iblk m c 8 t)
        ∗ (∃ d, owns (c : Thread nD τ) (st9 t) fullShare d)
        ∗ (iprop(Phi m c t.succ
            ∗ Ins c (st0 t) (st1 t) (st2 t) (st3 t) (st4 t) (st5 t) (st6 t) (st7 t) (st8 t) (iblk m c 0 t) (iblk m c 1 t) (iblk m c 2 t) (iblk m c 3 t) (iblk m c 4 t) (iblk m c 5 t) (iblk m c 6 t) (iblk m c 7 t) (iblk m c 8 t)
            ∗ owns (c : Thread nD τ) (st9 t) fullShare (res9 m c t)) -∗ K ⟨⟩))
      ⊢ wp frame (wpE (defs₀ (F := F)) Variants.none c none) Set.univ (bodyAt t) K := by
  have e9 : res9 m c t = k0_pay10 (norm m c t) (iblk m c 4 t) := by unfold res9; rw [if_neg (by omega), if_neg (by omega), if_neg (by omega)]
  rw [e9]
  iintro ⟨HP, HI, HO9, Hk⟩
  unfold Phi
  icases HP with ⟨%y, -, HS, Hg⟩
  iapply (run0 c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (iblk m c 0 t) (iblk m c 1 t) (iblk m c 2 t) (iblk m c 3 t) (iblk m c 4 t) (iblk m c 5 t) (iblk m c 6 t) (iblk m c 7 t) (iblk m c 8 t) y ((first_iff t).mpr (by omega)) (fun h => by have := (cond2_iff t).mp h; omega) (fun h => by have := (cond3_iff t).mp h; omega) (fun h => by have := (cond4_iff t).mp h; omega) (fun h => by have := (cond5_iff t).mp h; omega) ((cond6_iff t).mpr (by omega)) K)
  isplitl [HI]; · iexact HI
  isplitl [HO9]; · iexact HO9
  isplitl [HS]; · iexact HS
  iintro ⟨HI, HO9, HS⟩
  iapply Hk
  isplitl [HS Hg]
  · iapply done m c t
    isplitl [HS]; · iexact HS
    iexact Hg
  isplitl [HI]; · iexact HI
  iexact HO9

theorem pointP (c : Dev nD) (t : Fin cfg0.N) (h : (0 < t.val % 14 ∧ t.val % 14 < 6) ∨ 9 < t.val % 14) (K : PUnit → sProp 𝕄) :
    iprop(Phi m c t.castSucc
        ∗ Ins c (st0 t) (st1 t) (st2 t) (st3 t) (st4 t) (st5 t) (st6 t) (st7 t) (st8 t) (iblk m c 0 t) (iblk m c 1 t) (iblk m c 2 t) (iblk m c 3 t) (iblk m c 4 t) (iblk m c 5 t) (iblk m c 6 t) (iblk m c 7 t) (iblk m c 8 t)
        ∗ (∃ d, owns (c : Thread nD τ) (st9 t) fullShare d)
        ∗ (iprop(Phi m c t.succ
            ∗ Ins c (st0 t) (st1 t) (st2 t) (st3 t) (st4 t) (st5 t) (st6 t) (st7 t) (st8 t) (iblk m c 0 t) (iblk m c 1 t) (iblk m c 2 t) (iblk m c 3 t) (iblk m c 4 t) (iblk m c 5 t) (iblk m c 6 t) (iblk m c 7 t) (iblk m c 8 t)
            ∗ owns (c : Thread nD τ) (st9 t) fullShare (res9 m c t)) -∗ K ⟨⟩))
      ⊢ wp frame (wpE (defs₀ (F := F)) Variants.none c none) Set.univ (bodyAt t) K := by
  have e9 : res9 m c t = k0_pay10 (norm m c t) (iblk m c 4 t) := by unfold res9; rw [if_neg (by omega), if_neg (by omega), if_neg (by omega)]
  rw [e9]
  iintro ⟨HP, HI, HO9, Hk⟩
  unfold Phi
  icases HP with ⟨%y, %hy, HS, Hg⟩
  obtain rfl : y = norm m c t := step m c t y (by omega) hy
  iapply (runP c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (iblk m c 0 t) (iblk m c 1 t) (iblk m c 2 t) (iblk m c 3 t) (iblk m c 4 t) (iblk m c 5 t) (iblk m c 6 t) (iblk m c 7 t) (iblk m c 8 t) (norm m c t) (fun h => by have := (first_iff t).mp h; omega) (fun h => by have := (cond2_iff t).mp h; omega) (fun h => by have := (cond3_iff t).mp h; omega) (fun h => by have := (cond4_iff t).mp h; omega) (fun h => by have := (cond5_iff t).mp h; omega) ((cond6_iff t).mpr (by omega)) K)
  isplitl [HI]; · iexact HI
  isplitl [HO9]; · iexact HO9
  isplitl [HS]; · iexact HS
  iintro ⟨HI, HO9, HS⟩
  iapply Hk
  isplitl [HS Hg]
  · iapply done m c t
    isplitl [HS]; · iexact HS
    iexact Hg
  isplitl [HI]; · iexact HI
  iexact HO9

theorem pointG (c : Dev nD) (t : Fin cfg0.N) (h : t.val % 14 = 6) (K : PUnit → sProp 𝕄) :
    iprop(Phi m c t.castSucc
        ∗ Ins c (st0 t) (st1 t) (st2 t) (st3 t) (st4 t) (st5 t) (st6 t) (st7 t) (st8 t) (iblk m c 0 t) (iblk m c 1 t) (iblk m c 2 t) (iblk m c 3 t) (iblk m c 4 t) (iblk m c 5 t) (iblk m c 6 t) (iblk m c 7 t) (iblk m c 8 t)
        ∗ (∃ d, owns (c : Thread nD τ) (st9 t) fullShare d)
        ∗ (iprop(Phi m c t.succ
            ∗ Ins c (st0 t) (st1 t) (st2 t) (st3 t) (st4 t) (st5 t) (st6 t) (st7 t) (st8 t) (iblk m c 0 t) (iblk m c 1 t) (iblk m c 2 t) (iblk m c 3 t) (iblk m c 4 t) (iblk m c 5 t) (iblk m c 6 t) (iblk m c 7 t) (iblk m c 8 t)
            ∗ owns (c : Thread nD τ) (st9 t) fullShare (res9 m c t)) -∗ K ⟨⟩))
      ⊢ wp frame (wpE (defs₀ (F := F)) Variants.none c none) Set.univ (bodyAt t) K := by
  have e9 : res9 m c t = k0_pay9 (norm m c t) (iblk m c 4 t) (iblk m c 5 t) (iblk m c 6 t) := by unfold res9; rw [if_pos h]
  rw [e9]
  iintro ⟨HP, HI, HO9, Hk⟩
  unfold Phi
  icases HP with ⟨%y, %hy, HS, Hg⟩
  obtain rfl : y = norm m c t := step m c t y (by omega) hy
  iapply (runG c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (iblk m c 0 t) (iblk m c 1 t) (iblk m c 2 t) (iblk m c 3 t) (iblk m c 4 t) (iblk m c 5 t) (iblk m c 6 t) (iblk m c 7 t) (iblk m c 8 t) (norm m c t) (fun h => by have := (first_iff t).mp h; omega) (fun h => by have := (cond2_iff t).mp h; omega) (fun h => by have := (cond3_iff t).mp h; omega) (fun h => by have := (cond4_iff t).mp h; omega) ((cond5_iff t).mpr (by omega)) (fun h => by have := (cond6_iff t).mp h; omega) K)
  isplitl [HI]; · iexact HI
  isplitl [HO9]; · iexact HO9
  isplitl [HS]; · iexact HS
  iintro ⟨HI, HO9, HS⟩
  iapply Hk
  isplitl [HS Hg]
  · iapply done m c t
    isplitl [HS]; · iexact HS
    iexact Hg
  isplitl [HI]; · iexact HI
  iexact HO9

theorem pointQ (c : Dev nD) (t : Fin cfg0.N) (h : t.val % 14 = 7) (K : PUnit → sProp 𝕄) :
    iprop(Phi m c t.castSucc
        ∗ Ins c (st0 t) (st1 t) (st2 t) (st3 t) (st4 t) (st5 t) (st6 t) (st7 t) (st8 t) (iblk m c 0 t) (iblk m c 1 t) (iblk m c 2 t) (iblk m c 3 t) (iblk m c 4 t) (iblk m c 5 t) (iblk m c 6 t) (iblk m c 7 t) (iblk m c 8 t)
        ∗ (∃ d, owns (c : Thread nD τ) (st9 t) fullShare d)
        ∗ (iprop(Phi m c t.succ
            ∗ Ins c (st0 t) (st1 t) (st2 t) (st3 t) (st4 t) (st5 t) (st6 t) (st7 t) (st8 t) (iblk m c 0 t) (iblk m c 1 t) (iblk m c 2 t) (iblk m c 3 t) (iblk m c 4 t) (iblk m c 5 t) (iblk m c 6 t) (iblk m c 7 t) (iblk m c 8 t)
            ∗ owns (c : Thread nD τ) (st9 t) fullShare (res9 m c t)) -∗ K ⟨⟩))
      ⊢ wp frame (wpE (defs₀ (F := F)) Variants.none c none) Set.univ (bodyAt t) K := by
  have e9 : res9 m c t = k0_pay3 (norm m c t) (iblk m c 4 t) (iblk m c 7 t) (iblk m c 8 t) := by unfold res9; rw [if_neg (by omega), if_pos h]
  rw [e9]
  iintro ⟨HP, HI, HO9, Hk⟩
  unfold Phi
  icases HP with ⟨%y, %hy, HS, Hg⟩
  obtain rfl : y = norm m c t := step m c t y (by omega) hy
  iapply (runQ c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (iblk m c 0 t) (iblk m c 1 t) (iblk m c 2 t) (iblk m c 3 t) (iblk m c 4 t) (iblk m c 5 t) (iblk m c 6 t) (iblk m c 7 t) (iblk m c 8 t) (norm m c t) (fun h => by have := (first_iff t).mp h; omega) ((cond2_iff t).mpr (by omega)) (fun h => by have := (cond3_iff t).mp h; omega) (fun h => by have := (cond4_iff t).mp h; omega) (fun h => by have := (cond5_iff t).mp h; omega) (fun h => by have := (cond6_iff t).mp h; omega) K)
  isplitl [HI]; · iexact HI
  isplitl [HO9]; · iexact HO9
  isplitl [HS]; · iexact HS
  iintro ⟨HI, HO9, HS⟩
  iapply Hk
  isplitl [HS Hg]
  · iapply done m c t
    isplitl [HS]; · iexact HS
    iexact Hg
  isplitl [HI]; · iexact HI
  iexact HO9

theorem pointK (c : Dev nD) (t : Fin cfg0.N) (h : t.val % 14 = 8) (K : PUnit → sProp 𝕄) :
    iprop(Phi m c t.castSucc
        ∗ Ins c (st0 t) (st1 t) (st2 t) (st3 t) (st4 t) (st5 t) (st6 t) (st7 t) (st8 t) (iblk m c 0 t) (iblk m c 1 t) (iblk m c 2 t) (iblk m c 3 t) (iblk m c 4 t) (iblk m c 5 t) (iblk m c 6 t) (iblk m c 7 t) (iblk m c 8 t)
        ∗ (∃ d, owns (c : Thread nD τ) (st9 t) fullShare d)
        ∗ (∃ d, owns (c : Thread nD τ) (st10 t) fullShare d)
        ∗ (iprop(Phi m c t.succ
            ∗ Ins c (st0 t) (st1 t) (st2 t) (st3 t) (st4 t) (st5 t) (st6 t) (st7 t) (st8 t) (iblk m c 0 t) (iblk m c 1 t) (iblk m c 2 t) (iblk m c 3 t) (iblk m c 4 t) (iblk m c 5 t) (iblk m c 6 t) (iblk m c 7 t) (iblk m c 8 t)
            ∗ owns (c : Thread nD τ) (st9 t) fullShare (res9 m c t)
            ∗ owns (c : Thread nD τ) (st10 t) fullShare (res10 m c t)) -∗ K ⟨⟩))
      ⊢ wp frame (wpE (defs₀ (F := F)) Variants.none c none) Set.univ (bodyAt t) K := by
  have e9 : res9 m c t = k0_pay5 (norm m c t) (iblk m c 4 t) (iblk m c 7 t) (iblk m c 8 t) := by unfold res9; rw [if_neg (by omega), if_neg (by omega), if_pos h]
  have e10 : res10 m c t = k0_pay6 (norm m c t) (iblk m c 4 t) (iblk m c 7 t) (iblk m c 8 t) := by unfold res10; rw [at_self 8 (by decide) t h]
  rw [e9, e10]
  iintro ⟨HP, HI, HO9, HO10, Hk⟩
  unfold Phi
  icases HP with ⟨%y, %hy, HS, Hg⟩
  obtain rfl : y = norm m c t := step m c t y (by omega) hy
  iapply (runK c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (iblk m c 0 t) (iblk m c 1 t) (iblk m c 2 t) (iblk m c 3 t) (iblk m c 4 t) (iblk m c 5 t) (iblk m c 6 t) (iblk m c 7 t) (iblk m c 8 t) (norm m c t) (fun h => by have := (first_iff t).mp h; omega) (fun h => by have := (cond2_iff t).mp h; omega) ((cond3_iff t).mpr (by omega)) (fun h => by have := (cond4_iff t).mp h; omega) (fun h => by have := (cond5_iff t).mp h; omega) (fun h => by have := (cond6_iff t).mp h; omega) K)
  isplitl [HI]; · iexact HI
  isplitl [HO9]; · iexact HO9
  isplitl [HO10]; · iexact HO10
  isplitl [HS]; · iexact HS
  iintro ⟨HI, HO9, HO10, HS⟩
  iapply Hk
  isplitl [HS Hg]
  · iapply done m c t
    isplitl [HS]; · iexact HS
    iexact Hg
  isplitl [HI]; · iexact HI
  isplitl [HO9]; · iexact HO9
  iexact HO10

theorem pointV (c : Dev nD) (t : Fin cfg0.N) (h : t.val % 14 = 9) (K : PUnit → sProp 𝕄) :
    iprop(Phi m c t.castSucc
        ∗ Ins c (st0 t) (st1 t) (st2 t) (st3 t) (st4 t) (st5 t) (st6 t) (st7 t) (st8 t) (iblk m c 0 t) (iblk m c 1 t) (iblk m c 2 t) (iblk m c 3 t) (iblk m c 4 t) (iblk m c 5 t) (iblk m c 6 t) (iblk m c 7 t) (iblk m c 8 t)
        ∗ (∃ d, owns (c : Thread nD τ) (st9 t) fullShare d)
        ∗ (∃ d, owns (c : Thread nD τ) (st11 t) fullShare d)
        ∗ (iprop(Phi m c t.succ
            ∗ Ins c (st0 t) (st1 t) (st2 t) (st3 t) (st4 t) (st5 t) (st6 t) (st7 t) (st8 t) (iblk m c 0 t) (iblk m c 1 t) (iblk m c 2 t) (iblk m c 3 t) (iblk m c 4 t) (iblk m c 5 t) (iblk m c 6 t) (iblk m c 7 t) (iblk m c 8 t)
            ∗ owns (c : Thread nD τ) (st9 t) fullShare (res9 m c t)
            ∗ owns (c : Thread nD τ) (st11 t) fullShare (res11 m c t)) -∗ K ⟨⟩))
      ⊢ wp frame (wpE (defs₀ (F := F)) Variants.none c none) Set.univ (bodyAt t) K := by
  have e9 : res9 m c t = k0_pay7 (norm m c t) (iblk m c 4 t) := by unfold res9; rw [if_neg (by omega), if_neg (by omega), if_neg (by omega)]; rfl
  have e11 : res11 m c t = k0_pay8 (norm m c t) (iblk m c 4 t) := by unfold res11; rw [at_self 9 (by decide) t h]
  rw [e9, e11]
  iintro ⟨HP, HI, HO9, HO11, Hk⟩
  unfold Phi
  icases HP with ⟨%y, %hy, HS, Hg⟩
  obtain rfl : y = norm m c t := step m c t y (by omega) hy
  iapply (runV c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (iblk m c 0 t) (iblk m c 1 t) (iblk m c 2 t) (iblk m c 3 t) (iblk m c 4 t) (iblk m c 5 t) (iblk m c 6 t) (iblk m c 7 t) (iblk m c 8 t) (norm m c t) (fun h => by have := (first_iff t).mp h; omega) (fun h => by have := (cond2_iff t).mp h; omega) (fun h => by have := (cond3_iff t).mp h; omega) ((cond4_iff t).mpr (by omega)) (fun h => by have := (cond5_iff t).mp h; omega) (fun h => by have := (cond6_iff t).mp h; omega) K)
  isplitl [HI]; · iexact HI
  isplitl [HO9]; · iexact HO9
  isplitl [HO11]; · iexact HO11
  isplitl [HS]; · iexact HS
  iintro ⟨HI, HO9, HO11, HS⟩
  iapply Hk
  isplitl [HS Hg]
  · iapply done m c t
    isplitl [HS]; · iexact HS
    iexact Hg
  isplitl [HI]; · iexact HI
  isplitl [HO9]; · iexact HO9
  iexact HO11

end Cert.Kernel3Ideal.Inproj

end
-- ==== Proof.Inproj.Frame.lean ====
/-
  The projection kernel's @main: the host prepares the weights and the rotary tables, the grid runs, the host
  reshapes the transposed keys and values. Every argument ends unchanged, each result as the grid leaves it.
-/
module

public import proofs.«01_k».proof.Proof.Inproj.Launch
public import Idealize.ShloMosaic.Lib.Pipeline.TableIdle
public import Idealize.ShloMosaic.Lib.StableHlo.Run

@[expose] public section

set_option maxRecDepth 16384

noncomputable section

namespace Cert.Kernel3Ideal.Inproj

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-- The resources the proof works with. -/
local notation "𝕄" => MT nD τ sig Unit (Elt F) ℕ (UR sig nD τ) ℕ

variable (m : (ℓ : Loc nD τ sig) → Buf (Elt F) ℓ) (ρ : Dev nD → PrngReg)

/-! ## The body at a point -/

/-- The inputs' buffers, found as their blocks. -/
theorem ins_of (c : Dev nD) (t : Fin cfg0.N) (R : sProp 𝕄) :
    iprop((∃ d, owns (c : Thread nD τ) (st0 t) fullShare ((dats m 0 c).before 0 t d)) ∗ (∃ d, owns (c : Thread nD τ) (st1 t) fullShare ((dats m 0 c).before 1 t d)) ∗ (∃ d, owns (c : Thread nD τ) (st2 t) fullShare ((dats m 0 c).before 2 t d)) ∗ (∃ d, owns (c : Thread nD τ) (st3 t) fullShare ((dats m 0 c).before 3 t d)) ∗ (∃ d, owns (c : Thread nD τ) (st4 t) fullShare ((dats m 0 c).before 4 t d)) ∗ (∃ d, owns (c : Thread nD τ) (st5 t) fullShare ((dats m 0 c).before 5 t d)) ∗ (∃ d, owns (c : Thread nD τ) (st6 t) fullShare ((dats m 0 c).before 6 t d)) ∗ (∃ d, owns (c : Thread nD τ) (st7 t) fullShare ((dats m 0 c).before 7 t d)) ∗ (∃ d, owns (c : Thread nD τ) (st8 t) fullShare ((dats m 0 c).before 8 t d)) ∗ R)
      ⊢ iprop(Ins c (st0 t) (st1 t) (st2 t) (st3 t) (st4 t) (st5 t) (st6 t) (st7 t) (st8 t) (iblk m c 0 t) (iblk m c 1 t) (iblk m c 2 t) (iblk m c 3 t) (iblk m c 4 t) (iblk m c 5 t) (iblk m c 6 t) (iblk m c 7 t) (iblk m c 8 t) ∗ R) := by
  simp only [before_0, before_1, before_2, before_3, before_4, before_5, before_6, before_7, before_8]
  unfold Ins
  iintro ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, HR⟩
  isplitr [HR]
  · isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [H7]; · iapply rep_of_owns; iexact H7
    iapply rep_of_owns; iexact H8
  iexact HR

/-- The inputs' buffers, left as they were found. -/
theorem ins_leave (c : Dev nD) (t : Fin cfg0.N) (R : sProp 𝕄) :
    iprop(Ins c (st0 t) (st1 t) (st2 t) (st3 t) (st4 t) (st5 t) (st6 t) (st7 t) (st8 t) (iblk m c 0 t) (iblk m c 1 t) (iblk m c 2 t) (iblk m c 3 t) (iblk m c 4 t) (iblk m c 5 t) (iblk m c 6 t) (iblk m c 7 t) (iblk m c 8 t) ∗ R)
      ⊢ iprop((dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ R) := by
  rw [leave_0, leave_1, leave_2, leave_3, leave_4, leave_5, leave_6, leave_7, leave_8]
  unfold Ins
  iintro ⟨⟨H0, H1, H2, H3, H4, H5, H6, H7, H8⟩, HR⟩
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  isplitl [H7]; · iapply owns_of_rep; iexact H7
  isplitl [H8]; · iapply owns_of_rep; iexact H8
  iexact HR

/-- The body at a point, whichever of the six kinds it is. -/
theorem body_grouped (c : Dev nD) (t : Fin cfg0.N) :
    iprop(Phi m c t.castSucc ∗ (dats m 0 c).owesAt () t.castSucc ∗ Ins c (st0 t) (st1 t) (st2 t) (st3 t) (st4 t) (st5 t) (st6 t) (st7 t) (st8 t) (iblk m c 0 t) (iblk m c 1 t) (iblk m c 2 t) (iblk m c 3 t) (iblk m c 4 t) (iblk m c 5 t) (iblk m c 6 t) (iblk m c 7 t) (iblk m c 8 t)
        ∗ (∃ d, owns (c : Thread nD τ) (st9 t) fullShare ((dats m 0 c).before 9 t d)) ∗ (∃ d, owns (c : Thread nD τ) (st10 t) fullShare ((dats m 0 c).before 10 t d)) ∗ (∃ d, owns (c : Thread nD τ) (st11 t) fullShare ((dats m 0 c).before 11 t d)))
      ⊢ wp frame (wpE (defs₀ (F := F)) Variants.none c none) Set.univ (bodyAt t) fun _ =>
          iprop(Phi m c t.succ ∗ (dats m 0 c).owesAt () t.castSucc ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t) := by
  rw [leave_9]
  have hl : t.val % 14 < 14 := Nat.mod_lt _ (by decide)
  iintro ⟨HP, Ho, HI, ⟨%d9, H9⟩, H10, H11⟩
  rcases (by omega : t.val % 14 = 0 ∨ t.val % 14 = 6 ∨ t.val % 14 = 7 ∨ t.val % 14 = 8 ∨ t.val % 14 = 9 ∨ ((0 < t.val % 14 ∧ t.val % 14 < 6) ∨ 9 < t.val % 14)) with h | h | h | h | h | h
  · iapply (point0 m c t h _)
    isplitl [HP]; · iexact HP
    isplitl [HI]; · iexact HI
    isplitl [H9]; · iexists _; iexact H9
    iintro ⟨HP, HI, H9⟩
    isplitl [HP]; · iexact HP
    isplitl [Ho]; · iexact Ho
    iapply ins_leave m c t _
    isplitl [HI]; · iexact HI
    isplitl [H9]; · iexact H9
    isplitl [H10]; · iapply pass_10 m c t (by omega); iexact H10
    iapply pass_11 m c t (by omega); iexact H11
  · iapply (pointG m c t h _)
    isplitl [HP]; · iexact HP
    isplitl [HI]; · iexact HI
    isplitl [H9]; · iexists _; iexact H9
    iintro ⟨HP, HI, H9⟩
    isplitl [HP]; · iexact HP
    isplitl [Ho]; · iexact Ho
    iapply ins_leave m c t _
    isplitl [HI]; · iexact HI
    isplitl [H9]; · iexact H9
    isplitl [H10]; · iapply pass_10 m c t (by omega); iexact H10
    iapply pass_11 m c t (by omega); iexact H11
  · iapply (pointQ m c t h _)
    isplitl [HP]; · iexact HP
    isplitl [HI]; · iexact HI
    isplitl [H9]; · iexists _; iexact H9
    iintro ⟨HP, HI, H9⟩
    isplitl [HP]; · iexact HP
    isplitl [Ho]; · iexact Ho
    iapply ins_leave m c t _
    isplitl [HI]; · iexact HI
    isplitl [H9]; · iexact H9
    isplitl [H10]; · iapply pass_10 m c t (by omega); iexact H10
    iapply pass_11 m c t (by omega); iexact H11
  · iapply (pointK m c t h _)
    isplitl [HP]; · iexact HP
    isplitl [HI]; · iexact HI
    isplitl [H9]; · iexists _; iexact H9
    icases H10 with ⟨%d10, H10⟩
    isplitl [H10]; · iexists _; iexact H10
    iintro ⟨HP, HI, H9, H10⟩
    isplitl [HP]; · iexact HP
    isplitl [Ho]; · iexact Ho
    iapply ins_leave m c t _
    isplitl [HI]; · iexact HI
    isplitl [H9]; · iexact H9
    isplitl [H10]; · rw [leave_10 m c t h]; iexact H10
    iapply pass_11 m c t (by omega); iexact H11
  · iapply (pointV m c t h _)
    isplitl [HP]; · iexact HP
    isplitl [HI]; · iexact HI
    isplitl [H9]; · iexists _; iexact H9
    icases H11 with ⟨%d11, H11⟩
    isplitl [H11]; · iexists _; iexact H11
    iintro ⟨HP, HI, H9, H11⟩
    isplitl [HP]; · iexact HP
    isplitl [Ho]; · iexact Ho
    iapply ins_leave m c t _
    isplitl [HI]; · iexact HI
    isplitl [H9]; · iexact H9
    isplitl [H10]; · iapply pass_10 m c t (by omega); iexact H10
    rw [leave_11 m c t h]; iexact H11
  · iapply (pointP m c t h _)
    isplitl [HP]; · iexact HP
    isplitl [HI]; · iexact HI
    isplitl [H9]; · iexists _; iexact H9
    iintro ⟨HP, HI, H9⟩
    isplitl [HP]; · iexact HP
    isplitl [Ho]; · iexact Ho
    iapply ins_leave m c t _
    isplitl [HI]; · iexact HI
    isplitl [H9]; · iexact H9
    isplitl [H10]; · iapply pass_10 m c t (by omega); iexact H10
    iapply pass_11 m c t (by omega); iexact H11

theorem sound_body (c : Dev nD) (t : Fin cfg0.N) :
    iprop((dats m 0 c).Φ t.castSucc ∗ (dats m 0 c).owesAt () t.castSucc
        ∗ (∃ d, owns (c : Thread nD τ) (st0 t) fullShare ((dats m 0 c).before 0 t d)) ∗ (∃ d, owns (c : Thread nD τ) (st1 t) fullShare ((dats m 0 c).before 1 t d)) ∗ (∃ d, owns (c : Thread nD τ) (st2 t) fullShare ((dats m 0 c).before 2 t d)) ∗ (∃ d, owns (c : Thread nD τ) (st3 t) fullShare ((dats m 0 c).before 3 t d)) ∗ (∃ d, owns (c : Thread nD τ) (st4 t) fullShare ((dats m 0 c).before 4 t d)) ∗ (∃ d, owns (c : Thread nD τ) (st5 t) fullShare ((dats m 0 c).before 5 t d)) ∗ (∃ d, owns (c : Thread nD τ) (st6 t) fullShare ((dats m 0 c).before 6 t d)) ∗ (∃ d, owns (c : Thread nD τ) (st7 t) fullShare ((dats m 0 c).before 7 t d)) ∗ (∃ d, owns (c : Thread nD τ) (st8 t) fullShare ((dats m 0 c).before 8 t d)) ∗ (∃ d, owns (c : Thread nD τ) (st9 t) fullShare ((dats m 0 c).before 9 t d)) ∗ (∃ d, owns (c : Thread nD τ) (st10 t) fullShare ((dats m 0 c).before 10 t d)) ∗ (∃ d, owns (c : Thread nD τ) (st11 t) fullShare ((dats m 0 c).before 11 t d)))
      ⊢ wp frame (wpE (defs₀ (F := F)) Variants.none c none) Set.univ (bodyAt t) fun _ =>
          iprop((dats m 0 c).Φ t.succ ∗ (dats m 0 c).owesAt () t.succ
            ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t) := by
  rw [show (dats m 0 c).Φ t.succ = Phi m c t.succ from rfl, show (dats m 0 c).Φ t.castSucc = Phi m c t.castSucc from rfl,
    show (dats m 0 c).owesAt () t.succ = (dats m 0 c).owesAt () t.castSucc from rfl]
  refine BIBase.Entails.trans ?_ (body_grouped m c t)
  iintro ⟨HP, Ho, HR⟩
  isplitl [HP]; · iexact HP
  isplitl [Ho]; · iexact Ho
  iapply ins_of m c t _
  iexact HR

theorem defs₀_row (t : Fin cfg0.N) : defs₀ (F := F) .tc cfg0.body (cfg0.bodyArgs t (cfg0.slots t)) = bodyAt t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The host's lines -/

/-- What the lines before the grid write, and what those after it write. -/
abbrev writes0 : List (Ref sig .tc) := [main_v0, main_cst, main_v1, main_v2, main_v3, main_v4, main_v5, main_cst_0, main_v6, main_v7, main_v8, main_c, main_v9, main_v10, main_v11, main_v12, main_v13, main_v14, main_v15, main_v16, main_cst_1, main_v17, main_v18, main_cst_2, main_v19, main_v20, main_cst_3, main_v21, main_v22, main_v23, main_v24, main_v25, main_v26, main_v27, main_v28, main_v29, main_v30, main_v31, main_v32, main_v33, main_v34, main_v35, main_v36, main_v37, main_v38, main_v39, main_v40]
abbrev writes1 : List (Ref sig .tc) := [main_v42, main_v43, main_v44, main_v45]

theorem writes0_sub : (hostOps0 (F := F)).Forall fun op => op.writes ⊆ (writes0.map (Proc.devRef (τ := τ) .tc)).toFinset :=
  StableHlo.forall_writes_sub_of_map rfl
theorem writes1_sub : (hostOps1 (F := F)).Forall fun op => op.writes ⊆ (writes1.map (Proc.devRef (τ := τ) .tc)).toFinset :=
  StableHlo.forall_writes_sub_of_map rfl

theorem fresh0 : (hostOps0 (F := F)).Forall fun op => op.fresh = ∅ := ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem fresh1 : (hostOps1 (F := F)).Forall fun op => op.fresh = ∅ := ⟨rfl, rfl, rfl, rfl⟩

theorem V0_of (c : Dev nD) (r : Ref sig .tc) (hr : r ∉ writes0) : V0 m c (Proc.devRef .tc r) = m ((c : Thread nD τ).loc r) :=
  StableHlo.after_of_writes_sub (hostOps0 (F := F)) _ writes0_sub hr

theorem tail_sub : ∀ ops ∈ [hostOps1 (F := F)], ∀ op ∈ ops, op.bufs ⊆ Pipeline.tailRefs sig Pipeline.Prefetch.none spec0 := by
  rw [Pipeline.tailRefs_none spec0 launch0.win.arr_unscoped]
  intro ops hops op hop
  obtain rfl := List.mem_singleton.mp hops
  exact Pipeline.sub_ucRefs op ((List.forall_iff_forall_mem.mp hostOps1_sub) op hop)

theorem tail_fresh : ∀ ops ∈ [hostOps1 (F := F)], ∀ op ∈ ops, op.fresh = ∅ := by
  intro ops hops op hop
  obtain rfl := List.mem_singleton.mp hops
  exact (List.forall_iff_forall_mem.mp fresh1) op hop

theorem arr_not_written : ∀ w : Fin 12, Pipeline.arrRef spec0 w ∉ writes1 := by decide

theorem tail_keeps : ∀ ops ∈ [hostOps1 (F := F)], ∀ op ∈ ops, ∀ w, Proc.devRef .tc (Pipeline.arrRef spec0 w) ∉ op.writes := by
  intro ops hops op hop w hb
  obtain rfl := List.mem_singleton.mp hops
  obtain ⟨y, hy, he⟩ := List.mem_map.mp (List.mem_toFinset.mp ((List.forall_iff_forall_mem.mp writes1_sub) op hop hb))
  exact arr_not_written w (Proc.devRef_injective _ he ▸ hy)

/-! ## The launch -/

theorem share_full (c : Dev nD) (w : Fin cfg0.W) : (dats m 0 c).share w = fullShare := by unfold Dat.share; split <;> rfl

theorem enter (c : Dev nD) : Pipeline.ΦA spec0 c ⊢ (dats m 0 c).Φ 0 := by
  rw [show (dats m 0 c).Φ 0 = Phi m c 0 from rfl]
  unfold Pipeline.ΦA Phi
  rw [scopedRest0_eq]
  iintro ⟨⟨%f, HS⟩, Hg⟩
  iexists f
  isplitr
  · ipureintro; intro s hs; exact absurd hs (Nat.succ_ne_zero _)
  isplitl [HS]; · rw [owns_whole]; iexact HS
  iexact Hg

theorem leave (c : Dev nD) : (dats m 0 c).Φ (Fin.last cfg0.N) ⊢ Pipeline.ΦA spec0 c := by
  rw [show (dats m 0 c).Φ (Fin.last cfg0.N) = Phi m c (Fin.last _) from rfl]
  unfold Pipeline.ΦA Phi
  rw [scopedRest0_eq]
  iintro ⟨%y, -, HS, Hg⟩
  isplitl [HS]
  · iexists y; rw [owns_whole]; exact .rfl
  iexact Hg

set_option backward.isDefEq.respectTransparency.types false in
set_option maxHeartbeats 4000000 in
/-- @main from any memory with zero counters: the grid's arrays as the schedule leaves them, the host's after it. -/
theorem run : θ_run (defs (F := F)) (onTc (τ := τ) (main (F := F))) ⟨m, fun _ => 0, ρ⟩
    (fun r => Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (hbody := fun c => (body_obligation m c).loose) (hshare := share_full m) (howed := fun _ _ => rfl)
    (V₀ := V0 m) (opss := [hostOps1]) (hsub := tail_sub) (hfresh := tail_fresh) (hkeep := tail_keeps)
    (hmain := Pipeline.hmain_around cfgs 0 defs₀ Variants.none m main [hostOps0] [hostOps1] hostOps0_sub fresh0 fun c => (main_chain c).trans rfl)
    (hA := A_eq m) (hin := enter m) (hout := leave m)
    (Q' := fun r => Pipeline.FramePost cfgs (dats m) 0 (Pipeline.afterTail₀ cfgs (dats m) 0 (V0 m) [hostOps1]) r ∧ r.2.sem = fun _ => 0) (hQ' := fun _ h => h)

/-! ## The final memory -/

/-- A buffer neither the host nor the grid writes ends as it was. -/
theorem kept (c : Dev nD) (r : Ref sig .tc) (h0 : r ∉ writes0) (h1 : r ∉ writes1) (hw : ∀ w, Pipeline.arrRef spec0 w ≠ r) :
    Pipeline.afterTail₀ cfgs (dats m) 0 (V0 m) [hostOps1] c r = m ((c : Thread nD τ).loc r) := by
  unfold Pipeline.afterTail₀
  refine (StableHlo.after_of_writes_sub (hostOps1 (F := F)) _ writes1_sub h1).trans ?_
  rw [Pipeline.withArrays_of_ne spec0 c (V0 m c) _ r hw, V0_of m c r h0]

/-- The keys and values, as the host leaves them: the grid's transposed arrays, re-read by position. -/
def tokens (x : S8x512x2048.Idx → Elt F .f32) : S1x8x2048x8x64.Idx → Elt F .f32 :=
  transpose S1x8x2048x8x64 [0, 1, 4, 2, 3] (shapeCast S1x8x8x64x2048 x shapeCasts_S8x512x2048_S1x8x8x64x2048) transposes_S1x8x8x64x2048_S1x8x2048x8x64_0_1_4_2_3

theorem tail_v43 (c : Dev nD) : Pipeline.afterTail₀ cfgs (dats m) 0 (V0 m) [hostOps1] c main_v43 = tokens ((dats m 0 c).arrAt 10 cfg0.N) := by
  unfold Pipeline.afterTail₀
  have e : Pipeline.withArrays spec0 c (V0 m c) (fun w => (dats m 0 c).arrAt w cfg0.N) (Proc.devRef .tc main_v41_1) = (dats m 0 c).arrAt 10 cfg0.N :=
    Pipeline.withArrays_arr spec0 launch0.win.arr_inj c (V0 m c) (fun w => (dats m 0 c).arrAt w cfg0.N) 10
  show StableHlo.after (hostOps1 (F := F)) _ (Proc.devRef .tc main_v43) = _
  after_results
  rw [e]
  rfl

theorem tail_v45 (c : Dev nD) : Pipeline.afterTail₀ cfgs (dats m) 0 (V0 m) [hostOps1] c main_v45 = tokens ((dats m 0 c).arrAt 11 cfg0.N) := by
  unfold Pipeline.afterTail₀
  have e : Pipeline.withArrays spec0 c (V0 m c) (fun w => (dats m 0 c).arrAt w cfg0.N) (Proc.devRef .tc main_v41_2) = (dats m 0 c).arrAt 11 cfg0.N :=
    Pipeline.withArrays_arr spec0 launch0.win.arr_inj c (V0 m c) (fun w => (dats m 0 c).arrAt w cfg0.N) 11
  show StableHlo.after (hostOps1 (F := F)) _ (Proc.devRef .tc main_v45) = _
  after_results
  rw [e]
  rfl

theorem not_arr (r : Ref sig .tc) (h : r ∉ (List.ofFn fun w : Fin 12 => Pipeline.arrRef spec0 w)) : ∀ w, Pipeline.arrRef spec0 w ≠ r :=
  fun w e => h (List.mem_ofFn.mpr ⟨w, e⟩)

/-- Every result as the grid and the host after it leave it, the arguments unchanged, the counters at zero. -/
theorem run_all :
    θ_run (defs (F := F)) (onTc (τ := τ) (main (F := F))) ⟨m, fun _ => 0, ρ⟩ (fun r => (∀ c : Dev nD,
      (r.2.mem ((c.tc : Thread nD τ).loc main_v41_0) = (dats m 0 c).arrAt 9 cfg0.N
      ∧ r.2.mem ((c.tc : Thread nD τ).loc main_v43) = tokens ((dats m 0 c).arrAt 10 cfg0.N)
      ∧ r.2.mem ((c.tc : Thread nD τ).loc main_v45) = tokens ((dats m 0 c).arrAt 11 cfg0.N))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run defs _ _).mono (fun r h => ⟨fun c => ?_, h.2⟩) (run m ρ)
  have hr : ∀ b : Ref sig .tc, ∀ hb : b ∈ Pipeline.restRefs sig spec0, r.2.mem ((c : Thread nD τ).loc b) = Pipeline.afterTail₀ cfgs (dats m) 0 (V0 m) [hostOps1] c b := (h.1 c).2
  have hk : ∀ b : Ref sig .tc, b ∈ Pipeline.restRefs sig spec0 → b ∉ writes0 → b ∉ writes1 → (b ∉ List.ofFn fun w : Fin 12 => Pipeline.arrRef spec0 w) →
      r.2.mem ((c : Thread nD τ).loc b) = m ((c : Thread nD τ).loc b) := fun b hb h0 h1 hw => (hr b hb).trans (kept m c b h0 h1 (not_arr b hw))
  refine ⟨⟨(h.1 c).1 9, (hr main_v43 ?_).trans (tail_v43 m c), (hr main_v45 ?_).trans (tail_v45 m c)⟩,
    hk main_arg0 ?_ (by decide) (by decide) (by decide),
    ((h.1 c).1 1).trans (((dats m 0 c).arrAt_in 1 rfl _).trans ((A_eq m c 1).trans (V0_of m c main_arg1 (by decide)))),
    ((h.1 c).1 2).trans (((dats m 0 c).arrAt_in 2 rfl _).trans ((A_eq m c 2).trans (V0_of m c main_arg2 (by decide)))),
    hk main_arg3 ?_ (by decide) (by decide) (by decide), hk main_arg4 ?_ (by decide) (by decide) (by decide),
    hk main_arg5 ?_ (by decide) (by decide) (by decide), hk main_arg6 ?_ (by decide) (by decide) (by decide)⟩
  all_goals exact Pipeline.mem_restRefs_of _ rfl (fun w => by fin_cases w <;> exact fun h => by cases h)

/-- The frame: the arguments end unchanged and the counters at zero. -/
theorem frame_at :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => (h.1 c).2, h.2⟩) (run_all m ρ)

end Cert.Kernel3Ideal.Inproj

end
-- ==== Proof.Inproj.Spec.lean ====
module

public import Idealize.ShloMosaic.Lib.Pipeline.ValueKit
public import Idealize.ShloMosaic.Lib.IdealHost

@[expose] public section

set_option maxRecDepth 16384

noncomputable section

/-! What the input projection computes, over the extended reals: a normalised token's projection, whose columns are left as they are, gated, or rotated by the token's position. -/

namespace Cert.Inproj

open Idealize.ShloMosaic

/-- A token normalised by its root mean square, then scaled and shifted. -/
def nrm (x g sc sh : Fin 1024 → EReal) (i : Fin 1024) : EReal :=
  x i * Ideal.rsqrt (Ideal.div (∑ k, x k * x k) (Ideal.ofBits FTy.f32 0x44800000#32) + Ideal.ofBits FTy.f32 0x358637BD#32) * g i * (1 + sc i) + sh i

/-- The angle by which the pair `e` of a head is rotated at position `s`. -/
def ang (s e : Nat) : EReal :=
  FloatOps.sitofp (F := Ideal) FTy.f32 (BitVec.ofNat 32 s) *
    Ideal.div 1 (Ideal.pow (Ideal.ofBits FTy.f32 0x461C4000#32)
      (Ideal.div (FloatOps.sitofp (F := Ideal) FTy.f32 (BitVec.ofNat 32 e)) (Ideal.ofBits FTy.f32 0x42000000#32)))

/-- The lane paired with lane `q` in its head of 64 lanes. -/
def mate (q : Fin 512) : Fin 512 :=
  if h : q.val % 64 < 32 then ⟨q.val + 32, by omega⟩ else ⟨q.val - 32, by omega⟩

/-- Eight heads of 64 lanes, each pair of lanes rotated at position `s`. -/
def rot (P : Fin 512 → EReal) (s : Nat) (q : Fin 512) : EReal :=
  if q.val % 64 < 32 then P q * Ideal.cos (ang s (q.val % 64)) - P (mate q) * Ideal.sin (ang s (q.val % 64))
  else P q * Ideal.cos (ang s (q.val % 64 - 32)) + P (mate q) * Ideal.sin (ang s (q.val % 64 - 32))

/-- A sixteenth of the logarithm of the sigmoid. -/
def gate (z : EReal) : EReal :=
  (min z 0 - Ideal.log (1 + Ideal.exp (0 - FloatOps.absf (F := Ideal) (φ := FTy.f32) z))) * Ideal.ofBits FTy.f32 0x3D800000#32

/-- Block `j` of 512 columns of the result at a token of position `s`, its projection being `p`. -/
def out (p : Fin 6672 → EReal) (w2 : Fin 16 → Fin 512 → EReal) (b2 : Fin 512 → EReal) (s : Nat) (j : Fin 14) (n : Fin 512) : EReal :=
  if h : j.val < 6 then p ⟨j.val * 512 + n.val, by omega⟩
  else if j.val = 6 then gate (∑ l : Fin 16, p ⟨3072 + l.val, by omega⟩ * w2 l n + b2 n)
  else if j.val = 7 then rot (fun q => p ⟨3088 + q.val, by omega⟩) s n
  else if j.val = 8 then rot (fun q => p ⟨3600 + q.val, by omega⟩) s n
  else p ⟨j.val * 512 + n.val - 496, by omega⟩

theorem sixteen : Ideal.ofBits FTy.f32 0x41800000#32 = ((16 : ℝ) : EReal) := by
  simp [Ideal.ofBits, Ideal.ieee, -EReal.coe_mul]; norm_num

theorem sixteenth : Ideal.ofBits FTy.f32 0x3D800000#32 = (((1 : ℝ) / 16 : ℝ) : EReal) := by
  simp [Ideal.ofBits, Ideal.ieee, -EReal.coe_mul]; norm_num

theorem log_real (a : ℝ) (h : 0 < a) : Ideal.log (a : EReal) = (Real.log a : EReal) := by
  show (if a ≤ 0 then (⊥ : EReal) else (Real.log a : EReal)) = _
  rw [if_neg (not_le.2 h)]

/-- The logarithm in the gate is a real number, whatever the argument. -/
theorem soft_real (z : EReal) : ∃ r : ℝ, Ideal.log (1 + Ideal.exp (-(max z (-z)))) = (r : EReal) := by
  have one : Ideal.log (1 + Ideal.exp ⊥) = (Real.log 1 : EReal) := by
    rw [show Ideal.exp ⊥ = 0 from rfl, add_zero]
    exact log_real 1 one_pos
  induction z using EReal.rec with
  | bot => exact ⟨Real.log 1, by rw [EReal.neg_bot, max_eq_right bot_le, EReal.neg_top]; exact one⟩
  | top => exact ⟨Real.log 1, by rw [EReal.neg_top, max_eq_left bot_le, EReal.neg_top]; exact one⟩
  | coe r =>
    refine ⟨Real.log (1 + Real.exp (-(max r (-r)))), ?_⟩
    rw [← EReal.coe_neg, ← EReal.coe_strictMono.monotone.map_max, ← EReal.coe_neg]
    exact log_real _ (by positivity)

theorem neg_max_zero (z : EReal) : -(max (-z) 0) = min z 0 := by
  rcases le_total z 0 with h | h
  · rw [min_eq_left h, max_eq_left (by rw [← neg_zero]; exact EReal.neg_le_neg_iff.2 h), neg_neg]
  · rw [min_eq_right h, max_eq_right (by rw [← neg_zero]; exact EReal.neg_le_neg_iff.2 h), neg_zero]

/-- The gate by the soft plus of the negated argument, which takes a second form at an argument unequal to itself. -/
theorem gate_eq (z : EReal) :
    Ideal.div (-(if -z ≠ -z then -z else max (-z) 0 + Ideal.log1p (Ideal.exp (-(FloatOps.absf (F := Ideal) (φ := FTy.f32) (-z))))))
      (Ideal.ofBits FTy.f32 0x41800000#32) = gate z := by
  rw [if_neg (fun h => h rfl), sixteen, Ideal.div_coe (by norm_num)]
  unfold gate
  rw [sixteenth]
  congr 1
  obtain ⟨r, hr⟩ := soft_real z
  have h1 : Ideal.log1p (Ideal.exp (-(FloatOps.absf (F := Ideal) (φ := FTy.f32) (-z)))) = (r : EReal) := by
    rw [← hr]
    show Ideal.log (1 + Ideal.exp (-(max (-z) (- -z)))) = _
    rw [neg_neg, max_comm]
  have h2 : Ideal.log (1 + Ideal.exp (0 - FloatOps.absf (F := Ideal) (φ := FTy.f32) z)) = (r : EReal) := by
    rw [← hr, zero_sub]
    rfl
  rw [h1, h2, EReal.neg_add (Or.inr (EReal.coe_ne_top r)) (Or.inr (EReal.coe_ne_bot r)), neg_max_zero]

/-- A rotated lane as the sum of two products, the second with the sine signed by the half the lane lies in. -/
theorem rot_eq (P : Fin 512 → EReal) (s : Nat) (q : Fin 512) :
    P q * Ideal.cos (ang s (q.val % 32)) + P (mate q) * (if q.val % 64 < 32 then -(Ideal.sin (ang s (q.val % 32))) else Ideal.sin (ang s (q.val % 32))) = rot P s q := by
  unfold rot
  by_cases h : q.val % 64 < 32
  · rw [if_pos h, if_pos h, show q.val % 64 = q.val % 32 by omega, mul_neg, sub_eq_add_neg]
  · rw [if_neg h, if_neg h, show q.val % 64 - 32 = q.val % 32 by omega]

/-- A rotated head by its two halves. -/
theorem rot_head (P : Fin 512 → EReal) (s : Nat) (h : Fin 8) (d : Fin 64) :
    (if h1 : d.val < 32 then
        P ⟨h.val * 64 + d.val, by omega⟩ * Ideal.cos (ang s d.val) - P ⟨h.val * 64 + (32 + d.val), by omega⟩ * Ideal.sin (ang s d.val)
      else
        P ⟨h.val * 64 + (32 + (d.val - 32)), by omega⟩ * Ideal.cos (ang s (d.val - 32)) + P ⟨h.val * 64 + (d.val - 32), by omega⟩ * Ideal.sin (ang s (d.val - 32)))
      = rot P s ⟨h.val * 64 + d.val, by omega⟩ := by
  have e : (h.val * 64 + d.val) % 64 = d.val := by omega
  unfold rot mate
  simp only [e]
  by_cases h1 : d.val < 32
  · rw [dif_pos h1, if_pos h1, dif_pos h1]
    simp only [show h.val * 64 + d.val + 32 = h.val * 64 + (32 + d.val) by omega]
  · rw [dif_neg h1, if_neg h1, dif_neg h1]
    simp only [show h.val * 64 + d.val - 32 = h.val * 64 + (d.val - 32) by omega, show 32 + (d.val - 32) = d.val by omega]

end Cert.Inproj
-- ==== Proof.Inproj.Host.lean ====
module

public import proofs.«01_k».proof.Proof.Inproj.Launch
public import proofs.«01_k».proof.Proof.Inproj.Spec
public import Idealize.ShloMosaic.Lib.StableHlo.RunRead
public import Idealize.ShloMosaic.Lib.Routing.OpsSet

@[expose] public section

set_option maxRecDepth 16384

noncomputable section

/-! What the host prepares for the input projection, read at an index. -/

namespace Cert.Kernel3Ideal.Inproj

open Cert.Kernel3Ideal Cert.Kernel3Ideal.Gen Idealize.ShloMosaic Idealize.ShloMosaic.TcCoe Idealize.ShloMosaic.Routing Cert.Inproj

variable (m : (ℓ : Loc nD τ sig) → Buf (Elt Ideal) ℓ) (c : Dev nD)

abbrev A0 : S8x2048x1024.Idx → Elt Ideal .f32 := m (c, Proc.devRef .tc main_arg0)
abbrev A1 : S8x1x1024.Idx → Elt Ideal .f32 := m (c, Proc.devRef .tc main_arg1)
abbrev A2 : S8x1x1024.Idx → Elt Ideal .f32 := m (c, Proc.devRef .tc main_arg2)
abbrev A3 : S1x1024.Idx → Elt Ideal .f32 := m (c, Proc.devRef .tc main_arg3)
abbrev A4 : S1x1024x6672.Idx → Elt Ideal .f32 := m (c, Proc.devRef .tc main_arg4)
abbrev A5 : S1x16x512.Idx → Elt Ideal .f32 := m (c, Proc.devRef .tc main_arg5)
abbrev A6 : S1x512.Idx → Elt Ideal .f32 := m (c, Proc.devRef .tc main_arg6)

def H40 : S16384x1024.Idx → Elt Ideal .f32 := V0 (F := Ideal) m c (Proc.devRef .tc main_v40)
def H14 : S1x1024.Idx → Elt Ideal .f32 := V0 (F := Ideal) m c (Proc.devRef .tc main_v14)
def H12 : S1x512.Idx → Elt Ideal .f32 := V0 (F := Ideal) m c (Proc.devRef .tc main_v12)
def H5 : S1024x7168.Idx → Elt Ideal .bf16 := V0 (F := Ideal) m c (Proc.devRef .tc main_v5)
def H10 : S512x512.Idx → Elt Ideal .bf16 := V0 (F := Ideal) m c (Proc.devRef .tc main_v10)
def H36 : S2048x512.Idx → Elt Ideal .f32 := V0 (F := Ideal) m c (Proc.devRef .tc main_v36)
def H39 : S2048x512.Idx → Elt Ideal .f32 := V0 (F := Ideal) m c (Proc.devRef .tc main_v39)

theorem read_H40 (r : Fin 16384) (i : Fin 1024) : H40 m c (ix2 r i) = A0 m c (ix3 ⟨r.val / 2048, by omega⟩ ⟨r.val % 2048, by omega⟩ i) := by
  unfold H40 V0
  rw [List.flatten_singleton]
  after_reads_simp
  pointwise []

theorem read_H14 (i : Fin 1024) : H14 m c (ix2 0 i) = A3 m c (ix2 0 i) := by
  unfold H14 V0
  rw [List.flatten_singleton]
  after_reads_simp
  pointwise []

theorem read_H12 (i : Fin 512) : H12 m c (ix2 0 i) = A6 m c (ix2 0 i) := by
  unfold H12 V0
  rw [List.flatten_singleton]
  after_reads_simp
  pointwise []

/-- The weights' columns: as given before column 3088, then 496 of zeros, then the rest. -/
theorem read_H5 (i : Fin 1024) (n : Fin 7168) :
    H5 m c (ix2 i n) = if h : n.val < 3088 then A4 m c (ix3 0 i ⟨n.val, by omega⟩)
      else if h : n.val < 3584 then 0 else A4 m c (ix3 0 i ⟨n.val - 496, by omega⟩) := by
  unfold H5 V0
  rw [List.flatten_singleton]
  after_reads_simp
  pointwise []
  after_reads_simp
  pointwise []
  by_cases h1 : n.val < 3088
  · rw [dif_pos h1, dif_pos h1]
  · rw [dif_neg h1, dif_neg h1]
    by_cases h2 : n.val < 3584
    · rw [dif_pos h2, dif_pos (by omega)]
    · rw [dif_neg h2, dif_neg (by omega)]
      exact congrArg (fun k => A4 m c (ix3 0 i k)) (Fin.ext (by show 3088 + (n.val - 3088 - 496) = n.val - 496; omega))

/-- The cosine of lane `q` at position `s`. -/
theorem read_H36 (s : Fin 2048) (q : Fin 512) : H36 m c (ix2 s q) = Ideal.cos (ang s.val (q.val % 32)) := by
  unfold H36 V0
  rw [List.flatten_singleton]
  after_reads_simp
  pointwise []
  after_reads_simp
  pointwise []
  unfold ang
  by_cases h1 : q.val % 64 < 32
  · rw [dif_pos h1, show q.val % 64 = q.val % 32 by omega]
  · rw [dif_neg h1, show q.val % 64 - 32 = q.val % 32 by omega]

/-- The sine of lane `q` at position `s`, negated in a head's first half. -/
theorem read_H39 (s : Fin 2048) (q : Fin 512) :
    H39 m c (ix2 s q) = if q.val % 64 < 32 then -(Ideal.sin (ang s.val (q.val % 32))) else Ideal.sin (ang s.val (q.val % 32)) := by
  unfold H39 V0
  rw [List.flatten_singleton]
  after_reads_simp
  pointwise []
  after_reads_simp
  pointwise []
  unfold ang
  by_cases h1 : q.val % 64 < 32
  · rw [dif_pos h1, if_pos h1, show q.val % 64 = q.val % 32 by omega]
  · rw [dif_neg h1, if_neg h1, show q.val % 64 - 32 = q.val % 32 by omega]

/-- Update `(l, q)` of a scatter whose one index is zero lands at `(l, q)`. -/
theorem lands (l : Fin 16) (q : Fin 512) :
    scatter_S512x512_S1_S16x512_01_n_0_0.resultIdx? (ix2 l q) (fun _ => (0#32 : BitVec 32)) = some (ix2 (⟨l.val, by omega⟩ : Fin 512) q) := by
  have st : ∀ a, scatter_S512x512_S1_S16x512_01_n_0_0.start (ix2 l q) (fun _ => (0#32 : BitVec 32)) a = 0 := by
    intro a
    unfold ScatterDims.start
    split <;> rfl
  have w0 : scatter_S512x512_S1_S16x512_01_n_0_0.window (ix2 l q) 0 = l.val := rfl
  have w1 : scatter_S512x512_S1_S16x512_01_n_0_0.window (ix2 l q) 1 = q.val := rfl
  unfold ScatterDims.resultIdx?
  rw [dif_pos (fun a => by
    rw [st]
    match a with
    | ⟨0, _⟩ => exact ⟨by omega, by show (0 : Int) + (scatter_S512x512_S1_S16x512_01_n_0_0.window (ix2 l q) 0 : Nat) < (512 : Nat); rw [w0]; omega⟩
    | ⟨1, _⟩ => exact ⟨by omega, by show (0 : Int) + (scatter_S512x512_S1_S16x512_01_n_0_0.window (ix2 l q) 1 : Nat) < (512 : Nat); rw [w1]; omega⟩)]
  congr 1
  funext a
  match a with
  | ⟨0, _⟩ =>
    refine Fin.ext ?_
    show (scatter_S512x512_S1_S16x512_01_n_0_0.start (ix2 l q) (fun _ => (0#32 : BitVec 32)) 0 + ((scatter_S512x512_S1_S16x512_01_n_0_0.window (ix2 l q) 0 : Nat) : Int)).toNat = l.val
    rw [w0, st]
    omega
  | ⟨1, _⟩ =>
    refine Fin.ext ?_
    show (scatter_S512x512_S1_S16x512_01_n_0_0.start (ix2 l q) (fun _ => (0#32 : BitVec 32)) 1 + ((scatter_S512x512_S1_S16x512_01_n_0_0.window (ix2 l q) 1 : Nat) : Int)).toNat = q.val
    rw [w1, st]
    omega

/-- Where an update lands says which update it is. -/
theorem lands_inv (k : S16x512.Idx) (l q : Fin 512)
    (hk : scatter_S512x512_S1_S16x512_01_n_0_0.resultIdx? k (fun _ => (0#32 : BitVec 32)) = some (ix2 l q)) : (k 0).val = l.val ∧ k 1 = q := by
  have e := (congrArg (fun x => scatter_S512x512_S1_S16x512_01_n_0_0.resultIdx? x (fun _ => (0#32 : BitVec 32))) (eq_ix2 k)).symm.trans hk
  have h := Option.some.inj ((lands (k 0) (k 1)).symm.trans e)
  exact ⟨congrArg Fin.val (congrFun h 0), congrFun h 1⟩

/-- The second projection's 16 rows, then rows of zeros. -/
theorem read_H10 (l q : Fin 512) : H10 m c (ix2 l q) = if h : l.val < 16 then A5 m c (ix3 0 ⟨l.val, h⟩ q) else 0 := by
  unfold H10 V0
  rw [List.flatten_singleton]
  after_reads_simp
  rw [show broadcastInDim S1 ![] bcast_S_S1 (constantI S_ 32 0#32) = fun _ => (0#32 : BitVec 32) by funext i; rfl]
  by_cases h : l.val < 16
  · rw [dif_pos h]
    refine scatter_set_hit _ _ _ _ _ _ (fun k hk => ?_) (ix2 ⟨l.val, h⟩ q) (lands ⟨l.val, h⟩ q)
    obtain ⟨h0, h1⟩ := lands_inv k l q hk
    rw [eq_ix2 k, h1, show k 0 = (⟨l.val, h⟩ : Fin 16) from Fin.ext h0]
    pointwise []
    done
  · rw [dif_neg h]
    refine (scatter_set_miss _ _ _ _ _ (fun k hk => ?_)).trans ?_
    · have h0 := (lands_inv k l q hk).1
      exact h (h0 ▸ (k 0).isLt)
    · pointwise []

end Cert.Kernel3Ideal.Inproj
-- ==== Proof.Inproj.Block.lean ====
module

public import proofs.«01_k».proof.Proof.Inproj.Host

@[expose] public section

set_option maxRecDepth 16384

noncomputable section

/-! The blocks the input projection's points leave, read at an index. -/

namespace Cert.Kernel3Ideal.Inproj

open Cert.Kernel3Ideal Cert.Kernel3Ideal.Gen Idealize.ShloMosaic Idealize.ShloMosaic.TcCoe Cert.Inproj

/-! ## The block's functions -/

theorem pay1_apply (x : S1024x1024.Idx → Elt Ideal .f32) (g : S1x1024.Idx → Elt Ideal .f32) (sc sh : S1x1x1024.Idx → Elt Ideal .f32) (r i : Fin 1024) :
    k0_pay1 (F := Ideal) x g sc sh (ix2 r i) = nrm (fun k => x (ix2 r k)) (fun k => g (ix2 0 k)) (fun k => sc (ix3 0 0 k)) (fun k => sh (ix3 0 0 k)) i := by
  unfold k0_pay1
  pointwise []
  rfl

theorem pay2_apply (y : S1024x1024.Idx → Elt Ideal .bf16) (w : S1024x512.Idx → Elt Ideal .bf16) (r : Fin 1024) (q : Fin 512) :
    k0_pay2 (F := Ideal) y w (ix2 r q) = ∑ i, y (ix2 r i) * w (ix2 i q) := by
  unfold k0_pay2
  pointwise []

/-- The comparison that picks a lane's mate: the lane 32 below is the mate in a head's second half only. -/
theorem below : ∀ q : Fin 512,
    IntOp.cmpi CmpIPredicate.eq (BitVec.ofNat 32 ((q.val + 512 - 32) % 512))
      (Scalar.select (IntOp.cmpi CmpIPredicate.slt (IntOp.andi (BitVec.ofNat 32 q.val) 63#32) 32#32)
        (IntOp.addi (BitVec.ofNat 32 q.val) 32#32) (IntOp.subi (BitVec.ofNat 32 q.val) 32#32))
      = if q.val % 64 < 32 then 0#1 else 1#1 := by decide +kernel

theorem pay4_apply (y : S1024x1024.Idx → Elt Ideal .bf16) (w : S1024x512.Idx → Elt Ideal .bf16) (co si : S1024x512.Idx → Elt Ideal .f32)
    (r : Fin 1024) (q : Fin 512) :
    k0_pay4 (F := Ideal) y w co si (ix2 r q)
      = k0_pay2 (F := Ideal) y w (ix2 r q) * co (ix2 r q) + k0_pay2 (F := Ideal) y w (ix2 r (mate q)) * si (ix2 r q) := by
  unfold k0_pay4
  generalize k0_pay2 y w = P
  pointwise []
  rw [below]
  unfold mate
  by_cases h : q.val % 64 < 32
  · rw [if_pos h, dif_pos h]
    refine congrArg (fun z => P (ix2 r q) * co (ix2 r q) + P (ix2 r z) * si (ix2 r q)) (Fin.ext ?_)
    show (q.val + 512 - 480) % 512 = q.val + 32
    omega
  · rw [if_neg h, dif_neg h]
    refine congrArg (fun z => P (ix2 r q) * co (ix2 r q) + P (ix2 r z) * si (ix2 r q)) (Fin.ext ?_)
    show (q.val + 512 - 32) % 512 = q.val - 32
    omega

theorem pay3_apply (y : S1024x1024.Idx → Elt Ideal .bf16) (w : S1024x512.Idx → Elt Ideal .bf16) (co si : S1024x512.Idx → Elt Ideal .f32)
    (r : Fin 1024) (q : Fin 512) : k0_pay3 (F := Ideal) y w co si (ix3 0 r q) = k0_pay4 (F := Ideal) y w co si (ix2 r q) := by
  unfold k0_pay3 k0_pay4
  generalize k0_pay2 y w = P
  pointwise []

theorem pay5_apply (y : S1024x1024.Idx → Elt Ideal .bf16) (w : S1024x512.Idx → Elt Ideal .bf16) (co si : S1024x512.Idx → Elt Ideal .f32)
    (r : Fin 1024) (q : Fin 512) : k0_pay5 (F := Ideal) y w co si (ix3 0 r q) = k0_pay4 (F := Ideal) y w co si (ix2 r q) := by
  unfold k0_pay5
  generalize k0_pay4 y w co si = P
  pointwise []

theorem pay6_apply (y : S1024x1024.Idx → Elt Ideal .bf16) (w : S1024x512.Idx → Elt Ideal .bf16) (co si : S1024x512.Idx → Elt Ideal .f32)
    (r : Fin 1024) (q : Fin 512) : k0_pay6 (F := Ideal) y w co si (ix3 0 q r) = k0_pay4 (F := Ideal) y w co si (ix2 r q) := by
  unfold k0_pay6
  generalize k0_pay4 y w co si = P
  pointwise []

theorem pay8_apply (y : S1024x1024.Idx → Elt Ideal .bf16) (w : S1024x512.Idx → Elt Ideal .bf16) (r : Fin 1024) (q : Fin 512) :
    k0_pay8 (F := Ideal) y w (ix3 0 q r) = k0_pay2 (F := Ideal) y w (ix2 r q) := by
  unfold k0_pay8
  generalize k0_pay2 y w = P
  pointwise []

theorem pay10_apply (y : S1024x1024.Idx → Elt Ideal .bf16) (w : S1024x512.Idx → Elt Ideal .bf16) (r : Fin 1024) (q : Fin 512) :
    k0_pay10 (F := Ideal) y w (ix3 0 r q) = k0_pay2 (F := Ideal) y w (ix2 r q) := by
  unfold k0_pay10
  generalize k0_pay2 y w = P
  pointwise []

theorem pay9_apply (y : S1024x1024.Idx → Elt Ideal .bf16) (w : S1024x512.Idx → Elt Ideal .bf16) (w2 : S512x512.Idx → Elt Ideal .bf16)
    (b2 : S1x512.Idx → Elt Ideal .f32) (r : Fin 1024) (q : Fin 512) :
    k0_pay9 (F := Ideal) y w w2 b2 (ix3 0 r q) = gate (∑ l, k0_pay2 (F := Ideal) y w (ix2 r l) * w2 (ix2 l q) + b2 (ix2 0 q)) := by
  unfold k0_pay9
  generalize k0_pay2 y w = P
  pointwise []
  rfl

/-! ## The windows' blocks -/

theorem index0 : ∀ t : Fin grid0.N, cc0_transform_0 (grid0.coords t) = ![t.val / 14, 0] := by decide +kernel
theorem index1 : ∀ t : Fin grid0.N, cc0_transform_1 (grid0.coords t) = ![t.val / 28, 0, 0] := by decide +kernel
theorem index2 : ∀ t : Fin grid0.N, cc0_transform_2 (grid0.coords t) = ![t.val / 28, 0, 0] := by decide +kernel
theorem index4 : ∀ t : Fin grid0.N, cc0_transform_4 (grid0.coords t) = ![0, t.val % 14] := by decide +kernel
theorem index7 : ∀ t : Fin grid0.N, cc0_transform_7 (grid0.coords t) = ![t.val / 14 % 2, 0] := by decide +kernel
theorem index8 : ∀ t : Fin grid0.N, cc0_transform_8 (grid0.coords t) = ![t.val / 14 % 2, 0] := by decide +kernel

/-- Two positions of an array with equal coordinates are the same. -/
theorem at2 {a b : ℕ} (x y : (⟨2, ![a, b]⟩ : Shape).Idx) (h0 : (x 0).val = (y 0).val) (h1 : (x 1).val = (y 1).val) : x = y := by
  funext k
  apply Fin.ext
  match k with
  | 0 => exact h0
  | 1 => exact h1

theorem at3 {a b d : ℕ} (x y : (⟨3, ![a, b, d]⟩ : Shape).Idx) (h0 : (x 0).val = (y 0).val) (h1 : (x 1).val = (y 1).val)
    (h2 : (x 2).val = (y 2).val) : x = y := by
  funext k
  apply Fin.ext
  match k with
  | 0 => exact h0
  | 1 => exact h1
  | 2 => exact h2

variable (m : (ℓ : Loc nD τ sig) → Buf (Elt Ideal) ℓ) (c : Dev nD)

theorem tlt (t : Fin grid0.N) : t.val < 224 := lt_of_lt_of_eq t.isLt N_0

theorem iblk0_apply (t : Fin grid0.N) (r i : Fin 1024) :
    (iblk m c 0 t : S1024x1024.Idx → Elt Ideal .f32) (ix2 r i) = H40 m c (ix2 ⟨t.val / 14 * 1024 + r.val, by have h := tlt t; omega⟩ i) := by
  unfold iblk
  exact congrArg (H40 m c) (at2 _ _
    (by show cc0_transform_0 (grid0.coords t) 0 * 1024 + 1 * r.val = _; rw [index0]; show t.val / 14 * 1024 + 1 * r.val = t.val / 14 * 1024 + r.val; omega)
    (by show cc0_transform_0 (grid0.coords t) 1 * 1024 + 1 * i.val = _; rw [index0]; show 0 * 1024 + 1 * i.val = i.val; omega))

theorem iblk1_apply (t : Fin grid0.N) (i : Fin 1024) :
    (iblk m c 1 t : S1x1x1024.Idx → Elt Ideal .f32) (ix3 0 0 i) = A1 m c (ix3 ⟨t.val / 28, by have h := tlt t; omega⟩ 0 i) := by
  unfold iblk
  refine (congrArg (V0 m c (Proc.devRef .tc main_arg1) : S8x1x1024.Idx → Elt Ideal .f32) (at3 _ (ix3 ⟨t.val / 28, by have h := tlt t; omega⟩ 0 i)
    (by show cc0_transform_1 (grid0.coords t) 0 * 1 + 1 * 0 = _; rw [index1]; show t.val / 28 * 1 + 1 * 0 = t.val / 28; omega)
    (by show cc0_transform_1 (grid0.coords t) 1 * 1 + 1 * 0 = _; rw [index1]; rfl)
    (by show cc0_transform_1 (grid0.coords t) 2 * 1024 + 1 * i.val = _; rw [index1]; show 0 * 1024 + 1 * i.val = i.val; omega))).trans ?_
  unfold V0
  rw [List.flatten_singleton]
  after_reads_simp

theorem iblk2_apply (t : Fin grid0.N) (i : Fin 1024) :
    (iblk m c 2 t : S1x1x1024.Idx → Elt Ideal .f32) (ix3 0 0 i) = A2 m c (ix3 ⟨t.val / 28, by have h := tlt t; omega⟩ 0 i) := by
  unfold iblk
  refine (congrArg (V0 m c (Proc.devRef .tc main_arg2) : S8x1x1024.Idx → Elt Ideal .f32) (at3 _ (ix3 ⟨t.val / 28, by have h := tlt t; omega⟩ 0 i)
    (by show cc0_transform_2 (grid0.coords t) 0 * 1 + 1 * 0 = _; rw [index2]; show t.val / 28 * 1 + 1 * 0 = t.val / 28; omega)
    (by show cc0_transform_2 (grid0.coords t) 1 * 1 + 1 * 0 = _; rw [index2]; rfl)
    (by show cc0_transform_2 (grid0.coords t) 2 * 1024 + 1 * i.val = _; rw [index2]; show 0 * 1024 + 1 * i.val = i.val; omega))).trans ?_
  unfold V0
  rw [List.flatten_singleton]
  after_reads_simp

theorem iblk3_apply (t : Fin grid0.N) (i : Fin 1024) :
    (iblk m c 3 t : S1x1024.Idx → Elt Ideal .f32) (ix2 0 i) = H14 m c (ix2 0 i) := by
  unfold iblk
  exact congrArg (H14 m c) (at2 _ _ rfl (by show 0 * 1024 + 1 * i.val = i.val; omega))

theorem iblk4_apply (t : Fin grid0.N) (i : Fin 1024) (q : Fin 512) :
    (iblk m c 4 t : S1024x512.Idx → Elt Ideal .bf16) (ix2 i q) = H5 m c (ix2 i ⟨t.val % 14 * 512 + q.val, by omega⟩) := by
  unfold iblk
  exact congrArg (H5 m c) (at2 _ _
    (by show cc0_transform_4 (grid0.coords t) 0 * 1024 + 1 * i.val = _; rw [index4]; show 0 * 1024 + 1 * i.val = i.val; omega)
    (by show cc0_transform_4 (grid0.coords t) 1 * 512 + 1 * q.val = _; rw [index4]; show t.val % 14 * 512 + 1 * q.val = t.val % 14 * 512 + q.val; omega))

theorem iblk5_apply (t : Fin grid0.N) (l q : Fin 512) :
    (iblk m c 5 t : S512x512.Idx → Elt Ideal .bf16) (ix2 l q) = H10 m c (ix2 l q) := by
  unfold iblk
  exact congrArg (H10 m c) (at2 _ _ (by show 0 * 512 + 1 * l.val = l.val; omega) (by show 0 * 512 + 1 * q.val = q.val; omega))

theorem iblk6_apply (t : Fin grid0.N) (q : Fin 512) :
    (iblk m c 6 t : S1x512.Idx → Elt Ideal .f32) (ix2 0 q) = H12 m c (ix2 0 q) := by
  unfold iblk
  exact congrArg (H12 m c) (at2 _ _ rfl (by show 0 * 512 + 1 * q.val = q.val; omega))

theorem iblk7_apply (t : Fin grid0.N) (r : Fin 1024) (q : Fin 512) :
    (iblk m c 7 t : S1024x512.Idx → Elt Ideal .f32) (ix2 r q) = H36 m c (ix2 ⟨t.val / 14 % 2 * 1024 + r.val, by omega⟩ q) := by
  unfold iblk
  exact congrArg (H36 m c) (at2 _ _
    (by show cc0_transform_7 (grid0.coords t) 0 * 1024 + 1 * r.val = _; rw [index7]; show t.val / 14 % 2 * 1024 + 1 * r.val = t.val / 14 % 2 * 1024 + r.val; omega)
    (by show cc0_transform_7 (grid0.coords t) 1 * 512 + 1 * q.val = _; rw [index7]; show 0 * 512 + 1 * q.val = q.val; omega))

theorem iblk8_apply (t : Fin grid0.N) (r : Fin 1024) (q : Fin 512) :
    (iblk m c 8 t : S1024x512.Idx → Elt Ideal .f32) (ix2 r q) = H39 m c (ix2 ⟨t.val / 14 % 2 * 1024 + r.val, by omega⟩ q) := by
  unfold iblk
  exact congrArg (H39 m c) (at2 _ _
    (by show cc0_transform_8 (grid0.coords t) 0 * 1024 + 1 * r.val = _; rw [index8]; show t.val / 14 % 2 * 1024 + 1 * r.val = t.val / 14 % 2 * 1024 + r.val; omega)
    (by show cc0_transform_8 (grid0.coords t) 1 * 512 + 1 * q.val = _; rw [index8]; show 0 * 512 + 1 * q.val = q.val; omega))

/-! ## The blocks left -/

/-- The normalised token at row `R` of all tokens, and its projection. -/
def tok (R : Fin 16384) (i : Fin 1024) : EReal :=
  nrm (fun k => A0 m c (ix3 ⟨R.val / 2048, by omega⟩ ⟨R.val % 2048, by omega⟩ k)) (fun k => A3 m c (ix2 0 k))
    (fun k => A1 m c (ix3 ⟨R.val / 2048, by omega⟩ 0 k)) (fun k => A2 m c (ix3 ⟨R.val / 2048, by omega⟩ 0 k)) i
def pk (R : Fin 16384) (n : Fin 6672) : EReal := ∑ i, tok m c R i * A4 m c (ix3 0 i n)

/-- The row of all tokens in which row `r` of point `t`'s block lies. -/
def row (t : Fin grid0.N) (r : Fin 1024) : Fin 16384 := ⟨t.val / 14 * 1024 + r.val, by have h := tlt t; omega⟩

theorem norm_apply (t : Fin grid0.N) (r i : Fin 1024) : norm m c t (ix2 r i) = tok m c (row t r) i := by
  have h := tlt t
  unfold norm tok
  refine (pay1_apply _ _ _ _ r i).trans ?_
  simp only [iblk0_apply, iblk1_apply, iblk2_apply, iblk3_apply, read_H40, read_H14, row]
  have e : t.val / 28 = (t.val / 14 * 1024 + r.val) / 2048 := by omega
  simp only [e]

/-- A column of the block's projection: the weights' column where there is one. -/
theorem cols_apply (t : Fin grid0.N) (r : Fin 1024) (q : Fin 512) :
    k0_pay2 (F := Ideal) (norm m c t) (iblk m c 4 t) (ix2 r q)
      = if h : t.val % 14 * 512 + q.val < 3088 then pk m c (row t r) ⟨t.val % 14 * 512 + q.val, by omega⟩
        else if h : t.val % 14 * 512 + q.val < 3584 then 0 else pk m c (row t r) ⟨t.val % 14 * 512 + q.val - 496, by omega⟩ := by
  refine (pay2_apply _ _ r q).trans ?_
  unfold pk
  simp only [norm_apply, iblk4_apply, read_H5]
  by_cases h1 : t.val % 14 * 512 + q.val < 3088
  · simp only [dif_pos h1]
  · simp only [dif_neg h1]
    by_cases h2 : t.val % 14 * 512 + q.val < 3584
    · simp only [dif_pos h2, mul_zero, Finset.sum_const_zero]
    · simp only [dif_neg h2]

/-- The rotated columns, at a column block past the padded one. -/
theorem turned (t : Fin grid0.N) (h : 7 ≤ t.val % 14) (r : Fin 1024) (q : Fin 512) :
    k0_pay4 (F := Ideal) (norm m c t) (iblk m c 4 t) (iblk m c 7 t) (iblk m c 8 t) (ix2 r q)
      = rot (fun q => pk m c (row t r) ⟨t.val % 14 * 512 + q.val - 496, by omega⟩) ((row t r).val % 2048) q := by
  have ht := tlt t
  refine (pay4_apply _ _ _ _ r q).trans ?_
  have e : ∀ q : Fin 512, k0_pay2 (F := Ideal) (norm m c t) (iblk m c 4 t) (ix2 r q) = pk m c (row t r) ⟨t.val % 14 * 512 + q.val - 496, by omega⟩ := fun q => by
    rw [cols_apply, dif_neg (by omega), dif_neg (by omega)]
  have s : t.val / 14 % 2 * 1024 + r.val = (row t r).val % 2048 := by
    show _ = (t.val / 14 * 1024 + r.val) % 2048
    omega
  rw [e, e, iblk7_apply, iblk8_apply, read_H36, read_H39]
  simp only [s]
  exact rot_eq (fun q => pk m c (row t r) ⟨t.val % 14 * 512 + q.val - 496, by omega⟩) _ q

/-- The padded block's second projection has 16 terms that count. -/
theorem gated (t : Fin grid0.N) (h : t.val % 14 = 6) (r : Fin 1024) (q : Fin 512) :
    ∑ l, k0_pay2 (F := Ideal) (norm m c t) (iblk m c 4 t) (ix2 r l) * (iblk m c 5 t : S512x512.Idx → Elt Ideal .bf16) (ix2 l q)
      = ∑ l : Fin 16, pk m c (row t r) ⟨3072 + l.val, by omega⟩ * A5 m c (ix3 0 l q) := by
  have hs := Fin.sum_univ_add (a := 16) (b := 496) (fun l : Fin 512 => k0_pay2 (F := Ideal) (norm m c t) (iblk m c 4 t) (ix2 r l) * (iblk m c 5 t : S512x512.Idx → Elt Ideal .bf16) (ix2 l q))
  refine hs.trans ?_
  have z : ∀ l : Fin 496, k0_pay2 (F := Ideal) (norm m c t) (iblk m c 4 t) (ix2 r (Fin.natAdd 16 l)) * (iblk m c 5 t : S512x512.Idx → Elt Ideal .bf16) (ix2 (Fin.natAdd 16 l) q) = 0 := fun l => by
    rw [iblk5_apply, read_H10, dif_neg (by show ¬ 16 + l.val < 16; omega), mul_zero]
  rw [Finset.sum_congr rfl (fun l _ => z l), Finset.sum_const_zero, add_zero]
  refine Finset.sum_congr rfl fun l _ => ?_
  have hl := l.isLt
  rw [iblk5_apply, read_H10, dif_pos (show (Fin.castAdd 496 l).val < 16 from hl), cols_apply, dif_pos (by show t.val % 14 * 512 + l.val < 3088; omega)]
  have e : (⟨t.val % 14 * 512 + (Fin.castAdd 496 l).val, by show t.val % 14 * 512 + l.val < 6672; omega⟩ : Fin 6672) = ⟨3072 + l.val, by omega⟩ := Fin.ext (by show t.val % 14 * 512 + l.val = 3072 + l.val; omega)
  rw [e]
  rfl

/-- The block a point leaves in the first result. -/
theorem res9_apply (t : Fin grid0.N) (r : Fin 1024) (q : Fin 512) :
    res9 m c t (ix3 0 r q)
      = out (pk m c (row t r)) (fun l i => A5 m c (ix3 0 l i)) (fun i => A6 m c (ix2 0 i)) ((row t r).val % 2048) ⟨t.val % 14, by omega⟩ q := by
  unfold res9 out
  by_cases h6 : t.val % 14 = 6
  · rw [if_pos h6, dif_neg (by show ¬ t.val % 14 < 6; omega), if_pos (show (⟨t.val % 14, by omega⟩ : Fin 14).val = 6 from h6)]
    refine (pay9_apply _ _ _ _ r q).trans ?_
    rw [gated m c t h6, iblk6_apply, read_H12]
  rw [if_neg h6]
  by_cases h7 : t.val % 14 = 7
  · rw [if_pos h7, dif_neg (by show ¬ t.val % 14 < 6; omega), if_neg (show ¬ (⟨t.val % 14, by omega⟩ : Fin 14).val = 6 from h6), if_pos (show (⟨t.val % 14, by omega⟩ : Fin 14).val = 7 from h7)]
    refine (pay3_apply _ _ _ _ r q).trans ((turned m c t (by omega) r q).trans ?_)
    refine congrArg (fun P => rot P _ q) (funext fun q => congrArg (pk m c (row t r)) (Fin.ext ?_))
    show t.val % 14 * 512 + q.val - 496 = 3088 + q.val
    omega
  rw [if_neg h7]
  by_cases h8 : t.val % 14 = 8
  · rw [if_pos h8, dif_neg (by show ¬ t.val % 14 < 6; omega), if_neg (show ¬ (⟨t.val % 14, by omega⟩ : Fin 14).val = 6 from h6), if_neg (show ¬ (⟨t.val % 14, by omega⟩ : Fin 14).val = 7 from h7), if_pos (show (⟨t.val % 14, by omega⟩ : Fin 14).val = 8 from h8)]
    refine (pay5_apply _ _ _ _ r q).trans ((turned m c t (by omega) r q).trans ?_)
    refine congrArg (fun P => rot P _ q) (funext fun q => congrArg (pk m c (row t r)) (Fin.ext ?_))
    show t.val % 14 * 512 + q.val - 496 = 3600 + q.val
    omega
  rw [if_neg h8]
  refine (pay10_apply _ _ r q).trans ?_
  rw [cols_apply]
  by_cases h5 : t.val % 14 < 6
  · rw [dif_pos (by omega), dif_pos (show (⟨t.val % 14, by omega⟩ : Fin 14).val < 6 from h5)]
  · rw [dif_neg (by omega), dif_neg (by omega), dif_neg (show ¬ (⟨t.val % 14, by omega⟩ : Fin 14).val < 6 from h5), if_neg (show ¬ (⟨t.val % 14, by omega⟩ : Fin 14).val = 6 from h6), if_neg (show ¬ (⟨t.val % 14, by omega⟩ : Fin 14).val = 7 from h7), if_neg (show ¬ (⟨t.val % 14, by omega⟩ : Fin 14).val = 8 from h8)]

theorem row_at (k : ℕ) (hk : k < 14) (t : Fin grid0.N) (r : Fin 1024) : row (at_ k hk t) r = row t r :=
  Fin.ext (by show (at_ k hk t).val / 14 * 1024 + r.val = t.val / 14 * 1024 + r.val; rw [at_row])

/-- The transposed keys and values a row of points leaves. -/
theorem res10_apply (t : Fin grid0.N) (r : Fin 1024) (q : Fin 512) :
    res10 m c t (ix3 0 q r) = rot (fun q => pk m c (row t r) ⟨3600 + q.val, by omega⟩) ((row t r).val % 2048) q := by
  have h8 : (at_ 8 (by decide) t).val % 14 = 8 := by show (t.val / 14 * 14 + 8) % 14 = 8; omega
  unfold res10
  refine (pay6_apply _ _ _ _ r q).trans ((turned m c (at_ 8 (by decide) t) (by omega) r q).trans ?_)
  rw [row_at]
  refine congrArg (fun P => rot P _ q) (funext fun q => congrArg (pk m c (row t r)) (Fin.ext ?_))
  show (at_ 8 (by decide) t).val % 14 * 512 + q.val - 496 = 3600 + q.val
  omega

theorem res11_apply (t : Fin grid0.N) (r : Fin 1024) (q : Fin 512) :
    res11 m c t (ix3 0 q r) = pk m c (row t r) ⟨4112 + q.val, by omega⟩ := by
  have h9 : (at_ 9 (by decide) t).val % 14 = 9 := by show (t.val / 14 * 14 + 9) % 14 = 9; omega
  unfold res11
  refine (pay8_apply _ _ r q).trans ?_
  rw [cols_apply, dif_neg (by omega), dif_neg (by omega), row_at]
  refine congrArg (pk m c (row t r)) (Fin.ext ?_)
  show (at_ 9 (by decide) t).val % 14 * 512 + q.val - 496 = 4112 + q.val
  omega

end Cert.Kernel3Ideal.Inproj
-- ==== Proof.Inproj.RefRead.lean ====
module

public import proofs.«01_k».proof.Proof.Inproj.Spec
public import proofs.«01_k».proof.Proof.Gen.Reference3Ideal.Read

@[expose] public section

set_option maxRecDepth 16384

noncomputable section

/-! The input projection's reference, read at an index. -/

namespace Cert.Reference3Ideal.Inproj

open Cert.Reference3Ideal Cert.Reference3Ideal.Read Idealize.ShloMosaic Cert.Inproj

variable (x0 : (⟨S8x2048x1024, .f32⟩ : BufTy).Contents (Elt Ideal)) (x1 x2 : (⟨S8x1x1024, .f32⟩ : BufTy).Contents (Elt Ideal))
  (x3 : (⟨S1x1024, .f32⟩ : BufTy).Contents (Elt Ideal)) (x4 : (⟨S1x1024x6672, .f32⟩ : BufTy).Contents (Elt Ideal))
  (x5 : (⟨S1x16x512, .f32⟩ : BufTy).Contents (Elt Ideal)) (x6 : (⟨S1x512, .f32⟩ : BufTy).Contents (Elt Ideal))

/-- The projection of token `s` of batch `b`. -/
def prj (b : Fin 8) (s : Fin 2048) (n : Fin 6672) : EReal :=
  ∑ i, nrm (fun k => x0 (ix3 b s k)) (fun k => x3 (ix2 0 k)) (fun k => x1 (ix3 b 0 k)) (fun k => x2 (ix3 b 0 k)) i * x4 (ix3 0 i n)

theorem read_v19 (b : Fin 8) (s : Fin 2048) (i : Fin 1024) :
    val_main_v19 (F := Ideal) x0 x1 x2 x3 (ix3 b s i)
      = nrm (fun k => x0 (ix3 b s k)) (fun k => x3 (ix2 0 k)) (fun k => x1 (ix3 b 0 k)) (fun k => x2 (ix3 b 0 k)) i := by
  pointwise [val_main_v19, val_main_v18, val_main_v17, val_main_v16, val_main_v15, val_main_v14, val_main_v13, val_main_v12, val_main_v11,
    val_main_v10, val_main_v9, val_main_v8, val_main_v7, val_main_v6, val_main_v5, val_main_v4, val_main_v3, val_main_v2, val_main_v1, val_main_v0,
    val_main_cst, val_main_cst_0, val_main_cst_1, val_main_cst_2]
  rfl

theorem read_v21 (b : Fin 8) (s : Fin 2048) (n : Fin 6672) :
    val_main_v21 (F := Ideal) x0 x1 x2 x3 x4 (ix3 b s n) = prj x0 x1 x2 x3 x4 b s n := by
  pointwise [val_main_v21, val_main_v20]
  exact Finset.sum_congr rfl fun i _ => by rw [read_v19]

theorem read_v28 (b : Fin 8) (s : Fin 2048) (i : Fin 512) :
    val_main_v28 (F := Ideal) x0 x1 x2 x3 x4 x5 x6 (ix3 b s i)
      = ∑ l : Fin 16, prj x0 x1 x2 x3 x4 b s ⟨3072 + l.val, by omega⟩ * x5 (ix3 0 l i) + x6 (ix2 0 i) := by
  pointwise [val_main_v28, val_main_v27, val_main_v26, val_main_v25, val_main_v24, val_main_v23, val_main_v22]
  exact congrArg (· + x6 (ix2 0 i)) (Finset.sum_congr rfl fun l _ => by rw [read_v21])

theorem read_v31 (b : Fin 8) (s : Fin 2048) (i : Fin 512) :
    val_main_v31 (F := Ideal) x0 x1 x2 x3 x4 x5 x6 (ix3 b s i)
      = gate (∑ l : Fin 16, prj x0 x1 x2 x3 x4 b s ⟨3072 + l.val, by omega⟩ * x5 (ix3 0 l i) + x6 (ix2 0 i)) := by
  rw [← read_v28, ← gate_eq]
  unfold val_main_v31 val_main_v29 val_main_call0_v1 val_main_call0_call0_v4 val_main_call0_call0_v6 val_main_call0_call0_v11
    val_main_call0_call0_v1 val_main_call0_call0_v10 val_main_call0_call0_v9 val_main_call0_call0_v8 val_main_call0_call0_v7
    val_main_call0_call0_v3 val_main_call0_v0
  generalize val_main_v28 x0 x1 x2 x3 x4 x5 x6 = Z
  pointwise [val_main_v30, val_main_cst_3, val_main_call0_call0_v0, val_main_call0_call0_v2, val_main_call0_call0_v5, val_main_call0_call0_cst]
  done

theorem read_v64 (b : Fin 8) (s : Fin 2048) (h : Fin 8) (d : Fin 64) :
    val_main_v64 (F := Ideal) x0 x1 x2 x3 x4 (ix4 b s h d)
      = rot (fun q => prj x0 x1 x2 x3 x4 b s ⟨3088 + q.val, by omega⟩) s.val ⟨h.val * 64 + d.val, by omega⟩ := by
  pointwise [val_main_v64, val_main_v63, val_main_v58, val_main_v62, val_main_v61, val_main_v60, val_main_v59, val_main_v57, val_main_v56, val_main_v55,
    val_main_v54, val_main_v53, val_main_v52, val_main_v51, val_main_v50, val_main_v49, val_main_v48, val_main_v47, val_main_v46, val_main_v45,
    val_main_v44, val_main_v43, val_main_v42, val_main_v41, val_main_v40, val_main_v39, val_main_v38, val_main_v37, val_main_v36, val_main_v35,
    val_main_v34, val_main_v33, val_main_v32, val_main_cst_4, val_main_cst_5, val_main_cst_6]
  simp only [read_v21]
  exact rot_head (fun q => prj x0 x1 x2 x3 x4 b s ⟨3088 + q.val, by omega⟩) s.val h d

theorem read_v97 (b : Fin 8) (s : Fin 2048) (h : Fin 8) (d : Fin 64) :
    val_main_v97 (F := Ideal) x0 x1 x2 x3 x4 (ix4 b s h d)
      = rot (fun q => prj x0 x1 x2 x3 x4 b s ⟨3600 + q.val, by omega⟩) s.val ⟨h.val * 64 + d.val, by omega⟩ := by
  pointwise [val_main_v97, val_main_v96, val_main_v95, val_main_v94, val_main_v93, val_main_v92, val_main_v91, val_main_v90, val_main_v89, val_main_v88,
    val_main_v87, val_main_v86, val_main_v85, val_main_v84, val_main_v83, val_main_v82, val_main_v81, val_main_v80, val_main_v79, val_main_v78,
    val_main_v77, val_main_v76, val_main_v75, val_main_v74, val_main_v73, val_main_v72, val_main_v71, val_main_v70, val_main_v69, val_main_v68,
    val_main_v67, val_main_v66, val_main_v65, val_main_cst_7, val_main_cst_8, val_main_cst_9]
  simp only [read_v21]
  exact rot_head (fun q => prj x0 x1 x2 x3 x4 b s ⟨3600 + q.val, by omega⟩) s.val h d

theorem read_v99 (b : Fin 8) (s : Fin 2048) (h : Fin 8) (d : Fin 64) :
    val_main_v99 (F := Ideal) x0 x1 x2 x3 x4 (ix4 b s h d) = prj x0 x1 x2 x3 x4 b s ⟨4112 + (h.val * 64 + d.val), by omega⟩ := by
  pointwise [val_main_v99, val_main_v98]
  rw [read_v21]

theorem read_v104 (b : Fin 8) (s : Fin 2048) (j : Fin 14) (n : Fin 512) :
    val_main_v104 (F := Ideal) x0 x1 x2 x3 x4 x5 x6 (ix3 b s ⟨j.val * 512 + n.val, by omega⟩)
      = out (prj x0 x1 x2 x3 x4 b s) (fun l i => x5 (ix3 0 l i)) (fun i => x6 (ix2 0 i)) s.val j n := by
  pointwise [val_main_v104, val_main_v103, val_main_v102, val_main_v101, val_main_v100]
  unfold out
  by_cases h6 : j.val < 6
  · rw [dif_pos (by omega), dif_pos h6, read_v21]
  · rw [dif_neg (by omega), dif_neg h6]
    by_cases h7 : j.val = 6
    · rw [dif_pos (by omega), if_pos h7, read_v31]
      rw [show (⟨j.val * 512 + n.val - 3072, by omega⟩ : Fin 512) = n from Fin.ext (by show j.val * 512 + n.val - 3072 = n.val; omega)]
    · rw [dif_neg (by omega), if_neg h7]
      by_cases h8 : j.val = 7
      · rw [dif_pos (by omega), if_pos h8, read_v64]
        exact congrArg (rot _ _) (Fin.ext (by show (j.val * 512 + n.val - 3072 - 512) / 64 * 64 + (j.val * 512 + n.val - 3072 - 512) % 64 = n.val; omega))
      · rw [dif_neg (by omega), if_neg h8]
        by_cases h9 : j.val = 8
        · rw [dif_pos (by omega), if_pos h9, read_v97]
          exact congrArg (rot _ _) (Fin.ext (by show (j.val * 512 + n.val - 3072 - 512 - 512) / 64 * 64 + (j.val * 512 + n.val - 3072 - 512 - 512) % 64 = n.val; omega))
        · rw [dif_neg (by omega), if_neg h9, read_v21]
          exact congrArg (prj x0 x1 x2 x3 x4 b s) (Fin.ext (by show 4112 + (j.val * 512 + n.val - 3072 - 512 - 512 - 512) = j.val * 512 + n.val - 496; omega))

/-- The first result at block `j`, row `r` and column `n`. -/
theorem read_v106 (j : Fin 14) (r : Fin 16384) (n : Fin 512) :
    val_main_v106 (F := Ideal) x0 x1 x2 x3 x4 x5 x6 (ix3 j r n)
      = out (prj x0 x1 x2 x3 x4 ⟨r.val / 2048, by omega⟩ ⟨r.val % 2048, by omega⟩) (fun l i => x5 (ix3 0 l i)) (fun i => x6 (ix2 0 i)) (r.val % 2048) j n := by
  refine Eq.trans ?_ (read_v104 x0 x1 x2 x3 x4 x5 x6 ⟨r.val / 2048, by omega⟩ ⟨r.val % 2048, by omega⟩ j n)
  unfold val_main_v106 val_main_v105
  generalize val_main_v104 x0 x1 x2 x3 x4 x5 x6 = Z
  pointwise []
  done

end Cert.Reference3Ideal.Inproj
-- ==== Proof.Inproj.Final.lean ====
module

public import proofs.«01_k».proof.Proof.Inproj.Frame
public import proofs.«01_k».proof.Proof.Inproj.Block
public import proofs.«01_k».proof.Proof.Inproj.RefRead

@[expose] public section

set_option maxRecDepth 16384

noncomputable section

/-! The input projection's three results are the reference's. -/

namespace Cert.Kernel3Ideal.Inproj

open Cert.Kernel3Ideal Cert.Kernel3Ideal.Gen Idealize.ShloMosaic Idealize.ShloMosaic.TcCoe Cert.Inproj
open Idealize.ShloMosaic.Pipeline (Dat Window)
open Cert.Reference3Ideal.Read (val_main_v97 val_main_v99 val_main_v106 val_main_v107 val_main_v108 val_main_v107_apply val_main_v108_apply)
open Cert.Reference3Ideal.Inproj (prj read_v97 read_v99 read_v106)

variable (m : (ℓ : Loc nD τ sig) → Buf (Elt Ideal) ℓ) (c : Dev nD)

theorem pk_eq (R : Fin 16384) (n : Fin 6672) :
    pk m c R n = prj (A0 m c) (A1 m c) (A2 m c) (A3 m c) (A4 m c) ⟨R.val / 2048, by omega⟩ ⟨R.val % 2048, by omega⟩ n := rfl

theorem index9 : ∀ t : Fin grid0.N, cc0_transform_9 (grid0.coords t) = ![t.val % 14, t.val / 14, 0] := by decide +kernel
theorem index10 : ∀ t : Fin grid0.N, cc0_transform_10 (grid0.coords t) = ![t.val / 28, 0, t.val / 14 % 2] := by decide +kernel
theorem index11 : ∀ t : Fin grid0.N, cc0_transform_11 (grid0.coords t) = ![t.val / 28, 0, t.val / 14 % 2] := by decide +kernel

theorem flush9 (t : Fin cfg0.N) : (cfg0.win 9).flush t = true := by
  rw [Window.flush_eq_flushF]
  exact (by decide +kernel : ∀ t : Fin grid0.N, win0_9.flushF t = true) t

theorem emb9 (t : Fin grid0.N) (r : Fin 1024) (q : Fin 512) :
    (((cfg0.win 9).blk t).view.emb (ix3 0 r q : S1x1024x512.Idx) : S14x16384x512.Idx) = ix3 ⟨t.val % 14, by omega⟩ (row t r) q :=
  at3 _ _
    (by show cc0_transform_9 (grid0.coords t) 0 * 1 + 1 * 0 = _; rw [index9]; show t.val % 14 * 1 + 1 * 0 = t.val % 14; omega)
    (by show cc0_transform_9 (grid0.coords t) 1 * 1024 + 1 * r.val = _; rw [index9]; show t.val / 14 * 1024 + 1 * r.val = t.val / 14 * 1024 + r.val; omega)
    (by show cc0_transform_9 (grid0.coords t) 2 * 512 + 1 * q.val = _; rw [index9]; show 0 * 512 + 1 * q.val = q.val; omega)

/-- The position of the token in row `r` of point `t`'s block. -/
def spot (t : Fin grid0.N) (r : Fin 1024) : Fin 2048 := ⟨t.val / 14 % 2 * 1024 + r.val, by omega⟩
/-- Its batch. -/
def batch (t : Fin grid0.N) : Fin 8 := ⟨t.val / 28, by have h := tlt t; omega⟩

theorem emb10 (t : Fin grid0.N) (r : Fin 1024) (q : Fin 512) :
    (((cfg0.win 10).blk t).view.emb (ix3 0 q r : S1x512x1024.Idx) : S8x512x2048.Idx) = ix3 (batch t) q (spot t r) :=
  at3 _ _
    (by show cc0_transform_10 (grid0.coords t) 0 * 1 + 1 * 0 = _; rw [index10]; show t.val / 28 * 1 + 1 * 0 = t.val / 28; omega)
    (by show cc0_transform_10 (grid0.coords t) 1 * 512 + 1 * q.val = _; rw [index10]; show 0 * 512 + 1 * q.val = q.val; omega)
    (by show cc0_transform_10 (grid0.coords t) 2 * 1024 + 1 * r.val = _; rw [index10]; show t.val / 14 % 2 * 1024 + 1 * r.val = t.val / 14 % 2 * 1024 + r.val; omega)

theorem emb11 (t : Fin grid0.N) (r : Fin 1024) (q : Fin 512) :
    (((cfg0.win 11).blk t).view.emb (ix3 0 q r : S1x512x1024.Idx) : S8x512x2048.Idx) = ix3 (batch t) q (spot t r) :=
  at3 _ _
    (by show cc0_transform_11 (grid0.coords t) 0 * 1 + 1 * 0 = _; rw [index11]; show t.val / 28 * 1 + 1 * 0 = t.val / 28; omega)
    (by show cc0_transform_11 (grid0.coords t) 1 * 512 + 1 * q.val = _; rw [index11]; show 0 * 512 + 1 * q.val = q.val; omega)
    (by show cc0_transform_11 (grid0.coords t) 2 * 1024 + 1 * r.val = _; rw [index11]; show t.val / 14 % 2 * 1024 + 1 * r.val = t.val / 14 % 2 * 1024 + r.val; omega)

theorem batch_eq (t : Fin grid0.N) (r : Fin 1024) : (⟨(row t r).val / 2048, by omega⟩ : Fin 8) = batch t :=
  Fin.ext (by show (t.val / 14 * 1024 + r.val) / 2048 = t.val / 28; omega)
theorem spot_eq (t : Fin grid0.N) (r : Fin 1024) : (row t r).val % 2048 = (spot t r).val := by
  show (t.val / 14 * 1024 + r.val) % 2048 = t.val / 14 % 2 * 1024 + r.val; omega

theorem pk_row (t : Fin grid0.N) (r : Fin 1024) (n : Fin 6672) :
    pk m c (row t r) n = prj (A0 m c) (A1 m c) (A2 m c) (A3 m c) (A4 m c) (batch t) (spot t r) n := by
  rw [pk_eq, batch_eq, show (⟨(row t r).val % 2048, by omega⟩ : Fin 2048) = spot t r from Fin.ext (spot_eq t r)]

/-- A position of a block with one plane. -/
theorem split3 {a b : ℕ} (y : (⟨3, ![1, a, b]⟩ : Shape).Idx) : ∃ (r : Fin a) (q : Fin b), y = ix3 0 r q :=
  ⟨y 1, y 2, at3 y _ (by have h : (y 0).val < 1 := (y 0).isLt; show (y 0).val = 0; omega) rfl rfl⟩

theorem final9 : (dats m 0 c).arrAt 9 cfg0.N = val_main_v106 (F := Ideal) (A0 m c) (A1 m c) (A2 m c) (A3 m c) (A4 m c) (A5 m c) (A6 m c) := by
  refine (dats m 0 c).arrAt_eq_of_emb 9 _ (fun t hf y => ?_) fun i => ?_
  · obtain ⟨r, q, rfl⟩ := split3 (a := 1024) (b := 512) y
    refine (congrFun (after_9 m c t) _).trans ((res9_apply m c t r q).trans ?_)
    refine (read_v106 (A0 m c) (A1 m c) (A2 m c) (A3 m c) (A4 m c) (A5 m c) (A6 m c) ⟨t.val % 14, by omega⟩ (row t r) q).symm.trans ?_
    exact congrArg (val_main_v106 (F := Ideal) (A0 m c) (A1 m c) (A2 m c) (A3 m c) (A4 m c) (A5 m c) (A6 m c)) (emb9 t r q).symm
  · have h0 : (i 0).val < 14 := (i 0).isLt
    have h1 : (i 1).val < 16384 := (i 1).isLt
    have ht : (i 1).val / 1024 * 14 + (i 0).val < cfg0.N := lt_of_lt_of_eq (by omega) N_0.symm
    refine ⟨⟨(i 1).val / 1024 * 14 + (i 0).val, ht⟩, flush9 _, ?_⟩
    have he : i = (((cfg0.win 9).blk ⟨(i 1).val / 1024 * 14 + (i 0).val, ht⟩).view.emb (ix3 0 ⟨(i 1).val % 1024, by omega⟩ (i 2) : S1x1024x512.Idx) : S14x16384x512.Idx) :=
      (at3 i (ix3 ⟨((i 1).val / 1024 * 14 + (i 0).val) % 14, by omega⟩ ⟨((i 1).val / 1024 * 14 + (i 0).val) / 14 * 1024 + (i 1).val % 1024, by omega⟩ (i 2))
        (by show (i 0).val = ((i 1).val / 1024 * 14 + (i 0).val) % 14; omega)
        (by show (i 1).val = ((i 1).val / 1024 * 14 + (i 0).val) / 14 * 1024 + (i 1).val % 1024; omega) rfl).trans
      (emb9 ⟨(i 1).val / 1024 * 14 + (i 0).val, ht⟩ ⟨(i 1).val % 1024, by omega⟩ (i 2)).symm
    exact (congrArg (· ∈ ((cfg0.win 9).blk ⟨(i 1).val / 1024 * 14 + (i 0).val, ht⟩).view.set) he).mpr
      (View.emb_mem_set ((cfg0.win 9).blk ⟨(i 1).val / 1024 * 14 + (i 0).val, ht⟩).view (ix3 0 ⟨(i 1).val % 1024, by omega⟩ (i 2) : S1x1024x512.Idx))

/-- The keys and the values by batch, column and position. -/
def keys (i : S8x512x2048.Idx) : EReal :=
  rot (fun q => prj (A0 m c) (A1 m c) (A2 m c) (A3 m c) (A4 m c) (i 0) (i 2) ⟨3600 + q.val, by omega⟩) (i 2).val (i 1)
def vals (i : S8x512x2048.Idx) : EReal :=
  prj (A0 m c) (A1 m c) (A2 m c) (A3 m c) (A4 m c) (i 0) (i 2) ⟨4112 + (i 1).val, by have h : (i 1).val < 512 := (i 1).isLt; omega⟩

theorem last_lt (i : S8x512x2048.Idx) : ((i 0).val * 2 + (i 2).val / 1024) * 14 + 13 < cfg0.N :=
  lt_of_lt_of_eq (by have h0 : (i 0).val < 8 := (i 0).isLt; have h2 : (i 2).val < 2048 := (i 2).isLt; omega) N_0.symm

/-- The last point of the row in which a position of the keys lies. -/
def last (i : S8x512x2048.Idx) : Fin cfg0.N := ⟨((i 0).val * 2 + (i 2).val / 1024) * 14 + 13, last_lt i⟩

theorem last_spot (i : S8x512x2048.Idx) : i = ix3 (batch (last i)) (i 1) (spot (last i) ⟨(i 2).val % 1024, by omega⟩) := by
  have h0 : (i 0).val < 8 := (i 0).isLt
  have h2 : (i 2).val < 2048 := (i 2).isLt
  refine at3 i _ ?_ rfl ?_
  · show (i 0).val = (((i 0).val * 2 + (i 2).val / 1024) * 14 + 13) / 28
    omega
  · show (i 2).val = (((i 0).val * 2 + (i 2).val / 1024) * 14 + 13) / 14 % 2 * 1024 + (i 2).val % 1024
    omega

theorem last_flush (i : S8x512x2048.Idx) : (last i).val % 14 = 13 := by
  show (((i 0).val * 2 + (i 2).val / 1024) * 14 + 13) % 14 = 13
  omega

theorem final10 : (dats m 0 c).arrAt 10 cfg0.N = keys m c := by
  refine (dats m 0 c).arrAt_eq_of_emb 10 _ (fun t hf y => ?_) fun i => ⟨last i, (flush10 _).trans (decide_eq_true (last_flush i)), ?_⟩
  · obtain ⟨q, r, rfl⟩ := split3 (a := 512) (b := 1024) y
    refine (congrFun (after_10 m c t) _).trans ((res10_apply m c t r q).trans ?_)
    refine Eq.trans ?_ (congrArg (keys m c) (emb10 t r q).symm)
    rw [spot_eq]
    exact congrArg (fun P => rot P (spot t r).val q) (funext fun q => pk_row m c t r _)
  · have he := (last_spot i).trans (emb10 (last i) ⟨(i 2).val % 1024, by omega⟩ (i 1)).symm
    exact (congrArg (· ∈ ((cfg0.win 10).blk (last i)).view.set) he).mpr
      (View.emb_mem_set ((cfg0.win 10).blk (last i)).view (ix3 0 (i 1) ⟨(i 2).val % 1024, by omega⟩ : S1x512x1024.Idx))

theorem final11 : (dats m 0 c).arrAt 11 cfg0.N = vals m c := by
  refine (dats m 0 c).arrAt_eq_of_emb 11 _ (fun t hf y => ?_) fun i => ⟨last i, (flush11 _).trans (decide_eq_true (last_flush i)), ?_⟩
  · obtain ⟨q, r, rfl⟩ := split3 (a := 512) (b := 1024) y
    refine (congrFun (after_11 m c t) _).trans ((res11_apply m c t r q).trans ?_)
    refine Eq.trans ?_ (congrArg (vals m c) (emb11 t r q).symm)
    exact pk_row m c t r _
  · have he := (last_spot i).trans (emb11 (last i) ⟨(i 2).val % 1024, by omega⟩ (i 1)).symm
    exact (congrArg (· ∈ ((cfg0.win 11).blk (last i)).view.set) he).mpr
      (View.emb_mem_set ((cfg0.win 11).blk (last i)).view (ix3 0 (i 1) ⟨(i 2).val % 1024, by omega⟩ : S1x512x1024.Idx))

/-- An array of transposed heads read by token. -/
theorem tokens_apply (x : S8x512x2048.Idx → Elt Ideal .f32) (i : S1x8x2048x8x64.Idx) :
    tokens x i = x (ix3 (i 1) ⟨(i 3).val * 64 + (i 4).val, by have h3 : (i 3).val < 8 := (i 3).isLt; have h4 : (i 4).val < 64 := (i 4).isLt; omega⟩ (i 2)) := by
  unfold tokens
  pointwise []

theorem keys_eq : tokens (keys m c) = val_main_v107 (F := Ideal) (A0 m c) (A1 m c) (A2 m c) (A3 m c) (A4 m c) := by
  funext i
  rw [tokens_apply, val_main_v107_apply]
  refine Eq.trans ?_ (read_v97 (A0 m c) (A1 m c) (A2 m c) (A3 m c) (A4 m c) (i 1) (i 2) (i 3) (i 4)).symm |>.trans ?_
  · rfl
  · exact congrArg (val_main_v97 (F := Ideal) (A0 m c) (A1 m c) (A2 m c) (A3 m c) (A4 m c)) (by funext a; match a with | 0 => rfl | 1 => rfl | 2 => rfl | 3 => rfl)

theorem vals_eq : tokens (vals m c) = val_main_v108 (F := Ideal) (A0 m c) (A1 m c) (A2 m c) (A3 m c) (A4 m c) := by
  funext i
  rw [tokens_apply, val_main_v108_apply]
  refine Eq.trans ?_ (read_v99 (A0 m c) (A1 m c) (A2 m c) (A3 m c) (A4 m c) (i 1) (i 2) (i 3) (i 4)).symm |>.trans ?_
  · rfl
  · exact congrArg (val_main_v99 (F := Ideal) (A0 m c) (A1 m c) (A2 m c) (A3 m c) (A4 m c)) (by funext a; match a with | 0 => rfl | 1 => rfl | 2 => rfl | 3 => rfl)

end Cert.Kernel3Ideal.Inproj
-- ==== Proof.Post.Run.lean ====
/-
  The output projections' kernel, one grid point at a time: what its body leaves in the three output blocks. Stated
  over any float type.
-/
module

public import proofs.«01_k».proof.Proof.Gen.Kernel4Ideal.Skeleton
public import proofs.«01_k».proof.Proof.Gen.Kernel4Ideal.Launch
public import proofs.«01_k».proof.Proof.Moe.Run

@[expose] public section

set_option maxRecDepth 16384

noncomputable section

namespace Cert.Kernel4Ideal.Post

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources the proof works with. -/
local notation "𝕄" => MT nD τ sig Unit (Elt F) ℕ (UR sig nD τ) ℕ

/-- Matrix `k` of a pair of matrices. -/
abbrev slab0 (x : S2x512x512.Idx → Elt F .f32) : S1x512x512.Idx → Elt F .f32 := fun j => x ((Rect.unit (s := S2x512x512) ![0, 0, 0] S1x512x512.size inb_S2x512x512_S1x512x512_0_0_0).toLoadRect.idx j)
abbrev slab1 (x : S2x512x512.Idx → Elt F .f32) : S1x512x512.Idx → Elt F .f32 := fun j => x ((Rect.unit (s := S2x512x512) ![1, 0, 0] S1x512x512.size inb_S2x512x512_S1x512x512_1_0_0).toLoadRect.idx j)

abbrev ld0 : LoadRect S4096x128 := ⟨![0, 0], S512x128.size, ![8, 1], inb_S4096x128_S512x128_0_0_s_8_1⟩
abbrev ld1 : LoadRect S4096x128 := ⟨![1, 0], S512x128.size, ![8, 1], inb_S4096x128_S512x128_1_0_s_8_1⟩
abbrev ld2 : LoadRect S4096x128 := ⟨![2, 0], S512x128.size, ![8, 1], inb_S4096x128_S512x128_2_0_s_8_1⟩
abbrev ld3 : LoadRect S4096x128 := ⟨![3, 0], S512x128.size, ![8, 1], inb_S4096x128_S512x128_3_0_s_8_1⟩
abbrev ld4 : LoadRect S4096x128 := ⟨![4, 0], S512x128.size, ![8, 1], inb_S4096x128_S512x128_4_0_s_8_1⟩
abbrev ld5 : LoadRect S4096x128 := ⟨![5, 0], S512x128.size, ![8, 1], inb_S4096x128_S512x128_5_0_s_8_1⟩
abbrev ld6 : LoadRect S4096x128 := ⟨![6, 0], S512x128.size, ![8, 1], inb_S4096x128_S512x128_6_0_s_8_1⟩
abbrev ld7 : LoadRect S4096x128 := ⟨![7, 0], S512x128.size, ![8, 1], inb_S4096x128_S512x128_7_0_s_8_1⟩

variable
    (x0 : S512x1024.Idx → Elt F .bf16)
    (x1 : S512x512.Idx → Elt F .bf16)
    (x2 : S2x512x512.Idx → Elt F .f32)
    (x3 : S2x512x512.Idx → Elt F .f32)
    (x4 : S512x1024.Idx → Elt F .f32)
    (x5 : S1x1x1024.Idx → Elt F .f32)
    (x6 : S1x1x1024.Idx → Elt F .f32)
    (x7 : S1x1x1024.Idx → Elt F .f32)
    (x8 : S1x1024.Idx → Elt F .f32)
    (x9 : S1024x1024.Idx → Elt F .bf16)
    (x10 : S512x1024.Idx → Elt F .bf16)
    (x11 : S1024x1024.Idx → Elt F .bf16)
    (x12 : S1024x128.Idx → Elt F .f32)
    (x13 : S1x128.Idx → Elt F .f32)

/-- The new tokens' block. -/
def outTok (x0 : S512x1024.Idx → Elt F .bf16) (x1 : S512x512.Idx → Elt F .bf16) (x2 x3 : S2x512x512.Idx → Elt F .f32) (x4 : S512x1024.Idx → Elt F .f32)
    (x5 : S1x1x1024.Idx → Elt F .f32) (x9 : S1024x1024.Idx → Elt F .bf16) (x10 : S512x1024.Idx → Elt F .bf16) (x11 : S1024x1024.Idx → Elt F .bf16) : S512x1024.Idx → Elt F .f32 :=
  k0_pay5 (k0_pay2 x1 x10) (k0_pay3 x0 x9 (slab0 x2) (slab1 x2)) (k0_pay4 (slab0 x3) (slab1 x3)) (Scalar.ofBits .f32 0x3F800000#32) x4 x5 x11

/-- The new tokens' block, normalised and scaled. -/
def scaled (x0 : S512x1024.Idx → Elt F .bf16) (x1 : S512x512.Idx → Elt F .bf16) (x2 x3 : S2x512x512.Idx → Elt F .f32) (x4 : S512x1024.Idx → Elt F .f32)
    (x5 x6 : S1x1x1024.Idx → Elt F .f32) (x8 : S1x1024.Idx → Elt F .f32) (x9 : S1024x1024.Idx → Elt F .bf16) (x10 : S512x1024.Idx → Elt F .bf16) (x11 : S1024x1024.Idx → Elt F .bf16) : S512x1024.Idx → Elt F .f32 :=
  k0_pay6 (k0_pay2 x1 x10) (k0_pay3 x0 x9 (slab0 x2) (slab1 x2)) (k0_pay4 (slab0 x3) (slab1 x3)) (Scalar.ofBits .f32 0x3F800000#32) x4 x5 x11 x8 x6

/-- The eight pieces of the experts' tokens, last stored first. -/
def rowPieces (s : S512x1024.Idx → Elt F .f32) (x7 : S1x1x1024.Idx → Elt F .f32) : List (View.Piece (Elt F) S4096x128 .f32) :=
  [⟨⟨ld7, spos_8_1⟩, k0_pay15 s x7⟩,
   ⟨⟨ld6, spos_8_1⟩, k0_pay14 s x7⟩,
   ⟨⟨ld5, spos_8_1⟩, k0_pay13 s x7⟩,
   ⟨⟨ld4, spos_8_1⟩, k0_pay12 s x7⟩,
   ⟨⟨ld3, spos_8_1⟩, k0_pay11 s x7⟩,
   ⟨⟨ld2, spos_8_1⟩, k0_pay10 s x7⟩,
   ⟨⟨ld1, spos_8_1⟩, k0_pay9 s x7⟩,
   ⟨⟨ld0, spos_8_1⟩, k0_pay8 s x7⟩]

/-- The experts' tokens' block. -/
def outRows (s : S512x1024.Idx → Elt F .f32) (x7 : S1x1x1024.Idx → Elt F .f32) : S4096x128.Idx → Elt F .f32 := View.canon (rowPieces s x7)

/-- The router's block. -/
def outLog (s : S512x1024.Idx → Elt F .f32) (x7 : S1x1x1024.Idx → Elt F .f32) (x12 : S1024x128.Idx → Elt F .f32) (x13 : S1x128.Idx → Elt F .f32) : S512x128.Idx → Elt F .f32 :=
  k0_pay1 (k0_pay17 s x7) (k0_pay19 x12) (k0_pay20 s x7 x12) x13

variable (c : Dev nD) (i : grid0.Coords)
    (a0 : Memref sig .tc .vmem S512x1024 .bf16) (h0 : a0.IsWhole)
    (a1 : Memref sig .tc .vmem S512x512 .bf16) (h1 : a1.IsWhole)
    (a2 : Memref sig .tc .vmem S2x512x512 .f32) (h2 : a2.IsWhole)
    (a3 : Memref sig .tc .vmem S2x512x512 .f32) (h3 : a3.IsWhole)
    (a4 : Memref sig .tc .vmem S512x1024 .f32) (h4 : a4.IsWhole)
    (a5 : Memref sig .tc .vmem S1x1x1024 .f32) (h5 : a5.IsWhole)
    (a6 : Memref sig .tc .vmem S1x1x1024 .f32) (h6 : a6.IsWhole)
    (a7 : Memref sig .tc .vmem S1x1x1024 .f32) (h7 : a7.IsWhole)
    (a8 : Memref sig .tc .vmem S1x1024 .f32) (h8 : a8.IsWhole)
    (a9 : Memref sig .tc .vmem S1024x1024 .bf16) (h9 : a9.IsWhole)
    (a10 : Memref sig .tc .vmem S512x1024 .bf16) (h10 : a10.IsWhole)
    (a11 : Memref sig .tc .vmem S1024x1024 .bf16) (h11 : a11.IsWhole)
    (a12 : Memref sig .tc .vmem S1024x128 .f32) (h12 : a12.IsWhole)
    (a13 : Memref sig .tc .vmem S1x128 .f32) (h13 : a13.IsWhole)
    (a14 : Memref sig .tc .vmem S512x1024 .f32) (h14 : a14.IsWhole)
    (a15 : Memref sig .tc .vmem S4096x128 .f32) (h15 : a15.IsWhole)
    (a16 : Memref sig .tc .vmem S512x128 .f32) (h16 : a16.IsWhole)

/-- The body on these memrefs. -/
abbrev bodyOn : Prog (TpuEff nD τ sig (Elt F) Λ₀ .tc) PUnit :=
  cc0_post i a0 h0 a1 h1 a2 h2 a3 h3 a4 h4 a5 h5 a6 h6 a7 h7 a8 h8 a9 h9 a10 h10 a11 h11 a12 h12 a13 h13 a14 h14 a15 h15 a16 h16

/-- The fourteen inputs' blocks, each in its buffer. -/
def Ins : sProp 𝕄 :=
  iprop((a0.view.loc (c : Thread nD τ) ↦[a0.view.set]{fullShare} a0.view.rep x0)
    ∗ (a1.view.loc (c : Thread nD τ) ↦[a1.view.set]{fullShare} a1.view.rep x1)
    ∗ (a2.view.loc (c : Thread nD τ) ↦[a2.view.set]{fullShare} a2.view.rep x2)
    ∗ (a3.view.loc (c : Thread nD τ) ↦[a3.view.set]{fullShare} a3.view.rep x3)
    ∗ (a4.view.loc (c : Thread nD τ) ↦[a4.view.set]{fullShare} a4.view.rep x4)
    ∗ (a5.view.loc (c : Thread nD τ) ↦[a5.view.set]{fullShare} a5.view.rep x5)
    ∗ (a6.view.loc (c : Thread nD τ) ↦[a6.view.set]{fullShare} a6.view.rep x6)
    ∗ (a7.view.loc (c : Thread nD τ) ↦[a7.view.set]{fullShare} a7.view.rep x7)
    ∗ (a8.view.loc (c : Thread nD τ) ↦[a8.view.set]{fullShare} a8.view.rep x8)
    ∗ (a9.view.loc (c : Thread nD τ) ↦[a9.view.set]{fullShare} a9.view.rep x9)
    ∗ (a10.view.loc (c : Thread nD τ) ↦[a10.view.set]{fullShare} a10.view.rep x10)
    ∗ (a11.view.loc (c : Thread nD τ) ↦[a11.view.set]{fullShare} a11.view.rep x11)
    ∗ (a12.view.loc (c : Thread nD τ) ↦[a12.view.set]{fullShare} a12.view.rep x12)
    ∗ (a13.view.loc (c : Thread nD τ) ↦[a13.view.set]{fullShare} a13.view.rep x13))

set_option maxHeartbeats 16000000 in
/-- What the body does to its buffers. -/
theorem runBody (K : PUnit → sProp 𝕄) :
    iprop(Ins x0 x1 x2 x3 x4 x5 x6 x7 x8 x9 x10 x11 x12 x13 c a0 a1 a2 a3 a4 a5 a6 a7 a8 a9 a10 a11 a12 a13
        ∗ (∃ d, owns (c : Thread nD τ) a14 fullShare d)
        ∗ (∃ d, owns (c : Thread nD τ) a15 fullShare d)
        ∗ (∃ d, owns (c : Thread nD τ) a16 fullShare d)
        ∗ (iprop(Ins x0 x1 x2 x3 x4 x5 x6 x7 x8 x9 x10 x11 x12 x13 c a0 a1 a2 a3 a4 a5 a6 a7 a8 a9 a10 a11 a12 a13
            ∗ owns (c : Thread nD τ) a14 fullShare (outTok x0 x1 x2 x3 x4 x5 x9 x10 x11)
            ∗ owns (c : Thread nD τ) a15 fullShare (outRows (scaled x0 x1 x2 x3 x4 x5 x6 x8 x9 x10 x11) x7)
            ∗ owns (c : Thread nD τ) a16 fullShare (outLog (scaled x0 x1 x2 x3 x4 x5 x6 x8 x9 x10 x11) x7 x12 x13)) -∗ K ⟨⟩))
      ⊢ wp frame (wpE (defs₀ (F := F)) Variants.none c none) Set.univ (bodyOn i a0 h0 a1 h1 a2 h2 a3 h3 a4 h4 a5 h5 a6 h6 a7 h7 a8 h8 a9 h9 a10 h10 a11 h11 a12 h12 a13 h13 a14 h14 a15 h15 a16 h16) K := by
  unfold owns Ins bodyOn
  rw [cc0_post_eq_skeleton]; unfold cc0_post_skel
  rw [k0_part1_eq_skeleton, k0_part2_eq_skeleton, k0_part3_eq_skeleton]; unfold k0_part1_skel k0_part2_skel k0_part3_skel
  iintro ⟨⟨H0, H1, H2, H3, H4, H5, H6, H7, H8, H9, H10, H11, H12, H13⟩, ⟨%d14, %f14, -, HO14⟩, ⟨%d15, %f15, -, HO15⟩, ⟨%d16, %f16, -, HO16⟩, Hk⟩
  sl_exec!
  sl_step
  have e0 : View.readAt (Elt F) a0.view (Rect.unit (s := S512x1024) ![0, 0] S512x1024.size inb_S512x1024_S512x1024_0_0).toLoadRect (a0.view.rep x0) = x0 := View.readAt_rep_full _ _ _
  have e1 : View.readAt (Elt F) a1.view (Rect.unit (s := S512x512) ![0, 0] S512x512.size inb_S512x512_S512x512_0_0).toLoadRect (a1.view.rep x1) = x1 := View.readAt_rep_full _ _ _
  have e4 : View.readAt (Elt F) a4.view (Rect.unit (s := S512x1024) ![0, 0] S512x1024.size inb_S512x1024_S512x1024_0_0).toLoadRect (a4.view.rep x4) = x4 := View.readAt_rep_full _ _ _
  have e5 : View.readAt (Elt F) a5.view (Rect.unit (s := S1x1x1024) ![0, 0, 0] S1x1x1024.size inb_S1x1x1024_S1x1x1024_0_0_0).toLoadRect (a5.view.rep x5) = x5 := View.readAt_rep_full _ _ _
  have e6 : View.readAt (Elt F) a6.view (Rect.unit (s := S1x1x1024) ![0, 0, 0] S1x1x1024.size inb_S1x1x1024_S1x1x1024_0_0_0).toLoadRect (a6.view.rep x6) = x6 := View.readAt_rep_full _ _ _
  have e7 : View.readAt (Elt F) a7.view (Rect.unit (s := S1x1x1024) ![0, 0, 0] S1x1x1024.size inb_S1x1x1024_S1x1x1024_0_0_0).toLoadRect (a7.view.rep x7) = x7 := View.readAt_rep_full _ _ _
  have e8 : View.readAt (Elt F) a8.view (Rect.unit (s := S1x1024) ![0, 0] S1x1024.size inb_S1x1024_S1x1024_0_0).toLoadRect (a8.view.rep x8) = x8 := View.readAt_rep_full _ _ _
  have e9 : View.readAt (Elt F) a9.view (Rect.unit (s := S1024x1024) ![0, 0] S1024x1024.size inb_S1024x1024_S1024x1024_0_0).toLoadRect (a9.view.rep x9) = x9 := View.readAt_rep_full _ _ _
  have e10 : View.readAt (Elt F) a10.view (Rect.unit (s := S512x1024) ![0, 0] S512x1024.size inb_S512x1024_S512x1024_0_0).toLoadRect (a10.view.rep x10) = x10 := View.readAt_rep_full _ _ _
  have e11 : View.readAt (Elt F) a11.view (Rect.unit (s := S1024x1024) ![0, 0] S1024x1024.size inb_S1024x1024_S1024x1024_0_0).toLoadRect (a11.view.rep x11) = x11 := View.readAt_rep_full _ _ _
  have e12 : View.readAt (Elt F) a12.view (Rect.unit (s := S1024x128) ![0, 0] S1024x128.size inb_S1024x128_S1024x128_0_0).toLoadRect (a12.view.rep x12) = x12 := View.readAt_rep_full _ _ _
  have e13 : View.readAt (Elt F) a13.view (Rect.unit (s := S1x128) ![0, 0] S1x128.size inb_S1x128_S1x128_0_0).toLoadRect (a13.view.rep x13) = x13 := View.readAt_rep_full _ _ _
  have e2_0 : View.readAt (Elt F) a2.view (Rect.unit (s := S2x512x512) ![0, 0, 0] S1x512x512.size inb_S2x512x512_S1x512x512_0_0_0).toLoadRect (a2.view.rep x2) = slab0 x2 := View.readAt_rep _ _ _
  have e2_1 : View.readAt (Elt F) a2.view (Rect.unit (s := S2x512x512) ![1, 0, 0] S1x512x512.size inb_S2x512x512_S1x512x512_1_0_0).toLoadRect (a2.view.rep x2) = slab1 x2 := View.readAt_rep _ _ _
  have e3_0 : View.readAt (Elt F) a3.view (Rect.unit (s := S2x512x512) ![0, 0, 0] S1x512x512.size inb_S2x512x512_S1x512x512_0_0_0).toLoadRect (a3.view.rep x3) = slab0 x3 := View.readAt_rep _ _ _
  have e3_1 : View.readAt (Elt F) a3.view (Rect.unit (s := S2x512x512) ![1, 0, 0] S1x512x512.size inb_S2x512x512_S1x512x512_1_0_0).toLoadRect (a3.view.rep x3) = slab1 x3 := View.readAt_rep _ _ _
  iapply Hk
  isplitl [H0 H1 H2 H3 H4 H5 H6 H7 H8 H9 H10 H11 H12 H13]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  isplitl [HO14]
  · iexists _; isplitr; swap
    · iexact HO14
    · ipureintro
      refine (View.read_writes_full _ _ _ _ _).trans ?_
      rw [e0, e1, e2_0, e2_1, e3_0, e3_1, e4, e5, e9, e10, e11]; rfl
  isplitl [HO15]
  · iexists _; isplitr; swap
    · iexact HO15
    · ipureintro
      refine (View.read_writes_eq_canon _ _ _ (Cert.Kernel2Ideal.Moe.cover8 _ _ _ _ _ _ _ _)).trans ?_
      rw [e0, e1, e2_0, e2_1, e3_0, e3_1, e4, e5, e9, e10, e11, e6, e7, e8]; rfl
  iexists _; isplitr; swap
  · iexact HO16
  · ipureintro
    refine (View.read_writes_full _ _ _ _ _).trans ?_
    rw [e0, e1, e2_0, e2_1, e3_0, e3_1, e4, e5, e9, e10, e11, e6, e7, e8, e12, e13]; rfl

end Cert.Kernel4Ideal.Post

end
-- ==== Proof.Post.Frame.lean ====
/-
  The output projections' kernel on its grid: the data of its schedule, the body at every point, and the whole run.
  Stated over any float type.
-/
module

public import proofs.«01_k».proof.Proof.Post.Run
public import Idealize.ShloMosaic.Lib.Pipeline.FrameSuffix
public import Idealize.ShloMosaic.Lib.Pipeline.ValueKit
public import Idealize.ShloMosaic.Lib.Ring
public import Idealize.ShloMosaic.Lib.Writes

@[expose] public section

set_option maxRecDepth 16384

noncomputable section

namespace Cert.Kernel4Ideal.Post

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-- The resources the proof works with. -/
local notation "𝕄" => MT nD τ sig Unit (Elt F) ℕ (UR sig nD τ) ℕ

variable (m : (ℓ : Loc nD τ sig) → Buf (Elt F) ℓ) (ρ : Dev nD → PrngReg)

/-- A core's buffers when the region is entered: after the host's lines before it. -/
def V0 (c : Dev nD) : Valuation τ sig (Elt F) := StableHlo.after (List.flatten [hostOps0 (F := F)]) (fun b => m (c, b))

/-- The windows' staging buffers at a point. -/
abbrev st0 (t : Fin cfg0.N) : Memref sig .tc .vmem S512x1024 .bf16 := win0_0.stage (cfg0.slots t 0)
abbrev hst0 (t : Fin cfg0.N) : (st0 t).IsWhole := hstage0_0 ((cfg0.slots t 0).cast nbuf0_0)
abbrev st1 (t : Fin cfg0.N) : Memref sig .tc .vmem S512x512 .bf16 := win0_1.stage (cfg0.slots t 1)
abbrev hst1 (t : Fin cfg0.N) : (st1 t).IsWhole := hstage0_1 ((cfg0.slots t 1).cast nbuf0_1)
abbrev st2 (t : Fin cfg0.N) : Memref sig .tc .vmem S2x512x512 .f32 := win0_2.stage (cfg0.slots t 2)
abbrev hst2 (t : Fin cfg0.N) : (st2 t).IsWhole := hstage0_2 ((cfg0.slots t 2).cast nbuf0_2)
abbrev st3 (t : Fin cfg0.N) : Memref sig .tc .vmem S2x512x512 .f32 := win0_3.stage (cfg0.slots t 3)
abbrev hst3 (t : Fin cfg0.N) : (st3 t).IsWhole := hstage0_3 ((cfg0.slots t 3).cast nbuf0_3)
abbrev st4 (t : Fin cfg0.N) : Memref sig .tc .vmem S512x1024 .f32 := win0_4.stage (cfg0.slots t 4)
abbrev hst4 (t : Fin cfg0.N) : (st4 t).IsWhole := hstage0_4 ((cfg0.slots t 4).cast nbuf0_4)
abbrev st5 (t : Fin cfg0.N) : Memref sig .tc .vmem S1x1x1024 .f32 := win0_5.stage (cfg0.slots t 5)
abbrev hst5 (t : Fin cfg0.N) : (st5 t).IsWhole := hstage0_5 ((cfg0.slots t 5).cast nbuf0_5)
abbrev st6 (t : Fin cfg0.N) : Memref sig .tc .vmem S1x1x1024 .f32 := win0_6.stage (cfg0.slots t 6)
abbrev hst6 (t : Fin cfg0.N) : (st6 t).IsWhole := hstage0_6 ((cfg0.slots t 6).cast nbuf0_6)
abbrev st7 (t : Fin cfg0.N) : Memref sig .tc .vmem S1x1x1024 .f32 := win0_7.stage (cfg0.slots t 7)
abbrev hst7 (t : Fin cfg0.N) : (st7 t).IsWhole := hstage0_7 ((cfg0.slots t 7).cast nbuf0_7)
abbrev st8 (t : Fin cfg0.N) : Memref sig .tc .vmem S1x1024 .f32 := win0_8.stage (cfg0.slots t 8)
abbrev hst8 (t : Fin cfg0.N) : (st8 t).IsWhole := hstage0_8 ((cfg0.slots t 8).cast nbuf0_8)
abbrev st9 (t : Fin cfg0.N) : Memref sig .tc .vmem S1024x1024 .bf16 := win0_9.stage (cfg0.slots t 9)
abbrev hst9 (t : Fin cfg0.N) : (st9 t).IsWhole := hstage0_9 ((cfg0.slots t 9).cast nbuf0_9)
abbrev st10 (t : Fin cfg0.N) : Memref sig .tc .vmem S512x1024 .bf16 := win0_10.stage (cfg0.slots t 10)
abbrev hst10 (t : Fin cfg0.N) : (st10 t).IsWhole := hstage0_10 ((cfg0.slots t 10).cast nbuf0_10)
abbrev st11 (t : Fin cfg0.N) : Memref sig .tc .vmem S1024x1024 .bf16 := win0_11.stage (cfg0.slots t 11)
abbrev hst11 (t : Fin cfg0.N) : (st11 t).IsWhole := hstage0_11 ((cfg0.slots t 11).cast nbuf0_11)
abbrev st12 (t : Fin cfg0.N) : Memref sig .tc .vmem S1024x128 .f32 := win0_12.stage (cfg0.slots t 12)
abbrev hst12 (t : Fin cfg0.N) : (st12 t).IsWhole := hstage0_12 ((cfg0.slots t 12).cast nbuf0_12)
abbrev st13 (t : Fin cfg0.N) : Memref sig .tc .vmem S1x128 .f32 := win0_13.stage (cfg0.slots t 13)
abbrev hst13 (t : Fin cfg0.N) : (st13 t).IsWhole := hstage0_13 ((cfg0.slots t 13).cast nbuf0_13)
abbrev st14 (t : Fin cfg0.N) : Memref sig .tc .vmem S512x1024 .f32 := win0_14.stage (cfg0.slots t 14)
abbrev hst14 (t : Fin cfg0.N) : (st14 t).IsWhole := hstage0_14 ((cfg0.slots t 14).cast nbuf0_14)
abbrev st15 (t : Fin cfg0.N) : Memref sig .tc .vmem S4096x128 .f32 := win0_15.stage (cfg0.slots t 15)
abbrev hst15 (t : Fin cfg0.N) : (st15 t).IsWhole := hstage0_15 ((cfg0.slots t 15).cast nbuf0_15)
abbrev st16 (t : Fin cfg0.N) : Memref sig .tc .vmem S512x128 .f32 := win0_16.stage (cfg0.slots t 16)
abbrev hst16 (t : Fin cfg0.N) : (st16 t).IsWhole := hstage0_16 ((cfg0.slots t 16).cast nbuf0_16)

/-- Window `w`'s block at point `t`, out of its array. -/
def iblk (c : Dev nD) (w : Fin cfg0.W) (t : Fin cfg0.N) : ((cfg0.win w).xblock (cfg0.grid.coords t)).Idx → Elt F (cfg0.win w).elt :=
  ((cfg0.win w).blk t).view.read (Elt F) (V0 m c (Proc.devRef .tc (Pipeline.arrRef spec0 w)))

/-- The three blocks a point leaves. -/
def res14 (c : Dev nD) (t : Fin cfg0.N) : S512x1024.Idx → Elt F .f32 := outTok (iblk m c 0 t) (iblk m c 1 t) (iblk m c 2 t) (iblk m c 3 t) (iblk m c 4 t) (iblk m c 5 t) (iblk m c 9 t) (iblk m c 10 t) (iblk m c 11 t)
def sca (c : Dev nD) (t : Fin cfg0.N) : S512x1024.Idx → Elt F .f32 := scaled (iblk m c 0 t) (iblk m c 1 t) (iblk m c 2 t) (iblk m c 3 t) (iblk m c 4 t) (iblk m c 5 t) (iblk m c 6 t) (iblk m c 8 t) (iblk m c 9 t) (iblk m c 10 t) (iblk m c 11 t)
def res15 (c : Dev nD) (t : Fin cfg0.N) : S4096x128.Idx → Elt F .f32 := outRows (sca m c t) (iblk m c 7 t)
def res16 (c : Dev nD) (t : Fin cfg0.N) : S512x128.Idx → Elt F .f32 := outLog (sca m c t) (iblk m c 7 t) (iblk m c 12 t) (iblk m c 13 t)

def dats (_ : Fin 1) (c : Dev nD) : Dat τ (Elt F) Unit ℕ (UR sig nD τ) ℕ cfg0 c where
  A w := V0 m c (Proc.devRef .tc (Pipeline.arrRef spec0 w))
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => res14 m c t
    | ⟨15, _⟩ => res15 m c t
    | ⟨16, _⟩ => res16 m c t
    | ⟨n + 17, h⟩ => absurd (show n + 17 < 17 from h) (Nat.not_lt.2 (Nat.le_add_left 17 n))
  Φ _ := Pipeline.ΦA spec0 c
  q w := Pipeline.shareOf spec0 w
  owed _ := 0

theorem A_eq (c : Dev nD) (w : Fin cfg0.W) : (dats m 0 c).A w = V0 m c (Proc.devRef .tc (Pipeline.arrRef spec0 w)) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = res14 m c t := by dsimp only [dats]
theorem after_15 (c : Dev nD) (t : Fin cfg0.N) : (dats m 0 c).after 15 t = res15 m c t := by dsimp only [dats]
theorem after_16 (c : Dev nD) (t : Fin cfg0.N) : (dats m 0 c).after 16 t = res16 m c t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = iblk m c 10 t :=
  ((dats m 0 c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)
theorem before_11 (c : Dev nD) (t : Fin cfg0.N) (d) : (dats m 0 c).before 11 t d = iblk m c 11 t :=
  ((dats m 0 c).before_in_eq_fetched 11 rfl (fun _ => rfl) (fun _ _ _ => rfl) (fun t => by rw [after_11]; unfold Dat.blockOf iblk; rw [A_eq]; try rfl) t d).trans
    (by unfold Dat.fetched Dat.blockOf iblk; rw [A_eq]; try rfl)
theorem before_12 (c : Dev nD) (t : Fin cfg0.N) (d) : (dats m 0 c).before 12 t d = iblk m c 12 t :=
  ((dats m 0 c).before_in_eq_fetched 12 rfl (fun _ => rfl) (fun _ _ _ => rfl) (fun t => by rw [after_12]; unfold Dat.blockOf iblk; rw [A_eq]; try rfl) t d).trans
    (by unfold Dat.fetched Dat.blockOf iblk; rw [A_eq]; try rfl)
theorem before_13 (c : Dev nD) (t : Fin cfg0.N) (d) : (dats m 0 c).before 13 t d = iblk m c 13 t :=
  ((dats m 0 c).before_in_eq_fetched 13 rfl (fun _ => rfl) (fun _ _ _ => rfl) (fun t => by rw [after_13]; unfold Dat.blockOf iblk; rw [A_eq]; try rfl) t d).trans
    (by unfold Dat.fetched Dat.blockOf iblk; rw [A_eq]; try rfl)
theorem leave_0 (c : Dev nD) (t : Fin cfg0.N) : (dats m 0 c).leavesExact 0 t = owns (c : Thread nD τ) (st0 t) fullShare (iblk m c 0 t) := by
  unfold Dat.leavesExact; rw [show cfg0.idle 0 (cfg0.grid.coords t) = false from rfl, after_0]
theorem leave_1 (c : Dev nD) (t : Fin cfg0.N) : (dats m 0 c).leavesExact 1 t = owns (c : Thread nD τ) (st1 t) fullShare (iblk m c 1 t) := by
  unfold Dat.leavesExact; rw [show cfg0.idle 1 (cfg0.grid.coords t) = false from rfl, after_1]
theorem leave_2 (c : Dev nD) (t : Fin cfg0.N) : (dats m 0 c).leavesExact 2 t = owns (c : Thread nD τ) (st2 t) fullShare (iblk m c 2 t) := by
  unfold Dat.leavesExact; rw [show cfg0.idle 2 (cfg0.grid.coords t) = false from rfl, after_2]
theorem leave_3 (c : Dev nD) (t : Fin cfg0.N) : (dats m 0 c).leavesExact 3 t = owns (c : Thread nD τ) (st3 t) fullShare (iblk m c 3 t) := by
  unfold Dat.leavesExact; rw [show cfg0.idle 3 (cfg0.grid.coords t) = false from rfl, after_3]
theorem leave_4 (c : Dev nD) (t : Fin cfg0.N) : (dats m 0 c).leavesExact 4 t = owns (c : Thread nD τ) (st4 t) fullShare (iblk m c 4 t) := by
  unfold Dat.leavesExact; rw [show cfg0.idle 4 (cfg0.grid.coords t) = false from rfl, after_4]
theorem leave_5 (c : Dev nD) (t : Fin cfg0.N) : (dats m 0 c).leavesExact 5 t = owns (c : Thread nD τ) (st5 t) fullShare (iblk m c 5 t) := by
  unfold Dat.leavesExact; rw [show cfg0.idle 5 (cfg0.grid.coords t) = false from rfl, after_5]
theorem leave_6 (c : Dev nD) (t : Fin cfg0.N) : (dats m 0 c).leavesExact 6 t = owns (c : Thread nD τ) (st6 t) fullShare (iblk m c 6 t) := by
  unfold Dat.leavesExact; rw [show cfg0.idle 6 (cfg0.grid.coords t) = false from rfl, after_6]
theorem leave_7 (c : Dev nD) (t : Fin cfg0.N) : (dats m 0 c).leavesExact 7 t = owns (c : Thread nD τ) (st7 t) fullShare (iblk m c 7 t) := by
  unfold Dat.leavesExact; rw [show cfg0.idle 7 (cfg0.grid.coords t) = false from rfl, after_7]
theorem leave_8 (c : Dev nD) (t : Fin cfg0.N) : (dats m 0 c).leavesExact 8 t = owns (c : Thread nD τ) (st8 t) fullShare (iblk m c 8 t) := by
  unfold Dat.leavesExact; rw [show cfg0.idle 8 (cfg0.grid.coords t) = false from rfl, after_8]
theorem leave_9 (c : Dev nD) (t : Fin cfg0.N) : (dats m 0 c).leavesExact 9 t = owns (c : Thread nD τ) (st9 t) fullShare (iblk m c 9 t) := by
  unfold Dat.leavesExact; rw [show cfg0.idle 9 (cfg0.grid.coords t) = false from rfl, after_9]
theorem leave_10 (c : Dev nD) (t : Fin cfg0.N) : (dats m 0 c).leavesExact 10 t = owns (c : Thread nD τ) (st10 t) fullShare (iblk m c 10 t) := by
  unfold Dat.leavesExact; rw [show cfg0.idle 10 (cfg0.grid.coords t) = false from rfl, after_10]
theorem leave_11 (c : Dev nD) (t : Fin cfg0.N) : (dats m 0 c).leavesExact 11 t = owns (c : Thread nD τ) (st11 t) fullShare (iblk m c 11 t) := by
  unfold Dat.leavesExact; rw [show cfg0.idle 11 (cfg0.grid.coords t) = false from rfl, after_11]
theorem leave_12 (c : Dev nD) (t : Fin cfg0.N) : (dats m 0 c).leavesExact 12 t = owns (c : Thread nD τ) (st12 t) fullShare (iblk m c 12 t) := by
  unfold Dat.leavesExact; rw [show cfg0.idle 12 (cfg0.grid.coords t) = false from rfl, after_12]
theorem leave_13 (c : Dev nD) (t : Fin cfg0.N) : (dats m 0 c).leavesExact 13 t = owns (c : Thread nD τ) (st13 t) fullShare (iblk m c 13 t) := by
  unfold Dat.leavesExact; rw [show cfg0.idle 13 (cfg0.grid.coords t) = false from rfl, after_13]
theorem leave_14 (c : Dev nD) (t : Fin cfg0.N) : (dats m 0 c).leavesExact 14 t = owns (c : Thread nD τ) (st14 t) fullShare (res14 m c t) := by
  unfold Dat.leavesExact; rw [show cfg0.idle 14 (cfg0.grid.coords t) = false from rfl, after_14]
theorem leave_15 (c : Dev nD) (t : Fin cfg0.N) : (dats m 0 c).leavesExact 15 t = owns (c : Thread nD τ) (st15 t) fullShare (res15 m c t) := by
  unfold Dat.leavesExact; rw [show cfg0.idle 15 (cfg0.grid.coords t) = false from rfl, after_15]
theorem leave_16 (c : Dev nD) (t : Fin cfg0.N) : (dats m 0 c).leavesExact 16 t = owns (c : Thread nD τ) (st16 t) fullShare (res16 m c t) := by
  unfold Dat.leavesExact; rw [show cfg0.idle 16 (cfg0.grid.coords t) = false from rfl, after_16]

/-- The body on its staging buffers, as the schedule calls it. -/
abbrev bodyAt (t : Fin cfg0.N) : Prog (TpuEff nD τ sig (Elt F) Λ₀ .tc) PUnit :=
  bodyOn (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) (st13 t) (hst13 t) (st14 t) (hst14 t) (st15 t) (hst15 t) (st16 t) (hst16 t)

/-! ## The body at a point -/

/-- The inputs' buffers, found as their blocks. -/
theorem ins_of (c : Dev nD) (t : Fin cfg0.N) (R : sProp 𝕄) :
    iprop((∃ d, owns (c : Thread nD τ) (st0 t) fullShare ((dats m 0 c).before 0 t d)) ∗ (∃ d, owns (c : Thread nD τ) (st1 t) fullShare ((dats m 0 c).before 1 t d)) ∗ (∃ d, owns (c : Thread nD τ) (st2 t) fullShare ((dats m 0 c).before 2 t d)) ∗ (∃ d, owns (c : Thread nD τ) (st3 t) fullShare ((dats m 0 c).before 3 t d)) ∗ (∃ d, owns (c : Thread nD τ) (st4 t) fullShare ((dats m 0 c).before 4 t d)) ∗ (∃ d, owns (c : Thread nD τ) (st5 t) fullShare ((dats m 0 c).before 5 t d)) ∗ (∃ d, owns (c : Thread nD τ) (st6 t) fullShare ((dats m 0 c).before 6 t d)) ∗ (∃ d, owns (c : Thread nD τ) (st7 t) fullShare ((dats m 0 c).before 7 t d)) ∗ (∃ d, owns (c : Thread nD τ) (st8 t) fullShare ((dats m 0 c).before 8 t d)) ∗ (∃ d, owns (c : Thread nD τ) (st9 t) fullShare ((dats m 0 c).before 9 t d)) ∗ (∃ d, owns (c : Thread nD τ) (st10 t) fullShare ((dats m 0 c).before 10 t d)) ∗ (∃ d, owns (c : Thread nD τ) (st11 t) fullShare ((dats m 0 c).before 11 t d)) ∗ (∃ d, owns (c : Thread nD τ) (st12 t) fullShare ((dats m 0 c).before 12 t d)) ∗ (∃ d, owns (c : Thread nD τ) (st13 t) fullShare ((dats m 0 c).before 13 t d)) ∗ R)
      ⊢ iprop(Ins (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) c (st0 t) (st1 t) (st2 t) (st3 t) (st4 t) (st5 t) (st6 t) (st7 t) (st8 t) (st9 t) (st10 t) (st11 t) (st12 t) (st13 t) ∗ R) := by
  simp only [before_0, before_1, before_2, before_3, before_4, before_5, before_6, before_7, before_8, before_9, before_10, before_11, before_12, before_13]
  unfold Ins
  iintro ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, HR⟩
  isplitr [HR]
  · isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [H7]; · iapply rep_of_owns; iexact H7
    isplitl [H8]; · iapply rep_of_owns; iexact H8
    isplitl [H9]; · iapply rep_of_owns; iexact H9
    isplitl [H10]; · iapply rep_of_owns; iexact H10
    isplitl [H11]; · iapply rep_of_owns; iexact H11
    isplitl [H12]; · iapply rep_of_owns; iexact H12
    iapply rep_of_owns; iexact H13
  iexact HR

/-- The inputs' buffers, left as they were found. -/
theorem ins_leave (c : Dev nD) (t : Fin cfg0.N) (R : sProp 𝕄) :
    iprop(Ins (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) c (st0 t) (st1 t) (st2 t) (st3 t) (st4 t) (st5 t) (st6 t) (st7 t) (st8 t) (st9 t) (st10 t) (st11 t) (st12 t) (st13 t) ∗ R)
      ⊢ iprop((dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ R) := by
  rw [leave_0, leave_1, leave_2, leave_3, leave_4, leave_5, leave_6, leave_7, leave_8, leave_9, leave_10, leave_11, leave_12, leave_13]
  unfold Ins
  iintro ⟨⟨H0, H1, H2, H3, H4, H5, H6, H7, H8, H9, H10, H11, H12, H13⟩, HR⟩
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  isplitl [H7]; · iapply owns_of_rep; iexact H7
  isplitl [H8]; · iapply owns_of_rep; iexact H8
  isplitl [H9]; · iapply owns_of_rep; iexact H9
  isplitl [H10]; · iapply owns_of_rep; iexact H10
  isplitl [H11]; · iapply owns_of_rep; iexact H11
  isplitl [H12]; · iapply owns_of_rep; iexact H12
  isplitl [H13]; · iapply owns_of_rep; iexact H13
  iexact HR

theorem body_grouped (c : Dev nD) (t : Fin cfg0.N) :
    iprop(Pipeline.ΦA spec0 c ∗ (dats m 0 c).owesAt () t.castSucc ∗ Ins (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) c (st0 t) (st1 t) (st2 t) (st3 t) (st4 t) (st5 t) (st6 t) (st7 t) (st8 t) (st9 t) (st10 t) (st11 t) (st12 t) (st13 t)
        ∗ (∃ d, owns (c : Thread nD τ) (st14 t) fullShare ((dats m 0 c).before 14 t d)) ∗ (∃ d, owns (c : Thread nD τ) (st15 t) fullShare ((dats m 0 c).before 15 t d)) ∗ (∃ d, owns (c : Thread nD τ) (st16 t) fullShare ((dats m 0 c).before 16 t d)))
      ⊢ wp frame (wpE (defs₀ (F := F)) Variants.none c none) Set.univ (bodyAt t) fun _ =>
          iprop(Pipeline.ΦA spec0 c ∗ (dats m 0 c).owesAt () t.castSucc ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t ∗ (dats m 0 c).leavesExact 15 t ∗ (dats m 0 c).leavesExact 16 t) := by
  rw [leave_14, leave_15, leave_16]
  iintro ⟨HP, Ho, HI, ⟨%d14, H14⟩, ⟨%d15, H15⟩, ⟨%d16, H16⟩⟩
  iapply (runBody (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) (st13 t) (hst13 t) (st14 t) (hst14 t) (st15 t) (hst15 t) (st16 t) (hst16 t) _)
  isplitl [HI]; · iexact HI
  isplitl [H14]; · iexists _; iexact H14
  isplitl [H15]; · iexists _; iexact H15
  isplitl [H16]; · iexists _; iexact H16
  iintro ⟨HI, H14, H15, H16⟩
  isplitl [HP]; · iexact HP
  isplitl [Ho]; · iexact Ho
  iapply ins_leave m c t _
  isplitl [HI]; · iexact HI
  isplitl [H14]; · iexact H14
  isplitl [H15]; · iexact H15
  iexact H16

theorem sound_body (c : Dev nD) (t : Fin cfg0.N) :
    iprop((dats m 0 c).Φ t.castSucc ∗ (dats m 0 c).owesAt () t.castSucc
        ∗ (∃ d, owns (c : Thread nD τ) (st0 t) fullShare ((dats m 0 c).before 0 t d)) ∗ (∃ d, owns (c : Thread nD τ) (st1 t) fullShare ((dats m 0 c).before 1 t d)) ∗ (∃ d, owns (c : Thread nD τ) (st2 t) fullShare ((dats m 0 c).before 2 t d)) ∗ (∃ d, owns (c : Thread nD τ) (st3 t) fullShare ((dats m 0 c).before 3 t d)) ∗ (∃ d, owns (c : Thread nD τ) (st4 t) fullShare ((dats m 0 c).before 4 t d)) ∗ (∃ d, owns (c : Thread nD τ) (st5 t) fullShare ((dats m 0 c).before 5 t d)) ∗ (∃ d, owns (c : Thread nD τ) (st6 t) fullShare ((dats m 0 c).before 6 t d)) ∗ (∃ d, owns (c : Thread nD τ) (st7 t) fullShare ((dats m 0 c).before 7 t d)) ∗ (∃ d, owns (c : Thread nD τ) (st8 t) fullShare ((dats m 0 c).before 8 t d)) ∗ (∃ d, owns (c : Thread nD τ) (st9 t) fullShare ((dats m 0 c).before 9 t d)) ∗ (∃ d, owns (c : Thread nD τ) (st10 t) fullShare ((dats m 0 c).before 10 t d)) ∗ (∃ d, owns (c : Thread nD τ) (st11 t) fullShare ((dats m 0 c).before 11 t d)) ∗ (∃ d, owns (c : Thread nD τ) (st12 t) fullShare ((dats m 0 c).before 12 t d)) ∗ (∃ d, owns (c : Thread nD τ) (st13 t) fullShare ((dats m 0 c).before 13 t d)) ∗ (∃ d, owns (c : Thread nD τ) (st14 t) fullShare ((dats m 0 c).before 14 t d)) ∗ (∃ d, owns (c : Thread nD τ) (st15 t) fullShare ((dats m 0 c).before 15 t d)) ∗ (∃ d, owns (c : Thread nD τ) (st16 t) fullShare ((dats m 0 c).before 16 t d)))
      ⊢ wp frame (wpE (defs₀ (F := F)) Variants.none c none) Set.univ (bodyAt t) fun _ =>
          iprop((dats m 0 c).Φ t.succ ∗ (dats m 0 c).owesAt () t.succ
            ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t ∗ (dats m 0 c).leavesExact 15 t ∗ (dats m 0 c).leavesExact 16 t) := by
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  refine BIBase.Entails.trans ?_ (body_grouped m c t)
  iintro ⟨HP, Ho, HR⟩
  isplitl [HP]; · iexact HP
  isplitl [Ho]; · iexact Ho
  iapply ins_of m c t _
  iexact HR

theorem defs₀_row (t : Fin cfg0.N) : defs₀ (F := F) .tc cfg0.body (cfg0.bodyArgs t (cfg0.slots t)) = bodyAt t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The host's lines and the launch -/

/-- What the lines before the grid write. -/
abbrev writes0 : List (Ref sig .tc) := [main_v0, main_v1, main_v2, main_v3, main_v4, main_v5, main_v6, main_v7, main_cst, main_v8, main_v9, main_c, main_v10, main_v11, main_cst_0, main_v12, main_v13, main_c_1, main_v14, main_c_2, main_v15, main_v16, main_v17, main_v18]

theorem writes0_sub : (hostOps0 (F := F)).Forall fun op => op.writes ⊆ (writes0.map (Proc.devRef (τ := τ) .tc)).toFinset :=
  StableHlo.forall_writes_sub_of_map rfl

theorem fresh0 : (hostOps0 (F := F)).Forall fun op => op.fresh = ∅ := ⟨rfl, rfl, rfl, rfl, rfl, rfl, rfl, rfl, rfl, rfl, rfl, rfl, rfl, rfl, rfl, rfl, rfl, rfl, rfl, rfl, rfl, rfl, rfl, rfl⟩

theorem V0_of (c : Dev nD) (r : Ref sig .tc) (hr : r ∉ writes0) : V0 m c (Proc.devRef .tc r) = m ((c : Thread nD τ).loc r) :=
  StableHlo.after_of_writes_sub (hostOps0 (F := F)) _ writes0_sub hr

set_option backward.isDefEq.respectTransparency.types false in
set_option maxHeartbeats 4000000 in
/-- @main from any memory with zero counters: the grid's arrays as the schedule leaves them. -/
theorem run : θ_run (defs (F := F)) (onTc (τ := τ) (main (F := F))) ⟨m, fun _ => 0, ρ⟩
    (fun r => Pipeline.FramePost cfgs (dats m) 0 (fun c b => V0 m c (Proc.devRef .tc b)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl) (howed := fun _ _ => rfl)
    (V := fun c b => V0 m c (Proc.devRef .tc b))
    (hmain := Pipeline.hmain_prefixes cfgs 0 defs₀ Variants.none m main [hostOps0] hostOps0_sub fresh0 fun c => (main_chain c).trans rfl)
    (hA := A_eq m) (hΦ := fun _ _ => rfl)

/-- Every result as the grid leaves it, the arguments unchanged, the counters at zero. -/
theorem run_all :
    θ_run (defs (F := F)) (onTc (τ := τ) (main (F := F))) ⟨m, fun _ => 0, ρ⟩ (fun r => (∀ c : Dev nD,
      (r.2.mem ((c.tc : Thread nD τ).loc main_v19_0) = (dats m 0 c).arrAt 14 cfg0.N
      ∧ r.2.mem ((c.tc : Thread nD τ).loc main_v19_1) = (dats m 0 c).arrAt 15 cfg0.N
      ∧ r.2.mem ((c.tc : Thread nD τ).loc main_v19_2) = (dats m 0 c).arrAt 16 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) := by
  refine (θ_run defs _ _).mono (fun r h => ⟨fun c => ?_, h.2⟩) (run m ρ)
  exact ⟨⟨(h.1 c).1 14, (h.1 c).1 15, (h.1 c).1 16⟩,
    ((h.1 c).1 0).trans (((dats m 0 c).arrAt_in 0 rfl _).trans ((A_eq m c 0).trans (V0_of m c main_arg0 (by decide)))),
    ((h.1 c).1 1).trans (((dats m 0 c).arrAt_in 1 rfl _).trans ((A_eq m c 1).trans (V0_of m c main_arg1 (by decide)))),
    ((h.1 c).1 2).trans (((dats m 0 c).arrAt_in 2 rfl _).trans ((A_eq m c 2).trans (V0_of m c main_arg2 (by decide)))),
    ((h.1 c).2 main_arg3 (Pipeline.mem_restRefs_of _ rfl (fun w => by fin_cases w <;> exact fun h => by cases h))).trans (V0_of m c main_arg3 (by decide)),
    ((h.1 c).1 5).trans (((dats m 0 c).arrAt_in 5 rfl _).trans ((A_eq m c 5).trans (V0_of m c main_arg4 (by decide)))),
    ((h.1 c).1 6).trans (((dats m 0 c).arrAt_in 6 rfl _).trans ((A_eq m c 6).trans (V0_of m c main_arg5 (by decide)))),
    ((h.1 c).1 7).trans (((dats m 0 c).arrAt_in 7 rfl _).trans ((A_eq m c 7).trans (V0_of m c main_arg6 (by decide)))),
    ((h.1 c).2 main_arg7 (Pipeline.mem_restRefs_of _ rfl (fun w => by fin_cases w <;> exact fun h => by cases h))).trans (V0_of m c main_arg7 (by decide)),
    ((h.1 c).2 main_arg8 (Pipeline.mem_restRefs_of _ rfl (fun w => by fin_cases w <;> exact fun h => by cases h))).trans (V0_of m c main_arg8 (by decide)),
    ((h.1 c).2 main_arg9 (Pipeline.mem_restRefs_of _ rfl (fun w => by fin_cases w <;> exact fun h => by cases h))).trans (V0_of m c main_arg9 (by decide)),
    ((h.1 c).2 main_arg10 (Pipeline.mem_restRefs_of _ rfl (fun w => by fin_cases w <;> exact fun h => by cases h))).trans (V0_of m c main_arg10 (by decide)),
    ((h.1 c).2 main_arg11 (Pipeline.mem_restRefs_of _ rfl (fun w => by fin_cases w <;> exact fun h => by cases h))).trans (V0_of m c main_arg11 (by decide)),
    ((h.1 c).2 main_arg12 (Pipeline.mem_restRefs_of _ rfl (fun w => by fin_cases w <;> exact fun h => by cases h))).trans (V0_of m c main_arg12 (by decide))⟩

/-- The frame: the arguments end unchanged and the counters at zero. -/
theorem frame_at :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun _ h => ⟨fun c => (h.1 c).2, h.2⟩) (run_all m ρ)

end Cert.Kernel4Ideal.Post

end
-- ==== Proof.Post.Host.lean ====
module

public import proofs.«01_k».proof.Proof.Post.Frame
public import proofs.«01_k».proof.Proof.Inproj.Spec
public import Idealize.ShloMosaic.Lib.StableHlo.RunRead
public import Idealize.ShloMosaic.Lib.Routing.OpsSet

@[expose] public section

set_option maxRecDepth 16384

noncomputable section

/-! What the host prepares for the output projections, read at an index. -/

namespace Cert.Kernel4Ideal.Post

open Cert.Kernel4Ideal Cert.Kernel4Ideal.Gen Idealize.ShloMosaic Idealize.ShloMosaic.TcCoe Idealize.ShloMosaic.Routing

variable (m : (ℓ : Loc nD τ sig) → Buf (Elt Ideal) ℓ) (c : Dev nD)

abbrev A0 : S16384x1024.Idx → Elt Ideal .bf16 := m (c, Proc.devRef .tc main_arg0)
abbrev A1 : S16384x512.Idx → Elt Ideal .bf16 := m (c, Proc.devRef .tc main_arg1)
abbrev A2 : S14x16384x512.Idx → Elt Ideal .f32 := m (c, Proc.devRef .tc main_arg2)
abbrev A3 : S8x2048x1024.Idx → Elt Ideal .f32 := m (c, Proc.devRef .tc main_arg3)
abbrev A4 : S8x1x1024.Idx → Elt Ideal .f32 := m (c, Proc.devRef .tc main_arg4)
abbrev A5 : S8x1x1024.Idx → Elt Ideal .f32 := m (c, Proc.devRef .tc main_arg5)
abbrev A6 : S8x1x1024.Idx → Elt Ideal .f32 := m (c, Proc.devRef .tc main_arg6)
abbrev A7 : S1x1024.Idx → Elt Ideal .f32 := m (c, Proc.devRef .tc main_arg7)
abbrev A8 : S1x1024x1024.Idx → Elt Ideal .f32 := m (c, Proc.devRef .tc main_arg8)
abbrev A9 : S1x512x1024.Idx → Elt Ideal .f32 := m (c, Proc.devRef .tc main_arg9)
abbrev A10 : S1x1024x1024.Idx → Elt Ideal .f32 := m (c, Proc.devRef .tc main_arg10)
abbrev A11 : S1x1024x32.Idx → Elt Ideal .f32 := m (c, Proc.devRef .tc main_arg11)
abbrev A12 : S1x32.Idx → Elt Ideal .f32 := m (c, Proc.devRef .tc main_arg12)

def H18 : S16384x1024.Idx → Elt Ideal .f32 := V0 (F := Ideal) m c (Proc.devRef .tc main_v18)
def H1 : S1x1024.Idx → Elt Ideal .f32 := V0 (F := Ideal) m c (Proc.devRef .tc main_v1)
def H3 : S1024x1024.Idx → Elt Ideal .bf16 := V0 (F := Ideal) m c (Proc.devRef .tc main_v3)
def H5 : S512x1024.Idx → Elt Ideal .bf16 := V0 (F := Ideal) m c (Proc.devRef .tc main_v5)
def H7 : S1024x1024.Idx → Elt Ideal .bf16 := V0 (F := Ideal) m c (Proc.devRef .tc main_v7)
def H11 : S1024x128.Idx → Elt Ideal .f32 := V0 (F := Ideal) m c (Proc.devRef .tc main_v11)
def H17 : S1x128.Idx → Elt Ideal .f32 := V0 (F := Ideal) m c (Proc.devRef .tc main_v17)

theorem read_H18 (r : Fin 16384) (i : Fin 1024) : H18 m c (ix2 r i) = A3 m c (ix3 ⟨r.val / 2048, by omega⟩ ⟨r.val % 2048, by omega⟩ i) := by
  unfold H18 V0
  rw [List.flatten_singleton]
  after_reads_simp
  pointwise []

theorem read_H1 (i : Fin 1024) : H1 m c (ix2 0 i) = A7 m c (ix2 0 i) := by
  unfold H1 V0
  rw [List.flatten_singleton]
  after_reads_simp
  pointwise []

theorem read_H3 (i k : Fin 1024) : H3 m c (ix2 i k) = A8 m c (ix3 0 i k) := by
  unfold H3 V0
  rw [List.flatten_singleton]
  after_reads_simp
  pointwise []

theorem read_H5 (i : Fin 512) (k : Fin 1024) : H5 m c (ix2 i k) = A9 m c (ix3 0 i k) := by
  unfold H5 V0
  rw [List.flatten_singleton]
  after_reads_simp
  pointwise []

theorem read_H7 (i k : Fin 1024) : H7 m c (ix2 i k) = A10 m c (ix3 0 i k) := by
  unfold H7 V0
  rw [List.flatten_singleton]
  after_reads_simp
  pointwise []

/-- Update `(l, q)` of the weights' scatter, whose one index is zero, lands at `(l, q)`. -/
theorem landsW (l : Fin 1024) (q : Fin 32) :
    scatter_S1024x128_S1_S1024x32_01_n_1_0.resultIdx? (ix2 l q) (fun _ => (0#32 : BitVec 32)) = some (ix2 l (⟨q.val, by omega⟩ : Fin 128)) := by
  have st : ∀ a, scatter_S1024x128_S1_S1024x32_01_n_1_0.start (ix2 l q) (fun _ => (0#32 : BitVec 32)) a = 0 := by
    intro a
    unfold ScatterDims.start
    split <;> rfl
  have w0 : scatter_S1024x128_S1_S1024x32_01_n_1_0.window (ix2 l q) 0 = l.val := rfl
  have w1 : scatter_S1024x128_S1_S1024x32_01_n_1_0.window (ix2 l q) 1 = q.val := rfl
  unfold ScatterDims.resultIdx?
  rw [dif_pos (fun a => by
    rw [st]
    match a with
    | ⟨0, _⟩ => exact ⟨by omega, by show (0 : Int) + (scatter_S1024x128_S1_S1024x32_01_n_1_0.window (ix2 l q) 0 : Nat) < (1024 : Nat); rw [w0]; omega⟩
    | ⟨1, _⟩ => exact ⟨by omega, by show (0 : Int) + (scatter_S1024x128_S1_S1024x32_01_n_1_0.window (ix2 l q) 1 : Nat) < (128 : Nat); rw [w1]; omega⟩)]
  congr 1
  funext a
  match a with
  | ⟨0, _⟩ =>
    refine Fin.ext ?_
    show (scatter_S1024x128_S1_S1024x32_01_n_1_0.start (ix2 l q) (fun _ => (0#32 : BitVec 32)) 0 + ((scatter_S1024x128_S1_S1024x32_01_n_1_0.window (ix2 l q) 0 : Nat) : Int)).toNat = l.val
    rw [w0, st]
    omega
  | ⟨1, _⟩ =>
    refine Fin.ext ?_
    show (scatter_S1024x128_S1_S1024x32_01_n_1_0.start (ix2 l q) (fun _ => (0#32 : BitVec 32)) 1 + ((scatter_S1024x128_S1_S1024x32_01_n_1_0.window (ix2 l q) 1 : Nat) : Int)).toNat = q.val
    rw [w1, st]
    omega

/-- Where an update of the weights lands says which update it is. -/
theorem landsW_inv (k : S1024x32.Idx) (l : Fin 1024) (q : Fin 128)
    (hk : scatter_S1024x128_S1_S1024x32_01_n_1_0.resultIdx? k (fun _ => (0#32 : BitVec 32)) = some (ix2 l q)) : k 0 = l ∧ (k 1).val = q.val := by
  have e := (congrArg (fun x => scatter_S1024x128_S1_S1024x32_01_n_1_0.resultIdx? x (fun _ => (0#32 : BitVec 32))) (eq_ix2 k)).symm.trans hk
  have h := Option.some.inj ((landsW (k 0) (k 1)).symm.trans e)
  exact ⟨congrFun h 0, congrArg Fin.val (congrFun h 1)⟩

/-- The router's 32 columns, then columns of zeros. -/
theorem read_H11 (l : Fin 1024) (q : Fin 128) : H11 m c (ix2 l q) = if h : q.val < 32 then A11 m c (ix3 0 l ⟨q.val, h⟩) else 0 := by
  unfold H11 V0
  rw [List.flatten_singleton]
  after_reads_simp
  rw [show broadcastInDim S1 ![] bcast_S_S1 (constantI S_ 32 0#32) = fun _ => (0#32 : BitVec 32) by funext i; rfl]
  by_cases h : q.val < 32
  · rw [dif_pos h]
    refine scatter_set_hit _ _ _ _ _ _ (fun k hk => ?_) (ix2 l ⟨q.val, h⟩) (landsW l ⟨q.val, h⟩)
    obtain ⟨h0, h1⟩ := landsW_inv k l q hk
    rw [eq_ix2 k, h0, show k 1 = (⟨q.val, h⟩ : Fin 32) from Fin.ext h1]
    pointwise []
    done
  · rw [dif_neg h]
    refine (scatter_set_miss _ _ _ _ _ (fun k hk => ?_)).trans ?_
    · have h1 := (landsW_inv k l q hk).2
      exact h (h1 ▸ (k 1).isLt)
    · pointwise []

/-- Update `q` of the bias's scatter, whose index is zero on both axes, lands at `(0, q)`. -/
theorem landsB (q : Fin 32) :
    scatter_S1x128_S2_S32_0_0_01_0.resultIdx? (ix1 q) (fun _ => (0#32 : BitVec 32)) = some (ix2 (0 : Fin 1) (⟨q.val, by omega⟩ : Fin 128)) := by
  have st : ∀ a, scatter_S1x128_S2_S32_0_0_01_0.start (ix1 q) (fun _ => (0#32 : BitVec 32)) a = 0 := by
    intro a
    unfold ScatterDims.start
    split <;> rfl
  have w0 : scatter_S1x128_S2_S32_0_0_01_0.window (ix1 q) 0 = 0 := rfl
  have w1 : scatter_S1x128_S2_S32_0_0_01_0.window (ix1 q) 1 = q.val := rfl
  unfold ScatterDims.resultIdx?
  rw [dif_pos (fun a => by
    rw [st]
    match a with
    | ⟨0, _⟩ => exact ⟨by omega, by show (0 : Int) + (scatter_S1x128_S2_S32_0_0_01_0.window (ix1 q) 0 : Nat) < (1 : Nat); rw [w0]; omega⟩
    | ⟨1, _⟩ => exact ⟨by omega, by show (0 : Int) + (scatter_S1x128_S2_S32_0_0_01_0.window (ix1 q) 1 : Nat) < (128 : Nat); rw [w1]; omega⟩)]
  congr 1
  funext a
  match a with
  | ⟨0, _⟩ =>
    refine Fin.ext ?_
    show (scatter_S1x128_S2_S32_0_0_01_0.start (ix1 q) (fun _ => (0#32 : BitVec 32)) 0 + ((scatter_S1x128_S2_S32_0_0_01_0.window (ix1 q) 0 : Nat) : Int)).toNat = 0
    rw [w0, st]
    rfl
  | ⟨1, _⟩ =>
    refine Fin.ext ?_
    show (scatter_S1x128_S2_S32_0_0_01_0.start (ix1 q) (fun _ => (0#32 : BitVec 32)) 1 + ((scatter_S1x128_S2_S32_0_0_01_0.window (ix1 q) 1 : Nat) : Int)).toNat = q.val
    rw [w1, st]
    omega

/-- Where an update of the bias lands says which update it is. -/
theorem landsB_inv (k : S32.Idx) (q : Fin 128)
    (hk : scatter_S1x128_S2_S32_0_0_01_0.resultIdx? k (fun _ => (0#32 : BitVec 32)) = some (ix2 (0 : Fin 1) q)) : (k 0).val = q.val := by
  have e := (congrArg (fun x => scatter_S1x128_S2_S32_0_0_01_0.resultIdx? x (fun _ => (0#32 : BitVec 32))) (eq_ix1 k)).symm.trans hk
  have h := Option.some.inj ((landsB (k 0)).symm.trans e)
  exact congrArg Fin.val (congrFun h 1)

/-- The two zeros of the bias's index. -/
theorem zeros2 (z : S2.Idx → BitVec 32) (h : ∀ i : Fin 2, z (ix1 i) = 0#32) : z = fun _ => (0#32 : BitVec 32) := by
  funext i
  rw [eq_ix1 i]
  exact h _

/-- The router's 32 biases, then minus infinity. -/
theorem read_H17 (q : Fin 128) : H17 m c (ix2 0 q) = if h : q.val < 32 then A12 m c (ix2 0 ⟨q.val, h⟩) else Ideal.ofBits FTy.f32 0xFF800000#32 := by
  unfold H17 V0
  rw [List.flatten_singleton]
  after_reads_simp
  generalize hz : concatenate S2 0 _ _ = z
  have hz' : z = fun _ => (0#32 : BitVec 32) := zeros2 z fun i => by
    rw [← hz]
    after_reads_simp
    pointwise []
    split <;> rfl
  rw [hz']
  by_cases h : q.val < 32
  · rw [dif_pos h]
    refine scatter_set_hit _ _ _ _ _ _ (fun k hk => ?_) (ix1 ⟨q.val, h⟩) (landsB ⟨q.val, h⟩)
    have h1 := landsB_inv k q hk
    rw [eq_ix1 k, show k 0 = (⟨q.val, h⟩ : Fin 32) from Fin.ext h1]
    pointwise []
    done
  · rw [dif_neg h]
    refine (scatter_set_miss _ _ _ _ _ (fun k hk => ?_)).trans ?_
    · have h1 := landsB_inv k q hk
      exact h (h1 ▸ (k 0).isLt)
    · pointwise []

end Cert.Kernel4Ideal.Post
-- ==== Proof.Post.Spec.lean ====
module

public import proofs.«01_k».proof.Proof.Inproj.Spec

@[expose] public section

set_option maxRecDepth 16384

noncomputable section

/-! What the output projections compute, over the extended reals: two branches mixed by their gates, projected and added to the token, then its normalised copy and the router's scores. -/

namespace Cert.Post

open Idealize.ShloMosaic Cert.Inproj

/-- Two halves of a row side by side. -/
def pair (x y : Fin 512 → EReal) (k : Fin 1024) : EReal :=
  if h : k.val < 512 then x ⟨k.val, h⟩ else y ⟨k.val - 512, by omega⟩

/-- The sigmoid. -/
def sig (z : EReal) : EReal := Ideal.div 1 (1 + Ideal.exp (-z))

/-- The two branches' projections, each times its gate's sigmoid. -/
def mix (og : Fin 1024 → EReal) (om : Fin 512 → EReal) (ba bb : Fin 1024 → EReal) (wg : Fin 1024 → Fin 1024 → EReal)
    (wm : Fin 512 → Fin 1024 → EReal) (k : Fin 1024) : EReal :=
  sig (ba k) * (∑ i, og i * wg i k) + sig (bb k) * (∑ i, om i * wm i k)

/-- The token plus the scaled projection of the mixed branches. -/
def tok (M x gt : Fin 1024 → EReal) (wo : Fin 1024 → Fin 1024 → EReal) (k : Fin 1024) : EReal :=
  x k + gt k * ∑ i, M i * wo i k

/-- A number that is neither infinity. -/
def IsReal (x : EReal) : Prop := ∃ r : ℝ, x = (r : EReal)

theorem square_nonneg (x : EReal) : 0 ≤ x * x := by
  induction x using EReal.rec with
  | bot => rw [EReal.bot_mul_bot]; exact le_top
  | top => rw [EReal.top_mul_top]; exact le_top
  | coe r => rw [← EReal.coe_mul]; exact EReal.coe_nonneg.2 (mul_self_nonneg r)

theorem eps_pos : ∃ e : ℝ, 0 < e ∧ Ideal.ofBits FTy.f32 0x358637BD#32 = (e : EReal) := by
  refine ⟨_, ?_, by simp [Ideal.ofBits, Ideal.ieee, -EReal.coe_mul]; rfl⟩
  norm_num

theorem width : Ideal.ofBits FTy.f32 0x44800000#32 = ((1024 : ℝ) : EReal) := by
  simp [Ideal.ofBits, Ideal.ieee, -EReal.coe_mul]; norm_num

/-- The inverse square root of a positive number, infinity included, is a real number. -/
theorem rsqrt_real (u : EReal) (h : 0 < u) : IsReal (Ideal.rsqrt u) := by
  induction u using EReal.rec with
  | bot => exact absurd h (not_lt.2 bot_le)
  | top => exact ⟨0, rfl⟩
  | coe r =>
    have hr : 0 < r := EReal.coe_pos.1 h
    exact ⟨(Real.sqrt r)⁻¹, by
      show (if r < 0 then (⊥ : EReal) else if r = 0 then ⊤ else (((Real.sqrt r)⁻¹ : ℝ) : EReal)) = _
      rw [if_neg (not_lt.2 hr.le), if_neg hr.ne']⟩

/-- An entry times the inverse root of the mean square: an infinite entry makes the mean infinite and the root zero. -/
theorem ratio_real (x : Fin 1024 → EReal) (i : Fin 1024) :
    IsReal (x i * Ideal.rsqrt (Ideal.div (∑ k, x k * x k) (Ideal.ofBits FTy.f32 0x44800000#32) + Ideal.ofBits FTy.f32 0x358637BD#32)) := by
  obtain ⟨e, he, hb⟩ := eps_pos
  rw [hb, width, Ideal.div_coe (by norm_num)]
  have hs : 0 ≤ ∑ k, x k * x k := Finset.sum_nonneg fun k _ => square_nonneg (x k)
  have hinf : x i * x i = ⊤ → Ideal.rsqrt ((∑ k, x k * x k) * (((1 : ℝ) / 1024 : ℝ) : EReal) + (e : EReal)) = 0 := fun h => by
    have ht : ∑ k, x k * x k = ⊤ := top_le_iff.1 (h ▸ Finset.single_le_sum (f := fun k => x k * x k) (fun k _ => square_nonneg (x k)) (Finset.mem_univ i))
    rw [ht, EReal.top_mul_coe_of_pos (by norm_num), EReal.top_add_coe]
    rfl
  have hpos : 0 < (∑ k, x k * x k) * (((1 : ℝ) / 1024 : ℝ) : EReal) + (e : EReal) :=
    lt_of_lt_of_le (EReal.coe_pos.2 he) (le_add_of_nonneg_left (mul_nonneg hs (EReal.coe_nonneg.2 (by norm_num))))
  obtain ⟨q, hq⟩ := rsqrt_real _ hpos
  rcases eq_or_ne (x i) ⊤ with h | h
  · exact ⟨0, by rw [hinf (by rw [h]; exact EReal.top_mul_top), mul_zero]; rfl⟩
  rcases eq_or_ne (x i) ⊥ with h' | h'
  · exact ⟨0, by rw [hinf (by rw [h']; exact EReal.bot_mul_bot), mul_zero]; rfl⟩
  refine ⟨(x i).toReal * q, ?_⟩
  rw [hq, EReal.coe_mul, EReal.coe_toReal h h']

/-- The normalised token is real wherever its scales and its shift are. -/
theorem nrm_real (x g sc sh : Fin 1024 → EReal) (i : Fin 1024) (hg : IsReal (g i)) (hc : IsReal (sc i)) (hh : IsReal (sh i)) :
    IsReal (nrm x g sc sh i) := by
  obtain ⟨a, ha⟩ := ratio_real x i
  obtain ⟨g', hg⟩ := hg
  obtain ⟨c', hc⟩ := hc
  obtain ⟨h', hh⟩ := hh
  refine ⟨a * g' * (1 + c') + h', ?_⟩
  unfold nrm
  rw [ha, hg, hc, hh]
  rfl

theorem sub_self_real (x : EReal) (h : IsReal x) : x - x = 0 := by
  obtain ⟨r, rfl⟩ := h
  rw [← EReal.coe_sub, sub_self]
  rfl

/-- The scores by split factors: over the extended reals the remainders of real numbers are zero. -/
theorem split_eq (h w : Fin 1024 → EReal) (b : EReal) (hh : ∀ i, IsReal (h i)) (hw : ∀ i, IsReal (w i)) :
    (∑ i, h i * w i + ∑ i, h i * (w i - w i)) + ∑ i, (h i - h i) * w i + b = ∑ i, h i * w i + b := by
  have e1 : ∑ i, h i * (w i - w i) = 0 := Finset.sum_eq_zero fun i _ => by rw [sub_self_real _ (hw i), mul_zero]
  have e2 : ∑ i, (h i - h i) * w i = 0 := Finset.sum_eq_zero fun i _ => by rw [sub_self_real _ (hh i), zero_mul]
  rw [e1, e2, add_zero, add_zero]

/-- A number whose absolute value is less than infinity is real. -/
theorem real_of_abs (x : EReal) (h : FloatOps.absf (F := Ideal) (φ := FTy.f32) x < ⊤) : IsReal x := by
  induction x using EReal.rec with
  | bot => exact absurd h (by show ¬ (max (⊥ : EReal) (-⊥) < ⊤); simp)
  | top => exact absurd h (by show ¬ (max (⊤ : EReal) (-⊤) < ⊤); simp)
  | coe r => exact ⟨r, rfl⟩

end Cert.Post
-- ==== Proof.Post.Block.lean ====
module

public import proofs.«01_k».proof.Proof.Post.Host
public import proofs.«01_k».proof.Proof.Post.Spec
public import proofs.«01_k».proof.Proof.Moe.Block

@[expose] public section

set_option maxRecDepth 16384

noncomputable section

/-! The blocks the output projections' points leave, read at an index. -/

namespace Cert.Kernel4Ideal.Post

open Cert.Kernel4Ideal Cert.Kernel4Ideal.Gen Idealize.ShloMosaic Idealize.ShloMosaic.TcCoe Cert.Inproj Cert.Post

/-! ## The block's functions -/

theorem slab0_apply (x : S2x512x512.Idx → Elt Ideal .f32) (r q : Fin 512) : slab0 x (ix3 0 r q) = x (ix3 0 r q) := by
  refine congrArg x (funext fun a => Fin.ext ?_)
  match a with
  | 0 => rfl
  | 1 => show 0 + 1 * r.val = r.val; omega
  | 2 => show 0 + 1 * q.val = q.val; omega

theorem slab1_apply (x : S2x512x512.Idx → Elt Ideal .f32) (r q : Fin 512) : slab1 x (ix3 0 r q) = x (ix3 1 r q) := by
  refine congrArg x (funext fun a => Fin.ext ?_)
  match a with
  | 0 => rfl
  | 1 => show 0 + 1 * r.val = r.val; omega
  | 2 => show 0 + 1 * q.val = q.val; omega

theorem pay2_apply (x : S512x512.Idx → Elt Ideal .bf16) (w : S512x1024.Idx → Elt Ideal .bf16) (r : Fin 512) (k : Fin 1024) :
    k0_pay2 (F := Ideal) x w (ix2 r k) = ∑ i, x (ix2 r i) * w (ix2 i k) := by
  unfold k0_pay2
  pointwise []

theorem pay3_apply (x : S512x1024.Idx → Elt Ideal .bf16) (w : S1024x1024.Idx → Elt Ideal .bf16) (a b : S1x512x512.Idx → Elt Ideal .f32) (r : Fin 512) (k : Fin 1024) :
    k0_pay3 (F := Ideal) x w a b (ix2 r k)
      = Cert.Post.sig (pair (fun q => a (ix3 0 r q)) (fun q => b (ix3 0 r q)) k) * ∑ i, x (ix2 r i) * w (ix2 i k) := by
  unfold k0_pay3 Cert.Post.sig
  pointwise []
  rw [zero_sub]
  rfl

theorem pay4_apply (a b : S1x512x512.Idx → Elt Ideal .f32) (r : Fin 512) (k : Fin 1024) :
    k0_pay4 (F := Ideal) a b (ix2 r k) = 1 + Ideal.exp (-(pair (fun q => a (ix3 0 r q)) (fun q => b (ix3 0 r q)) k)) := by
  unfold k0_pay4
  pointwise []
  rw [zero_sub]
  rfl

theorem pay5_apply (yb va den x : S512x1024.Idx → Elt Ideal .f32) (gt : S1x1x1024.Idx → Elt Ideal .f32) (wo : S1024x1024.Idx → Elt Ideal .bf16)
    (r : Fin 512) (k : Fin 1024) :
    k0_pay5 (F := Ideal) yb va den (Scalar.ofBits .f32 0x3F800000#32) x gt wo (ix2 r k)
      = tok (fun k => va (ix2 r k) + Ideal.div 1 (den (ix2 r k)) * yb (ix2 r k)) (fun k => x (ix2 r k)) (fun k => gt (ix3 0 0 k)) (fun i k => wo (ix2 i k)) k := by
  unfold k0_pay5 tok
  pointwise []

theorem pay6_apply (yb va den x : S512x1024.Idx → Elt Ideal .f32) (gt : S1x1x1024.Idx → Elt Ideal .f32) (wo : S1024x1024.Idx → Elt Ideal .bf16)
    (g : S1x1024.Idx → Elt Ideal .f32) (sc sh : S1x1x1024.Idx → Elt Ideal .f32) (r : Fin 512) (k : Fin 1024) :
    k0_pay7 (F := Ideal) (k0_pay6 (F := Ideal) yb va den (Scalar.ofBits .f32 0x3F800000#32) x gt wo g sc) sh (ix2 r k)
      = nrm (fun k => k0_pay5 (F := Ideal) yb va den (Scalar.ofBits .f32 0x3F800000#32) x gt wo (ix2 r k)) (fun k => g (ix2 0 k)) (fun k => sc (ix3 0 0 k)) (fun k => sh (ix3 0 0 k)) k := by
  unfold k0_pay7 k0_pay6
  generalize k0_pay5 yb va den _ x gt wo = X
  pointwise []
  rfl

theorem log_apply (s : S512x1024.Idx → Elt Ideal .f32) (sh : S1x1x1024.Idx → Elt Ideal .f32) (w : S1024x128.Idx → Elt Ideal .f32) (b : S1x128.Idx → Elt Ideal .f32)
    (r : Fin 512) (l : Fin 128) :
    outLog (F := Ideal) s sh w b (ix2 r l)
      = (∑ i, k0_pay7 (F := Ideal) s sh (ix2 r i) * w (ix2 i l) + ∑ i, k0_pay7 (F := Ideal) s sh (ix2 r i) * (w (ix2 i l) - w (ix2 i l)))
        + ∑ i, (k0_pay7 (F := Ideal) s sh (ix2 r i) - k0_pay7 (F := Ideal) s sh (ix2 r i)) * w (ix2 i l) + b (ix2 0 l) := by
  unfold outLog k0_pay1 k0_pay20 k0_pay17 k0_pay16 k0_pay19 k0_pay18
  generalize k0_pay7 s sh = P
  pointwise []

/-- The experts' tokens' block: the eight column blocks of a row in eight rows one below the other. -/
theorem rows_apply (s : S512x1024.Idx → Elt Ideal .f32) (sh : S1x1x1024.Idx → Elt Ideal .f32) (y : S4096x128.Idx) :
    outRows (F := Ideal) s sh y = Cert.Kernel2Ideal.Moe.spread (k0_pay7 (F := Ideal) s sh) y := by
  unfold outRows rowPieces
  refine View.canon_apply_of_pieces _ _ ?_ y (Cert.Kernel2Ideal.Moe.cover8 _ _ _ _ _ _ _ _ y)
  unfold k0_pay8 k0_pay9 k0_pay10 k0_pay11 k0_pay12 k0_pay13 k0_pay14 k0_pay15
  generalize k0_pay7 s sh = D
  intro p hp x
  simp only [List.mem_cons, List.not_mem_nil, or_false] at hp
  rcases hp with rfl | rfl | rfl | rfl | rfl | rfl | rfl | rfl
  · exact Cert.Kernel2Ideal.Moe.piece_spread D 7 (by decide) _ (fun r l => by pointwise []) _ x
  · exact Cert.Kernel2Ideal.Moe.piece_spread D 6 (by decide) _ (fun r l => by pointwise []) _ x
  · exact Cert.Kernel2Ideal.Moe.piece_spread D 5 (by decide) _ (fun r l => by pointwise []) _ x
  · exact Cert.Kernel2Ideal.Moe.piece_spread D 4 (by decide) _ (fun r l => by pointwise []) _ x
  · exact Cert.Kernel2Ideal.Moe.piece_spread D 3 (by decide) _ (fun r l => by pointwise []) _ x
  · exact Cert.Kernel2Ideal.Moe.piece_spread D 2 (by decide) _ (fun r l => by pointwise []) _ x
  · exact Cert.Kernel2Ideal.Moe.piece_spread D 1 (by decide) _ (fun r l => by pointwise []) _ x
  · exact Cert.Kernel2Ideal.Moe.piece_spread D 0 (by decide) _ (fun r l => by pointwise []) _ x

/-! ## The windows' blocks -/

theorem index0 : ∀ t : Fin grid0.N, cc0_transform_0 (grid0.coords t) = ![t.val, 0] := by decide +kernel
theorem index1 : ∀ t : Fin grid0.N, cc0_transform_1 (grid0.coords t) = ![t.val, 0] := by decide +kernel
theorem index2 : ∀ t : Fin grid0.N, cc0_transform_2 (grid0.coords t) = ![5, t.val, 0] := by decide +kernel
theorem index3 : ∀ t : Fin grid0.N, cc0_transform_3 (grid0.coords t) = ![6, t.val, 0] := by decide +kernel
theorem index4 : ∀ t : Fin grid0.N, cc0_transform_4 (grid0.coords t) = ![t.val, 0] := by decide +kernel
theorem index5 : ∀ t : Fin grid0.N, cc0_transform_5 (grid0.coords t) = ![t.val / 4, 0, 0] := by decide +kernel
theorem index6 : ∀ t : Fin grid0.N, cc0_transform_6 (grid0.coords t) = ![t.val / 4, 0, 0] := by decide +kernel
theorem index7 : ∀ t : Fin grid0.N, cc0_transform_7 (grid0.coords t) = ![t.val / 4, 0, 0] := by decide +kernel

/-- Two positions of an array with equal coordinates are the same. -/
theorem at2 {a b : ℕ} (x y : (⟨2, ![a, b]⟩ : Shape).Idx) (h0 : (x 0).val = (y 0).val) (h1 : (x 1).val = (y 1).val) : x = y := by
  funext k
  apply Fin.ext
  match k with
  | 0 => exact h0
  | 1 => exact h1

theorem at3 {a b d : ℕ} (x y : (⟨3, ![a, b, d]⟩ : Shape).Idx) (h0 : (x 0).val = (y 0).val) (h1 : (x 1).val = (y 1).val)
    (h2 : (x 2).val = (y 2).val) : x = y := by
  funext k
  apply Fin.ext
  match k with
  | 0 => exact h0
  | 1 => exact h1
  | 2 => exact h2

variable (m : (ℓ : Loc nD τ sig) → Buf (Elt Ideal) ℓ) (c : Dev nD)

theorem tlt (t : Fin grid0.N) : t.val < 32 := lt_of_lt_of_eq t.isLt N_0

/-- The row of all tokens in which row `r` of point `t`'s block lies. -/
def row (t : Fin grid0.N) (r : Fin 512) : Fin 16384 := ⟨t.val * 512 + r.val, by have h := tlt t; omega⟩

theorem row_batch (t : Fin grid0.N) (r : Fin 512) : (⟨t.val / 4, by have h := tlt t; omega⟩ : Fin 8) = ⟨(row t r).val / 2048, by omega⟩ :=
  Fin.ext (by show t.val / 4 = (t.val * 512 + r.val) / 2048; omega)

theorem iblk0_apply (t : Fin grid0.N) (r : Fin 512) (i : Fin 1024) :
    (iblk m c 0 t : S512x1024.Idx → Elt Ideal .bf16) (ix2 r i) = A0 m c (ix2 (row t r) i) := by
  unfold iblk
  refine (congrArg (V0 m c (Proc.devRef .tc main_arg0) : S16384x1024.Idx → Elt Ideal .bf16) (at2 _ (ix2 (row t r) i)
    (by show cc0_transform_0 (grid0.coords t) 0 * 512 + 1 * r.val = _; rw [index0]; show t.val * 512 + 1 * r.val = t.val * 512 + r.val; omega)
    (by show cc0_transform_0 (grid0.coords t) 1 * 1024 + 1 * i.val = _; rw [index0]; show 0 * 1024 + 1 * i.val = i.val; omega))).trans ?_
  unfold V0
  rw [List.flatten_singleton]
  after_reads_simp

theorem iblk1_apply (t : Fin grid0.N) (r : Fin 512) (i : Fin 512) :
    (iblk m c 1 t : S512x512.Idx → Elt Ideal .bf16) (ix2 r i) = A1 m c (ix2 (row t r) i) := by
  unfold iblk
  refine (congrArg (V0 m c (Proc.devRef .tc main_arg1) : S16384x512.Idx → Elt Ideal .bf16) (at2 _ (ix2 (row t r) i)
    (by show cc0_transform_1 (grid0.coords t) 0 * 512 + 1 * r.val = _; rw [index1]; show t.val * 512 + 1 * r.val = t.val * 512 + r.val; omega)
    (by show cc0_transform_1 (grid0.coords t) 1 * 512 + 1 * i.val = _; rw [index1]; show 0 * 512 + 1 * i.val = i.val; omega))).trans ?_
  unfold V0
  rw [List.flatten_singleton]
  after_reads_simp

theorem iblk2_apply (t : Fin grid0.N) (s : Fin 2) (r q : Fin 512) :
    (iblk m c 2 t : S2x512x512.Idx → Elt Ideal .f32) (ix3 s r q) = A2 m c (ix3 ⟨10 + s.val, by omega⟩ (row t r) q) := by
  unfold iblk
  refine (congrArg (V0 m c (Proc.devRef .tc main_arg2) : S14x16384x512.Idx → Elt Ideal .f32) (at3 _ (ix3 ⟨10 + s.val, by omega⟩ (row t r) q)
    (by show cc0_transform_2 (grid0.coords t) 0 * 2 + 1 * s.val = _; rw [index2]; show 5 * 2 + 1 * s.val = 10 + s.val; omega)
    (by show cc0_transform_2 (grid0.coords t) 1 * 512 + 1 * r.val = _; rw [index2]; show t.val * 512 + 1 * r.val = t.val * 512 + r.val; omega)
    (by show cc0_transform_2 (grid0.coords t) 2 * 512 + 1 * q.val = _; rw [index2]; show 0 * 512 + 1 * q.val = q.val; omega))).trans ?_
  unfold V0
  rw [List.flatten_singleton]
  after_reads_simp

theorem iblk3_apply (t : Fin grid0.N) (s : Fin 2) (r q : Fin 512) :
    (iblk m c 3 t : S2x512x512.Idx → Elt Ideal .f32) (ix3 s r q) = A2 m c (ix3 ⟨12 + s.val, by omega⟩ (row t r) q) := by
  unfold iblk
  refine (congrArg (V0 m c (Proc.devRef .tc main_arg2) : S14x16384x512.Idx → Elt Ideal .f32) (at3 _ (ix3 ⟨12 + s.val, by omega⟩ (row t r) q)
    (by show cc0_transform_3 (grid0.coords t) 0 * 2 + 1 * s.val = _; rw [index3]; show 6 * 2 + 1 * s.val = 12 + s.val; omega)
    (by show cc0_transform_3 (grid0.coords t) 1 * 512 + 1 * r.val = _; rw [index3]; show t.val * 512 + 1 * r.val = t.val * 512 + r.val; omega)
    (by show cc0_transform_3 (grid0.coords t) 2 * 512 + 1 * q.val = _; rw [index3]; show 0 * 512 + 1 * q.val = q.val; omega))).trans ?_
  unfold V0
  rw [List.flatten_singleton]
  after_reads_simp

theorem iblk4_apply (t : Fin grid0.N) (r : Fin 512) (i : Fin 1024) :
    (iblk m c 4 t : S512x1024.Idx → Elt Ideal .f32) (ix2 r i) = H18 m c (ix2 (row t r) i) := by
  unfold iblk
  exact congrArg (H18 m c) (at2 _ (ix2 (row t r) i)
    (by show cc0_transform_4 (grid0.coords t) 0 * 512 + 1 * r.val = _; rw [index4]; show t.val * 512 + 1 * r.val = t.val * 512 + r.val; omega)
    (by show cc0_transform_4 (grid0.coords t) 1 * 1024 + 1 * i.val = _; rw [index4]; show 0 * 1024 + 1 * i.val = i.val; omega))

theorem iblk5_apply (t : Fin grid0.N) (i : Fin 1024) :
    (iblk m c 5 t : S1x1x1024.Idx → Elt Ideal .f32) (ix3 0 0 i) = A4 m c (ix3 ⟨t.val / 4, by have h := tlt t; omega⟩ 0 i) := by
  unfold iblk
  refine (congrArg (V0 m c (Proc.devRef .tc main_arg4) : S8x1x1024.Idx → Elt Ideal .f32) (at3 _ (ix3 ⟨t.val / 4, by have h := tlt t; omega⟩ 0 i)
    (by show cc0_transform_5 (grid0.coords t) 0 * 1 + 1 * 0 = _; rw [index5]; show t.val / 4 * 1 + 1 * 0 = t.val / 4; omega)
    (by show cc0_transform_5 (grid0.coords t) 1 * 1 + 1 * 0 = _; rw [index5]; rfl)
    (by show cc0_transform_5 (grid0.coords t) 2 * 1024 + 1 * i.val = _; rw [index5]; show 0 * 1024 + 1 * i.val = i.val; omega))).trans ?_
  unfold V0
  rw [List.flatten_singleton]
  after_reads_simp

theorem iblk6_apply (t : Fin grid0.N) (i : Fin 1024) :
    (iblk m c 6 t : S1x1x1024.Idx → Elt Ideal .f32) (ix3 0 0 i) = A5 m c (ix3 ⟨t.val / 4, by have h := tlt t; omega⟩ 0 i) := by
  unfold iblk
  refine (congrArg (V0 m c (Proc.devRef .tc main_arg5) : S8x1x1024.Idx → Elt Ideal .f32) (at3 _ (ix3 ⟨t.val / 4, by have h := tlt t; omega⟩ 0 i)
    (by show cc0_transform_6 (grid0.coords t) 0 * 1 + 1 * 0 = _; rw [index6]; show t.val / 4 * 1 + 1 * 0 = t.val / 4; omega)
    (by show cc0_transform_6 (grid0.coords t) 1 * 1 + 1 * 0 = _; rw [index6]; rfl)
    (by show cc0_transform_6 (grid0.coords t) 2 * 1024 + 1 * i.val = _; rw [index6]; show 0 * 1024 + 1 * i.val = i.val; omega))).trans ?_
  unfold V0
  rw [List.flatten_singleton]
  after_reads_simp

theorem iblk7_apply (t : Fin grid0.N) (i : Fin 1024) :
    (iblk m c 7 t : S1x1x1024.Idx → Elt Ideal .f32) (ix3 0 0 i) = A6 m c (ix3 ⟨t.val / 4, by have h := tlt t; omega⟩ 0 i) := by
  unfold iblk
  refine (congrArg (V0 m c (Proc.devRef .tc main_arg6) : S8x1x1024.Idx → Elt Ideal .f32) (at3 _ (ix3 ⟨t.val / 4, by have h := tlt t; omega⟩ 0 i)
    (by show cc0_transform_7 (grid0.coords t) 0 * 1 + 1 * 0 = _; rw [index7]; show t.val / 4 * 1 + 1 * 0 = t.val / 4; omega)
    (by show cc0_transform_7 (grid0.coords t) 1 * 1 + 1 * 0 = _; rw [index7]; rfl)
    (by show cc0_transform_7 (grid0.coords t) 2 * 1024 + 1 * i.val = _; rw [index7]; show 0 * 1024 + 1 * i.val = i.val; omega))).trans ?_
  unfold V0
  rw [List.flatten_singleton]
  after_reads_simp

theorem iblk8_apply (t : Fin grid0.N) (i : Fin 1024) : (iblk m c 8 t : S1x1024.Idx → Elt Ideal .f32) (ix2 0 i) = H1 m c (ix2 0 i) := by
  unfold iblk
  exact congrArg (H1 m c) (at2 _ _ rfl (by show 0 * 1024 + 1 * i.val = i.val; omega))

theorem iblk9_apply (t : Fin grid0.N) (i : Fin 1024) (k : Fin 1024) : (iblk m c 9 t : S1024x1024.Idx → Elt Ideal .bf16) (ix2 i k) = H3 m c (ix2 i k) := by
  unfold iblk
  exact congrArg (H3 m c) (at2 _ _ (by show 0 * 1024 + 1 * i.val = i.val; omega) (by show 0 * 1024 + 1 * k.val = k.val; omega))

theorem iblk10_apply (t : Fin grid0.N) (i : Fin 512) (k : Fin 1024) : (iblk m c 10 t : S512x1024.Idx → Elt Ideal .bf16) (ix2 i k) = H5 m c (ix2 i k) := by
  unfold iblk
  exact congrArg (H5 m c) (at2 _ _ (by show 0 * 512 + 1 * i.val = i.val; omega) (by show 0 * 1024 + 1 * k.val = k.val; omega))

theorem iblk11_apply (t : Fin grid0.N) (i : Fin 1024) (k : Fin 1024) : (iblk m c 11 t : S1024x1024.Idx → Elt Ideal .bf16) (ix2 i k) = H7 m c (ix2 i k) := by
  unfold iblk
  exact congrArg (H7 m c) (at2 _ _ (by show 0 * 1024 + 1 * i.val = i.val; omega) (by show 0 * 1024 + 1 * k.val = k.val; omega))

theorem iblk12_apply (t : Fin grid0.N) (i : Fin 1024) (k : Fin 128) : (iblk m c 12 t : S1024x128.Idx → Elt Ideal .f32) (ix2 i k) = H11 m c (ix2 i k) := by
  unfold iblk
  exact congrArg (H11 m c) (at2 _ _ (by show 0 * 1024 + 1 * i.val = i.val; omega) (by show 0 * 128 + 1 * k.val = k.val; omega))

theorem iblk13_apply (t : Fin grid0.N) (l : Fin 128) : (iblk m c 13 t : S1x128.Idx → Elt Ideal .f32) (ix2 0 l) = H17 m c (ix2 0 l) := by
  unfold iblk
  exact congrArg (H17 m c) (at2 _ _ rfl (by show 0 * 128 + 1 * l.val = l.val; omega))

/-! ## The blocks left -/

/-- The mixed branches, the new token and its normalised copy at row `R` of all tokens. -/
def mixedK (R : Fin 16384) : Fin 1024 → EReal :=
  mix (fun k => A0 m c (ix2 R k)) (fun k => A1 m c (ix2 R k)) (pair (fun q => A2 m c (ix3 10 R q)) (fun q => A2 m c (ix3 11 R q)))
    (pair (fun q => A2 m c (ix3 12 R q)) (fun q => A2 m c (ix3 13 R q))) (fun i k => A8 m c (ix3 0 i k)) (fun i k => A9 m c (ix3 0 i k))
def tokK (R : Fin 16384) : Fin 1024 → EReal :=
  tok (mixedK m c R) (fun k => A3 m c (ix3 ⟨R.val / 2048, by omega⟩ ⟨R.val % 2048, by omega⟩ k)) (fun k => A4 m c (ix3 ⟨R.val / 2048, by omega⟩ 0 k)) (fun i k => A10 m c (ix3 0 i k))
def nrmK (R : Fin 16384) : Fin 1024 → EReal :=
  nrm (tokK m c R) (fun k => A7 m c (ix2 0 k)) (fun k => A5 m c (ix3 ⟨R.val / 2048, by omega⟩ 0 k)) (fun k => A6 m c (ix3 ⟨R.val / 2048, by omega⟩ 0 k))

/-- The mixed branches of point `t`'s block. -/
theorem mixed_apply (t : Fin grid0.N) (r : Fin 512) (k : Fin 1024) :
    k0_pay3 (F := Ideal) (iblk m c 0 t) (iblk m c 9 t) (slab0 (iblk m c 2 t)) (slab1 (iblk m c 2 t)) (ix2 r k)
        + Ideal.div 1 (k0_pay4 (F := Ideal) (slab0 (iblk m c 3 t)) (slab1 (iblk m c 3 t)) (ix2 r k)) * k0_pay2 (F := Ideal) (iblk m c 1 t) (iblk m c 10 t) (ix2 r k)
      = mixedK m c (row t r) k := by
  have a0 : (fun q => slab0 (iblk m c 2 t) (ix3 0 r q)) = fun q => A2 m c (ix3 10 (row t r) q) := funext fun q => (slab0_apply _ r q).trans (iblk2_apply m c t 0 r q)
  have a1 : (fun q => slab1 (iblk m c 2 t) (ix3 0 r q)) = fun q => A2 m c (ix3 11 (row t r) q) := funext fun q => (slab1_apply _ r q).trans (iblk2_apply m c t 1 r q)
  have b0 : (fun q => slab0 (iblk m c 3 t) (ix3 0 r q)) = fun q => A2 m c (ix3 12 (row t r) q) := funext fun q => (slab0_apply _ r q).trans (iblk3_apply m c t 0 r q)
  have b1 : (fun q => slab1 (iblk m c 3 t) (ix3 0 r q)) = fun q => A2 m c (ix3 13 (row t r) q) := funext fun q => (slab1_apply _ r q).trans (iblk3_apply m c t 1 r q)
  rw [pay3_apply, pay4_apply, pay2_apply, a0, a1, b0, b1]
  simp only [iblk0_apply, iblk1_apply, iblk9_apply, iblk10_apply, read_H3, read_H5]
  rfl

/-- The new tokens' block. -/
theorem res14_apply (t : Fin grid0.N) (r : Fin 512) (k : Fin 1024) : res14 m c t (ix2 r k) = tokK m c (row t r) k := by
  unfold res14 outTok
  refine (pay5_apply _ _ _ _ _ _ r k).trans ?_
  simp only [mixed_apply, iblk4_apply, iblk5_apply, iblk11_apply, read_H18, read_H7]
  rw [row_batch t r]
  rfl

/-- The normalised tokens of point `t`'s block. -/
theorem nrm_apply (t : Fin grid0.N) (r : Fin 512) (k : Fin 1024) :
    k0_pay7 (F := Ideal) (sca m c t) (iblk m c 7 t) (ix2 r k) = nrmK m c (row t r) k := by
  unfold sca scaled
  refine (pay6_apply _ _ _ _ _ _ _ _ _ r k).trans ?_
  have h := res14_apply m c t r
  unfold res14 outTok at h
  simp only [h, iblk6_apply, iblk7_apply, iblk8_apply, read_H1]
  rw [row_batch t r]
  rfl

theorem res15_apply (t : Fin grid0.N) (r : Fin 512) (s : Fin 8) (l : Fin 128) :
    res15 m c t (ix2 ⟨8 * r.val + s.val, by omega⟩ l) = nrmK m c (row t r) ⟨s.val * 128 + l.val, by omega⟩ := by
  unfold res15
  refine (rows_apply _ _ _).trans ?_
  refine Eq.trans ?_ (nrm_apply m c t r ⟨s.val * 128 + l.val, by omega⟩)
  have hr := r.isLt
  have hs := s.isLt
  have hl := l.isLt
  unfold Cert.Kernel2Ideal.Moe.spread
  exact congrArg (k0_pay7 (F := Ideal) (sca m c t) (iblk m c 7 t)) (at2 _ _ (by show (8 * r.val + s.val) / 8 = r.val; omega)
    (by show (8 * r.val + s.val) % 8 * 128 + l.val = s.val * 128 + l.val; omega))

/-- The router's block, where the normalised token and the router's weights are real. -/
theorem res16_apply (t : Fin grid0.N) (r : Fin 512) (l : Fin 128) (hn : ∀ i, IsReal (nrmK m c (row t r) i)) (hw : ∀ (i : Fin 1024) (l : Fin 32), IsReal (A11 m c (ix3 0 i l))) :
    res16 m c t (ix2 r l)
      = if h : l.val < 32 then ∑ i, nrmK m c (row t r) i * A11 m c (ix3 0 i ⟨l.val, h⟩) + A12 m c (ix2 0 ⟨l.val, h⟩)
        else Ideal.ofBits FTy.f32 0xFF800000#32 := by
  unfold res16
  refine (log_apply _ _ _ _ r l).trans ?_
  simp only [nrm_apply, iblk12_apply, iblk13_apply, read_H11, read_H17]
  by_cases h : l.val < 32
  · simp only [dif_pos h]
    exact split_eq _ _ _ hn fun i => hw i ⟨l.val, h⟩
  · simp only [dif_neg h]
    rw [show Ideal.ofBits FTy.f32 0xFF800000#32 = (⊥ : EReal) by simp [Ideal.ofBits, Ideal.ieee]]
    exact EReal.add_bot _

end Cert.Kernel4Ideal.Post
-- ==== Proof.Post.RefRead.lean ====
module

public import proofs.«01_k».proof.Proof.Gen.Reference4Ideal.Read
public import proofs.«01_k».proof.Proof.Post.Spec

@[expose] public section

set_option maxRecDepth 16384

noncomputable section

/-! The output projections' reference, read at an index. -/

namespace Cert.Reference4Ideal.Post

open Cert.Reference4Ideal Cert.Reference4Ideal.Read Idealize.ShloMosaic Cert.Inproj Cert.Post

variable (x0 : (⟨S16384x1024, .bf16⟩ : BufTy).Contents (Elt Ideal)) (x1 : (⟨S16384x512, .bf16⟩ : BufTy).Contents (Elt Ideal))
  (x2 : (⟨S14x16384x512, .f32⟩ : BufTy).Contents (Elt Ideal)) (x3 : (⟨S8x2048x1024, .f32⟩ : BufTy).Contents (Elt Ideal))
  (x4 x5 x6 : (⟨S8x1x1024, .f32⟩ : BufTy).Contents (Elt Ideal)) (x7 : (⟨S1x1024, .f32⟩ : BufTy).Contents (Elt Ideal))
  (x8 : (⟨S1x1024x1024, .f32⟩ : BufTy).Contents (Elt Ideal)) (x9 : (⟨S1x512x1024, .f32⟩ : BufTy).Contents (Elt Ideal))
  (x10 : (⟨S1x1024x1024, .f32⟩ : BufTy).Contents (Elt Ideal)) (x11 : (⟨S1x1024x32, .f32⟩ : BufTy).Contents (Elt Ideal))
  (x12 : (⟨S1x32, .f32⟩ : BufTy).Contents (Elt Ideal))

/-- The gates of the two branches at row `R` of all tokens. -/
def gateA (R : Fin 16384) : Fin 1024 → EReal := pair (fun q => x2 (ix3 10 R q)) (fun q => x2 (ix3 11 R q))
def gateB (R : Fin 16384) : Fin 1024 → EReal := pair (fun q => x2 (ix3 12 R q)) (fun q => x2 (ix3 13 R q))

/-- The mixed branches, the new token and its normalised copy at row `R`. -/
def mixed (R : Fin 16384) : Fin 1024 → EReal :=
  mix (fun k => x0 (ix2 R k)) (fun k => x1 (ix2 R k)) (gateA x2 R) (gateB x2 R) (fun i k => x8 (ix3 0 i k)) (fun i k => x9 (ix3 0 i k))
def newTok (R : Fin 16384) : Fin 1024 → EReal :=
  tok (mixed x0 x1 x2 x8 x9 R) (fun k => x3 (ix3 ⟨R.val / 2048, by omega⟩ ⟨R.val % 2048, by omega⟩ k)) (fun k => x4 (ix3 ⟨R.val / 2048, by omega⟩ 0 k)) (fun i k => x10 (ix3 0 i k))
def normTok (R : Fin 16384) : Fin 1024 → EReal :=
  nrm (newTok x0 x1 x2 x3 x4 x8 x9 x10 R) (fun k => x7 (ix2 0 k)) (fun k => x5 (ix3 ⟨R.val / 2048, by omega⟩ 0 k)) (fun k => x6 (ix3 ⟨R.val / 2048, by omega⟩ 0 k))

theorem read_v13 (b : Fin 8) (s : Fin 2048) (k : Fin 1024) : val_main_v13 (F := Ideal) x2 (ix3 b s k) = gateA x2 ⟨b.val * 2048 + s.val, by omega⟩ k := by
  pointwise [val_main_v13, val_main_v12, val_main_v11, val_main_v10, val_main_v9, val_main_v8]
  rfl

theorem read_v19 (b : Fin 8) (s : Fin 2048) (k : Fin 1024) : val_main_v19 (F := Ideal) x2 (ix3 b s k) = gateB x2 ⟨b.val * 2048 + s.val, by omega⟩ k := by
  pointwise [val_main_v19, val_main_v18, val_main_v17, val_main_v16, val_main_v15, val_main_v14]
  rfl

theorem read_v34 (b : Fin 8) (s : Fin 2048) (k : Fin 1024) :
    val_main_v34 (F := Ideal) x0 x1 x2 x8 x9 (ix3 b s k) = mixed x0 x1 x2 x8 x9 ⟨b.val * 2048 + s.val, by omega⟩ k := by
  pointwise [val_main_v34, val_main_v33, val_main_v32, val_main_v31, val_main_v30, val_main_v29, val_main_v28, val_main_v27, val_main_v26, val_main_v25,
    val_main_v24, val_main_v23, val_main_v22, val_main_v21, val_main_v20, val_main_v7, val_main_v6, val_main_v5, val_main_v4, val_main_v3, val_main_v2,
    val_main_v1, val_main_v0, val_main_cst, val_main_cst_0, val_main_cst_1, val_main_cst_2]
  simp only [read_v13, read_v19]
  rfl

theorem row_of (b : Fin 8) (s : Fin 2048) : (⟨(b.val * 2048 + s.val) / 2048, by omega⟩ : Fin 8) = b ∧ (⟨(b.val * 2048 + s.val) % 2048, by omega⟩ : Fin 2048) = s :=
  ⟨Fin.ext (by show (b.val * 2048 + s.val) / 2048 = b.val; omega), Fin.ext (by show (b.val * 2048 + s.val) % 2048 = s.val; omega)⟩

theorem read_v39 (b : Fin 8) (s : Fin 2048) (k : Fin 1024) :
    val_main_v39 (F := Ideal) x0 x1 x2 x3 x4 x8 x9 x10 (ix3 b s k) = newTok x0 x1 x2 x3 x4 x8 x9 x10 ⟨b.val * 2048 + s.val, by omega⟩ k := by
  pointwise [val_main_v39, val_main_v38, val_main_v37, val_main_v36, val_main_v35]
  simp only [read_v34]
  unfold newTok
  simp only [(row_of b s).1, (row_of b s).2]
  rfl

theorem read_v59 (b : Fin 8) (s : Fin 2048) (k : Fin 1024) :
    val_main_v59 (F := Ideal) x0 x1 x2 x3 x4 x5 x6 x7 x8 x9 x10 (ix3 b s k) = normTok x0 x1 x2 x3 x4 x5 x6 x7 x8 x9 x10 ⟨b.val * 2048 + s.val, by omega⟩ k := by
  pointwise [val_main_v59, val_main_v58, val_main_v57, val_main_v56, val_main_v55, val_main_v54, val_main_v53, val_main_v52, val_main_v51, val_main_v50,
    val_main_v49, val_main_v48, val_main_v47, val_main_v46, val_main_v45, val_main_v44, val_main_v43, val_main_v42, val_main_v41, val_main_v40,
    val_main_cst_3, val_main_cst_4, val_main_cst_5, val_main_cst_6]
  simp only [read_v39]
  unfold normTok
  simp only [(row_of b s).1]
  rfl

/-- The row of a batch and a position. -/
theorem row_back (R : Fin 16384) : (⟨R.val / 2048 * 2048 + R.val % 2048, by omega⟩ : Fin 16384) = R :=
  Fin.ext (by show R.val / 2048 * 2048 + R.val % 2048 = R.val; omega)

/-- The first result: the new tokens. -/
theorem read_v68 (R : Fin 16384) (k : Fin 1024) :
    val_main_v68 (F := Ideal) x0 x1 x2 x3 x4 x8 x9 x10 (ix2 R k) = newTok x0 x1 x2 x3 x4 x8 x9 x10 R k := by
  pointwise [val_main_v68]
  refine (read_v39 x0 x1 x2 x3 x4 x8 x9 x10 ⟨R.val / 2048, by omega⟩ ⟨R.val % 2048, by omega⟩ k).trans ?_
  rw [row_back]

theorem read_v60 (R : Fin 16384) (k : Fin 1024) :
    val_main_v60 (F := Ideal) x0 x1 x2 x3 x4 x5 x6 x7 x8 x9 x10 (ix2 R k) = normTok x0 x1 x2 x3 x4 x5 x6 x7 x8 x9 x10 R k := by
  pointwise [val_main_v60]
  refine (read_v59 x0 x1 x2 x3 x4 x5 x6 x7 x8 x9 x10 ⟨R.val / 2048, by omega⟩ ⟨R.val % 2048, by omega⟩ k).trans ?_
  rw [row_back]

/-- The second result: the normalised tokens, eight rows of 128 lanes each. -/
theorem read_v69 (R : Fin 16384) (s : Fin 8) (l : Fin 128) :
    val_main_v69 (F := Ideal) x0 x1 x2 x3 x4 x5 x6 x7 x8 x9 x10 (ix2 ⟨R.val * 8 + s.val, by omega⟩ l)
      = normTok x0 x1 x2 x3 x4 x5 x6 x7 x8 x9 x10 R ⟨s.val * 128 + l.val, by omega⟩ := by
  unfold val_main_v69
  refine Eq.trans ?_ (read_v60 x0 x1 x2 x3 x4 x5 x6 x7 x8 x9 x10 R ⟨s.val * 128 + l.val, by omega⟩)
  generalize val_main_v60 x0 x1 x2 x3 x4 x5 x6 x7 x8 x9 x10 = Z
  pointwise []
  refine congrArg Z ?_
  funext a
  apply Fin.ext
  match a with
  | 0 => rfl
  | 1 => show (R.val * 8 + s.val) % 8 * 128 + l.val = s.val * 128 + l.val; omega

/-- The third result: the router's scores, then lanes of minus infinity. -/
theorem read_v70 (R : Fin 16384) (l : Fin 128) :
    val_main_v70 (F := Ideal) x0 x1 x2 x3 x4 x5 x6 x7 x8 x9 x10 x11 x12 (ix2 R l)
      = if h : l.val < 32 then ∑ i, normTok x0 x1 x2 x3 x4 x5 x6 x7 x8 x9 x10 R i * x11 (ix3 0 i ⟨l.val, h⟩) + x12 (ix2 0 ⟨l.val, h⟩)
        else Ideal.ofBits FTy.f32 0xFF800000#32 := by
  pointwise [val_main_v70, val_main_v67, val_main_cst_7, val_main_v66, val_main_v65, val_main_v64, val_main_v63, val_main_v62, val_main_v61]
  simp only [read_v60]

end Cert.Reference4Ideal.Post
-- ==== Proof.Post.Final.lean ====
module

public import proofs.«01_k».proof.Proof.Post.Block
public import proofs.«01_k».proof.Proof.Post.RefRead

@[expose] public section

set_option maxRecDepth 16384

noncomputable section

/-! The output projections' three results are the reference's. -/

namespace Cert.Kernel4Ideal.Post

open Cert.Kernel4Ideal Cert.Kernel4Ideal.Gen Idealize.ShloMosaic Idealize.ShloMosaic.TcCoe Cert.Inproj Cert.Post
open Idealize.ShloMosaic.Pipeline (Dat Window)
open Cert.Reference4Ideal.Read (val_main_v68 val_main_v69 val_main_v70)
open Cert.Reference4Ideal.Post (newTok normTok read_v68 read_v69 read_v70)

variable (m : (ℓ : Loc nD τ sig) → Buf (Elt Ideal) ℓ) (c : Dev nD)

theorem tokK_eq (R : Fin 16384) : tokK m c R = newTok (A0 m c) (A1 m c) (A2 m c) (A3 m c) (A4 m c) (A8 m c) (A9 m c) (A10 m c) R := rfl

theorem nrmK_eq (R : Fin 16384) : nrmK m c R = normTok (A0 m c) (A1 m c) (A2 m c) (A3 m c) (A4 m c) (A5 m c) (A6 m c) (A7 m c) (A8 m c) (A9 m c) (A10 m c) R := rfl

theorem index14 : ∀ t : Fin grid0.N, cc0_transform_14 (grid0.coords t) = ![t.val, 0] := by decide +kernel
theorem index15 : ∀ t : Fin grid0.N, cc0_transform_15 (grid0.coords t) = ![t.val, 0] := by decide +kernel
theorem index16 : ∀ t : Fin grid0.N, cc0_transform_16 (grid0.coords t) = ![t.val, 0] := by decide +kernel

theorem flush14 (t : Fin cfg0.N) : (cfg0.win 14).flush t = true := by
  rw [Window.flush_eq_flushF]
  exact (by decide +kernel : ∀ t : Fin grid0.N, win0_14.flushF t = true) t
theorem flush15 (t : Fin cfg0.N) : (cfg0.win 15).flush t = true := by
  rw [Window.flush_eq_flushF]
  exact (by decide +kernel : ∀ t : Fin grid0.N, win0_15.flushF t = true) t
theorem flush16 (t : Fin cfg0.N) : (cfg0.win 16).flush t = true := by
  rw [Window.flush_eq_flushF]
  exact (by decide +kernel : ∀ t : Fin grid0.N, win0_16.flushF t = true) t

theorem emb14 (t : Fin grid0.N) (r : Fin 512) (k : Fin 1024) :
    (((cfg0.win 14).blk t).view.emb (ix2 r k : S512x1024.Idx) : S16384x1024.Idx) = ix2 (row t r) k :=
  at2 _ _
    (by show cc0_transform_14 (grid0.coords t) 0 * 512 + 1 * r.val = _; rw [index14]; show t.val * 512 + 1 * r.val = t.val * 512 + r.val; omega)
    (by show cc0_transform_14 (grid0.coords t) 1 * 1024 + 1 * k.val = _; rw [index14]; show 0 * 1024 + 1 * k.val = k.val; omega)

theorem emb15 (t : Fin grid0.N) (r : Fin 4096) (l : Fin 128) :
    (((cfg0.win 15).blk t).view.emb (ix2 r l : S4096x128.Idx) : S131072x128.Idx) = ix2 ⟨t.val * 4096 + r.val, by have h := tlt t; omega⟩ l :=
  at2 _ _
    (by show cc0_transform_15 (grid0.coords t) 0 * 4096 + 1 * r.val = _; rw [index15]; show t.val * 4096 + 1 * r.val = t.val * 4096 + r.val; omega)
    (by show cc0_transform_15 (grid0.coords t) 1 * 128 + 1 * l.val = _; rw [index15]; show 0 * 128 + 1 * l.val = l.val; omega)

theorem emb16 (t : Fin grid0.N) (r : Fin 512) (l : Fin 128) :
    (((cfg0.win 16).blk t).view.emb (ix2 r l : S512x128.Idx) : S16384x128.Idx) = ix2 (row t r) l :=
  at2 _ _
    (by show cc0_transform_16 (grid0.coords t) 0 * 512 + 1 * r.val = _; rw [index16]; show t.val * 512 + 1 * r.val = t.val * 512 + r.val; omega)
    (by show cc0_transform_16 (grid0.coords t) 1 * 128 + 1 * l.val = _; rw [index16]; show 0 * 128 + 1 * l.val = l.val; omega)

/-- The point and the row of its block in which a row of all tokens lies. -/
theorem pt_lt (R : Fin 16384) : R.val / 512 < cfg0.N := lt_of_lt_of_eq (by omega) N_0.symm
def pt (R : Fin 16384) : Fin cfg0.N := ⟨R.val / 512, pt_lt R⟩
theorem pt_row (R : Fin 16384) : row (pt R) ⟨R.val % 512, by omega⟩ = R :=
  Fin.ext (by show R.val / 512 * 512 + R.val % 512 = R.val; omega)

/-- The first result: the new tokens. -/
theorem final14 : (dats m 0 c).arrAt 14 cfg0.N = val_main_v68 (F := Ideal) (A0 m c) (A1 m c) (A2 m c) (A3 m c) (A4 m c) (A8 m c) (A9 m c) (A10 m c) := by
  refine (dats m 0 c).arrAt_eq_of_emb 14 _ (fun t hf y => ?_) fun i => ⟨pt (i 0), flush14 _, ?_⟩
  · obtain ⟨r, k, rfl⟩ : ∃ (r : Fin 512) (k : Fin 1024), y = (ix2 r k : S512x1024.Idx) := ⟨y 0, y 1, at2 y _ rfl rfl⟩
    refine (congrFun (after_14 m c t) _).trans ((res14_apply m c t r k).trans ?_)
    rw [tokK_eq]
    refine (read_v68 (A0 m c) (A1 m c) (A2 m c) (A3 m c) (A4 m c) (A8 m c) (A9 m c) (A10 m c) (row t r) k).symm.trans ?_
    exact congrArg (val_main_v68 (F := Ideal) (A0 m c) (A1 m c) (A2 m c) (A3 m c) (A4 m c) (A8 m c) (A9 m c) (A10 m c)) (emb14 t r k).symm
  · have he : i = (((cfg0.win 14).blk (pt (i 0))).view.emb (ix2 ⟨(i 0).val % 512, by omega⟩ (i 1) : S512x1024.Idx) : S16384x1024.Idx) :=
      (at2 i (ix2 (row (pt (i 0)) ⟨(i 0).val % 512, by omega⟩) (i 1)) (congrArg Fin.val (pt_row (i 0))).symm rfl).trans (emb14 (pt (i 0)) ⟨(i 0).val % 512, by omega⟩ (i 1)).symm
    exact (congrArg (· ∈ ((cfg0.win 14).blk (pt (i 0))).view.set) he).mpr
      (View.emb_mem_set ((cfg0.win 14).blk (pt (i 0))).view (ix2 ⟨(i 0).val % 512, by omega⟩ (i 1) : S512x1024.Idx))

/-- A row of the experts' tokens' block is `8 r + s`. -/
theorem split_row (y : S4096x128.Idx) :
    ∃ (r : Fin 512) (s : Fin 8) (l : Fin 128), y = (ix2 ⟨8 * r.val + s.val, by omega⟩ l : S4096x128.Idx) := by
  have h0 : (y 0).val < 4096 := (y 0).isLt
  refine ⟨⟨(y 0).val / 8, by omega⟩, ⟨(y 0).val % 8, by omega⟩, y 1, at2 y _ ?_ rfl⟩
  show (y 0).val = 8 * ((y 0).val / 8) + (y 0).val % 8
  omega

/-- The second result: the normalised tokens as the experts read them. -/
theorem final15 : (dats m 0 c).arrAt 15 cfg0.N = val_main_v69 (F := Ideal) (A0 m c) (A1 m c) (A2 m c) (A3 m c) (A4 m c) (A5 m c) (A6 m c) (A7 m c) (A8 m c) (A9 m c) (A10 m c) := by
  refine (dats m 0 c).arrAt_eq_of_emb 15 _ (fun t hf y => ?_) fun i => ?_
  · obtain ⟨r, s, l, rfl⟩ := split_row y
    have ht := tlt t
    refine (congrFun (after_15 m c t) _).trans ((res15_apply m c t r s l).trans ?_)
    rw [nrmK_eq]
    refine (read_v69 (A0 m c) (A1 m c) (A2 m c) (A3 m c) (A4 m c) (A5 m c) (A6 m c) (A7 m c) (A8 m c) (A9 m c) (A10 m c) (row t r) s l).symm.trans ?_
    refine congrArg (val_main_v69 (F := Ideal) (A0 m c) (A1 m c) (A2 m c) (A3 m c) (A4 m c) (A5 m c) (A6 m c) (A7 m c) (A8 m c) (A9 m c) (A10 m c))
      ((at2 (ix2 ⟨(row t r).val * 8 + s.val, by omega⟩ l) (ix2 ⟨t.val * 4096 + (8 * r.val + s.val), by omega⟩ l) ?_ rfl).trans (emb15 t ⟨8 * r.val + s.val, by omega⟩ l).symm)
    show (t.val * 512 + r.val) * 8 + s.val = t.val * 4096 + (8 * r.val + s.val)
    omega
  · have h0 : (i 0).val < 131072 := (i 0).isLt
    have hq : (i 0).val / 4096 < cfg0.N := lt_of_lt_of_eq (by omega) N_0.symm
    refine ⟨⟨(i 0).val / 4096, hq⟩, flush15 _, ?_⟩
    have he : i = (((cfg0.win 15).blk ⟨(i 0).val / 4096, hq⟩).view.emb (ix2 ⟨(i 0).val % 4096, by omega⟩ (i 1) : S4096x128.Idx) : S131072x128.Idx) :=
      (at2 i (ix2 ⟨(i 0).val / 4096 * 4096 + (i 0).val % 4096, by omega⟩ (i 1)) (by show (i 0).val = (i 0).val / 4096 * 4096 + (i 0).val % 4096; omega) rfl).trans
        (emb15 ⟨(i 0).val / 4096, hq⟩ ⟨(i 0).val % 4096, by omega⟩ (i 1)).symm
    exact (congrArg (· ∈ ((cfg0.win 15).blk ⟨(i 0).val / 4096, hq⟩).view.set) he).mpr
      (View.emb_mem_set ((cfg0.win 15).blk ⟨(i 0).val / 4096, hq⟩).view (ix2 ⟨(i 0).val % 4096, by omega⟩ (i 1) : S4096x128.Idx))

/-- The scales, the shift and the router's weights are real. -/
structure Real4 : Prop where
  sc : ∀ (b : Fin 8) (k : Fin 1024), IsReal (A5 m c (ix3 b 0 k))
  sh : ∀ (b : Fin 8) (k : Fin 1024), IsReal (A6 m c (ix3 b 0 k))
  g : ∀ k : Fin 1024, IsReal (A7 m c (ix2 0 k))
  w : ∀ (i : Fin 1024) (l : Fin 32), IsReal (A11 m c (ix3 0 i l))

/-- The third result: the router's scores. -/
theorem final16 (h : Real4 m c) : (dats m 0 c).arrAt 16 cfg0.N
    = val_main_v70 (F := Ideal) (A0 m c) (A1 m c) (A2 m c) (A3 m c) (A4 m c) (A5 m c) (A6 m c) (A7 m c) (A8 m c) (A9 m c) (A10 m c) (A11 m c) (A12 m c) := by
  refine (dats m 0 c).arrAt_eq_of_emb 16 _ (fun t hf y => ?_) fun i => ⟨pt (i 0), flush16 _, ?_⟩
  · obtain ⟨r, l, rfl⟩ : ∃ (r : Fin 512) (l : Fin 128), y = (ix2 r l : S512x128.Idx) := ⟨y 0, y 1, at2 y _ rfl rfl⟩
    refine (congrFun (after_16 m c t) _).trans ((res16_apply m c t r l (fun i => nrm_real _ _ _ _ i (h.g i) (h.sc _ i) (h.sh _ i)) h.w).trans ?_)
    rw [nrmK_eq]
    refine (read_v70 (A0 m c) (A1 m c) (A2 m c) (A3 m c) (A4 m c) (A5 m c) (A6 m c) (A7 m c) (A8 m c) (A9 m c) (A10 m c) (A11 m c) (A12 m c) (row t r) l).symm.trans ?_
    exact congrArg (val_main_v70 (F := Ideal) (A0 m c) (A1 m c) (A2 m c) (A3 m c) (A4 m c) (A5 m c) (A6 m c) (A7 m c) (A8 m c) (A9 m c) (A10 m c) (A11 m c) (A12 m c)) (emb16 t r l).symm
  · have he : i = (((cfg0.win 16).blk (pt (i 0))).view.emb (ix2 ⟨(i 0).val % 512, by omega⟩ (i 1) : S512x128.Idx) : S16384x128.Idx) :=
      (at2 i (ix2 (row (pt (i 0)) ⟨(i 0).val % 512, by omega⟩) (i 1)) (congrArg Fin.val (pt_row (i 0))).symm rfl).trans (emb16 (pt (i 0)) ⟨(i 0).val % 512, by omega⟩ (i 1)).symm
    exact (congrArg (· ∈ ((cfg0.win 16).blk (pt (i 0))).view.set) he).mpr
      (View.emb_mem_set ((cfg0.win 16).blk (pt (i 0))).view (ix2 ⟨(i 0).val % 512, by omega⟩ (i 1) : S512x128.Idx))

end Cert.Kernel4Ideal.Post
-- ==== Proof.Post.Pre.lean ====
module

public import proofs.«01_k».proof.Pre_norm_finite
public import proofs.«01_k».proof.Proof.Post.Spec

@[expose] public section

set_option maxRecDepth 16384

noncomputable section

/-! The output projections' precondition, read at an index. -/

namespace Cert.Post

open Idealize.ShloMosaic Cert.Pre_norm_finite

theorem and_one (a b : BitVec 1) (h : IntOp.andi a b = 1#1) : a = 1#1 ∧ b = 1#1 := by
  revert a b
  decide

theorem lt_inf (x : EReal) (h : Ideal.cmp CmpFPredicate.olt (FloatOps.absf (F := Ideal) (φ := FTy.f32) x) (Ideal.ofBits FTy.f32 0x7F800000#32) = 1#1) : IsReal x := by
  have e : Ideal.ofBits FTy.f32 0x7F800000#32 = (⊤ : EReal) := by simp [Ideal.ofBits, Ideal.ieee]
  rw [e] at h
  exact real_of_abs x ((Ideal.cmp_olt_eq_one _ _).1 h)

theorem finite_facts : Cert.Pre_norm_finite.Facts := ⟨by decide, by decide, by decide, by decide, by decide, by decide, by decide, by decide, by decide⟩

/-- Where the precondition holds the scales, the shift and the router's weights are real. -/
theorem real_of_pre [Cert.Pre_norm_finite.Facts] {a0 a1 a2 a3 a4 a8 a9 a10 a12} (x5 x6 : S8x1x1024.Idx → Elt Ideal .f32) (x7 : S1x1024.Idx → Elt Ideal .f32) (x11 : S1x1024x32.Idx → Elt Ideal .f32)
    (h : Cert.Pre_norm_finite.fn (F := Ideal) a0 a1 a2 a3 a4 x5 x6 x7 a8 a9 a10 x11 a12 = fun _ => 1#1) (b : Fin 8) (k : Fin 1024) (l : Fin 32) :
    IsReal (x5 (ix3 b 0 k)) ∧ IsReal (x6 (ix3 b 0 k)) ∧ IsReal (x7 (ix2 0 k)) ∧ IsReal (x11 (ix3 0 k l)) := by
  have e := congrFun h (ix4 b 0 k l)
  revert e
  pointwise [Cert.Pre_norm_finite.fn, Cert.Pre_norm_finite.fn_part1]
  intro e
  obtain ⟨e, hw⟩ := and_one _ _ e
  obtain ⟨e, hg⟩ := and_one _ _ e
  obtain ⟨hc, hh⟩ := and_one _ _ e
  exact ⟨lt_inf _ hc, lt_inf _ hh, lt_inf _ hg, lt_inf _ hw⟩

end Cert.Post
-- ==== Proof.lean ====
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Launch
public import proofs.«01_k».proof.Proof.Gen.Kernel3Ideal.Skeleton
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Launch
public import proofs.«01_k».proof.Proof.Gen.Kernel4Ideal.Skeleton
public import proofs.«01_k».proof.Proof.Gen.Reference4Ideal
public import proofs.«01_k».proof.Proof.Gen.Reference4Ideal.Run
public import proofs.«01_k».proof.Proof.Gen.Reference4Ideal.Read
public import proofs.«01_k».proof.Proof.Gla.Final
public import proofs.«01_k».proof.Proof.Moe.Final
public import proofs.«01_k».proof.Proof.Inproj.Final
public import proofs.«01_k».proof.Proof.Post.Final
public import proofs.«01_k».proof.Proof.Post.Pre

@[expose] public section

set_option maxRecDepth 16384

noncomputable section

namespace Cert.Proof

open Idealize.ShloMosaic Idealize.ShloMosaic.TcCoe Idealize.SL.Sem

/-- The shape relations the precondition's slice, reshape and broadcast take. -/
theorem decays_facts : Cert.Pre_decays.Facts := ⟨by decide, by decide, by decide⟩

/-- The precondition read at a row and a lane: the log decay there is at most zero. -/
theorem decays_le [Cert.Pre_decays.Facts] (m : (ℓ : Loc Cert.KernelIdeal.nD Cert.KernelIdeal.τ Cert.KernelIdeal.sig) → Buf (Elt Ideal) ℓ)
    (h : Cert.Pre_KernelIdeal_decays m) (c : Dev Cert.KernelIdeal.nD) (r : Fin 256) (l : Fin 512) :
    Cert.Gla.argX m c (ix3 6 r l) ≤ 0 := by
  have h1 := congrFun (h c) (ix2 r l)
  revert h1
  pointwise [Cert.Pre_decays.fn]
  exact fun h1 => (Ideal.cmp_ole_eq_one _ _).1 h1

/-- The kernel as printed runs, ends with its arguments unchanged and every counter at zero: the idealized program's own
    run at the bit-exact numbers, the two texts being one. -/
theorem frame_kernel : Cert.quiescent_Kernel := by
  intro m ρ _
  have hd : Cert.Kernel.defs (F := Bits) = Cert.KernelIdeal.defs (F := Bits) := by sl_kernel_rfl
  have hm : Cert.Kernel.main (F := Bits) = Cert.KernelIdeal.main (F := Bits) := by sl_kernel_rfl
  have h := Cert.KernelIdeal.Gen.frame (F := Bits) m ρ
  rw [← hd, ← hm] at h
  exact h

/-- The reference runs and ends with its arguments unchanged; it has no counter. -/
theorem frame_reference : Cert.quiescent_ReferenceIdeal := by
  intro m g _
  exact (θ_run Cert.ReferenceIdeal.defs _ _).mono (fun r h => ⟨fun c => (h c).2.2, sem_eq_zero_of_no_sems rfl _⟩) (Cert.ReferenceIdeal.Value.run (F := Ideal) m g)

/-- The kernel and the reference end with equal results where the log decays are at most zero. -/
theorem algebraic [Cert.Pre_decays.Facts] : Cert.algebraic_KernelIdeal_ReferenceIdeal_pre_decays := by
  intro m g m' g' hpre hagree
  refine ⟨_, _, Cert.KernelIdeal.Value.run_blocks (F := Ideal) m g, ?_⟩
  refine (θ_run Cert.ReferenceIdeal.defs _ _).mono (fun r h c => ⟨(h c).1.trans ?_, (h c).2.1.trans ?_, (h c).2.2⟩) (Cert.ReferenceIdeal.Value.run (F := Ideal) m' g')
  · rw [Cert.Gla.finalG m c (decays_le m hpre c), Cert.ReferenceIdeal.Read.val_main_v78_eq, (hagree c).1, (hagree c).2.1, (hagree c).2.2]
  · rw [Cert.Gla.finalS m c (decays_le m hpre c), Cert.ReferenceIdeal.Read.val_main_v60_eq, (hagree c).1, (hagree c).2.1]

/-- The shape relation the range condition's broadcasts take. -/
theorem experts_facts : Cert.Pre_experts_in_range.Facts := ⟨by decide⟩

/-- The range condition read at a block of rows: the expert the table gives it is one of the 32. -/
theorem expert_lt {F : FTy → Type} [FloatOps F] [Cert.Pre_experts_in_range.Facts] (m : (ℓ : Loc Cert.Kernel2Ideal.nD Cert.Kernel2Ideal.τ Cert.Kernel2Ideal.sig) → Buf (Elt F) ℓ)
    {a1 a2 a3 a4 a5 a6} (h : Cert.Pre_experts_in_range.fn (F := F) (Cert.Kernel2Ideal.Moe.tE m) a1 a2 a3 a4 a5 a6 = fun _ => 1#1) (x : Cert.Kernel2Ideal.S162.Idx) :
    BitVec.toNat (Cert.Kernel2Ideal.Moe.tE m x) < 32 := by
  have e := congrFun h x
  simp only [Cert.Pre_experts_in_range.fn, andi, cmpi, broadcastInDim, constantI] at e
  exact Cert.Kernel2Ideal.Moe.word_lt e

/-- The experts' kernel as printed runs, ends with its arguments unchanged and every counter at zero. -/
theorem frame_kernel2 [Cert.Pre_experts_in_range.Facts] : Cert.quiescent_Kernel2 := by
  intro m ρ hpre
  have hd : Cert.Kernel2.defs (F := Bits) = Cert.Kernel2Ideal.defs (F := Bits) := by sl_kernel_rfl
  have hm : Cert.Kernel2.main (F := Bits) = Cert.Kernel2Ideal.main (F := Bits) := by sl_kernel_rfl
  have h := Cert.Kernel2Ideal.Moe.frame_at (F := Bits) m ρ (Cert.Kernel2Ideal.Moe.ok_of_lt m (expert_lt m (hpre 0)))
  rw [← hd, ← hm] at h
  exact h

/-- The idealized experts' kernel runs, ends with its arguments unchanged and every counter at zero. -/
theorem frame_kernel2Ideal [Cert.Pre_experts_in_range.Facts] : Cert.quiescent_Kernel2Ideal := fun m ρ hpre =>
  Cert.Kernel2Ideal.Moe.frame_at (F := Ideal) m ρ (Cert.Kernel2Ideal.Moe.ok_of_lt m (expert_lt m (hpre 0)))

/-- The experts' reference runs and ends with its arguments unchanged; it has no counter. -/
theorem frame_reference2 [Cert.Pre_experts_in_range.Facts] : Cert.quiescent_Reference2Ideal := by
  intro m g _
  exact (θ_run Cert.Reference2Ideal.defs _ _).mono (fun r h => ⟨fun c => (h c).2, sem_eq_zero_of_no_sems rfl _⟩) (Cert.Reference2Ideal.Value.run (F := Ideal) m g)

/-- The experts' kernel and the reference end with equal results where the table gives every block one of the 32 experts. -/
theorem algebraic2 [Cert.Pre_experts_in_range.Facts] : Cert.algebraic_Kernel2Ideal_Reference2Ideal := by
  intro m g m' g' hpre hagree
  have hlt := expert_lt m (hpre 0)
  have hok := Cert.Kernel2Ideal.Moe.ok_of_lt m hlt
  refine ⟨_, (θ_run Cert.Kernel2Ideal.defs _ _).mono (fun r h => h.1) (Cert.Kernel2Ideal.Moe.run_all (F := Ideal) m g hok), ?_⟩
  refine (θ_run Cert.Reference2Ideal.defs _ _).mono (fun r h c => ⟨(h c).1.trans ?_, (h c).2⟩) (Cert.Reference2Ideal.Value.run (F := Ideal) m' g')
  obtain rfl : c = 0 := Subsingleton.elim _ _
  obtain ⟨h0, h1, h2, h3, h4, h5, h6⟩ := hagree 0
  rw [Cert.Reference2Ideal.Read.val_main_v58_eq, h0, h1, h2, h3, h4, h5, h6]
  exact (Cert.Kernel2Ideal.Moe.final m hok 0 hlt).symm

/-- The printed and the idealized kernel of the input projections are one text: the bodies' table. -/
theorem defs_kernel3 : Cert.Kernel3.defs (F := Bits) = Cert.Kernel3Ideal.defs (F := Bits) := by sl_kernel_rfl

/-- The printed and the idealized kernel of the input projections are one text: the main program. -/
theorem main_kernel3 : Cert.Kernel3.main (F := Bits) = Cert.Kernel3Ideal.main (F := Bits) := by sl_kernel_rfl

/-- The input projections' kernel as printed runs, ends with its arguments unchanged and every counter at zero. -/
theorem frame_kernel3 : Cert.quiescent_Kernel3 := by
  intro m ρ _
  have h := Cert.Kernel3Ideal.Inproj.frame_at (F := Bits) m ρ
  rw [← defs_kernel3, ← main_kernel3] at h
  exact h

/-- The input projections' reference runs and ends with its arguments unchanged; it has no counter. -/
theorem frame_reference3 : Cert.quiescent_Reference3Ideal := by
  intro m g _
  exact (θ_run Cert.Reference3Ideal.defs _ _).mono (fun r h => ⟨fun c => (h c).2.2.2, sem_eq_zero_of_no_sems rfl _⟩) (Cert.Reference3Ideal.Value.run (F := Ideal) m g)

/-- The input projections' kernel and the reference end with equal results. -/
theorem algebraic3 : Cert.algebraic_Kernel3Ideal_Reference3Ideal := by
  intro m g m' g' _ hagree
  refine ⟨_, _, _, (θ_run Cert.Kernel3Ideal.defs _ _).mono (fun r h c => ⟨(h.1 c).1.1, (h.1 c).1.2.1, (h.1 c).1.2.2, (h.1 c).2⟩) (Cert.Kernel3Ideal.Inproj.run_all (F := Ideal) m g), ?_⟩
  refine (θ_run Cert.Reference3Ideal.defs _ _).mono (fun r h c => ⟨(h c).1.trans ?_, (h c).2.1.trans ?_, (h c).2.2.1.trans ?_, (h c).2.2.2⟩) (Cert.Reference3Ideal.Value.run (F := Ideal) m' g')
  all_goals obtain ⟨h0, h1, h2, h3, h4, h5, h6⟩ := hagree c
  · rw [Cert.Reference3Ideal.Read.val_main_v106_eq, h0, h1, h2, h3, h4, h5, h6]
    exact (Cert.Kernel3Ideal.Inproj.final9 m c).symm
  · rw [Cert.Reference3Ideal.Read.val_main_v107_eq, h0, h1, h2, h3, h4, Cert.Kernel3Ideal.Inproj.final10 m c]
    exact (Cert.Kernel3Ideal.Inproj.keys_eq m c).symm
  · rw [Cert.Reference3Ideal.Read.val_main_v108_eq, h0, h1, h2, h3, h4, Cert.Kernel3Ideal.Inproj.final11 m c]
    exact (Cert.Kernel3Ideal.Inproj.vals_eq m c).symm

/-- The printed and the idealized kernel of the output projections are one text: the bodies' table. -/
theorem defs_kernel4 : Cert.Kernel4.defs (F := Bits) = Cert.Kernel4Ideal.defs (F := Bits) := by sl_kernel_rfl

/-- The printed and the idealized kernel of the output projections are one text: the main program. -/
theorem main_kernel4 : Cert.Kernel4.main (F := Bits) = Cert.Kernel4Ideal.main (F := Bits) := by sl_kernel_rfl

set_option maxHeartbeats 4000000 in
/-- The output projections' kernel as printed runs, ends with its arguments unchanged and every counter at zero. -/
theorem frame_kernel4 : Cert.quiescent_Kernel4 := by
  intro m ρ _
  have h := Cert.Kernel4Ideal.Post.frame_at (F := Bits) m ρ
  rw [← defs_kernel4, ← main_kernel4] at h
  exact h

/-- The output projections' reference runs and ends with its arguments unchanged; it has no counter. -/
theorem frame_reference4 : Cert.quiescent_Reference4Ideal := by
  intro m g _
  exact (θ_run Cert.Reference4Ideal.defs _ _).mono (fun r h => ⟨fun c => (h c).2.2.2, sem_eq_zero_of_no_sems rfl _⟩) (Cert.Reference4Ideal.Value.run (F := Ideal) m g)

set_option maxHeartbeats 4000000 in
/-- The output projections' kernel and the reference end with equal results where the scales, the shift and the router's weights are finite. -/
theorem algebraic4 [Cert.Pre_norm_finite.Facts] : Cert.algebraic_Kernel4Ideal_Reference4Ideal_pre_norm_finite := by
  intro m g m' g' hpre hagree
  refine ⟨_, _, _, (θ_run Cert.Kernel4Ideal.defs _ _).mono (fun r h c => ⟨(h.1 c).1.1, (h.1 c).1.2.1, (h.1 c).1.2.2, (h.1 c).2⟩) (Cert.Kernel4Ideal.Post.run_all (F := Ideal) m g), ?_⟩
  refine (θ_run Cert.Reference4Ideal.defs _ _).mono (fun r h c => ⟨(h c).1.trans ?_, (h c).2.1.trans ?_, (h c).2.2.1.trans ?_, (h c).2.2.2⟩) (Cert.Reference4Ideal.Value.run (F := Ideal) m' g')
  all_goals obtain ⟨h0, h1, h2, h3, h4, h5, h6, h7, h8, h9, h10, h11, h12⟩ := hagree c
  · rw [Cert.Reference4Ideal.Read.val_main_v68_eq, h0, h1, h2, h3, h4, h8, h9, h10]
    exact (Cert.Kernel4Ideal.Post.final14 m c).symm
  · rw [Cert.Reference4Ideal.Read.val_main_v69_eq, h0, h1, h2, h3, h4, h5, h6, h7, h8, h9, h10]
    exact (Cert.Kernel4Ideal.Post.final15 m c).symm
  · rw [Cert.Reference4Ideal.Read.val_main_v70_eq, h0, h1, h2, h3, h4, h5, h6, h7, h8, h9, h10, h11, h12]
    have hr := Cert.Post.real_of_pre _ _ _ _ (hpre c)
    exact (Cert.Kernel4Ideal.Post.final16 m c ⟨fun b k => (hr b k 0).1, fun b k => (hr b k 0).2.1, fun k => (hr 0 k 0).2.2.1, fun k l => (hr 0 k l).2.2.2⟩).symm

set_option maxHeartbeats 4000000 in
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts,
    decays_facts, experts_facts, Cert.Post.finite_facts, frame_kernel,
    fun m ρ _ => Cert.KernelIdeal.Gen.frame (F := Ideal) m ρ, fun m ρ _ => Cert.KernelIdeal.Gen.frame (F := Ideal) m ρ,
    frame_reference, fun m ρ _ => frame_reference m ρ trivial,
    @frame_kernel2 experts_facts, @frame_kernel2Ideal experts_facts, @frame_reference2 experts_facts,
    frame_kernel3, fun m ρ _ => Cert.Kernel3Ideal.Inproj.frame_at (F := Ideal) m ρ, frame_reference3,
    frame_kernel4, fun m ρ _ => Cert.Kernel4Ideal.Post.frame_at (F := Ideal) m ρ, fun m ρ _ => Cert.Kernel4Ideal.Post.frame_at (F := Ideal) m ρ,
    frame_reference4, fun m ρ _ => frame_reference4 m ρ trivial,
    trivial, @algebraic decays_facts, trivial, @algebraic2 experts_facts, trivial, algebraic3, trivial, @algebraic4 Cert.Post.finite_facts⟩

end Cert.Proof
end
end
